-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v49_0)) (v1 : (c : Dev Cert.Kernel6Ideal.nD) → Buf (Elt Ideal) ((c.tc : Thread Cert.Kernel6Ideal.nD Cert.Kernel6Ideal.τ).loc Cert.Kernel6Ideal.main_v49_1)) (v2 : (c : Dev Cert.Kernel6Ideal.nD) → Buf (Elt Ideal) ((c.tc : Thread Cert.Kernel6Ideal.nD Cert.Kernel6Ideal.τ).loc Cert.Kernel6Ideal.main_v49_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v49_0) = v0 c
          ∧ r.2.mem ((c.tc : Thread Cert.Kernel6Ideal.nD Cert.Kernel6Ideal.τ).loc Cert.Kernel6Ideal.main_v49_1) = v1 c
          ∧ r.2.mem ((c.tc : Thread Cert.Kernel6Ideal.nD Cert.Kernel6Ideal.τ).loc Cert.Kernel6Ideal.main_v49_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v72) = v0 c
          ∧ r.2.mem ((c.tc : Thread Cert.Reference6Ideal.nD Cert.Reference6Ideal.τ).loc Cert.Reference6Ideal.main_v75) = v1 c
          ∧ r.2.mem ((c.tc : Thread Cert.Reference6Ideal.nD Cert.Reference6Ideal.τ).loc Cert.Reference6Ideal.main_v77) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v49_3)) (v1 : (c : Dev Cert.Kernel7Ideal.nD) → Buf (Elt Ideal) ((c.tc : Thread Cert.Kernel7Ideal.nD Cert.Kernel7Ideal.τ).loc Cert.Kernel7Ideal.main_v49_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v49_3) = v0 c
          ∧ r.2.mem ((c.tc : Thread Cert.Kernel7Ideal.nD Cert.Kernel7Ideal.τ).loc Cert.Kernel7Ideal.main_v49_4) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S32768x3072 : Shape := ⟨2, ![32768, 3072]⟩
abbrev S4x8192x2x8 : Shape := ⟨4, ![4, 8192, 2, 8]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S4x8192x2x8 : S_.BroadcastsInDim S4x8192x2x8 (![] : Fin 0 → Fin S4x8192x2x8.rank)
  reducesTo_S4x8192x2x8_S_d0_1_2_3 : S4x8192x2x8.ReducesTo [0, 1, 2, 3] S_

variable [Facts]

def fn {F : FTy → Type} [FloatOps F] (main_arg0 : FVec F S32768x3072 .bf16) (main_arg1 : FVec F S4x8192x2x8 .f32) (main_arg2 : FVec F S4x8192x2x8 .f32) : IVec S_ 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  let main_v5 : FVec F S4x8192x2x8 .f32 := Host.absf main_arg1
  let main_cst_0 : FVec F S_ .f32 := constant S_ .f32 0x7F800000#32
  let main_v6 : FVec F S4x8192x2x8 .f32 := broadcastInDim S4x8192x2x8 ![] bcast_S_S4x8192x2x8 main_cst_0
  let main_v7 : IVec S4x8192x2x8 1 := cmpf .olt main_v5 main_v6
  let main_c_1 : IVec S_ 1 := constantI S_ 1 1#1
  let main_v8 : IVec S_ 1 := (fun x v => Host.reduce IntOp.andi x v reducesTo_S4x8192x2x8_S_d0_1_2_3 h_S_) main_v7 main_c_1
  let main_v9 : IVec S_ 1 := andi main_v4 main_v8
  let main_v10 : FVec F S4x8192x2x8 .f32 := Host.absf main_arg2
  let main_cst_2 : FVec F S_ .f32 := constant S_ .f32 0x7F800000#32
  let main_v11 : FVec F S4x8192x2x8 .f32 := broadcastInDim S4x8192x2x8 ![] bcast_S_S4x8192x2x8 main_cst_2
  let main_v12 : IVec S4x8192x2x8 1 := cmpf .olt main_v10 main_v11
  let main_c_3 : IVec S_ 1 := constantI S_ 1 1#1
  let main_v13 : IVec S_ 1 := (fun x v => Host.reduce IntOp.andi x v reducesTo_S4x8192x2x8_S_d0_1_2_3 h_S_) main_v12 main_c_3
  let main_v14 : IVec S_ 1 := andi main_v9 main_v13
  main_v14
-- ==== Kernel.lean ====
abbrev S32768x3072 : Shape := ⟨2, ![32768, 3072]⟩
abbrev S4x8192x2x8 : Shape := ⟨4, ![4, 8192, 2, 8]⟩
abbrev S32768x1024 : Shape := ⟨2, ![32768, 1024]⟩
abbrev S512x64x1024 : Shape := ⟨3, ![512, 64, 1024]⟩
abbrev S512x1024x64 : Shape := ⟨3, ![512, 1024, 64]⟩
abbrev S512x64x2x8 : Shape := ⟨4, ![512, 64, 2, 8]⟩
abbrev S512x64x1x8 : Shape := ⟨4, ![512, 64, 1, 8]⟩
abbrev S512x64x8 : Shape := ⟨3, ![512, 64, 8]⟩
abbrev S_ : Shape := ⟨0, ![]⟩
abbrev S512x2x8 : Shape := ⟨3, ![512, 2, 8]⟩
abbrev S512x1x2x8 : Shape := ⟨4, ![512, 1, 2, 8]⟩
abbrev S512x64x2x24 : Shape := ⟨4, ![512, 64, 2, 24]⟩
abbrev S512x64x2x64 : Shape := ⟨4, ![512, 64, 2, 64]⟩
abbrev S32768x128 : Shape := ⟨2, ![32768, 128]⟩
abbrev S512x2x8x64 : Shape := ⟨4, ![512, 2, 8, 64]⟩
abbrev S512x2x8x128 : Shape := ⟨4, ![512, 2, 8, 128]⟩
abbrev S512x2x8x1 : Shape := ⟨4, ![512, 2, 8, 1]⟩
abbrev S512x2x24x128 : Shape := ⟨4, ![512, 2, 24, 128]⟩
abbrev S64x1024 : Shape := ⟨2, ![64, 1024]⟩
abbrev S1x1024x64 : Shape := ⟨3, ![1, 1024, 64]⟩
abbrev S64x128 : Shape := ⟨2, ![64, 128]⟩
abbrev S1x1x24x128 : Shape := ⟨4, ![1, 1, 24, 128]⟩
abbrev S16x128x128 : Shape := ⟨3, ![16, 128, 128]⟩
abbrev S64x64 : Shape := ⟨2, ![64, 64]⟩
abbrev S1x128x64 : Shape := ⟨3, ![1, 128, 64]⟩
abbrev S128x64 : Shape := ⟨2, ![128, 64]⟩
abbrev S64x1 : Shape := ⟨2, ![64, 1]⟩
abbrev S1x1x1x64 : Shape := ⟨4, ![1, 1, 1, 64]⟩
abbrev S1x64 : Shape := ⟨2, ![1, 64]⟩
abbrev S1x1x1x128 : Shape := ⟨4, ![1, 1, 1, 128]⟩
abbrev S1x128 : Shape := ⟨2, ![1, 128]⟩
abbrev S128x128 : Shape := ⟨2, ![128, 128]⟩
abbrev S64x256 : Shape := ⟨2, ![64, 256]⟩
abbrev S1x128x128 : Shape := ⟨3, ![1, 128, 128]⟩

abbrev nBuf : Space → Nat
  | .hbm => 53
  | .vmem => 29
  | .smem => 0
  | _ => 0

abbrev bufTy : (tb : Table) → Fin (tcTables nBuf tb) → BufTy
  | .hbm, ⟨0, _⟩ => ⟨S32768x3072, .bf16⟩
  | .hbm, ⟨1, _⟩ => ⟨S4x8192x2x8, .f32⟩
  | .hbm, ⟨2, _⟩ => ⟨S4x8192x2x8, .f32⟩
  | .hbm, ⟨3, _⟩ => ⟨S32768x1024, .bf16⟩
  | .hbm, ⟨4, _⟩ => ⟨S512x64x1024, .bf16⟩
  | .hbm, ⟨5, _⟩ => ⟨S512x1024x64, .bf16⟩
  | .hbm, ⟨6, _⟩ => ⟨S512x64x2x8, .f32⟩
  | .hbm, ⟨7, _⟩ => ⟨S512x64x1x8, .f32⟩
  | .hbm, ⟨8, _⟩ => ⟨S512x64x8, .f32⟩
  | .hbm, ⟨9, _⟩ => ⟨S_, .f32⟩
  | .hbm, ⟨10, _⟩ => ⟨S_, .f32⟩
  | .hbm, ⟨11, _⟩ => ⟨S512x64x8, .f32⟩
  | .hbm, ⟨12, _⟩ => ⟨S512x64x1x8, .f32⟩
  | .hbm, ⟨13, _⟩ => ⟨S512x64x1x8, .f32⟩
  | .hbm, ⟨14, _⟩ => ⟨S512x64x8, .f32⟩
  | .hbm, ⟨15, _⟩ => ⟨S_, .f32⟩
  | .hbm, ⟨16, _⟩ => ⟨S_, .f32⟩
  | .hbm, ⟨17, _⟩ => ⟨S512x64x8, .f32⟩
  | .hbm, ⟨18, _⟩ => ⟨S512x64x8, .f32⟩
  | .hbm, ⟨19, _⟩ => ⟨S512x64x1x8, .f32⟩
  | .hbm, ⟨20, _⟩ => ⟨S512x64x1x8, .f32⟩
  | .hbm, ⟨21, _⟩ => ⟨S512x64x2x8, .f32⟩
  | .hbm, ⟨22, _⟩ => ⟨S_, .f32⟩
  | .hbm, ⟨23, _⟩ => ⟨S512x2x8, .f32⟩
  | .hbm, ⟨24, _⟩ => ⟨S512x1x2x8, .f32⟩
  | .hbm, ⟨25, _⟩ => ⟨S512x64x2x8, .f32⟩
  | .hbm, ⟨26, _⟩ => ⟨S_, .f32⟩
  | .hbm, ⟨27, _⟩ => ⟨S512x64x2x24, .f32⟩
  | .hbm, ⟨28, _⟩ => ⟨S512x1x2x8, .f32⟩
  | .hbm, ⟨29, _⟩ => ⟨S512x64x2x8, .f32⟩
  | .hbm, ⟨30, _⟩ => ⟨S512x64x2x8, .f32⟩
  | .hbm, ⟨31, _⟩ => ⟨S512x64x2x8, .f32⟩
  | .hbm, ⟨32, _⟩ => ⟨S512x64x2x8, .f32⟩
  | .hbm, ⟨33, _⟩ => ⟨S512x64x2x8, .f32⟩
  | .hbm, ⟨34, _⟩ => ⟨S512x64x2x64, .f32⟩
  | .hbm, ⟨35, _⟩ => ⟨S32768x128, .f32⟩
  | .hbm, ⟨36, _⟩ => ⟨S512x2x8x64, .f32⟩
  | .hbm, ⟨37, _⟩ => ⟨S_, .i32⟩
  | .hbm, ⟨38, _⟩ => ⟨S_, .f32⟩
  | .hbm, ⟨39, _⟩ => ⟨S512x2x8x128, .f32⟩
  | .hbm, ⟨40, _⟩ => ⟨S512x64x2x8, .f32⟩
  | .hbm, ⟨41, _⟩ => ⟨S512x64x2x8, .f32⟩
  | .hbm, ⟨42, _⟩ => ⟨S512x64x2x8, .f32⟩
  | .hbm, ⟨43, _⟩ => ⟨S512x2x8x64, .f32⟩
  | .hbm, ⟨44, _⟩ => ⟨S_, .i32⟩
  | .hbm, ⟨45, _⟩ => ⟨S_, .f32⟩
  | .hbm, ⟨46, _⟩ => ⟨S512x2x8x128, .f32⟩
  | .hbm, ⟨47, _⟩ => ⟨S512x1x2x8, .f32⟩
  | .hbm, ⟨48, _⟩ => ⟨S512x2x8x1, .f32⟩
  | .hbm, ⟨49, _⟩ => ⟨S512x2x8x128, .f32⟩
  | .hbm, ⟨50, _⟩ => ⟨S512x2x24x128, .f32⟩
  | .hbm, ⟨51, _⟩ => ⟨S32768x1024, .bf16⟩
  | .hbm, ⟨52, _⟩ => ⟨S32768x1024, .bf16⟩
  | .local _ .vmem, ⟨0, _⟩ => ⟨S64x1024, .bf16⟩
  | .local _ .vmem, ⟨1, _⟩ => ⟨S64x1024, .bf16⟩
  | .local _ .vmem, ⟨2, _⟩ => ⟨S64x1024, .bf16⟩
  | .local _ .vmem, ⟨3, _⟩ => ⟨S64x1024, .bf16⟩
  | .local _ .vmem, ⟨4, _⟩ => ⟨S64x1024, .bf16⟩
  | .local _ .vmem, ⟨5, _⟩ => ⟨S64x1024, .bf16⟩
  | .local _ .vmem, ⟨6, _⟩ => ⟨S1x1024x64, .bf16⟩
  | .local _ .vmem, ⟨7, _⟩ => ⟨S1x1024x64, .bf16⟩
  | .local _ .vmem, ⟨8, _⟩ => ⟨S64x128, .f32⟩
  | .local _ .vmem, ⟨9, _⟩ => ⟨S64x128, .f32⟩
  | .local _ .vmem, ⟨10, _⟩ => ⟨S1x1x24x128, .f32⟩
  | .local _ .vmem, ⟨11, _⟩ => ⟨S1x1x24x128, .f32⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S64x1024, .bf16⟩
  | .local _ .vmem, ⟨16, _⟩ => ⟨S64x1024, .bf16⟩
  | .local _ .vmem, ⟨17, _⟩ => ⟨S64x1024, .bf16⟩
  | .local _ .vmem, ⟨18, _⟩ => ⟨S1x1024x64, .bf16⟩
  | .local _ .vmem, ⟨19, _⟩ => ⟨S1x1024x64, .bf16⟩
  | .local _ .vmem, ⟨20, _⟩ => ⟨S64x128, .f32⟩
  | .local _ .vmem, ⟨21, _⟩ => ⟨S64x128, .f32⟩
  | .local _ .vmem, ⟨22, _⟩ => ⟨S1x1x24x128, .f32⟩
  | .local _ .vmem, ⟨23, _⟩ => ⟨S1x1x24x128, .f32⟩
  | .local _ .vmem, ⟨24, _⟩ => ⟨S64x1024, .bf16⟩
  | .local _ .vmem, ⟨25, _⟩ => ⟨S64x1024, .bf16⟩
  | .local _ .vmem, ⟨26, _⟩ => ⟨S64x1024, .bf16⟩
  | .local _ .vmem, ⟨27, _⟩ => ⟨S64x1024, .bf16⟩
  | .local _ .vmem, ⟨28, _⟩ => ⟨S16x128x128, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_cst : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call1_call0_cst : Ref sig .tc := ⟨.hbm, 15, rfl⟩
abbrev main_call1_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call2_v0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_1 : Ref sig .tc := ⟨.hbm, 44, rfl⟩
abbrev main_call3_v0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c2_i32 : BitVec 32 := 2#32
  let c0_i32 : BitVec 32 := 0#32
  ![v1.toNat, c2_i32.toNat]

def cc0_transform_3 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  ![v3.toNat, c1_i32_1.toNat]

def cc0_transform_8 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c2_i32 : BitVec 32 := 2#32
  let c0_i32 : BitVec 32 := 0#32
  ![v3.toNat, c2_i32.toNat]

def cc0_transform_9 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  let c0_i32_2 : BitVec 32 := 0#32
  ![v3.toNat, c0_i32.toNat, c0_i32_1.toNat]

def cc0_transform_10 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c1_i32_1 : BitVec 32 := 1#32
  let c0_i32 : BitVec 32 := 0#32
  let c0_i32_2 : BitVec 32 := 0#32
  let c0_i32_3 : BitVec 32 := 0#32
  ![v3.toNat, c1_i32_1.toNat, c0_i32.toNat, c0_i32_2.toNat]

def cc0_transform_12 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c128_i32_0 : BitVec 32 := 128#32
  let v1 : BitVec 32 := Scalar.addi v0 c128_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x24x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S32768x3072 : Shape := ⟨2, ![32768, 3072]⟩
abbrev S4x8192x2x8 : Shape := ⟨4, ![4, 8192, 2, 8]⟩
abbrev S4x8192x3x8x128 : Shape := ⟨5, ![4, 8192, 3, 8, 128]⟩
abbrev S4x8192x1x8x128 : Shape := ⟨5, ![4, 8192, 1, 8, 128]⟩
abbrev S4x8192x8x128 : Shape := ⟨4, ![4, 8192, 8, 128]⟩
abbrev S8x8192x8x128 : Shape := ⟨4, ![8, 8192, 8, 128]⟩
abbrev S4x8192x1x8 : Shape := ⟨4, ![4, 8192, 1, 8]⟩
abbrev S4x8192x8 : Shape := ⟨3, ![4, 8192, 8]⟩
abbrev S8x8192x8 : Shape := ⟨3, ![8, 8192, 8]⟩
abbrev S_ : Shape := ⟨0, ![]⟩
abbrev S8x8x128x128 : Shape := ⟨4, ![8, 8, 128, 128]⟩
abbrev S8192x8x8x128 : Shape := ⟨4, ![8192, 8, 8, 128]⟩
abbrev S8192x8x8 : Shape := ⟨3, ![8192, 8, 8]⟩
abbrev S1x8x8x128 : Shape := ⟨4, ![1, 8, 8, 128]⟩
abbrev S8x8x128 : Shape := ⟨3, ![8, 8, 128]⟩
abbrev S1x8x8 : Shape := ⟨3, ![1, 8, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x128 : Shape := ⟨4, ![8, 8, 1, 128]⟩
abbrev S32768x1024 : Shape := ⟨2, ![32768, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S4x8192x2x8, .f32⟩
  | .hbm, ⟨2, _⟩ => ⟨S4x8192x2x8, .f32⟩
  | .hbm, ⟨3, _⟩ => ⟨S32768x3072, .f32⟩
  | .hbm, ⟨4, _⟩ => ⟨S4x8192x3x8x128, .f32⟩
  | .hbm, ⟨5, _⟩ => ⟨S4x8192x1x8x128, .f32⟩
  | .hbm, ⟨6, _⟩ => ⟨S4x8192x8x128, .f32⟩
  | .hbm, ⟨7, _⟩ => ⟨S4x8192x1x8x128, .f32⟩
  | .hbm, ⟨8, _⟩ => ⟨S4x8192x8x128, .f32⟩
  | .hbm, ⟨9, _⟩ => ⟨S4x8192x8x128, .f32⟩
  | .hbm, ⟨10, _⟩ => ⟨S8x8192x8x128, .f32⟩
  | .hbm, ⟨11, _⟩ => ⟨S4x8192x1x8x128, .f32⟩
  | .hbm, ⟨12, _⟩ => ⟨S4x8192x8x128, .f32⟩
  | .hbm, ⟨13, _⟩ => ⟨S4x8192x1x8x128, .f32⟩
  | .hbm, ⟨14, _⟩ => ⟨S4x8192x8x128, .f32⟩
  | .hbm, ⟨15, _⟩ => ⟨S4x8192x8x128, .f32⟩
  | .hbm, ⟨16, _⟩ => ⟨S8x8192x8x128, .f32⟩
  | .hbm, ⟨17, _⟩ => ⟨S4x8192x1x8x128, .f32⟩
  | .hbm, ⟨18, _⟩ => ⟨S4x8192x8x128, .f32⟩
  | .hbm, ⟨19, _⟩ => ⟨S4x8192x1x8x128, .f32⟩
  | .hbm, ⟨20, _⟩ => ⟨S4x8192x8x128, .f32⟩
  | .hbm, ⟨21, _⟩ => ⟨S4x8192x8x128, .f32⟩
  | .hbm, ⟨22, _⟩ => ⟨S8x8192x8x128, .f32⟩
  | .hbm, ⟨23, _⟩ => ⟨S4x8192x1x8, .f32⟩
  | .hbm, ⟨24, _⟩ => ⟨S4x8192x8, .f32⟩
  | .hbm, ⟨25, _⟩ => ⟨S4x8192x1x8, .f32⟩
  | .hbm, ⟨26, _⟩ => ⟨S4x8192x8, .f32⟩
  | .hbm, ⟨27, _⟩ => ⟨S4x8192x8, .f32⟩
  | .hbm, ⟨28, _⟩ => ⟨S8x8192x8, .f32⟩
  | .hbm, ⟨29, _⟩ => ⟨S4x8192x1x8, .f32⟩
  | .hbm, ⟨30, _⟩ => ⟨S4x8192x8, .f32⟩
  | .hbm, ⟨31, _⟩ => ⟨S4x8192x1x8, .f32⟩
  | .hbm, ⟨32, _⟩ => ⟨S4x8192x8, .f32⟩
  | .hbm, ⟨33, _⟩ => ⟨S4x8192x8, .f32⟩
  | .hbm, ⟨34, _⟩ => ⟨S8x8192x8, .f32⟩
  | .hbm, ⟨35, _⟩ => ⟨S_, .f32⟩
  | .hbm, ⟨36, _⟩ => ⟨S8x8x128x128, .f32⟩
  | .hbm, ⟨37, _⟩ => ⟨S8192x8x8x128, .f32⟩
  | .hbm, ⟨38, _⟩ => ⟨S8192x8x8x128, .f32⟩
  | .hbm, ⟨39, _⟩ => ⟨S8192x8x8x128, .f32⟩
  | .hbm, ⟨40, _⟩ => ⟨S8192x8x8, .f32⟩
  | .hbm, ⟨41, _⟩ => ⟨S8192x8x8, .f32⟩
  | .hbm, ⟨42, _⟩ => ⟨S_, .f32⟩
  | .hbm, ⟨43, _⟩ => ⟨S8192x8x8x128, .f32⟩
  | .hbm, ⟨44, _⟩ => ⟨S_, .i32⟩
  | .hbm, ⟨45, _⟩ => ⟨S8192x8x8x128, .f32⟩
  | .hbm, ⟨46, _⟩ => ⟨S8192x8x8x128, .f32⟩
  | .hbm, ⟨47, _⟩ => ⟨S8192x8x8x128, .f32⟩
  | .hbm, ⟨48, _⟩ => ⟨S8192x8x8, .f32⟩
  | .hbm, ⟨49, _⟩ => ⟨S8192x8x8, .f32⟩
  | .hbm, ⟨50, _⟩ => ⟨S_, .i32⟩
  | .hbm, ⟨51, _⟩ => ⟨S8x8x128x128, .f32⟩
  | .hbm, ⟨52, _⟩ => ⟨S8192x8x8x128, .f32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x8x8x128, .f32⟩
  | .hbm, ⟨59, _⟩ => ⟨S8x8x128, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1x8x8x128, .f32⟩
  | .hbm, ⟨64, _⟩ => ⟨S8x8x128, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S1x8x8x128, .f32⟩
  | .hbm, ⟨69, _⟩ => ⟨S8x8x128, .f32⟩
  | .hbm, ⟨70, _⟩ => ⟨S_, .i32⟩
  | .hbm, ⟨71, _⟩ => ⟨S_, .i32⟩
  | .hbm, ⟨72, _⟩ => ⟨S1x8x8, .f32⟩
  | .hbm, ⟨73, _⟩ => ⟨S8x8, .f32⟩
  | .hbm, ⟨74, _⟩ => ⟨S_, .i32⟩
  | .hbm, ⟨75, _⟩ => ⟨S_, .i32⟩
  | .hbm, ⟨76, _⟩ => ⟨S1x8x8, .f32⟩
  | .hbm, ⟨77, _⟩ => ⟨S8x8, .f32⟩
  | .hbm, ⟨78, _⟩ => ⟨S8x8, .f32⟩
  | .hbm, ⟨79, _⟩ => ⟨S8x8x1x1, .f32⟩
  | .hbm, ⟨80, _⟩ => ⟨S8x8x128x128, .f32⟩
  | .hbm, ⟨81, _⟩ => ⟨S8x8x128x128, .f32⟩
  | .hbm, ⟨82, _⟩ => ⟨S8x8x1, .f32⟩
  | .hbm, ⟨83, _⟩ => ⟨S8x8x128, .f32⟩
  | .hbm, ⟨84, _⟩ => ⟨S8x8x128, .f32⟩
  | .hbm, ⟨85, _⟩ => ⟨S8x8x128, .f32⟩
  | .hbm, ⟨86, _⟩ => ⟨S8x8x128, .f32⟩
  | .hbm, ⟨87, _⟩ => ⟨S8x8x128x1, .f32⟩
  | .hbm, ⟨88, _⟩ => ⟨S8x8x1x128, .f32⟩
  | .hbm, ⟨89, _⟩ => ⟨S8x8x128x128, .f32⟩
  | .hbm, ⟨90, _⟩ => ⟨S8x8x128x128, .f32⟩
  | .hbm, ⟨91, _⟩ => ⟨S8x8x128x128, .f32⟩
  | .hbm, ⟨92, _⟩ => ⟨S8x8x128x128, .f32⟩
  | .hbm, ⟨93, _⟩ => ⟨S8x8x128, .f32⟩
  | .hbm, ⟨94, _⟩ => ⟨S1x8x8x128, .f32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S8192x8x8x128, .f32⟩
  | .hbm, ⟨99, _⟩ => ⟨S_, .i32⟩
  | .hbm, ⟨100, _⟩ => ⟨S_, .i32⟩
  | .hbm, ⟨101, _⟩ => ⟨S8x8192x8x128, .f32⟩
  | .hbm, ⟨102, _⟩ => ⟨S4x8192x8x128, .f32⟩
  | .hbm, ⟨103, _⟩ => ⟨S32768x1024, .f32⟩
  | .hbm, ⟨104, _⟩ => ⟨S32768x1024, .bf16⟩
  | .hbm, ⟨105, _⟩ => ⟨S4x8192x8x128, .f32⟩
  | .hbm, ⟨106, _⟩ => ⟨S4x8192x8x128, .f32⟩
  | .hbm, ⟨107, _⟩ => ⟨S32768x1024, .f32⟩
  | .hbm, ⟨108, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_0 : Ref sig .tc := ⟨.hbm, 42, rfl⟩
abbrev main_v38 : Ref sig .tc := ⟨.hbm, 43, rfl⟩
abbrev main_c : Ref sig .tc := ⟨.hbm, 44, rfl⟩
abbrev main_v39_0 : Ref sig .tc := ⟨.hbm, 45, rfl⟩
abbrev main_v39_1 : Ref sig .tc := ⟨.hbm, 46, rfl⟩
abbrev main_v39_2 : Ref sig .tc := ⟨.hbm, 47, rfl⟩
abbrev main_v39_3 : Ref sig .tc := ⟨.hbm, 48, rfl⟩
abbrev main_v39_4 : Ref sig .tc := ⟨.hbm, 49, rfl⟩
abbrev main_v39_5 : Ref sig .tc := ⟨.hbm, 50, rfl⟩
abbrev main_v39_6 : Ref sig .tc := ⟨.hbm, 51, rfl⟩
abbrev main_v39_7 : Ref sig .tc := ⟨.hbm, 52, rfl⟩
abbrev main_while0c_c_8 : Ref sig .tc := ⟨.hbm, 53, rfl⟩
abbrev main_while0c_v48 : Ref sig .tc := ⟨.hbm, 54, rfl⟩
abbrev main_while0b_call5_c : Ref sig .tc := ⟨.hbm, 55, rfl⟩
abbrev main_while0b_call5_c_0 : Ref sig .tc := ⟨.hbm, 56, rfl⟩
abbrev main_while0b_call5_c_1 : Ref sig .tc := ⟨.hbm, 57, rfl⟩
abbrev main_while0b_call5_v0 : Ref sig .tc := ⟨.hbm, 58, rfl⟩
abbrev main_while0b_v48 : Ref sig .tc := ⟨.hbm, 59, rfl⟩
abbrev main_while0b_call6_c : Ref sig .tc := ⟨.hbm, 60, rfl⟩
abbrev main_while0b_call6_c_0 : Ref sig .tc := ⟨.hbm, 61, rfl⟩
abbrev main_while0b_call6_c_1 : Ref sig .tc := ⟨.hbm, 62, rfl⟩
abbrev main_while0b_call6_v0 : Ref sig .tc := ⟨.hbm, 63, rfl⟩
abbrev main_while0b_v49 : Ref sig .tc := ⟨.hbm, 64, rfl⟩
abbrev main_while0b_call7_c : Ref sig .tc := ⟨.hbm, 65, rfl⟩
abbrev main_while0b_call7_c_0 : Ref sig .tc := ⟨.hbm, 66, rfl⟩
abbrev main_while0b_call7_c_1 : Ref sig .tc := ⟨.hbm, 67, rfl⟩
abbrev main_while0b_call7_v0 : Ref sig .tc := ⟨.hbm, 68, rfl⟩
abbrev main_while0b_v50 : Ref sig .tc := ⟨.hbm, 69, rfl⟩
abbrev main_while0b_call8_c : Ref sig .tc := ⟨.hbm, 70, rfl⟩
abbrev main_while0b_call8_c_0 : Ref sig .tc := ⟨.hbm, 71, rfl⟩
abbrev main_while0b_call8_v0 : Ref sig .tc := ⟨.hbm, 72, rfl⟩
abbrev main_while0b_v51 : Ref sig .tc := ⟨.hbm, 73, rfl⟩
abbrev main_while0b_call9_c : Ref sig .tc := ⟨.hbm, 74, rfl⟩
abbrev main_while0b_call9_c_0 : Ref sig .tc := ⟨.hbm, 75, rfl⟩
abbrev main_while0b_call9_v0 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_v65 : Ref sig .tc := ⟨.hbm, 90, rfl⟩
abbrev main_while0b_v66 : Ref sig .tc := ⟨.hbm, 91, rfl⟩
abbrev main_while0b_v67 : Ref sig .tc := ⟨.hbm, 92, rfl⟩
abbrev main_while0b_v68 : Ref sig .tc := ⟨.hbm, 93, rfl⟩
abbrev main_while0b_call10_v0 : Ref sig .tc := ⟨.hbm, 94, rfl⟩
abbrev main_while0b_call10_c : Ref sig .tc := ⟨.hbm, 95, rfl⟩
abbrev main_while0b_call10_c_0 : Ref sig .tc := ⟨.hbm, 96, rfl⟩
abbrev main_while0b_call10_c_1 : Ref sig .tc := ⟨.hbm, 97, rfl⟩
abbrev main_while0b_v69 : Ref sig .tc := ⟨.hbm, 98, rfl⟩
abbrev main_while0b_c_8 : Ref sig .tc := ⟨.hbm, 99, rfl⟩
abbrev main_while0b_v70 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S4x8192x1024 : Shape := ⟨3, ![4, 8192, 1024]⟩
abbrev S4x6144 : Shape := ⟨2, ![4, 6144]⟩
abbrev S1024 : Shape := ⟨1, ![1024]⟩
abbrev S1024x9248 : Shape := ⟨2, ![1024, 9248]⟩
abbrev S1024x3072 : Shape := ⟨2, ![1024, 3072]⟩
abbrev S1024x2048 : Shape := ⟨2, ![1024, 2048]⟩
abbrev S1024x1024 : Shape := ⟨2, ![1024, 1024]⟩
abbrev S1024x9216 : Shape := ⟨2, ![1024, 9216]⟩
abbrev S1024x16 : Shape := ⟨2, ![1024, 16]⟩
abbrev S_ : Shape := ⟨0, ![]⟩
abbrev S1024x24 : Shape := ⟨2, ![1024, 24]⟩
abbrev S1024x8 : Shape := ⟨2, ![1024, 8]⟩
abbrev S1024x64 : Shape := ⟨2, ![1024, 64]⟩
abbrev S1024x128 : Shape := ⟨2, ![1024, 128]⟩
abbrev S4x6x1024 : Shape := ⟨3, ![4, 6, 1024]⟩
abbrev S4x8x1024 : Shape := ⟨3, ![4, 8, 1024]⟩
abbrev S32768x1024 : Shape := ⟨2, ![32768, 1024]⟩
abbrev S1x1024 : Shape := ⟨2, ![1, 1024]⟩
abbrev S32768x9216 : Shape := ⟨2, ![32768, 9216]⟩
abbrev S32768x128 : Shape := ⟨2, ![32768, 128]⟩
abbrev S512x1024 : Shape := ⟨2, ![512, 1024]⟩
abbrev S1x8x1024 : Shape := ⟨3, ![1, 8, 1024]⟩
abbrev S512x9216 : Shape := ⟨2, ![512, 9216]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩

abbrev nBuf : Space → Nat
  | .hbm => 30
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x9248, .f32⟩
  | .hbm, ⟨4, _⟩ => ⟨S1024x3072, .f32⟩
  | .hbm, ⟨5, _⟩ => ⟨S1024x3072, .f32⟩
  | .hbm, ⟨6, _⟩ => ⟨S1024x2048, .f32⟩
  | .hbm, ⟨7, _⟩ => ⟨S1024x1024, .f32⟩
  | .hbm, ⟨8, _⟩ => ⟨S1024x9216, .f32⟩
  | .hbm, ⟨9, _⟩ => ⟨S1024x9216, .bf16⟩
  | .hbm, ⟨10, _⟩ => ⟨S1024x16, .f32⟩
  | .hbm, ⟨11, _⟩ => ⟨S1024x16, .f32⟩
  | .hbm, ⟨12, _⟩ => ⟨S_, .f32⟩
  | .hbm, ⟨13, _⟩ => ⟨S1024x24, .f32⟩
  | .hbm, ⟨14, _⟩ => ⟨S1024x8, .f32⟩
  | .hbm, ⟨15, _⟩ => ⟨S1024x8, .f32⟩
  | .hbm, ⟨16, _⟩ => ⟨S1024x64, .f32⟩
  | .hbm, ⟨17, _⟩ => ⟨S1024x8, .f32⟩
  | .hbm, ⟨18, _⟩ => ⟨S1024x8, .f32⟩
  | .hbm, ⟨19, _⟩ => ⟨S1024x64, .f32⟩
  | .hbm, ⟨20, _⟩ => ⟨S1024x128, .f32⟩
  | .hbm, ⟨21, _⟩ => ⟨S1024x128, .bf16⟩
  | .hbm, ⟨22, _⟩ => ⟨S4x6x1024, .f32⟩
  | .hbm, ⟨23, _⟩ => ⟨S_, .i32⟩
  | .hbm, ⟨24, _⟩ => ⟨S_, .f32⟩
  | .hbm, ⟨25, _⟩ => ⟨S4x8x1024, .f32⟩
  | .hbm, ⟨26, _⟩ => ⟨S32768x1024, .f32⟩
  | .hbm, ⟨27, _⟩ => ⟨S1x1024, .f32⟩
  | .hbm, ⟨28, _⟩ => ⟨S32768x9216, .bf16⟩
  | .hbm, ⟨29, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x9216, .bf16⟩
  | .local _ .vmem, ⟨6, _⟩ => ⟨S1024x128, .bf16⟩
  | .local _ .vmem, ⟨7, _⟩ => ⟨S512x9216, .bf16⟩
  | .local _ .vmem, ⟨8, _⟩ => ⟨S512x9216, .bf16⟩
  | .local _ .vmem, ⟨9, _⟩ => ⟨S512x128, .f32⟩
  | .local _ .vmem, ⟨10, _⟩ => ⟨S512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x9216 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x8192x1024 : Shape := ⟨3, ![4, 8192, 1024]⟩
abbrev S4x6144 : Shape := ⟨2, ![4, 6144]⟩
abbrev S1024 : Shape := ⟨1, ![1024]⟩
abbrev S1024x9248 : Shape := ⟨2, ![1024, 9248]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩
abbrev S32768x9248 : Shape := ⟨2, ![32768, 9248]⟩
abbrev S32768x3072 : Shape := ⟨2, ![32768, 3072]⟩
abbrev S32768x16 : Shape := ⟨2, ![32768, 16]⟩
abbrev S32768x2048 : Shape := ⟨2, ![32768, 2048]⟩
abbrev S32768x24 : Shape := ⟨2, ![32768, 24]⟩
abbrev S32768x8 : Shape := ⟨2, ![32768, 8]⟩
abbrev S32768x64 : Shape := ⟨2, ![32768, 64]⟩
abbrev S32768x9216 : Shape := ⟨2, ![32768, 9216]⟩
abbrev S32768x128 : Shape := ⟨2, ![32768, 128]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6144, .f32⟩
  | .hbm, ⟨2, _⟩ => ⟨S1024, .f32⟩
  | .hbm, ⟨3, _⟩ => ⟨S1024x9248, .f32⟩
  | .hbm, ⟨4, _⟩ => ⟨S4x1024, .f32⟩
  | .hbm, ⟨5, _⟩ => ⟨S4x1x1024, .f32⟩
  | .hbm, ⟨6, _⟩ => ⟨S4x1024, .f32⟩
  | .hbm, ⟨7, _⟩ => ⟨S4x1x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S32768x1024, .f32⟩
  | .hbm, ⟨32, _⟩ => ⟨S32768x9248, .f32⟩
  | .hbm, ⟨33, _⟩ => ⟨S32768x3072, .f32⟩
  | .hbm, ⟨34, _⟩ => ⟨S32768x1024, .f32⟩
  | .hbm, ⟨35, _⟩ => ⟨S32768x16, .f32⟩
  | .hbm, ⟨36, _⟩ => ⟨S32768x16, .f32⟩
  | .hbm, ⟨37, _⟩ => ⟨S32768x3072, .f32⟩
  | .hbm, ⟨38, _⟩ => ⟨S32768x2048, .f32⟩
  | .hbm, ⟨39, _⟩ => ⟨S_, .f32⟩
  | .hbm, ⟨40, _⟩ => ⟨S32768x24, .f32⟩
  | .hbm, ⟨41, _⟩ => ⟨S32768x8, .f32⟩
  | .hbm, ⟨42, _⟩ => ⟨S32768x8, .f32⟩
  | .hbm, ⟨43, _⟩ => ⟨S32768x8, .f32⟩
  | .hbm, ⟨44, _⟩ => ⟨S32768x8, .f32⟩
  | .hbm, ⟨45, _⟩ => ⟨S32768x64, .f32⟩
  | .hbm, ⟨46, _⟩ => ⟨S32768x64, .f32⟩
  | .hbm, ⟨47, _⟩ => ⟨S32768x9216, .f32⟩
  | .hbm, ⟨48, _⟩ => ⟨S32768x9216, .bf16⟩
  | .hbm, ⟨49, _⟩ => ⟨S32768x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Kernel3.lean ====
abbrev S32768x1024 : Shape := ⟨2, ![32768, 1024]⟩
abbrev S32768x9216 : Shape := ⟨2, ![32768, 9216]⟩
abbrev S4x8192x1024 : Shape := ⟨3, ![4, 8192, 1024]⟩
abbrev S4x6144 : Shape := ⟨2, ![4, 6144]⟩
abbrev S128 : Shape := ⟨1, ![128]⟩
abbrev S1024 : Shape := ⟨1, ![1024]⟩
abbrev S1024x1024 : Shape := ⟨2, ![1024, 1024]⟩
abbrev S4x6x1024 : Shape := ⟨3, ![4, 6, 1024]⟩
abbrev S_ : Shape := ⟨0, ![]⟩
abbrev S4x8x1024 : Shape := ⟨3, ![4, 8, 1024]⟩
abbrev S1x128 : Shape := ⟨2, ![1, 128]⟩
abbrev S1x1024 : Shape := ⟨2, ![1, 1024]⟩
abbrev S128x1024x256 : Shape := ⟨3, ![128, 1024, 256]⟩
abbrev S512x1024 : Shape := ⟨2, ![512, 1024]⟩
abbrev S512x2048 : Shape := ⟨2, ![512, 2048]⟩
abbrev S1x8x1024 : Shape := ⟨3, ![1, 8, 1024]⟩
abbrev S2x1024x256 : Shape := ⟨3, ![2, 1024, 256]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 25
  | .vmem => 25
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x9216, .bf16⟩
  | .hbm, ⟨3, _⟩ => ⟨S32768x1024, .bf16⟩
  | .hbm, ⟨4, _⟩ => ⟨S4x8192x1024, .f32⟩
  | .hbm, ⟨5, _⟩ => ⟨S4x6144, .f32⟩
  | .hbm, ⟨6, _⟩ => ⟨S128, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S4x6x1024, .f32⟩
  | .hbm, ⟨13, _⟩ => ⟨S_, .i32⟩
  | .hbm, ⟨14, _⟩ => ⟨S_, .f32⟩
  | .hbm, ⟨15, _⟩ => ⟨S4x8x1024, .f32⟩
  | .hbm, ⟨16, _⟩ => ⟨S32768x1024, .f32⟩
  | .hbm, ⟨17, _⟩ => ⟨S1x128, .f32⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S32768x1024, .f32⟩
  | .hbm, ⟨24, _⟩ => ⟨S128x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x128, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S2x1024x256, .bf16⟩
  | .local _ .vmem, ⟨23, _⟩ => ⟨S2x1024x256, .bf16⟩
  | .local _ .vmem, ⟨24, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S32768x9216 : Shape := ⟨2, ![32768, 9216]⟩
abbrev S4x8192x1024 : Shape := ⟨3, ![4, 8192, 1024]⟩
abbrev S4x6144 : Shape := ⟨2, ![4, 6144]⟩
abbrev S128 : Shape := ⟨1, ![128]⟩
abbrev S1024 : Shape := ⟨1, ![1024]⟩
abbrev S1024x1024 : Shape := ⟨2, ![1024, 1024]⟩
abbrev S32768x2048 : Shape := ⟨2, ![32768, 2048]⟩
abbrev S32768x8x128 : Shape := ⟨3, ![32768, 8, 128]⟩
abbrev S_ : Shape := ⟨0, ![]⟩
abbrev S32768x8 : Shape := ⟨2, ![32768, 8]⟩
abbrev S32768x8x1 : Shape := ⟨3, ![32768, 8, 1]⟩
abbrev S1x1x128 : Shape := ⟨3, ![1, 1, 128]⟩
abbrev S4x1024 : Shape := ⟨2, ![4, 1024]⟩
abbrev S4x1x1024 : Shape := ⟨3, ![4, 1, 1024]⟩
abbrev S32768 : Shape := ⟨1, ![32768]⟩
abbrev S32768x1 : Shape := ⟨2, ![32768, 1]⟩
abbrev S1x1024 : Shape := ⟨2, ![1, 1024]⟩
abbrev S128x256x1024 : Shape := ⟨3, ![128, 256, 1024]⟩
abbrev S128x1024x256 : Shape := ⟨3, ![128, 1024, 256]⟩

abbrev nBuf : Space → Nat
  | .hbm => 120
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x9216, .bf16⟩
  | .hbm, ⟨3, _⟩ => ⟨S32768x1024, .bf16⟩
  | .hbm, ⟨4, _⟩ => ⟨S4x8192x1024, .f32⟩
  | .hbm, ⟨5, _⟩ => ⟨S4x6144, .f32⟩
  | .hbm, ⟨6, _⟩ => ⟨S128, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S32768x2048, .bf16⟩
  | .hbm, ⟨13, _⟩ => ⟨S32768x2048, .f32⟩
  | .hbm, ⟨14, _⟩ => ⟨S32768x1024, .bf16⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x8x128, .f32⟩
  | .hbm, ⟨20, _⟩ => ⟨S32768x8x128, .f32⟩
  | .hbm, ⟨21, _⟩ => ⟨S_, .f32⟩
  | .hbm, ⟨22, _⟩ => ⟨S32768x8, .f32⟩
  | .hbm, ⟨23, _⟩ => ⟨S32768x8x1, .f32⟩
  | .hbm, ⟨24, _⟩ => ⟨S_, .f32⟩
  | .hbm, ⟨25, _⟩ => ⟨S32768x8x1, .f32⟩
  | .hbm, ⟨26, _⟩ => ⟨S32768x8x1, .f32⟩
  | .hbm, ⟨27, _⟩ => ⟨S_, .f32⟩
  | .hbm, ⟨28, _⟩ => ⟨S32768x8x1, .f32⟩
  | .hbm, ⟨29, _⟩ => ⟨S32768x8x1, .f32⟩
  | .hbm, ⟨30, _⟩ => ⟨S32768x8x1, .f32⟩
  | .hbm, ⟨31, _⟩ => ⟨S32768x8x128, .f32⟩
  | .hbm, ⟨32, _⟩ => ⟨S32768x8x128, .f32⟩
  | .hbm, ⟨33, _⟩ => ⟨S1x1x128, .f32⟩
  | .hbm, ⟨34, _⟩ => ⟨S32768x8x128, .f32⟩
  | .hbm, ⟨35, _⟩ => ⟨S32768x8x128, .f32⟩
  | .hbm, ⟨36, _⟩ => ⟨S32768x8x128, .f32⟩
  | .hbm, ⟨37, _⟩ => ⟨S32768x8x128, .f32⟩
  | .hbm, ⟨38, _⟩ => ⟨S32768x8x128, .f32⟩
  | .hbm, ⟨39, _⟩ => ⟨S_, .f32⟩
  | .hbm, ⟨40, _⟩ => ⟨S32768x8x128, .f32⟩
  | .hbm, ⟨41, _⟩ => ⟨S32768x8x128, .f32⟩
  | .hbm, ⟨42, _⟩ => ⟨S_, .f32⟩
  | .hbm, ⟨43, _⟩ => ⟨S32768x8x128, .f32⟩
  | .hbm, ⟨44, _⟩ => ⟨S32768x8x128, .f32⟩
  | .hbm, ⟨45, _⟩ => ⟨S32768x8x128, .f32⟩
  | .hbm, ⟨46, _⟩ => ⟨S32768x8x128, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x2048, .f32⟩
  | .hbm, ⟨52, _⟩ => ⟨S32768x2048, .f32⟩
  | .hbm, ⟨53, _⟩ => ⟨S_, .f32⟩
  | .hbm, ⟨54, _⟩ => ⟨S32768x2048, .f32⟩
  | .hbm, ⟨55, _⟩ => ⟨S32768x2048, .f32⟩
  | .hbm, ⟨56, _⟩ => ⟨S_, .f32⟩
  | .hbm, ⟨57, _⟩ => ⟨S32768x2048, .f32⟩
  | .hbm, ⟨58, _⟩ => ⟨S32768x2048, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S4x1024, .f32⟩
  | .hbm, ⟨67, _⟩ => ⟨S4x1x1024, .f32⟩
  | .hbm, ⟨68, _⟩ => ⟨S4x8192x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S_, .f32⟩
  | .hbm, ⟨78, _⟩ => ⟨S32768x1, .f32⟩
  | .hbm, ⟨79, _⟩ => ⟨S32768x1, .f32⟩
  | .hbm, ⟨80, _⟩ => ⟨S32768x1, .f32⟩
  | .hbm, ⟨81, _⟩ => ⟨S32768x1024, .f32⟩
  | .hbm, ⟨82, _⟩ => ⟨S32768x1024, .f32⟩
  | .hbm, ⟨83, _⟩ => ⟨S1x1024, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S_, .f32⟩
  | .hbm, ⟨90, _⟩ => ⟨S32768, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S_, .f32⟩
  | .hbm, ⟨96, _⟩ => ⟨S32768x1, .f32⟩
  | .hbm, ⟨97, _⟩ => ⟨S32768x1, .f32⟩
  | .hbm, ⟨98, _⟩ => ⟨S32768x1, .f32⟩
  | .hbm, ⟨99, _⟩ => ⟨S32768x1024, .f32⟩
  | .hbm, ⟨100, _⟩ => ⟨S32768x1024, .f32⟩
  | .hbm, ⟨101, _⟩ => ⟨S1x1024, .f32⟩
  | .hbm, ⟨102, _⟩ => ⟨S32768x1024, .f32⟩
  | .hbm, ⟨103, _⟩ => ⟨S32768x1024, .f32⟩
  | .hbm, ⟨104, _⟩ => ⟨S4x1024, .f32⟩
  | .hbm, ⟨105, _⟩ => ⟨S4x1x1024, .f32⟩
  | .hbm, ⟨106, _⟩ => ⟨S4x8192x1024, .f32⟩
  | .hbm, ⟨107, _⟩ => ⟨S32768x1024, .f32⟩
  | .hbm, ⟨108, _⟩ => ⟨S_, .f32⟩
  | .hbm, ⟨109, _⟩ => ⟨S32768x1024, .f32⟩
  | .hbm, ⟨110, _⟩ => ⟨S32768x1024, .f32⟩
  | .hbm, ⟨111, _⟩ => ⟨S32768x1024, .f32⟩
  | .hbm, ⟨112, _⟩ => ⟨S4x1024, .f32⟩
  | .hbm, ⟨113, _⟩ => ⟨S4x1x1024, .f32⟩
  | .hbm, ⟨114, _⟩ => ⟨S4x8192x1024, .f32⟩
  | .hbm, ⟨115, _⟩ => ⟨S32768x1024, .f32⟩
  | .hbm, ⟨116, _⟩ => ⟨S32768x1024, .f32⟩
  | .hbm, ⟨117, _⟩ => ⟨S128x256x1024, .f32⟩
  | .hbm, ⟨118, _⟩ => ⟨S128x1024x256, .f32⟩
  | .hbm, ⟨119, _⟩ => ⟨S128x1024x256, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_v49 : Ref sig .tc := ⟨.hbm, 76, rfl⟩
abbrev main_cst_6 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_cst_9 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_10 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]
-- ==== Kernel4.lean ====
abbrev S128x1024x256 : Shape := ⟨3, ![128, 1024, 256]⟩
abbrev S32768x1024 : Shape := ⟨2, ![32768, 1024]⟩
abbrev S4x6144 : Shape := ⟨2, ![4, 6144]⟩
abbrev S1024 : Shape := ⟨1, ![1024]⟩
abbrev S4x6x1024 : Shape := ⟨3, ![4, 6, 1024]⟩
abbrev S_ : Shape := ⟨0, ![]⟩
abbrev S4x8x1024 : Shape := ⟨3, ![4, 8, 1024]⟩
abbrev S1x1024 : Shape := ⟨2, ![1, 1024]⟩
abbrev S2x1024x256 : Shape := ⟨3, ![2, 1024, 256]⟩
abbrev S512x1024 : Shape := ⟨2, ![512, 1024]⟩
abbrev S1x8x1024 : Shape := ⟨3, ![1, 8, 1024]⟩
abbrev S256x1024 : Shape := ⟨2, ![256, 1024]⟩
abbrev S1x1x1024 : Shape := ⟨3, ![1, 1, 1024]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S128x1024x256, .f32⟩
  | .hbm, ⟨1, _⟩ => ⟨S32768x1024, .f32⟩
  | .hbm, ⟨2, _⟩ => ⟨S4x6144, .f32⟩
  | .hbm, ⟨3, _⟩ => ⟨S1024, .f32⟩
  | .hbm, ⟨4, _⟩ => ⟨S4x6x1024, .f32⟩
  | .hbm, ⟨5, _⟩ => ⟨S_, .i32⟩
  | .hbm, ⟨6, _⟩ => ⟨S_, .f32⟩
  | .hbm, ⟨7, _⟩ => ⟨S4x8x1024, .f32⟩
  | .hbm, ⟨8, _⟩ => ⟨S1x1024, .f32⟩
  | .hbm, ⟨9, _⟩ => ⟨S32768x1024, .f32⟩
  | .local _ .vmem, ⟨0, _⟩ => ⟨S2x1024x256, .f32⟩
  | .local _ .vmem, ⟨1, _⟩ => ⟨S2x1024x256, .f32⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S128x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S128x1024x256 : Shape := ⟨3, ![128, 1024, 256]⟩
abbrev S32768x1024 : Shape := ⟨2, ![32768, 1024]⟩
abbrev S4x6144 : Shape := ⟨2, ![4, 6144]⟩
abbrev S1024 : Shape := ⟨1, ![1024]⟩
abbrev S128x256x1024 : Shape := ⟨3, ![128, 256, 1024]⟩
abbrev S4x8192x1024 : Shape := ⟨3, ![4, 8192, 1024]⟩
abbrev S4x1024 : Shape := ⟨2, ![4, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S128x1024x256, .f32⟩
  | .hbm, ⟨1, _⟩ => ⟨S32768x1024, .f32⟩
  | .hbm, ⟨2, _⟩ => ⟨S4x6144, .f32⟩
  | .hbm, ⟨3, _⟩ => ⟨S1024, .f32⟩
  | .hbm, ⟨4, _⟩ => ⟨S128x256x1024, .f32⟩
  | .hbm, ⟨5, _⟩ => ⟨S4x8192x1024, .f32⟩
  | .hbm, ⟨6, _⟩ => ⟨S4x1024, .f32⟩
  | .hbm, ⟨7, _⟩ => ⟨S4x1x1024, .f32⟩
  | .hbm, ⟨8, _⟩ => ⟨S4x8192x1024, .f32⟩
  | .hbm, ⟨9, _⟩ => ⟨S_, .f32⟩
  | .hbm, ⟨10, _⟩ => ⟨S4x8192, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1, .f32⟩
  | .hbm, ⟨19, _⟩ => ⟨S4x8192x1024, .f32⟩
  | .hbm, ⟨20, _⟩ => ⟨S4x8192x1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S32768x1024, .f32⟩
  | _, _ => ⟨S128x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel5.lean ====
abbrev S4x1024 : Shape := ⟨2, ![4, 1024]⟩
abbrev S1024x6144 : Shape := ⟨2, ![1024, 6144]⟩
abbrev S6144 : Shape := ⟨1, ![6144]⟩
abbrev S8x1024 : Shape := ⟨2, ![8, 1024]⟩
abbrev S1x6144 : Shape := ⟨2, ![1, 6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024x6144 : Shape := ⟨2, ![1024, 6144]⟩
abbrev S6144 : Shape := ⟨1, ![6144]⟩
abbrev S_ : Shape := ⟨0, ![]⟩
abbrev S4x6144 : Shape := ⟨2, ![4, 6144]⟩
abbrev S1x6144 : Shape := ⟨2, ![1, 6144]⟩
abbrev S8x6144 : Shape := ⟨2, ![8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S1024x6144, .f32⟩
  | .hbm, ⟨3, _⟩ => ⟨S6144, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x6144, .f32⟩
  | .hbm, ⟨14, _⟩ => ⟨S1x6144, .f32⟩
  | .hbm, ⟨15, _⟩ => ⟨S4x6144, .f32⟩
  | .hbm, ⟨16, _⟩ => ⟨S4x6144, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S4x6144, .f32⟩
  | .hbm, ⟨27, _⟩ => ⟨S1x6144, .f32⟩
  | .hbm, ⟨28, _⟩ => ⟨S4x6144, .f32⟩
  | .hbm, ⟨29, _⟩ => ⟨S4x6144, .f32⟩
  | .hbm, ⟨30, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel6.lean ====
abbrev S32768x9216 : Shape := ⟨2, ![32768, 9216]⟩
abbrev S4x8192x2x8 : Shape := ⟨4, ![4, 8192, 2, 8]⟩
abbrev S3x3072 : Shape := ⟨2, ![3, 3072]⟩
abbrev S3x1024 : Shape := ⟨2, ![3, 1024]⟩
abbrev S2x8 : Shape := ⟨2, ![2, 8]⟩
abbrev S_ : Shape := ⟨0, ![]⟩
abbrev S32768x24 : Shape := ⟨2, ![32768, 24]⟩
abbrev S4x8192x1x8 : Shape := ⟨4, ![4, 8192, 1, 8]⟩
abbrev S4x8192x8 : Shape := ⟨3, ![4, 8192, 8]⟩
abbrev S32768x8 : Shape := ⟨2, ![32768, 8]⟩
abbrev S32768x64 : Shape := ⟨2, ![32768, 64]⟩
abbrev S32768x128 : Shape := ⟨2, ![32768, 128]⟩
abbrev S1x8 : Shape := ⟨2, ![1, 8]⟩
abbrev S8 : Shape := ⟨1, ![8]⟩
abbrev S5x8 : Shape := ⟨2, ![5, 8]⟩
abbrev S40 : Shape := ⟨1, ![40]⟩
abbrev S24 : Shape := ⟨1, ![24]⟩
abbrev S64 : Shape := ⟨1, ![64]⟩
abbrev S128 : Shape := ⟨1, ![128]⟩
abbrev S1x128 : Shape := ⟨2, ![1, 128]⟩
abbrev S32768x3072 : Shape := ⟨2, ![32768, 3072]⟩
abbrev S512x1024x64 : Shape := ⟨3, ![512, 1024, 64]⟩
abbrev S32768x1024 : Shape := ⟨2, ![32768, 1024]⟩
abbrev S512x2x24x128 : Shape := ⟨4, ![512, 2, 24, 128]⟩
abbrev S256x3072 : Shape := ⟨2, ![256, 3072]⟩
abbrev S16x3072 : Shape := ⟨2, ![16, 3072]⟩
abbrev S256x128 : Shape := ⟨2, ![256, 128]⟩
abbrev S4x1024x64 : Shape := ⟨3, ![4, 1024, 64]⟩
abbrev S256x1024 : Shape := ⟨2, ![256, 1024]⟩
abbrev S4x2x24x128 : Shape := ⟨4, ![4, 2, 24, 128]⟩
abbrev S256x272 : Shape := ⟨2, ![256, 272]⟩
abbrev S272x3072 : Shape := ⟨2, ![272, 3072]⟩
abbrev S1x3072 : Shape := ⟨2, ![1, 3072]⟩
abbrev S256 : Shape := ⟨1, ![256]⟩
abbrev S256x1 : Shape := ⟨2, ![256, 1]⟩
abbrev S128x256 : Shape := ⟨2, ![128, 256]⟩
abbrev S128x64 : Shape := ⟨2, ![128, 64]⟩
abbrev S1x128x64 : Shape := ⟨3, ![1, 128, 64]⟩
abbrev S16x1024 : Shape := ⟨2, ![16, 1024]⟩
abbrev S272x1024 : Shape := ⟨2, ![272, 1024]⟩
abbrev S1x1024 : Shape := ⟨2, ![1, 1024]⟩
abbrev S24x128 : Shape := ⟨2, ![24, 128]⟩
abbrev S1x1x24x128 : Shape := ⟨4, ![1, 1, 24, 128]⟩
abbrev S8x64 : Shape := ⟨2, ![8, 64]⟩
abbrev S1x1x8x64 : Shape := ⟨4, ![1, 1, 8, 64]⟩
abbrev S8x1 : Shape := ⟨2, ![8, 1]⟩
abbrev S8x128 : Shape := ⟨2, ![8, 128]⟩
abbrev S1x1x8x128 : Shape := ⟨4, ![1, 1, 8, 128]⟩

abbrev nBuf : Space → Nat
  | .hbm => 66
  | .vmem => 28
  | .smem => 0
  | _ => 0

abbrev bufTy : (tb : Table) → Fin (tcTables nBuf tb) → BufTy
  | .hbm, ⟨0, _⟩ => ⟨S32768x9216, .bf16⟩
  | .hbm, ⟨1, _⟩ => ⟨S4x8192x2x8, .f32⟩
  | .hbm, ⟨2, _⟩ => ⟨S4x8192x2x8, .f32⟩
  | .hbm, ⟨3, _⟩ => ⟨S3x3072, .f32⟩
  | .hbm, ⟨4, _⟩ => ⟨S3x1024, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S32768x24, .f32⟩
  | .hbm, ⟨9, _⟩ => ⟨S4x8192x1x8, .f32⟩
  | .hbm, ⟨10, _⟩ => ⟨S4x8192x8, .f32⟩
  | .hbm, ⟨11, _⟩ => ⟨S32768x8, .f32⟩
  | .hbm, ⟨12, _⟩ => ⟨S4x8192x1x8, .f32⟩
  | .hbm, ⟨13, _⟩ => ⟨S4x8192x8, .f32⟩
  | .hbm, ⟨14, _⟩ => ⟨S32768x8, .f32⟩
  | .hbm, ⟨15, _⟩ => ⟨S32768x64, .f32⟩
  | .hbm, ⟨16, _⟩ => ⟨S4x8192x1x8, .f32⟩
  | .hbm, ⟨17, _⟩ => ⟨S4x8192x8, .f32⟩
  | .hbm, ⟨18, _⟩ => ⟨S32768x8, .f32⟩
  | .hbm, ⟨19, _⟩ => ⟨S4x8192x1x8, .f32⟩
  | .hbm, ⟨20, _⟩ => ⟨S4x8192x8, .f32⟩
  | .hbm, ⟨21, _⟩ => ⟨S32768x8, .f32⟩
  | .hbm, ⟨22, _⟩ => ⟨S32768x64, .f32⟩
  | .hbm, ⟨23, _⟩ => ⟨S32768x128, .f32⟩
  | .hbm, ⟨24, _⟩ => ⟨S2x8, .f32⟩
  | .hbm, ⟨25, _⟩ => ⟨S1x8, .f32⟩
  | .hbm, ⟨26, _⟩ => ⟨S8, .f32⟩
  | .hbm, ⟨27, _⟩ => ⟨S1x8, .f32⟩
  | .hbm, ⟨28, _⟩ => ⟨S8, .f32⟩
  | .hbm, ⟨29, _⟩ => ⟨S1x8, .f32⟩
  | .hbm, ⟨30, _⟩ => ⟨S5x8, .f32⟩
  | .hbm, ⟨31, _⟩ => ⟨S40, .f32⟩
  | .hbm, ⟨32, _⟩ => ⟨S_, .f32⟩
  | .hbm, ⟨33, _⟩ => ⟨S24, .f32⟩
  | .hbm, ⟨34, _⟩ => ⟨S64, .f32⟩
  | .hbm, ⟨35, _⟩ => ⟨S1x8, .f32⟩
  | .hbm, ⟨36, _⟩ => ⟨S5x8, .f32⟩
  | .hbm, ⟨37, _⟩ => ⟨S40, .f32⟩
  | .hbm, ⟨38, _⟩ => ⟨S_, .f32⟩
  | .hbm, ⟨39, _⟩ => ⟨S24, .f32⟩
  | .hbm, ⟨40, _⟩ => ⟨S64, .f32⟩
  | .hbm, ⟨41, _⟩ => ⟨S128, .f32⟩
  | .hbm, ⟨42, _⟩ => ⟨S1x128, .f32⟩
  | .hbm, ⟨43, _⟩ => ⟨S1x8, .f32⟩
  | .hbm, ⟨44, _⟩ => ⟨S8, .f32⟩
  | .hbm, ⟨45, _⟩ => ⟨S1x8, .f32⟩
  | .hbm, ⟨46, _⟩ => ⟨S8, .f32⟩
  | .hbm, ⟨47, _⟩ => ⟨S1x8, .f32⟩
  | .hbm, ⟨48, _⟩ => ⟨S5x8, .f32⟩
  | .hbm, ⟨49, _⟩ => ⟨S40, .f32⟩
  | .hbm, ⟨50, _⟩ => ⟨S_, .f32⟩
  | .hbm, ⟨51, _⟩ => ⟨S24, .f32⟩
  | .hbm, ⟨52, _⟩ => ⟨S64, .f32⟩
  | .hbm, ⟨53, _⟩ => ⟨S1x8, .f32⟩
  | .hbm, ⟨54, _⟩ => ⟨S5x8, .f32⟩
  | .hbm, ⟨55, _⟩ => ⟨S40, .f32⟩
  | .hbm, ⟨56, _⟩ => ⟨S_, .f32⟩
  | .hbm, ⟨57, _⟩ => ⟨S24, .f32⟩
  | .hbm, ⟨58, _⟩ => ⟨S64, .f32⟩
  | .hbm, ⟨59, _⟩ => ⟨S128, .f32⟩
  | .hbm, ⟨60, _⟩ => ⟨S1x128, .f32⟩
  | .hbm, ⟨61, _⟩ => ⟨S32768x3072, .bf16⟩
  | .hbm, ⟨62, _⟩ => ⟨S512x1024x64, .bf16⟩
  | .hbm, ⟨63, _⟩ => ⟨S32768x1024, .bf16⟩
  | .hbm, ⟨64, _⟩ => ⟨S32768x128, .f32⟩
  | .hbm, ⟨65, _⟩ => ⟨S512x2x24x128, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S256x3072, .bf16⟩
  | .local _ .vmem, ⟨7, _⟩ => ⟨S256x3072, .bf16⟩
  | .local _ .vmem, ⟨8, _⟩ => ⟨S16x3072, .bf16⟩
  | .local _ .vmem, ⟨9, _⟩ => ⟨S16x3072, .bf16⟩
  | .local _ .vmem, ⟨10, _⟩ => ⟨S16x3072, .bf16⟩
  | .local _ .vmem, ⟨11, _⟩ => ⟨S16x3072, .bf16⟩
  | .local _ .vmem, ⟨12, _⟩ => ⟨S256x128, .f32⟩
  | .local _ .vmem, ⟨13, _⟩ => ⟨S256x128, .f32⟩
  | .local _ .vmem, ⟨14, _⟩ => ⟨S3x3072, .f32⟩
  | .local _ .vmem, ⟨15, _⟩ => ⟨S3x1024, .f32⟩
  | .local _ .vmem, ⟨16, _⟩ => ⟨S1x128, .f32⟩
  | .local _ .vmem, ⟨17, _⟩ => ⟨S1x128, .f32⟩
  | .local _ .vmem, ⟨18, _⟩ => ⟨S256x3072, .bf16⟩
  | .local _ .vmem, ⟨19, _⟩ => ⟨S256x3072, .bf16⟩
  | .local _ .vmem, ⟨20, _⟩ => ⟨S4x1024x64, .bf16⟩
  | .local _ .vmem, ⟨21, _⟩ => ⟨S4x1024x64, .bf16⟩
  | .local _ .vmem, ⟨22, _⟩ => ⟨S256x1024, .bf16⟩
  | .local _ .vmem, ⟨23, _⟩ => ⟨S256x1024, .bf16⟩
  | .local _ .vmem, ⟨24, _⟩ => ⟨S256x128, .f32⟩
  | .local _ .vmem, ⟨25, _⟩ => ⟨S256x128, .f32⟩
  | .local _ .vmem, ⟨26, _⟩ => ⟨S4x2x24x128, .f32⟩
  | .local _ .vmem, ⟨27, _⟩ => ⟨S4x2x24x128, .f32⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev main_v49_2 : Ref sig .tc := ⟨.hbm, 63, rfl⟩
abbrev main_v49_3 : Ref sig .tc := ⟨.hbm, 64, rfl⟩
abbrev main_v49_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x2x24x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S32768x9216 : Shape := ⟨2, ![32768, 9216]⟩
abbrev S4x8192x2x8 : Shape := ⟨4, ![4, 8192, 2, 8]⟩
abbrev S3x3072 : Shape := ⟨2, ![3, 3072]⟩
abbrev S3x1024 : Shape := ⟨2, ![3, 1024]⟩
abbrev S2x8 : Shape := ⟨2, ![2, 8]⟩
abbrev S4x8192x9216 : Shape := ⟨3, ![4, 8192, 9216]⟩
abbrev S4x8192x1024 : Shape := ⟨3, ![4, 8192, 1024]⟩
abbrev S_ : Shape := ⟨0, ![]⟩
abbrev S4x8194x1024 : Shape := ⟨3, ![4, 8194, 1024]⟩
abbrev S1x1024 : Shape := ⟨2, ![1, 1024]⟩
abbrev S1x1x1024 : Shape := ⟨3, ![1, 1, 1024]⟩
abbrev S4x8192x3072 : Shape := ⟨3, ![4, 8192, 3072]⟩
abbrev S4x8194x3072 : Shape := ⟨3, ![4, 8194, 3072]⟩
abbrev S1x3072 : Shape := ⟨2, ![1, 3072]⟩
abbrev S1x1x3072 : Shape := ⟨3, ![1, 1, 3072]⟩
abbrev S32768x3072 : Shape := ⟨2, ![32768, 3072]⟩
abbrev S32768x1024 : Shape := ⟨2, ![32768, 1024]⟩
abbrev S32768x8x128 : Shape := ⟨3, ![32768, 8, 128]⟩
abbrev S32768x8 : Shape := ⟨2, ![32768, 8]⟩
abbrev S32768x8x1 : Shape := ⟨3, ![32768, 8, 1]⟩
abbrev S512x64x1024 : Shape := ⟨3, ![512, 64, 1024]⟩
abbrev S512x1024x64 : Shape := ⟨3, ![512, 1024, 64]⟩

abbrev nBuf : Space → Nat
  | .hbm => 102
  | .vmem => 0
  | .smem => 0
  | _ => 0

abbrev bufTy : (tb : Table) → Fin (tcTables nBuf tb) → BufTy
  | .hbm, ⟨0, _⟩ => ⟨S32768x9216, .bf16⟩
  | .hbm, ⟨1, _⟩ => ⟨S4x8192x2x8, .f32⟩
  | .hbm, ⟨2, _⟩ => ⟨S4x8192x2x8, .f32⟩
  | .hbm, ⟨3, _⟩ => ⟨S3x3072, .f32⟩
  | .hbm, ⟨4, _⟩ => ⟨S3x1024, .f32⟩
  | .hbm, ⟨5, _⟩ => ⟨S2x8, .f32⟩
  | .hbm, ⟨6, _⟩ => ⟨S2x8, .f32⟩
  | .hbm, ⟨7, _⟩ => ⟨S32768x9216, .f32⟩
  | .hbm, ⟨8, _⟩ => ⟨S4x8192x9216, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S_, .i32⟩
  | .hbm, ⟨14, _⟩ => ⟨S_, .f32⟩
  | .hbm, ⟨15, _⟩ => ⟨S4x8194x1024, .f32⟩
  | .hbm, ⟨16, _⟩ => ⟨S1x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S1x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S1x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x3072, .f32⟩
  | .hbm, ⟨35, _⟩ => ⟨S_, .i32⟩
  | .hbm, ⟨36, _⟩ => ⟨S_, .f32⟩
  | .hbm, ⟨37, _⟩ => ⟨S4x8194x3072, .f32⟩
  | .hbm, ⟨38, _⟩ => ⟨S1x3072, .f32⟩
  | .hbm, ⟨39, _⟩ => ⟨S4x8192x3072, .f32⟩
  | .hbm, ⟨40, _⟩ => ⟨S1x1x3072, .f32⟩
  | .hbm, ⟨41, _⟩ => ⟨S4x8192x3072, .f32⟩
  | .hbm, ⟨42, _⟩ => ⟨S4x8192x3072, .f32⟩
  | .hbm, ⟨43, _⟩ => ⟨S1x3072, .f32⟩
  | .hbm, ⟨44, _⟩ => ⟨S4x8192x3072, .f32⟩
  | .hbm, ⟨45, _⟩ => ⟨S1x1x3072, .f32⟩
  | .hbm, ⟨46, _⟩ => ⟨S4x8192x3072, .f32⟩
  | .hbm, ⟨47, _⟩ => ⟨S4x8192x3072, .f32⟩
  | .hbm, ⟨48, _⟩ => ⟨S4x8192x3072, .f32⟩
  | .hbm, ⟨49, _⟩ => ⟨S1x3072, .f32⟩
  | .hbm, ⟨50, _⟩ => ⟨S4x8192x3072, .f32⟩
  | .hbm, ⟨51, _⟩ => ⟨S1x1x3072, .f32⟩
  | .hbm, ⟨52, _⟩ => ⟨S4x8192x3072, .f32⟩
  | .hbm, ⟨53, _⟩ => ⟨S4x8192x3072, .f32⟩
  | .hbm, ⟨54, _⟩ => ⟨S4x8192x3072, .f32⟩
  | .hbm, ⟨55, _⟩ => ⟨S4x8192x3072, .f32⟩
  | .hbm, ⟨56, _⟩ => ⟨S4x8192x3072, .f32⟩
  | .hbm, ⟨57, _⟩ => ⟨S_, .f32⟩
  | .hbm, ⟨58, _⟩ => ⟨S4x8192x3072, .f32⟩
  | .hbm, ⟨59, _⟩ => ⟨S4x8192x3072, .f32⟩
  | .hbm, ⟨60, _⟩ => ⟨S_, .f32⟩
  | .hbm, ⟨61, _⟩ => ⟨S4x8192x3072, .f32⟩
  | .hbm, ⟨62, _⟩ => ⟨S4x8192x3072, .f32⟩
  | .hbm, ⟨63, _⟩ => ⟨S4x8192x3072, .f32⟩
  | .hbm, ⟨64, _⟩ => ⟨S32768x3072, .f32⟩
  | .hbm, ⟨65, _⟩ => ⟨S32768x1024, .f32⟩
  | .hbm, ⟨66, _⟩ => ⟨S32768x8x128, .f32⟩
  | .hbm, ⟨67, _⟩ => ⟨S32768x8x128, .f32⟩
  | .hbm, ⟨68, _⟩ => ⟨S_, .f32⟩
  | .hbm, ⟨69, _⟩ => ⟨S32768x8, .f32⟩
  | .hbm, ⟨70, _⟩ => ⟨S32768x8x1, .f32⟩
  | .hbm, ⟨71, _⟩ => ⟨S_, .f32⟩
  | .hbm, ⟨72, _⟩ => ⟨S32768x8x1, .f32⟩
  | .hbm, ⟨73, _⟩ => ⟨S32768x8x1, .f32⟩
  | .hbm, ⟨74, _⟩ => ⟨S32768x8x1, .f32⟩
  | .hbm, ⟨75, _⟩ => ⟨S32768x8x128, .f32⟩
  | .hbm, ⟨76, _⟩ => ⟨S32768x8x128, .f32⟩
  | .hbm, ⟨77, _⟩ => ⟨S_, .f32⟩
  | .hbm, ⟨78, _⟩ => ⟨S32768x8x128, .f32⟩
  | .hbm, ⟨79, _⟩ => ⟨S32768x8x128, .f32⟩
  | .hbm, ⟨80, _⟩ => ⟨S32768x1024, .f32⟩
  | .hbm, ⟨81, _⟩ => ⟨S32768x8x128, .f32⟩
  | .hbm, ⟨82, _⟩ => ⟨S32768x8x128, .f32⟩
  | .hbm, ⟨83, _⟩ => ⟨S_, .f32⟩
  | .hbm, ⟨84, _⟩ => ⟨S32768x8, .f32⟩
  | .hbm, ⟨85, _⟩ => ⟨S32768x8x1, .f32⟩
  | .hbm, ⟨86, _⟩ => ⟨S_, .f32⟩
  | .hbm, ⟨87, _⟩ => ⟨S32768x8x1, .f32⟩
  | .hbm, ⟨88, _⟩ => ⟨S32768x8x1, .f32⟩
  | .hbm, ⟨89, _⟩ => ⟨S32768x8x1, .f32⟩
  | .hbm, ⟨90, _⟩ => ⟨S32768x8x128, .f32⟩
  | .hbm, ⟨91, _⟩ => ⟨S32768x8x128, .f32⟩
  | .hbm, ⟨92, _⟩ => ⟨S32768x1024, .f32⟩
  | .hbm, ⟨93, _⟩ => ⟨S32768x1024, .f32⟩
  | .hbm, ⟨94, _⟩ => ⟨S32768x1024, .f32⟩
  | .hbm, ⟨95, _⟩ => ⟨S32768x3072, .f32⟩
  | .hbm, ⟨96, _⟩ => ⟨S32768x3072, .bf16⟩
  | .hbm, ⟨97, _⟩ => ⟨S512x64x1024, .f32⟩
  | .hbm, ⟨98, _⟩ => ⟨S512x1024x64, .f32⟩
  | .hbm, ⟨99, _⟩ => ⟨S512x1024x64, .bf16⟩
  | .hbm, ⟨100, _⟩ => ⟨S32768x1024, .f32⟩
  | .hbm, ⟨101, _⟩ => ⟨S32768x1024, .bf16⟩
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_0 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_call2_v0 : Ref sig .tc := ⟨.hbm, 55, rfl⟩
abbrev main_call2_v1 : Ref sig .tc := ⟨.hbm, 56, rfl⟩
abbrev main_call2_cst : Ref sig .tc := ⟨.hbm, 57, rfl⟩
abbrev main_call2_v2 : Ref sig .tc := ⟨.hbm, 58, rfl⟩
abbrev main_call2_v3 : Ref sig .tc := ⟨.hbm, 59, rfl⟩
abbrev main_call2_cst_0 : Ref sig .tc := ⟨.hbm, 60, rfl⟩
abbrev main_call2_v4 : Ref sig .tc := ⟨.hbm, 61, rfl⟩
abbrev main_call2_v5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_2 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_3 : Ref sig .tc := ⟨.hbm, 83, rfl⟩
abbrev main_v61 : Ref sig .tc := ⟨.hbm, 84, rfl⟩
abbrev main_v62 : Ref sig .tc := ⟨.hbm, 85, rfl⟩
abbrev main_cst_4 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel7.lean ====
abbrev S32768x9216 : Shape := ⟨2, ![32768, 9216]⟩
abbrev S4x8192x2x8 : Shape := ⟨4, ![4, 8192, 2, 8]⟩
abbrev S3x3072 : Shape := ⟨2, ![3, 3072]⟩
abbrev S3x1024 : Shape := ⟨2, ![3, 1024]⟩
abbrev S2x8 : Shape := ⟨2, ![2, 8]⟩
abbrev S_ : Shape := ⟨0, ![]⟩
abbrev S32768x24 : Shape := ⟨2, ![32768, 24]⟩
abbrev S4x8192x1x8 : Shape := ⟨4, ![4, 8192, 1, 8]⟩
abbrev S4x8192x8 : Shape := ⟨3, ![4, 8192, 8]⟩
abbrev S32768x8 : Shape := ⟨2, ![32768, 8]⟩
abbrev S32768x64 : Shape := ⟨2, ![32768, 64]⟩
abbrev S32768x128 : Shape := ⟨2, ![32768, 128]⟩
abbrev S1x8 : Shape := ⟨2, ![1, 8]⟩
abbrev S8 : Shape := ⟨1, ![8]⟩
abbrev S5x8 : Shape := ⟨2, ![5, 8]⟩
abbrev S40 : Shape := ⟨1, ![40]⟩
abbrev S24 : Shape := ⟨1, ![24]⟩
abbrev S64 : Shape := ⟨1, ![64]⟩
abbrev S128 : Shape := ⟨1, ![128]⟩
abbrev S1x128 : Shape := ⟨2, ![1, 128]⟩
abbrev S32768x3072 : Shape := ⟨2, ![32768, 3072]⟩
abbrev S512x1024x64 : Shape := ⟨3, ![512, 1024, 64]⟩
abbrev S32768x1024 : Shape := ⟨2, ![32768, 1024]⟩
abbrev S512x2x24x128 : Shape := ⟨4, ![512, 2, 24, 128]⟩
abbrev S256x3072 : Shape := ⟨2, ![256, 3072]⟩
abbrev S16x3072 : Shape := ⟨2, ![16, 3072]⟩
abbrev S256x128 : Shape := ⟨2, ![256, 128]⟩
abbrev S4x1024x64 : Shape := ⟨3, ![4, 1024, 64]⟩
abbrev S256x1024 : Shape := ⟨2, ![256, 1024]⟩
abbrev S4x2x24x128 : Shape := ⟨4, ![4, 2, 24, 128]⟩
abbrev S256x272 : Shape := ⟨2, ![256, 272]⟩
abbrev S272x3072 : Shape := ⟨2, ![272, 3072]⟩
abbrev S1x3072 : Shape := ⟨2, ![1, 3072]⟩
abbrev S256 : Shape := ⟨1, ![256]⟩
abbrev S256x1 : Shape := ⟨2, ![256, 1]⟩
abbrev S128x256 : Shape := ⟨2, ![128, 256]⟩
abbrev S128x64 : Shape := ⟨2, ![128, 64]⟩
abbrev S1x128x64 : Shape := ⟨3, ![1, 128, 64]⟩
abbrev S16x1024 : Shape := ⟨2, ![16, 1024]⟩
abbrev S272x1024 : Shape := ⟨2, ![272, 1024]⟩
abbrev S1x1024 : Shape := ⟨2, ![1, 1024]⟩
abbrev S24x128 : Shape := ⟨2, ![24, 128]⟩
abbrev S1x1x24x128 : Shape := ⟨4, ![1, 1, 24, 128]⟩
abbrev S8x64 : Shape := ⟨2, ![8, 64]⟩
abbrev S1x1x8x64 : Shape := ⟨4, ![1, 1, 8, 64]⟩
abbrev S8x1 : Shape := ⟨2, ![8, 1]⟩
abbrev S8x128 : Shape := ⟨2, ![8, 128]⟩
abbrev S1x1x8x128 : Shape := ⟨4, ![1, 1, 8, 128]⟩

abbrev nBuf : Space → Nat
  | .hbm => 66
  | .vmem => 28
  | .smem => 0
  | _ => 0

abbrev bufTy : (tb : Table) → Fin (tcTables nBuf tb) → BufTy
  | .hbm, ⟨0, _⟩ => ⟨S32768x9216, .bf16⟩
  | .hbm, ⟨1, _⟩ => ⟨S4x8192x2x8, .f32⟩
  | .hbm, ⟨2, _⟩ => ⟨S4x8192x2x8, .f32⟩
  | .hbm, ⟨3, _⟩ => ⟨S3x3072, .f32⟩
  | .hbm, ⟨4, _⟩ => ⟨S3x1024, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S32768x24, .f32⟩
  | .hbm, ⟨9, _⟩ => ⟨S4x8192x1x8, .f32⟩
  | .hbm, ⟨10, _⟩ => ⟨S4x8192x8, .f32⟩
  | .hbm, ⟨11, _⟩ => ⟨S32768x8, .f32⟩
  | .hbm, ⟨12, _⟩ => ⟨S4x8192x1x8, .f32⟩
  | .hbm, ⟨13, _⟩ => ⟨S4x8192x8, .f32⟩
  | .hbm, ⟨14, _⟩ => ⟨S32768x8, .f32⟩
  | .hbm, ⟨15, _⟩ => ⟨S32768x64, .f32⟩
  | .hbm, ⟨16, _⟩ => ⟨S4x8192x1x8, .f32⟩
  | .hbm, ⟨17, _⟩ => ⟨S4x8192x8, .f32⟩
  | .hbm, ⟨18, _⟩ => ⟨S32768x8, .f32⟩
  | .hbm, ⟨19, _⟩ => ⟨S4x8192x1x8, .f32⟩
  | .hbm, ⟨20, _⟩ => ⟨S4x8192x8, .f32⟩
  | .hbm, ⟨21, _⟩ => ⟨S32768x8, .f32⟩
  | .hbm, ⟨22, _⟩ => ⟨S32768x64, .f32⟩
  | .hbm, ⟨23, _⟩ => ⟨S32768x128, .f32⟩
  | .hbm, ⟨24, _⟩ => ⟨S2x8, .f32⟩
  | .hbm, ⟨25, _⟩ => ⟨S1x8, .f32⟩
  | .hbm, ⟨26, _⟩ => ⟨S8, .f32⟩
  | .hbm, ⟨27, _⟩ => ⟨S1x8, .f32⟩
  | .hbm, ⟨28, _⟩ => ⟨S8, .f32⟩
  | .hbm, ⟨29, _⟩ => ⟨S1x8, .f32⟩
  | .hbm, ⟨30, _⟩ => ⟨S5x8, .f32⟩
  | .hbm, ⟨31, _⟩ => ⟨S40, .f32⟩
  | .hbm, ⟨32, _⟩ => ⟨S_, .f32⟩
  | .hbm, ⟨33, _⟩ => ⟨S24, .f32⟩
  | .hbm, ⟨34, _⟩ => ⟨S64, .f32⟩
  | .hbm, ⟨35, _⟩ => ⟨S1x8, .f32⟩
  | .hbm, ⟨36, _⟩ => ⟨S5x8, .f32⟩
  | .hbm, ⟨37, _⟩ => ⟨S40, .f32⟩
  | .hbm, ⟨38, _⟩ => ⟨S_, .f32⟩
  | .hbm, ⟨39, _⟩ => ⟨S24, .f32⟩
  | .hbm, ⟨40, _⟩ => ⟨S64, .f32⟩
  | .hbm, ⟨41, _⟩ => ⟨S128, .f32⟩
  | .hbm, ⟨42, _⟩ => ⟨S1x128, .f32⟩
  | .hbm, ⟨43, _⟩ => ⟨S1x8, .f32⟩
  | .hbm, ⟨44, _⟩ => ⟨S8, .f32⟩
  | .hbm, ⟨45, _⟩ => ⟨S1x8, .f32⟩
  | .hbm, ⟨46, _⟩ => ⟨S8, .f32⟩
  | .hbm, ⟨47, _⟩ => ⟨S1x8, .f32⟩
  | .hbm, ⟨48, _⟩ => ⟨S5x8, .f32⟩
  | .hbm, ⟨49, _⟩ => ⟨S40, .f32⟩
  | .hbm, ⟨50, _⟩ => ⟨S_, .f32⟩
  | .hbm, ⟨51, _⟩ => ⟨S24, .f32⟩
  | .hbm, ⟨52, _⟩ => ⟨S64, .f32⟩
  | .hbm, ⟨53, _⟩ => ⟨S1x8, .f32⟩
  | .hbm, ⟨54, _⟩ => ⟨S5x8, .f32⟩
  | .hbm, ⟨55, _⟩ => ⟨S40, .f32⟩
  | .hbm, ⟨56, _⟩ => ⟨S_, .f32⟩
  | .hbm, ⟨57, _⟩ => ⟨S24, .f32⟩
  | .hbm, ⟨58, _⟩ => ⟨S64, .f32⟩
  | .hbm, ⟨59, _⟩ => ⟨S128, .f32⟩
  | .hbm, ⟨60, _⟩ => ⟨S1x128, .f32⟩
  | .hbm, ⟨61, _⟩ => ⟨S32768x3072, .bf16⟩
  | .hbm, ⟨62, _⟩ => ⟨S512x1024x64, .bf16⟩
  | .hbm, ⟨63, _⟩ => ⟨S32768x1024, .bf16⟩
  | .hbm, ⟨64, _⟩ => ⟨S32768x128, .f32⟩
  | .hbm, ⟨65, _⟩ => ⟨S512x2x24x128, .f32⟩
  | .local _ .vmem, ⟨0, _⟩ => ⟨S256x3072, .bf16⟩
  | .local _ .vmem, ⟨1, _⟩ => ⟨S256x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S256x3072, .bf16⟩
  | .local _ .vmem, ⟨7, _⟩ => ⟨S256x3072, .bf16⟩
  | .local _ .vmem, ⟨8, _⟩ => ⟨S16x3072, .bf16⟩
  | .local _ .vmem, ⟨9, _⟩ => ⟨S16x3072, .bf16⟩
  | .local _ .vmem, ⟨10, _⟩ => ⟨S16x3072, .bf16⟩
  | .local _ .vmem, ⟨11, _⟩ => ⟨S16x3072, .bf16⟩
  | .local _ .vmem, ⟨12, _⟩ => ⟨S256x128, .f32⟩
  | .local _ .vmem, ⟨13, _⟩ => ⟨S256x128, .f32⟩
  | .local _ .vmem, ⟨14, _⟩ => ⟨S3x3072, .f32⟩
  | .local _ .vmem, ⟨15, _⟩ => ⟨S3x1024, .f32⟩
  | .local _ .vmem, ⟨16, _⟩ => ⟨S1x128, .f32⟩
  | .local _ .vmem, ⟨17, _⟩ => ⟨S1x128, .f32⟩
  | .local _ .vmem, ⟨18, _⟩ => ⟨S256x3072, .bf16⟩
  | .local _ .vmem, ⟨19, _⟩ => ⟨S256x3072, .bf16⟩
  | .local _ .vmem, ⟨20, _⟩ => ⟨S4x1024x64, .bf16⟩
  | .local _ .vmem, ⟨21, _⟩ => ⟨S4x1024x64, .bf16⟩
  | .local _ .vmem, ⟨22, _⟩ => ⟨S256x1024, .bf16⟩
  | .local _ .vmem, ⟨23, _⟩ => ⟨S256x1024, .bf16⟩
  | .local _ .vmem, ⟨24, _⟩ => ⟨S256x128, .f32⟩
  | .local _ .vmem, ⟨25, _⟩ => ⟨S256x128, .f32⟩
  | .local _ .vmem, ⟨26, _⟩ => ⟨S4x2x24x128, .f32⟩
  | .local _ .vmem, ⟨27, _⟩ => ⟨S4x2x24x128, .f32⟩
  | _, _ => ⟨S32768x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49_0 : Ref sig .tc := ⟨.hbm, 61, rfl⟩
abbrev main_v49_1 : Ref sig .tc := ⟨.hbm, 62, rfl⟩
abbrev main_v49_2 : Ref sig .tc := ⟨.hbm, 63, rfl⟩
abbrev main_v49_3 : Ref sig .tc := ⟨.hbm, 64, rfl⟩
abbrev main_v49_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c2047_i32 : BitVec 32 := 2047#32
  let v2 : BitVec 32 := Scalar.minsi v1 c2047_i32
  let c1_i32_0 : BitVec 32 := 1#32
  let c0_i32 : BitVec 32 := 0#32
  ![v2.toNat, c1_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x1024x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x2x24x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S32768x9216 : Shape := ⟨2, ![32768, 9216]⟩
abbrev S4x8192x2x8 : Shape := ⟨4, ![4, 8192, 2, 8]⟩
abbrev S3x3072 : Shape := ⟨2, ![3, 3072]⟩
abbrev S3x1024 : Shape := ⟨2, ![3, 1024]⟩
abbrev S2x8 : Shape := ⟨2, ![2, 8]⟩
abbrev S1x1x2x8 : Shape := ⟨4, ![1, 1, 2, 8]⟩
abbrev S_ : Shape := ⟨0, ![]⟩
abbrev S512x64x2x8 : Shape := ⟨4, ![512, 64, 2, 8]⟩
abbrev S512x64x1x8 : Shape := ⟨4, ![512, 64, 1, 8]⟩
abbrev S512x64x8 : Shape := ⟨3, ![512, 64, 8]⟩
abbrev S512x2x8 : Shape := ⟨3, ![512, 2, 8]⟩
abbrev S512x1x2x8 : Shape := ⟨4, ![512, 1, 2, 8]⟩
abbrev S512x64x2x24 : Shape := ⟨4, ![512, 64, 2, 24]⟩
abbrev S512x64x2x64 : Shape := ⟨4, ![512, 64, 2, 64]⟩
abbrev S512x2x8x1 : Shape := ⟨4, ![512, 2, 8, 1]⟩
abbrev S512x2x8x128 : Shape := ⟨4, ![512, 2, 8, 128]⟩
abbrev S32768x128 : Shape := ⟨2, ![32768, 128]⟩
abbrev S512x2x8x64 : Shape := ⟨4, ![512, 2, 8, 64]⟩
abbrev S512x2x24x128 : Shape := ⟨4, ![512, 2, 24, 128]⟩

abbrev nBuf : Space → Nat
  | .hbm => 78
  | .vmem => 0
  | .smem => 0
  | _ => 0

abbrev bufTy : (tb : Table) → Fin (tcTables nBuf tb) → BufTy
  | .hbm, ⟨0, _⟩ => ⟨S32768x9216, .bf16⟩
  | .hbm, ⟨1, _⟩ => ⟨S4x8192x2x8, .f32⟩
  | .hbm, ⟨2, _⟩ => ⟨S4x8192x2x8, .f32⟩
  | .hbm, ⟨3, _⟩ => ⟨S3x3072, .f32⟩
  | .hbm, ⟨4, _⟩ => ⟨S3x1024, .f32⟩
  | .hbm, ⟨5, _⟩ => ⟨S2x8, .f32⟩
  | .hbm, ⟨6, _⟩ => ⟨S2x8, .f32⟩
  | .hbm, ⟨7, _⟩ => ⟨S2x8, .f32⟩
  | .hbm, ⟨8, _⟩ => ⟨S2x8, .f32⟩
  | .hbm, ⟨9, _⟩ => ⟨S1x1x2x8, .f32⟩
  | .hbm, ⟨10, _⟩ => ⟨S4x8192x2x8, .f32⟩
  | .hbm, ⟨11, _⟩ => ⟨S4x8192x2x8, .f32⟩
  | .hbm, ⟨12, _⟩ => ⟨S_, .f32⟩
  | .hbm, ⟨13, _⟩ => ⟨S4x8192x2x8, .f32⟩
  | .hbm, ⟨14, _⟩ => ⟨S4x8192x2x8, .f32⟩
  | .hbm, ⟨15, _⟩ => ⟨S4x8192x2x8, .f32⟩
  | .hbm, ⟨16, _⟩ => ⟨S4x8192x2x8, .f32⟩
  | .hbm, ⟨17, _⟩ => ⟨S4x8192x2x8, .i1⟩
  | .hbm, ⟨18, _⟩ => ⟨S4x8192x2x8, .f32⟩
  | .hbm, ⟨19, _⟩ => ⟨S4x8192x2x8, .f32⟩
  | .hbm, ⟨20, _⟩ => ⟨S4x8192x2x8, .f32⟩
  | .hbm, ⟨21, _⟩ => ⟨S4x8192x2x8, .f32⟩
  | .hbm, ⟨22, _⟩ => ⟨S4x8192x2x8, .f32⟩
  | .hbm, ⟨23, _⟩ => ⟨S4x8192x2x8, .f32⟩
  | .hbm, ⟨24, _⟩ => ⟨S4x8192x2x8, .f32⟩
  | .hbm, ⟨25, _⟩ => ⟨S4x8192x2x8, .f32⟩
  | .hbm, ⟨26, _⟩ => ⟨S1x1x2x8, .f32⟩
  | .hbm, ⟨27, _⟩ => ⟨S4x8192x2x8, .f32⟩
  | .hbm, ⟨28, _⟩ => ⟨S4x8192x2x8, .f32⟩
  | .hbm, ⟨29, _⟩ => ⟨S512x64x2x8, .f32⟩
  | .hbm, ⟨30, _⟩ => ⟨S4x8192x2x8, .f32⟩
  | .hbm, ⟨31, _⟩ => ⟨S4x8192x2x8, .f32⟩
  | .hbm, ⟨32, _⟩ => ⟨S_, .f32⟩
  | .hbm, ⟨33, _⟩ => ⟨S4x8192x2x8, .f32⟩
  | .hbm, ⟨34, _⟩ => ⟨S4x8192x2x8, .f32⟩
  | .hbm, ⟨35, _⟩ => ⟨S_, .f32⟩
  | .hbm, ⟨36, _⟩ => ⟨S4x8192x2x8, .f32⟩
  | .hbm, ⟨37, _⟩ => ⟨S4x8192x2x8, .f32⟩
  | .hbm, ⟨38, _⟩ => ⟨S512x64x2x8, .f32⟩
  | .hbm, ⟨39, _⟩ => ⟨S512x64x1x8, .f32⟩
  | .hbm, ⟨40, _⟩ => ⟨S512x64x8, .f32⟩
  | .hbm, ⟨41, _⟩ => ⟨S_, .f32⟩
  | .hbm, ⟨42, _⟩ => ⟨S_, .f32⟩
  | .hbm, ⟨43, _⟩ => ⟨S512x64x8, .f32⟩
  | .hbm, ⟨44, _⟩ => ⟨S512x64x1x8, .f32⟩
  | .hbm, ⟨45, _⟩ => ⟨S512x64x1x8, .f32⟩
  | .hbm, ⟨46, _⟩ => ⟨S512x64x8, .f32⟩
  | .hbm, ⟨47, _⟩ => ⟨S_, .f32⟩
  | .hbm, ⟨48, _⟩ => ⟨S_, .f32⟩
  | .hbm, ⟨49, _⟩ => ⟨S512x64x8, .f32⟩
  | .hbm, ⟨50, _⟩ => ⟨S512x64x8, .f32⟩
  | .hbm, ⟨51, _⟩ => ⟨S512x64x1x8, .f32⟩
  | .hbm, ⟨52, _⟩ => ⟨S512x64x1x8, .f32⟩
  | .hbm, ⟨53, _⟩ => ⟨S512x64x2x8, .f32⟩
  | .hbm, ⟨54, _⟩ => ⟨S_, .f32⟩
  | .hbm, ⟨55, _⟩ => ⟨S512x2x8, .f32⟩
  | .hbm, ⟨56, _⟩ => ⟨S512x1x2x8, .f32⟩
  | .hbm, ⟨57, _⟩ => ⟨S512x64x2x8, .f32⟩
  | .hbm, ⟨58, _⟩ => ⟨S512x64x2x8, .f32⟩
  | .hbm, ⟨59, _⟩ => ⟨S512x64x2x8, .f32⟩
  | .hbm, ⟨60, _⟩ => ⟨S512x64x2x8, .f32⟩
  | .hbm, ⟨61, _⟩ => ⟨S512x64x2x8, .f32⟩
  | .hbm, ⟨62, _⟩ => ⟨S_, .f32⟩
  | .hbm, ⟨63, _⟩ => ⟨S512x64x2x24, .f32⟩
  | .hbm, ⟨64, _⟩ => ⟨S512x64x2x64, .f32⟩
  | .hbm, ⟨65, _⟩ => ⟨S512x1x2x8, .f32⟩
  | .hbm, ⟨66, _⟩ => ⟨S512x2x8x1, .f32⟩
  | .hbm, ⟨67, _⟩ => ⟨S512x2x8x128, .f32⟩
  | .hbm, ⟨68, _⟩ => ⟨S32768x128, .f32⟩
  | .hbm, ⟨69, _⟩ => ⟨S512x2x8x64, .f32⟩
  | .hbm, ⟨70, _⟩ => ⟨S_, .i32⟩
  | .hbm, ⟨71, _⟩ => ⟨S_, .f32⟩
  | .hbm, ⟨72, _⟩ => ⟨S512x2x8x128, .f32⟩
  | .hbm, ⟨73, _⟩ => ⟨S512x2x8x64, .f32⟩
  | .hbm, ⟨74, _⟩ => ⟨S_, .i32⟩
  | .hbm, ⟨75, _⟩ => ⟨S_, .f32⟩
  | .hbm, ⟨76, _⟩ => ⟨S512x2x8x128, .f32⟩
  | .hbm, ⟨77, _⟩ => ⟨S512x2x24x128, .f32⟩
  | _, _ => ⟨S32768x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_call1_call0_cst : Ref sig .tc := ⟨.hbm, 41, rfl⟩
abbrev main_call1_call0_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_call0_cst : Ref sig .tc := ⟨.hbm, 47, rfl⟩
abbrev main_call2_call0_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_1 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c : Ref sig .tc := ⟨.hbm, 70, rfl⟩
abbrev main_call3_v0 : Ref sig .tc := ⟨.hbm, 71, rfl⟩
abbrev main_v42 : Ref sig .tc := ⟨.hbm, 72, rfl⟩
abbrev main_v43 : Ref sig .tc := ⟨.hbm, 73, rfl⟩
abbrev main_c_3 : Ref sig .tc := ⟨.hbm, 74, rfl⟩
abbrev main_call4_v0 : Ref sig .tc := ⟨.hbm, 75, rfl⟩
abbrev main_v44 : Ref sig .tc := ⟨.hbm, 76, rfl⟩
abbrev main_v45 : Ref sig .tc := ⟨.hbm, 77, rfl⟩

abbrev nD : Nat := 1
abbrev τ : Topo := Topo.v7x

variable {F : FTy → Type} [FloatOps F]
-- ==== Proof.KFrame.lean ====
/-
The frame of the idealized kernel, point by point: what each grid point's body leaves in the two output blocks and in the carried
state scratch (`stepAt`, from the runs of the body in its two cases), the scratch before every point (`scratchAt`, a recursion over
the points), the pipeline's proof data over them, the body's obligation, the run and the frame.
-/
module

public import proofs.«01_k».proof.Proof.Gen.KernelIdeal.Frame.RunB
public import Idealize.ShloMosaic.Lib.Claim
public import Idealize.ShloMosaic.Lib.Pipeline.Value

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a point that starts a sequence (the state is reset). -/
def runA (c : Dev nD) (t : Fin cfg0.N) (h0 : t.val % 128 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The body's run at any other point, over the state `s` that the point before left. -/
def runB (c : Dev nD) (t : Fin cfg0.N) (h0 : ¬t.val % 128 = 0) (s : Vec F S16x128x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s

/-- The pieces of each run cover the forward output, the backward output and the scratch. -/
theorem coverFA (c : Dev nD) (t : Fin cfg0.N) (h0 : t.val % 128 = 0) (y : S64x1024.Idx) : ∃ pc ∈ (runA m c t h0).1, y ∈ pc.1.set :=
  View.cover_of_tiledL (runA m c t h0).1 S64x128.size (by sl_kernel_rfl) y
theorem coverBA (c : Dev nD) (t : Fin cfg0.N) (h0 : t.val % 128 = 0) (y : S64x1024.Idx) : ∃ pc ∈ (runA m c t h0).2.1, y ∈ pc.1.set :=
  View.cover_of_tiledL (runA m c t h0).2.1 S64x128.size (by sl_kernel_rfl) y
theorem coverSA (c : Dev nD) (t : Fin cfg0.N) (h0 : t.val % 128 = 0) (y : S16x128x128.Idx) : ∃ pc ∈ (runA m c t h0).2.2.1, y ∈ pc.1.set :=
  View.cover_of_wholeMem (runA m c t h0).2.2.1 (by unfold runA; sl_whole_mem) y
theorem coverFB (c : Dev nD) (t : Fin cfg0.N) (h0 : ¬t.val % 128 = 0) (s : Vec F S16x128x128 .f32) (y : S64x1024.Idx) : ∃ pc ∈ (runB m c t h0 s).1, y ∈ pc.1.set :=
  View.cover_of_tiledL (runB m c t h0 s).1 S64x128.size (by sl_kernel_rfl) y
theorem coverBB (c : Dev nD) (t : Fin cfg0.N) (h0 : ¬t.val % 128 = 0) (s : Vec F S16x128x128 .f32) (y : S64x1024.Idx) : ∃ pc ∈ (runB m c t h0 s).2.1, y ∈ pc.1.set :=
  View.cover_of_tiledL (runB m c t h0 s).2.1 S64x128.size (by sl_kernel_rfl) y
theorem coverSB (c : Dev nD) (t : Fin cfg0.N) (h0 : ¬t.val % 128 = 0) (s : Vec F S16x128x128 .f32) (y : S16x128x128.Idx) : ∃ pc ∈ (runB m c t h0 s).2.2.1, y ∈ pc.1.set :=
  View.cover_of_tiledL (runB m c t h0 s).2.2.1 S1x128x128.size (by sl_kernel_rfl) y

/-- What point `t` leaves over a state `s`: the forward block, the backward block and the new state. -/
def stepAt (c : Dev nD) (t : Fin cfg0.N) (s : Vec F S16x128x128 .f32) : Vec F S64x1024 .bf16 × Vec F S64x1024 .bf16 × Vec F S16x128x128 .f32 :=
  if h0 : t.val % 128 = 0 then
    (VO0_12.read (Elt F) (VO0_12.writes (Elt F) VO0_12.junk (runA m c t h0).1),
     VO0_13.read (Elt F) (VO0_13.writes (Elt F) VO0_13.junk (runA m c t h0).2.1),
     VS0_0.read (Elt F) (VS0_0.writes (Elt F) VS0_0.junk (runA m c t h0).2.2.1))
  else
    (VO0_12.read (Elt F) (VO0_12.writes (Elt F) VO0_12.junk (runB m c t h0 s).1),
     VO0_13.read (Elt F) (VO0_13.writes (Elt F) VO0_13.junk (runB m c t h0 s).2.1),
     VS0_0.read (Elt F) (VS0_0.writes (Elt F) VS0_0.junk (runB m c t h0 s).2.2.1))

/-- The carried state before point `n`. -/
def scratchAt (c : Dev nD) : ℕ → Vec F S16x128x128 .f32
  | 0 => VS0_0.read (Elt F) VS0_0.junk
  | n + 1 => if h : n < cfg0.N then (stepAt m c ⟨n, h⟩ (scratchAt c n)).2.2 else scratchAt c n

theorem scratchAt_succ (c : Dev nD) (t : Fin cfg0.N) : scratchAt m c (t.val + 1) = (stepAt m c t (scratchAt m c t.val)).2.2 := by
  rw [scratchAt, dif_pos t.isLt]

/-- The invariant before position `n`: at first the scratch at anything, afterwards at `scratchAt`. -/
def PhiS (c : Dev nD) : ℕ → sProp 𝕄
  | 0 => Pipeline.ΦA spec0 c
  | n + 1 => iprop(iprop(owns (c : Thread nD τ) scM0_0 fullShare (scratchAt m c (n + 1))) ∗ (∃ r, prngReg c r))

theorem PhiS_pos (c : Dev nD) (n : ℕ) (hz : n ≠ 0) :
    PhiS m c n = iprop(iprop(owns (c : Thread nD τ) scM0_0 fullShare (scratchAt m c n)) ∗ (∃ r, prngReg c r)) := by
  cases n with
  | zero => exact absurd rfl hz
  | succ n => rfl

/-- The pipeline's proof data: each input's buffer at its block, each output's at `stepAt`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (stepAt m c t (scratchAt m c t.val)).1
    | ⟨13, _⟩ => (stepAt m c t (scratchAt m c t.val)).2.1
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem PhiS_succ (c : Dev nD) (t : Fin cfg0.N) :
    (dats m 0 c).Φ t.succ = iprop(iprop(owns (c : Thread nD τ) scM0_0 fullShare (scratchAt m c (t.val + 1))) ∗ (∃ r, prngReg c r)) := by
  dsimp only [dats]; rfl

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = (stepAt m c t (scratchAt m c t.val)).1 := by dsimp only [dats]
theorem after_13 (c : Dev nD) (t : Fin cfg0.N) : (dats m 0 c).after 13 t = (stepAt m c t (scratchAt m c t.val)).2.1 := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, after_12, after_13]
  rw [PhiS_succ, scratchAt_succ, PhiS_castSucc]
  by_cases h0 : t.val % 128 = 0
  · unfold stepAt
    rw [dif_pos h0]
    dsimp only
    by_cases hz : t.val = 0
    · rw [show PhiS m c t.val = Pipeline.ΦA spec0 c from by rw [hz]; rfl, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · first | iexact HS0 | (iexists _; iexact HS0)
      iintro ⟨H0, H1, H2, H3, H4, H5, H6, H7, H8, H9, H10, H11, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (coverSA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (coverFA m c t h0)
      unfold owns; iexists _; isplitr
      swap; · iexact H13
      ipureintro; exact View.read_writes_of_cover _ _ _ _ _ (coverBA m c t h0)
    · rw [PhiS_pos m c _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA m c t h0).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [HS0]; · first | iexact HS0 | (iexists _; iexact HS0)
      iintro ⟨H0, H1, H2, H3, H4, H5, H6, H7, H8, H9, H10, H11, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (coverSA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (coverFA m c t h0)
      unfold owns; iexists _; isplitr
      swap; · iexact H13
      ipureintro; exact View.read_writes_of_cover _ _ _ _ _ (coverBA m c t h0)
  · have hz : t.val ≠ 0 := fun h => h0 (by rw [h])
    rw [PhiS_pos m c _ hz]
    unfold stepAt
    rw [dif_neg h0]
    dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runB m c t h0 (scratchAt m c t.val)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [HS0]; · first | iexact HS0 | (iexists _; iexact HS0)
    iintro ⟨H0, H1, H2, H3, H4, H5, H6, H7, H8, H9, H10, H11, ⟨%e12, H12⟩, ⟨%e13, H13⟩, ⟨%es0, HS0⟩⟩
    isplitl [HS0 Hg]
    · isplitl [HS0]
      · unfold owns; iexists _; isplitr
        swap; · iexact HS0
        ipureintro; exact View.read_writes_of_cover _ _ _ _ _ (coverSB m c t h0 (scratchAt m c t.val))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (coverFB m c t h0 (scratchAt m c t.val))
    unfold owns; iexists _; isplitr
    swap; · iexact H13
    ipureintro; exact View.read_writes_of_cover _ _ _ _ _ (coverBB m c t h0 (scratchAt m c t.val))

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 512 := N_0; omega)

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the idealized kernel. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v38_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v38_1) = (dats m 0 c).arrAt 13 cfg0.N :=
  (h c).1 13

/-- After the frame run, argument `main_arg0` is as launched: input window 8 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 8).trans (((dats m 0 c).arrAt_in 8 rfl _).trans ((A_eq m c 8).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v38_0) = (dats m 0 c).arrAt 12 cfg0.N
      ∧ r.2.mem ((c : Thread nD τ).loc main_v38_1) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post12 m r h c,
      post13 m r h c,
      kept_main_arg0 m r h c,
      kept_main_arg1 m r h c,
      kept_main_arg2 m r h c⟩)
    (run_main m ρ)

end Cert.KernelIdeal.Own

end
-- ==== Proof.Delta.lean ====
/-
The gated delta rule over the reals, token by token (`stateFrom`, `outAt`), and its chunked form: the new values of a chunk solve a
triangular system, from which the state after the chunk and the outputs in it follow; and the product of powers that solves the system.
-/
module

public import Mathlib.Analysis.Complex.Exponential
public import Mathlib.Data.Matrix.Mul
public import Mathlib.Tactic.NoncommRing
public import Mathlib.Algebra.BigOperators.Ring.Finset
public import Mathlib.Algebra.BigOperators.Intervals

@[expose] public section

noncomputable section

namespace Cert.Delta

open Finset

/-- One head's stream: keys, values, queries, log decays and rates, by token. -/
structure Stream where
  q : ℕ → Fin 128 → ℝ
  k : ℕ → Fin 128 → ℝ
  v : ℕ → Fin 128 → ℝ
  g : ℕ → ℝ
  b : ℕ → ℝ

namespace Stream

variable (u : Stream)

/-- The stream from token `n` on. -/
def shift (n : ℕ) : Stream where
  q i := u.q (n + i)
  k i := u.k (n + i)
  v i := u.v (n + i)
  g i := u.g (n + i)
  b i := u.b (n + i)

/-- The state after `n` tokens, from the state `s`. -/
def stateFrom (s : Fin 128 → Fin 128 → ℝ) : ℕ → Fin 128 → Fin 128 → ℝ
  | 0 => s
  | n + 1 => fun d e => stateFrom s n d e * Real.exp (u.g n)
      + u.k n d * (u.b n * (u.v n e - ∑ d', u.k n d' * (stateFrom s n d' e * Real.exp (u.g n))))

/-- The output at token `n`. -/
def outAt (s : Fin 128 → Fin 128 → ℝ) (n : ℕ) (e : Fin 128) : ℝ := ∑ d, u.q n d * u.stateFrom s (n + 1) d e

theorem stateFrom_add (s : Fin 128 → Fin 128 → ℝ) (n i : ℕ) :
    u.stateFrom s (n + i) = (u.shift n).stateFrom (u.stateFrom s n) i := by
  induction i with
  | zero => rfl
  | succ i ih => funext d e; rw [← Nat.add_assoc]; simp only [stateFrom, ih]; rfl

theorem outAt_add (s : Fin 128 → Fin 128 → ℝ) (n i : ℕ) (e : Fin 128) :
    u.outAt s (n + i) e = (u.shift n).outAt (u.stateFrom s n) i e := by
  unfold outAt; rw [Nat.add_assoc, stateFrom_add]; rfl

/-- The log decay accumulated over the first `n` tokens. -/
def acc (n : ℕ) : ℝ := ∑ i ∈ range n, u.g i

theorem acc_succ (n : ℕ) : u.acc (n + 1) = u.acc n + u.g n := sum_range_succ _ _

/-- The triangular system that the new values of a chunk solve. -/
def Solves (s : Fin 128 → Fin 128 → ℝ) (N : ℕ) (w : ℕ → Fin 128 → ℝ) : Prop :=
  ∀ n < N, ∀ e, w n e + ∑ j ∈ range n, (∑ d, u.b n * u.k n d * u.k j d) * Real.exp (u.acc (n + 1) - u.acc (j + 1)) * w j e
    = u.b n * u.v n e - ∑ d, u.b n * u.k n d * Real.exp (u.acc (n + 1)) * s d e

/-- The state inside a chunk, from the new values. -/
theorem stateFrom_of_solves {s : Fin 128 → Fin 128 → ℝ} {N : ℕ} {w : ℕ → Fin 128 → ℝ} (h : u.Solves s N w) :
    ∀ n ≤ N, ∀ d e, u.stateFrom s n d e
      = Real.exp (u.acc n) * s d e + ∑ j ∈ range n, Real.exp (u.acc n - u.acc (j + 1)) * u.k j d * w j e := by
  intro n
  induction n with
  | zero => intro _ d e; simp [stateFrom, acc]
  | succ n ih =>
    intro hn d e
    have hd : ∀ d e, u.stateFrom s n d e * Real.exp (u.g n)
        = Real.exp (u.acc (n + 1)) * s d e + ∑ j ∈ range n, Real.exp (u.acc (n + 1) - u.acc (j + 1)) * u.k j d * w j e := by
      intro d e
      rw [ih (by omega), add_mul, sum_mul, acc_succ, Real.exp_add]
      congr 1
      · ring
      · refine sum_congr rfl fun j _ => ?_
        rw [show u.acc n + u.g n - u.acc (j + 1) = (u.acc n - u.acc (j + 1)) + u.g n by ring, Real.exp_add]; ring
    have hw : u.b n * (u.v n e - ∑ d', u.k n d' * (u.stateFrom s n d' e * Real.exp (u.g n))) = w n e := by
      have h1 := h n (by omega) e
      simp only [hd]
      rw [eq_sub_of_add_eq h1]
      have h2 : ∑ d', u.k n d' * (Real.exp (u.acc (n + 1)) * s d' e
            + ∑ j ∈ range n, Real.exp (u.acc (n + 1) - u.acc (j + 1)) * u.k j d' * w j e)
          = ∑ d', u.k n d' * Real.exp (u.acc (n + 1)) * s d' e
            + ∑ j ∈ range n, (∑ d', u.k n d' * u.k j d') * Real.exp (u.acc (n + 1) - u.acc (j + 1)) * w j e := by
        simp only [mul_add, sum_add_distrib, mul_sum, sum_mul]
        congr 1
        · exact sum_congr rfl fun d' _ => by ring
        · rw [sum_comm]; exact sum_congr rfl fun j _ => sum_congr rfl fun d' _ => by ring
      rw [h2, mul_sub, mul_add, mul_sum, mul_sum]
      rw [sub_sub]
      congr 2
      · exact sum_congr rfl fun d' _ => by ring
      · refine sum_congr rfl fun j _ => ?_
        simp only [mul_assoc, ← mul_sum]
    simp only [stateFrom, hw]
    rw [hd, sum_range_succ]
    simp only [sub_self, Real.exp_zero, one_mul]
    ring

/-- The outputs inside a chunk, from the new values. -/
theorem outAt_of_solves {s : Fin 128 → Fin 128 → ℝ} {N : ℕ} {w : ℕ → Fin 128 → ℝ} (h : u.Solves s N w) (n : ℕ) (hn : n < N)
    (e : Fin 128) : u.outAt s n e = ∑ d, u.q n d * Real.exp (u.acc (n + 1)) * s d e
      + ∑ j ∈ range (n + 1), (∑ d, u.q n d * u.k j d) * Real.exp (u.acc (n + 1) - u.acc (j + 1)) * w j e := by
  unfold outAt
  simp only [u.stateFrom_of_solves h (n + 1) hn, mul_add, sum_add_distrib, mul_sum, sum_mul]
  congr 1
  · exact sum_congr rfl fun d' _ => by ring
  · rw [sum_comm]; exact sum_congr rfl fun j _ => sum_congr rfl fun d' _ => by ring

end Stream

/-! ## The inverse of a unit triangular matrix as a product of powers -/

variable {ρ : Fin 64 → ℕ}

/-- A matrix below the diagonal in the order `ρ`: its powers move further below. -/
theorem pow_apply_eq_zero {L : Matrix (Fin 64) (Fin 64) ℝ} (hL : ∀ i j, ¬ρ j < ρ i → L i j = 0) (n : ℕ) :
    ∀ i j, ρ i < ρ j + n → (L ^ n) i j = 0 := by
  induction n with
  | zero => intro i j h; rw [pow_zero, Matrix.one_apply_ne]; rintro rfl; omega
  | succ n ih =>
    intro i j h
    rw [pow_succ, Matrix.mul_apply]
    refine sum_eq_zero fun l _ => ?_
    by_cases hl : ρ j < ρ l
    · rw [ih i l (by omega), zero_mul]
    · rw [hL l j hl, mul_zero]

theorem neumann {L : Matrix (Fin 64) (Fin 64) ℝ} (hL : ∀ i j, ¬ρ j < ρ i → L i j = 0) (hρ : ∀ i, ρ i < 64) :
    (1 + L) * ((1 + L ^ 32) * ((1 + L ^ 16) * ((1 + L ^ 8) * ((1 + L ^ 4) * ((1 + L ^ 2) * (1 - L)))))) = 1 := by
  have h64 : L ^ 64 = 0 := by
    ext i j; exact pow_apply_eq_zero hL 64 i j (by have := hρ i; omega)
  have : (1 + L) * ((1 + L ^ 32) * ((1 + L ^ 16) * ((1 + L ^ 8) * ((1 + L ^ 4) * ((1 + L ^ 2) * (1 - L)))))) = 1 - L ^ 64 := by
    noncomm_ring
  rw [this, h64, sub_zero]

end Cert.Delta

end
-- ==== Proof.Streams.lean ====
/-
The sixteen streams of a batch (two directions of eight heads) read off the call's three arguments, as real numbers.
-/
module

public import proofs.«01_k».proof.Proof.Delta
public import Idealize.ShloMosaic.PureOps.Ideal
public import Idealize.ShloMosaic.Lib.Pointwise

@[expose] public section

noncomputable section

namespace Cert.Delta

open Idealize.ShloMosaic

/-- The arguments' shapes: queries, keys and values by token; log decays (and rates) by batch, token, direction and head. -/
abbrev SX : Shape := ⟨2, ![32768, 3072]⟩
abbrev SG : Shape := ⟨4, ![4, 8192, 2, 8]⟩

/-- The token that direction `d` visits at step `n`. -/
def tok (d : Fin 2) (n : ℕ) : Fin 8192 := if d = 0 then ⟨n % 8192, by omega⟩ else ⟨8191 - n % 8192, by omega⟩

theorem tok_zero (n : ℕ) (hn : n < 8192) : tok 0 n = ⟨n, hn⟩ := Fin.ext (Nat.mod_eq_of_lt hn)
theorem tok_one (n : ℕ) (hn : n < 8192) : tok 1 n = ⟨8191 - n, by omega⟩ := Fin.ext (by unfold tok; simp; omega)

/-- The arguments' elements are real numbers. -/
structure AllReal (X : SX.Idx → EReal) (G B : SG.Idx → EReal) : Prop where
  hX : ∀ r x, X (ix2 r x) = ((X (ix2 r x)).toReal : EReal)
  hG : ∀ b n d h, G (ix4 b n d h) = ((G (ix4 b n d h)).toReal : EReal)
  hB : ∀ b n d h, B (ix4 b n d h) = ((B (ix4 b n d h)).toReal : EReal)

variable (X : SX.Idx → EReal) (G B : SG.Idx → EReal)

/-- The stream of direction `d` and head `h` of batch `b`. -/
def streamOf (b : Fin 4) (d : Fin 2) (h : Fin 8) : Stream where
  q n x := (X (ix2 ⟨8192 * b.val + (tok d n).val, by omega⟩ ⟨128 * h.val + x.val, by omega⟩)).toReal
  k n x := (X (ix2 ⟨8192 * b.val + (tok d n).val, by omega⟩ ⟨1024 + (128 * h.val + x.val), by omega⟩)).toReal
  v n x := (X (ix2 ⟨8192 * b.val + (tok d n).val, by omega⟩ ⟨2048 + (128 * h.val + x.val), by omega⟩)).toReal
  g n := (G (ix4 b (tok d n) d h)).toReal
  b n := (B (ix4 b (tok d n) d h)).toReal

/-- The outputs' shape, and the array of direction `d`: at each token the rule's output at the step that visits it. -/
abbrev SO : Shape := ⟨2, ![32768, 1024]⟩
def outArr (d : Fin 2) : SO.Idx → EReal := fun y =>
  (((streamOf X G B ⟨(y 0).val / 8192, by have := (y 0).isLt; change _ < 32768 at this; omega⟩ d
    ⟨(y 1).val / 128, by have := (y 1).isLt; change _ < 1024 at this; omega⟩).outAt 0 (tok d (y 0).val).val
    ⟨(y 1).val % 128, by omega⟩ : ℝ) : EReal)

end Cert.Delta

end
-- ==== Proof.Precond.lean ====
/-
The precondition: every element of the arguments is a real number.
-/
module

public import proofs.«01_k».proof.Proof.Gen.Pre_finite
public import proofs.«01_k».proof.Proof.Streams
public import Idealize.ShloMosaic.Lib.ReduceAll
public import Idealize.ShloMosaic.Lib.Affine
public import Idealize.ShloMosaic.Lib.Pointwise

@[expose] public section

noncomputable section

namespace Cert.Pre_finite.Own

open Cert.Pre_finite Cert.Delta
open Idealize.ShloMosaic

instance : Subsingleton S_.Idx := ⟨fun a b => funext fun i => nomatch i⟩

/-- The pattern of the largest value. -/
theorem ofBits_top : (FloatOps.ofBits (F := Ideal) .f32 0x7F800000#32 : EReal) = ⊤ := by
  change Ideal.ofBits .f32 0x7F800000#32 = ⊤
  simp [Ideal.ofBits, Ideal.ieee]

/-- A value whose magnitude is below the largest is real. -/
theorem real_of (x : EReal) (h : (FloatOps.cmpf (F := Ideal) (φ := .f32) .olt (max x (-x)) (FloatOps.ofBits (F := Ideal) .f32 0x7F800000#32)) = 1#1) :
    x = (x.toReal : EReal) := by
  rw [ofBits_top] at h
  change Ideal.cmp .olt (max x (-x)) ⊤ = 1#1 at h
  induction x with
  | bot => simp [Ideal.cmp] at h
  | top => simp [Ideal.cmp] at h
  | coe r => rfl

theorem allReal (X : FVec Ideal S32768x3072 .bf16) (G B : FVec Ideal S4x8192x2x8 .f32) (h : Cert.Pre_finite.fn X G B = fun _ => 1#1) :
    AllReal X G B := by
  have h0 := congrFun h (Shape.Idx.first Facts.h_S_)
  obtain ⟨h1, hB⟩ := IntOp.andi_eq_one.1 h0
  obtain ⟨hX, hG⟩ := IntOp.andi_eq_one.1 h1
  exact ⟨fun r x => real_of _ (Host.reduce_andi_all _ _ _ _ _ hX (ix2 r x)), fun b n d h => real_of _ (Host.reduce_andi_all _ _ _ _ _ hG (ix4 b n d h)),
    fun b n d h => real_of _ (Host.reduce_andi_all _ _ _ _ _ hB (ix4 b n d h))⟩

end Cert.Pre_finite.Own

end
-- ==== Proof.Unit.lean ====
/-
One unit of the kernel's body (one direction of one head on one chunk of 64 tokens), as a function of what it loads: the operations
in the order in which the body does them, the same for every unit.
-/
module

public import proofs.«01_k».proof.Proof.KFrame

@[expose] public section

noncomputable section

namespace Cert.KernelIdeal.Own

open Cert.KernelIdeal Cert.KernelIdeal.Gen
open Idealize.ShloMosaic Idealize.ShloMosaic.TcCoe

variable {F : FTy → Type} [FloatOps F]

/-- The row and the column of each element of a 64 × 64 tile. -/
def iotaR : IVec S64x64 32 := iota .tc S64x64 32 [0] iota_S64x64_d0_w32
def iotaC : IVec S64x64 32 := iota .tc S64x64 32 [1] iota_S64x64_d1_w32

/-- What a unit loads: its queries, keys and values, the keys laid out with tokens along the columns, the columns of accumulated log
decay, rate and its exponential, the rows of accumulated log decay and of decay to the chunk's end, the chunk's whole decay, the state,
and the two masks of its direction. -/
structure Loads (F : FTy → Type) where
  q : FVec F S64x128 .bf16
  k : FVec F S64x128 .bf16
  v : FVec F S64x128 .bf16
  kt : FVec F S128x64 .bf16
  gcol : FVec F S64x1 .f32
  beta : FVec F S64x1 .f32
  egc : FVec F S64x1 .f32
  grow : FVec F S1x64 .f32
  kdrow : FVec F S1x64 .f32
  etot : FVec F S1x128 .f32
  s : FVec F S128x128 .f32
  incl : IVec S64x64 1
  strict : IVec S64x64 1

namespace Loads

variable (u : Loads F)

def decay : FVec F S64x64 .f32 :=
  exp (select u.incl (subf (broadcastTo S64x64 u.gcol broadcasts_S64x1_S64x64) (broadcastTo S64x64 u.grow broadcasts_S1x64_S64x64))
    (broadcast S64x64 (Scalar.ofBits .f32 0xF149F2CA#32)))

def kb : FVec F S64x128 .f32 :=
  mulf (extf .f32 u.k bitsLt_bf16_f32) (broadcastTo S64x128 u.beta broadcasts_S64x1_S64x128)

def gram : FVec F S128x64 .f32 :=
  matmul dot_S128x128_S128x64_S128x64_1_0_0_1_n_n none
    (concatenate S128x128 0 [⟨S64x128, truncf .bf16 u.kb bitsLt_bf16_f32⟩, ⟨S64x128, u.q⟩] concatenates_S64x128_S64x128_S128x128_d0)
    u.kt (constant S128x64 .f32 0x00000000#32)

def low : FVec F S64x64 .f32 :=
  select u.strict (mulf (extractStridedSlice S64x64 ![0, 0] u.gram slices_S128x64_o0_0_S64x64) u.decay)
    (broadcast S64x64 (Scalar.ofBits .f32 0x00000000#32))

def attn : FVec F S64x64 .bf16 :=
  truncf .bf16 (select u.incl (mulf (extractStridedSlice S64x64 ![64, 0] u.gram slices_S128x64_o64_0_S64x64) u.decay)
    (broadcast S64x64 (Scalar.ofBits .f32 0x00000000#32))) bitsLt_bf16_f32

def x0 : FVec F S64x256 .f32 :=
  concatenate S64x256 1
    [⟨S64x128, mulf (extf .f32 u.v bitsLt_bf16_f32) (broadcastTo S64x128 u.beta broadcasts_S64x1_S64x128)⟩,
     ⟨S64x128, mulf u.kb (broadcastTo S64x128 u.egc broadcasts_S64x1_S64x128)⟩] concatenates_S64x128_S64x128_S64x256_d1

/-- A 64 × 64 matrix times the two right-hand sides, and times itself. -/
def apply (l : FVec F S64x64 .bf16) (x : FVec F S64x256 .f32) : FVec F S64x256 .f32 :=
  matmul dot_S64x64_S64x256_S64x256_1_0_0_1_n_n none l (truncf .bf16 x bitsLt_bf16_f32) (constant S64x256 .f32 0x00000000#32)

def square (l : FVec F S64x64 .bf16) : FVec F S64x64 .bf16 :=
  truncf .bf16 (matmul dot_S64x64_S64x64_S64x64_1_0_0_1_n_n none l l (constant S64x64 .f32 0x00000000#32)) bitsLt_bf16_f32

def l1 : FVec F S64x64 .bf16 := truncf .bf16 u.low bitsLt_bf16_f32
def x1 : FVec F S64x256 .f32 := subf u.x0 (apply u.l1 u.x0)
def l2 : FVec F S64x64 .bf16 := square u.l1
def x2 : FVec F S64x256 .f32 := addf u.x1 (apply u.l2 u.x1)
def l4 : FVec F S64x64 .bf16 := square u.l2
def x4 : FVec F S64x256 .f32 := addf u.x2 (apply u.l4 u.x2)
def l8 : FVec F S64x64 .bf16 := square u.l4
def x8 : FVec F S64x256 .f32 := addf u.x4 (apply u.l8 u.x4)
def l16 : FVec F S64x64 .bf16 := square u.l8
def x16 : FVec F S64x256 .f32 := addf u.x8 (apply u.l16 u.x8)
def l32 : FVec F S64x64 .bf16 := square u.l16
def x32 : FVec F S64x256 .f32 := addf u.x16 (apply u.l32 u.x16)

def ws : FVec F S128x128 .f32 :=
  matmul dot_S128x128_S128x128_S128x128_1_0_0_1_n_n none
    (concatenate S128x128 0
      [⟨S64x128, truncf .bf16 (extractStridedSlice S64x128 ![0, 128] u.x32 slices_S64x256_o0_128_S64x128) bitsLt_bf16_f32⟩,
       ⟨S64x128, truncf .bf16 (mulf (extf .f32 u.q bitsLt_bf16_f32) (broadcastTo S64x128 u.egc broadcasts_S64x1_S64x128)) bitsLt_bf16_f32⟩]
      concatenates_S64x128_S64x128_S128x128_d0)
    (truncf .bf16 u.s bitsLt_bf16_f32) (constant S128x128 .f32 0x00000000#32)

def vnew : FVec F S64x128 .bf16 :=
  truncf .bf16 (subf (extractStridedSlice S64x128 ![0, 0] u.x32 slices_S64x256_o0_0_S64x128)
    (extractStridedSlice S64x128 ![0, 0] u.ws slices_S128x128_o0_0_S64x128)) bitsLt_bf16_f32

/-- The unit's output block, before its last conversion. -/
def out : FVec F S64x128 .f32 :=
  addf (extractStridedSlice S64x128 ![64, 0] u.ws slices_S128x128_o64_0_S64x128)
    (matmul dot_S64x64_S64x128_S64x128_1_0_0_1_n_n none u.attn u.vnew (constant S64x128 .f32 0x00000000#32))

/-- The state that the unit leaves. -/
def next : FVec F S128x128 .f32 :=
  addf (mulf u.s (broadcastTo S128x128 u.etot broadcasts_S1x128_S128x128))
    (matmul dot_S128x64_S64x128_S128x128_1_0_0_1_n_n none
      (truncf .bf16 (mulf (extf .f32 u.kt bitsLt_bf16_f32) (broadcastTo S128x64 u.kdrow broadcasts_S1x64_S128x64)) bitsLt_bf16_f32)
      u.vnew (constant S128x128 .f32 0x00000000#32))

end Loads

end Cert.KernelIdeal.Own

end
-- ==== Proof.UnitIdeal.lean ====
/-
One unit of the kernel's body over the ideal numbers, from real loads: each of its operations at an index, as a real number.
-/
module

public import proofs.«01_k».proof.Proof.Unit
public import proofs.«01_k».proof.Proof.Delta
public import Idealize.ShloMosaic.Lib.MatmulPlain
public import Idealize.ShloMosaic.Lib.Pointwise

@[expose] public section

noncomputable section

namespace Cert.KernelIdeal.Own

open Cert.KernelIdeal Cert.KernelIdeal.Gen
open Idealize.ShloMosaic Idealize.ShloMosaic.TcCoe

/-- A sum of real numbers, read among the ideal ones. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two real matrices is the real product. -/
theorem matmul_real {M K N : ℕ} {φ₁ φ₂ : FTy} (prec : Option ContractPrecision)
    (lhs : FVec Ideal ⟨2, ![M, K]⟩ φ₁) (rhs : FVec Ideal ⟨2, ![K, N]⟩ φ₂) (A : Fin M → Fin K → ℝ) (B : Fin K → Fin N → ℝ)
    (hA : ∀ r k, lhs (ix2 r k) = ((A r k : ℝ) : EReal)) (hB : ∀ k c, rhs (ix2 k c) = ((B k c : ℝ) : EReal)) (r : Fin M) (c : Fin N) :
    matmul (DotDims.plain M K N) prec lhs rhs (constant ⟨2, ![M, N]⟩ .f32 0x00000000#32) (ix2 r c)
      = ((∑ k, A r k * B k c : ℝ) : EReal) := by
  change FloatOps.matmul (DotDims.plain M K N) prec lhs rhs _ (ValueIdx.ix2 r c) = _
  rw [Ideal.matmul_plain_apply, coe_sum]
  have hA' : ∀ r k, lhs (ValueIdx.ix2 r k) = ((A r k : ℝ) : EReal) := hA
  have hB' : ∀ k c, rhs (ValueIdx.ix2 k c) = ((B k c : ℝ) : EReal) := hB
  simp only [hA', hB', EReal.coe_mul, pointwise]
  exact zero_add _

/-- Two blocks of rows, one above the other. -/
theorem catRows_left (x₁ x₂ : S64x128.Idx → EReal) (i : Fin 64) (d : Fin 128) :
    concatenate S128x128 0 [⟨S64x128, x₁⟩, ⟨S64x128, x₂⟩] concatenates_S64x128_S64x128_S128x128_d0 (ix2 ⟨i.val, by omega⟩ d) = x₁ (ix2 i d) :=
  concatenate_pair_apply_left (t := S128x128) (s₁ := S64x128) (s₂ := S64x128) 0 x₁ x₂ concatenates_S64x128_S64x128_S128x128_d0 (ix2 ⟨i.val, by omega⟩ d) rfl (ix2 i d) (by intro b; fin_cases b <;> rfl)

theorem catRows_right (x₁ x₂ : S64x128.Idx → EReal) (i : Fin 64) (d : Fin 128) :
    concatenate S128x128 0 [⟨S64x128, x₁⟩, ⟨S64x128, x₂⟩] concatenates_S64x128_S64x128_S128x128_d0 (ix2 ⟨64 + i.val, by omega⟩ d) = x₂ (ix2 i d) :=
  concatenate_pair_apply_right (t := S128x128) (s₁ := S64x128) (s₂ := S64x128) 0 x₁ x₂ concatenates_S64x128_S64x128_S128x128_d0 (ix2 ⟨64 + i.val, by omega⟩ d) rfl rfl (ix2 i d) (by intro b hb; fin_cases b; exact absurd rfl hb; rfl) (Nat.add_comm i.val 64)

/-- Two blocks of columns, side by side. -/
theorem catCols_left (x₁ x₂ : S64x128.Idx → EReal) (i : Fin 64) (e : Fin 128) :
    concatenate S64x256 1 [⟨S64x128, x₁⟩, ⟨S64x128, x₂⟩] concatenates_S64x128_S64x128_S64x256_d1 (ix2 i ⟨e.val, by omega⟩) = x₁ (ix2 i e) :=
  concatenate_pair_apply_left (t := S64x256) (s₁ := S64x128) (s₂ := S64x128) 1 x₁ x₂ concatenates_S64x128_S64x128_S64x256_d1 (ix2 i ⟨e.val, by omega⟩) rfl (ix2 i e) (by intro b; fin_cases b <;> rfl)

theorem catCols_right (x₁ x₂ : S64x128.Idx → EReal) (i : Fin 64) (e : Fin 128) :
    concatenate S64x256 1 [⟨S64x128, x₁⟩, ⟨S64x128, x₂⟩] concatenates_S64x128_S64x128_S64x256_d1 (ix2 i ⟨128 + e.val, by omega⟩) = x₂ (ix2 i e) :=
  concatenate_pair_apply_right (t := S64x256) (s₁ := S64x128) (s₂ := S64x128) 1 x₁ x₂ concatenates_S64x128_S64x128_S64x256_d1 (ix2 i ⟨128 + e.val, by omega⟩) rfl rfl (ix2 i e) (by intro b hb; fin_cases b; rfl; exact absurd rfl hb) (Nat.add_comm e.val 128)

theorem forall_rows {P : Fin 128 → Prop} (h1 : ∀ i : Fin 64, P ⟨i.val, by omega⟩) (h2 : ∀ i : Fin 64, P ⟨64 + i.val, by omega⟩) : ∀ i, P i := by
  intro i
  by_cases hi : i.val < 64
  · exact h1 ⟨i.val, hi⟩
  · have := h2 ⟨i.val - 64, by omega⟩
    have e : (⟨64 + (i.val - 64), by omega⟩ : Fin 128) = i := Fin.ext (by simp; omega)
    rwa [e] at this

theorem forall_cols {P : Fin 256 → Prop} (h1 : ∀ i : Fin 128, P ⟨i.val, by omega⟩) (h2 : ∀ i : Fin 128, P ⟨128 + i.val, by omega⟩) : ∀ i, P i := by
  intro i
  by_cases hi : i.val < 128
  · exact h1 ⟨i.val, hi⟩
  · have := h2 ⟨i.val - 128, by omega⟩
    have e : (⟨128 + (i.val - 128), by omega⟩ : Fin 256) = i := Fin.ext (by simp; omega)
    rwa [e] at this

/-- Two families of 64 rows as one of 128, and two of 128 columns as one of 256. -/
def rows (a b : Fin 64 → Fin 128 → ℝ) (i : Fin 128) (d : Fin 128) : ℝ := if h : i.val < 64 then a ⟨i.val, h⟩ d else b ⟨i.val - 64, by omega⟩ d
def cols (a b : Fin 64 → Fin 128 → ℝ) (i : Fin 64) (e : Fin 256) : ℝ := if h : e.val < 128 then a i ⟨e.val, h⟩ else b i ⟨e.val - 128, by omega⟩

theorem rows_left (a b : Fin 64 → Fin 128 → ℝ) (i : Fin 64) (d : Fin 128) : rows a b ⟨i.val, by omega⟩ d = a i d := by
  unfold rows; rw [dif_pos i.isLt]
theorem rows_right (a b : Fin 64 → Fin 128 → ℝ) (i : Fin 64) (d : Fin 128) : rows a b ⟨64 + i.val, by omega⟩ d = b i d := by
  unfold rows; rw [dif_neg (by simp)]; exact congrArg (fun i => b i d) (Fin.ext (Nat.add_sub_cancel_left 64 i.val))
theorem cols_left (a b : Fin 64 → Fin 128 → ℝ) (i : Fin 64) (d : Fin 128) : cols a b i ⟨d.val, by omega⟩ = a i d := by
  unfold cols; rw [dif_pos d.isLt]
theorem cols_right (a b : Fin 64 → Fin 128 → ℝ) (i : Fin 64) (d : Fin 128) : cols a b i ⟨128 + d.val, by omega⟩ = b i d := by
  unfold cols; rw [dif_neg (by simp)]; exact congrArg (b i) (Fin.ext (Nat.add_sub_cancel_left 128 d.val))

theorem apply_real (l : FVec Ideal S64x64 .bf16) (x : FVec Ideal S64x256 .f32) (A : Matrix (Fin 64) (Fin 64) ℝ) (B : Matrix (Fin 64) (Fin 256) ℝ)
    (hA : ∀ r k, l (ix2 r k) = ((A r k : ℝ) : EReal)) (hB : ∀ k c, x (ix2 k c) = ((B k c : ℝ) : EReal)) (r : Fin 64) (c : Fin 256) :
    Loads.apply l x (ix2 r c) = (((A * B) r c : ℝ) : EReal) := by
  rw [Matrix.mul_apply]
  exact matmul_real (M := 64) (K := 64) (N := 256) none _ _ A B hA hB r c

theorem square_real (l : FVec Ideal S64x64 .bf16) (A : Matrix (Fin 64) (Fin 64) ℝ)
    (hA : ∀ r k, l (ix2 r k) = ((A r k : ℝ) : EReal)) (r c : Fin 64) : Loads.square l (ix2 r c) = (((A * A) r c : ℝ) : EReal) := by
  rw [Matrix.mul_apply]
  exact matmul_real (M := 64) (K := 64) (N := 64) none _ _ A A hA hA r c

/-- One step of the solution: `x + l x`, and the first, `x - l x`. -/
theorem step_real (l : FVec Ideal S64x64 .bf16) (x : FVec Ideal S64x256 .f32) (A : Matrix (Fin 64) (Fin 64) ℝ) (B : Matrix (Fin 64) (Fin 256) ℝ)
    (hA : ∀ r k, l (ix2 r k) = ((A r k : ℝ) : EReal)) (hB : ∀ k c, x (ix2 k c) = ((B k c : ℝ) : EReal)) (r : Fin 64) (c : Fin 256) :
    addf x (Loads.apply l x) (ix2 r c) = ((((1 + A) * B : Matrix (Fin 64) (Fin 256) ℝ) r c : ℝ) : EReal) := by
  rw [Matrix.add_mul, Matrix.one_mul, Matrix.add_apply, EReal.coe_add]
  exact congrArg₂ (fun a b : EReal => a + b) (hB r c) (apply_real l x A B hA hB r c)

theorem first_real (l : FVec Ideal S64x64 .bf16) (x : FVec Ideal S64x256 .f32) (A : Matrix (Fin 64) (Fin 64) ℝ) (B : Matrix (Fin 64) (Fin 256) ℝ)
    (hA : ∀ r k, l (ix2 r k) = ((A r k : ℝ) : EReal)) (hB : ∀ k c, x (ix2 k c) = ((B k c : ℝ) : EReal)) (r : Fin 64) (c : Fin 256) :
    subf x (Loads.apply l x) (ix2 r c) = ((((1 - A) * B : Matrix (Fin 64) (Fin 256) ℝ) r c : ℝ) : EReal) := by
  rw [Matrix.sub_mul, Matrix.one_mul, Matrix.sub_apply, EReal.coe_sub]
  exact congrArg₂ (fun a b : EReal => a - b) (hB r c) (apply_real l x A B hA hB r c)

/-- The loads of a unit are these real numbers; row `i` holds the token at place `σ i` of the chunk. -/
structure Loads.IsReal (u : Loads Ideal) (σ : Fin 64 → ℕ) (q k v : Fin 64 → Fin 128 → ℝ) (beta gc : Fin 64 → ℝ) (tot : ℝ)
    (s : Fin 128 → Fin 128 → ℝ) : Prop where
  hq : ∀ i d, u.q (ix2 i d) = ((q i d : ℝ) : EReal)
  hk : ∀ i d, u.k (ix2 i d) = ((k i d : ℝ) : EReal)
  hv : ∀ i d, u.v (ix2 i d) = ((v i d : ℝ) : EReal)
  hkt : ∀ d i, u.kt (ix2 d i) = ((k i d : ℝ) : EReal)
  hgcol : ∀ i, u.gcol (ix2 i 0) = ((gc i : ℝ) : EReal)
  hbeta : ∀ i, u.beta (ix2 i 0) = ((beta i : ℝ) : EReal)
  hegc : ∀ i, u.egc (ix2 i 0) = ((Real.exp (gc i) : ℝ) : EReal)
  hgrow : ∀ i, u.grow (ix2 0 i) = ((gc i : ℝ) : EReal)
  hkdrow : ∀ i, u.kdrow (ix2 0 i) = ((Real.exp (tot - gc i) : ℝ) : EReal)
  hetot : ∀ e, u.etot (ix2 0 e) = ((Real.exp tot : ℝ) : EReal)
  hs : ∀ d e, u.s (ix2 d e) = ((s d e : ℝ) : EReal)
  hincl : ∀ i j, u.incl (ix2 i j) = if σ j ≤ σ i then 1#1 else 0#1
  hstrict : ∀ i j, u.strict (ix2 i j) = if σ j < σ i then 1#1 else 0#1

namespace Loads.IsReal

variable {u : Loads Ideal} {σ : Fin 64 → ℕ} {q k v : Fin 64 → Fin 128 → ℝ} {beta gc : Fin 64 → ℝ} {tot : ℝ}
  {s : Fin 128 → Fin 128 → ℝ} (h : u.IsReal σ q k v beta gc tot s)
include h

theorem decay_apply (i j : Fin 64) (hij : σ j ≤ σ i) : u.decay (ix2 i j) = ((Real.exp (gc i - gc j) : ℝ) : EReal) := by
  unfold Loads.decay
  simp only [pointwise, h.hincl, if_pos hij]
  have e1 : u.gcol (ix2 (if h1 : 64 = 1 then 0 else i) 0) = ((gc i : ℝ) : EReal) := h.hgcol i
  have e2 : u.grow (ix2 0 (if h1 : 64 = 1 then 0 else j)) = ((gc j : ℝ) : EReal) := h.hgrow j
  exact (congrArg Ideal.exp (congrArg₂ (fun a b : EReal => a - b) e1 e2)).trans rfl

theorem kb_apply (i : Fin 64) (d : Fin 128) : u.kb (ix2 i d) = ((k i d * beta i : ℝ) : EReal) := by
  unfold Loads.kb
  simp only [pointwise, h.hk]
  exact congrArg (fun x : EReal => ((k i d : ℝ) : EReal) * x) (h.hbeta i)

theorem gram_apply (r : Fin 128) (j : Fin 64) :
    u.gram (ix2 r j) = ((∑ d, rows (fun i d => k i d * beta i) q r d * k j d : ℝ) : EReal) := by
  refine matmul_real (M := 128) (K := 128) (N := 64) none _ _ (rows (fun i d => k i d * beta i) q) (fun d j => k j d) ?_ (fun d j => h.hkt d j) r j
  refine forall_rows (fun i d => ?_) (fun i d => ?_)
  · rw [rows_left]; exact (catRows_left _ _ i d).trans (h.kb_apply i d)
  · rw [rows_right]; exact (catRows_right _ _ i d).trans (h.hq i d)

/-- The strictly lower triangular matrix of the chunk. -/
def lowM (σ : Fin 64 → ℕ) (k : Fin 64 → Fin 128 → ℝ) (beta gc : Fin 64 → ℝ) : Matrix (Fin 64) (Fin 64) ℝ := fun i j =>
  if σ j < σ i then (∑ d, k i d * beta i * k j d) * Real.exp (gc i - gc j) else 0

def attnM (σ : Fin 64 → ℕ) (q k : Fin 64 → Fin 128 → ℝ) (gc : Fin 64 → ℝ) : Matrix (Fin 64) (Fin 64) ℝ := fun i j =>
  if σ j ≤ σ i then (∑ d, q i d * k j d) * Real.exp (gc i - gc j) else 0

theorem low_apply (i j : Fin 64) : u.low (ix2 i j) = ((lowM σ k beta gc i j : ℝ) : EReal) := by
  unfold Loads.low lowM
  change Scalar.select (u.strict (ix2 i j)) _ _ = _
  rw [h.hstrict]
  by_cases hij : σ j < σ i
  · rw [if_pos hij, if_pos hij, EReal.coe_mul]
    refine congrArg₂ (fun a b : EReal => a * b) ?_ (h.decay_apply i j hij.le)
    rw [extractStridedSlice_apply _ _ _ _ (ix2 ⟨i.val, by omega⟩ j) (by intro b; fin_cases b <;> exact (Nat.zero_add _).symm), h.gram_apply]
    simp only [rows_left]
  · rw [if_neg hij, if_neg hij]
    exact Ideal.ofBits_zero_f32

theorem attn_apply (i j : Fin 64) : u.attn (ix2 i j) = ((attnM σ q k gc i j : ℝ) : EReal) := by
  unfold Loads.attn attnM
  change Scalar.select (u.incl (ix2 i j)) _ _ = _
  rw [h.hincl]
  by_cases hij : σ j ≤ σ i
  · rw [if_pos hij, if_pos hij, EReal.coe_mul]
    refine congrArg₂ (fun a b : EReal => a * b) ?_ (h.decay_apply i j hij)
    rw [extractStridedSlice_apply _ _ _ _ (ix2 ⟨64 + i.val, by omega⟩ j) (by intro b; fin_cases b; rfl; exact (Nat.zero_add _).symm), h.gram_apply]
    simp only [rows_right]
  · rw [if_neg hij, if_neg hij]
    exact Ideal.ofBits_zero_f32

/-- The right-hand sides. -/
def rhsM (k v : Fin 64 → Fin 128 → ℝ) (beta gc : Fin 64 → ℝ) : Matrix (Fin 64) (Fin 256) ℝ :=
  cols (fun i e => v i e * beta i) (fun i d => k i d * beta i * Real.exp (gc i))

theorem x0_apply (i : Fin 64) (e : Fin 256) : u.x0 (ix2 i e) = ((rhsM k v beta gc i e : ℝ) : EReal) := by
  revert e
  refine forall_cols (fun e => ?_) (fun e => ?_)
  · unfold rhsM
    rw [cols_left, EReal.coe_mul]
    refine (catCols_left _ _ i e).trans (congrArg₂ (fun a b : EReal => a * b) (h.hv i e) ?_)
    simp only [pointwise]
    exact h.hbeta i
  · unfold rhsM
    rw [cols_right, EReal.coe_mul]
    refine (catCols_right _ _ i e).trans (congrArg₂ (fun a b : EReal => a * b) (h.kb_apply i e) ?_)
    simp only [pointwise]
    exact h.hegc i

/-- The solution of the triangular system. -/
def solM (L : Matrix (Fin 64) (Fin 64) ℝ) (X : Matrix (Fin 64) (Fin 256) ℝ) : Matrix (Fin 64) (Fin 256) ℝ :=
  (1 + L ^ 32) * ((1 + L ^ 16) * ((1 + L ^ 8) * ((1 + L ^ 4) * ((1 + L ^ 2) * ((1 - L) * X)))))

omit h in
theorem solM_spec (hσ : ∀ i, σ i < 64) (X : Matrix (Fin 64) (Fin 256) ℝ) :
    (1 + lowM σ k beta gc) * solM (lowM σ k beta gc) X = X := by
  have e := Cert.Delta.neumann (ρ := σ) (L := lowM σ k beta gc) (fun i j hij => if_neg hij) hσ
  unfold solM
  simp only [← Matrix.mul_assoc] at e ⊢
  rw [e, Matrix.one_mul]

theorem x32_apply (i : Fin 64) (e : Fin 256) : u.x32 (ix2 i e) = ((solM (lowM σ k beta gc) (rhsM k v beta gc) i e : ℝ) : EReal) := by
  have a1 : ∀ i j, u.l1 (ix2 i j) = ((lowM σ k beta gc i j : ℝ) : EReal) := h.low_apply
  have b1 := first_real u.l1 u.x0 _ _ a1 h.x0_apply
  have a2 := square_real u.l1 _ a1
  rw [← pow_two] at a2
  have b2 := step_real u.l2 u.x1 _ _ a2 b1
  have a4 := square_real u.l2 _ a2
  rw [← pow_add] at a4
  have b4 := step_real u.l4 u.x2 _ _ a4 b2
  have a8 := square_real u.l4 _ a4
  rw [← pow_add] at a8
  have b8 := step_real u.l8 u.x4 _ _ a8 b4
  have a16 := square_real u.l8 _ a8
  rw [← pow_add] at a16
  have b16 := step_real u.l16 u.x8 _ _ a16 b8
  have a32 := square_real u.l16 _ a16
  rw [← pow_add] at a32
  exact step_real u.l32 u.x16 _ _ a32 b16 i e

/-- The new values of the chunk. -/
def newM (L : Matrix (Fin 64) (Fin 64) ℝ) (X : Matrix (Fin 64) (Fin 256) ℝ) (s : Fin 128 → Fin 128 → ℝ) (i : Fin 64) (e : Fin 128) : ℝ :=
  solM L X i ⟨e.val, by omega⟩ - ∑ d : Fin 128, solM L X i ⟨128 + d.val, by omega⟩ * s d e

theorem ws_apply (r e : Fin 128) : u.ws (ix2 r e) = ((∑ d, rows (fun i d => solM (lowM σ k beta gc) (rhsM k v beta gc) i ⟨128 + d.val, by omega⟩)
    (fun i d => q i d * Real.exp (gc i)) r d * s d e : ℝ) : EReal) := by
  refine matmul_real (M := 128) (K := 128) (N := 128) none _ _ (rows (fun i d => solM (lowM σ k beta gc) (rhsM k v beta gc) i ⟨128 + d.val, by omega⟩)
    (fun i d => q i d * Real.exp (gc i))) s ?_ h.hs r e
  refine forall_rows (fun i d => ?_) (fun i d => ?_)
  · rw [rows_left]
    refine (catRows_left _ _ i d).trans ?_
    change extractStridedSlice S64x128 ![0, 128] u.x32 slices_S64x256_o0_128_S64x128 (ix2 i d) = _
    rw [extractStridedSlice_apply _ _ _ _ (ix2 i ⟨128 + d.val, by omega⟩) (by intro b; fin_cases b; exact (Nat.zero_add _).symm; rfl), h.x32_apply]
  · rw [rows_right, EReal.coe_mul]
    refine (catRows_right _ _ i d).trans (congrArg₂ (fun a b : EReal => a * b) (h.hq i d) ?_)
    simp only [pointwise]
    exact h.hegc i

theorem vnew_apply (i : Fin 64) (e : Fin 128) :
    u.vnew (ix2 i e) = ((newM (lowM σ k beta gc) (rhsM k v beta gc) s i e : ℝ) : EReal) := by
  unfold newM
  rw [EReal.coe_sub]
  refine congrArg₂ (fun a b : EReal => a - b) ?_ ?_
  · change extractStridedSlice S64x128 ![0, 0] u.x32 slices_S64x256_o0_0_S64x128 (ix2 i e) = _
    rw [extractStridedSlice_apply _ _ _ _ (ix2 i ⟨e.val, by omega⟩) (by intro b; fin_cases b <;> exact (Nat.zero_add _).symm), h.x32_apply]
  · change extractStridedSlice S64x128 ![0, 0] u.ws slices_S128x128_o0_0_S64x128 (ix2 i e) = _
    rw [extractStridedSlice_apply _ _ _ _ (ix2 ⟨i.val, by omega⟩ e) (by intro b; fin_cases b <;> exact (Nat.zero_add _).symm), h.ws_apply]
    simp only [rows_left]

theorem out_apply (i : Fin 64) (e : Fin 128) : u.out (ix2 i e) = ((∑ d, q i d * Real.exp (gc i) * s d e
    + ∑ j, attnM σ q k gc i j * newM (lowM σ k beta gc) (rhsM k v beta gc) s j e : ℝ) : EReal) := by
  rw [EReal.coe_add]
  refine congrArg₂ (fun a b : EReal => a + b) ?_ ?_
  · change extractStridedSlice S64x128 ![64, 0] u.ws slices_S128x128_o64_0_S64x128 (ix2 i e) = _
    rw [extractStridedSlice_apply _ _ _ _ (ix2 ⟨64 + i.val, by omega⟩ e) (by intro b; fin_cases b; rfl; exact (Nat.zero_add _).symm), h.ws_apply]
    simp only [rows_right]
  · exact matmul_real (M := 64) (K := 64) (N := 128) none _ _ (attnM σ q k gc) _ h.attn_apply h.vnew_apply i e

theorem next_apply (d e : Fin 128) : u.next (ix2 d e) = ((s d e * Real.exp tot
    + ∑ j, (k j d * Real.exp (tot - gc j)) * newM (lowM σ k beta gc) (rhsM k v beta gc) s j e : ℝ) : EReal) := by
  rw [EReal.coe_add, EReal.coe_mul]
  refine congrArg₂ (fun a b : EReal => a + b) (congrArg₂ (fun a b : EReal => a * b) (h.hs d e) ?_) ?_
  · simp only [pointwise]
    exact h.hetot e
  · refine matmul_real (M := 128) (K := 64) (N := 128) none _ _ (fun d j => k j d * Real.exp (tot - gc j)) _ (fun d j => ?_) h.vnew_apply d e
    rw [EReal.coe_mul]
    refine congrArg₂ (fun a b : EReal => a * b) (h.hkt d j) ?_
    simp only [pointwise]
    exact h.hkdrow j

end Loads.IsReal

end Cert.KernelIdeal.Own

end
-- ==== Proof.UnitStream.lean ====
/-
One unit of the kernel's body, from the loads of a chunk of a stream: its output block is the rule's outputs at the chunk's tokens, and
the state that it leaves is the rule's state after the chunk.
-/
module

public import proofs.«01_k».proof.Proof.UnitIdeal

@[expose] public section

noncomputable section

namespace Cert.KernelIdeal.Own

open Cert.KernelIdeal Cert.KernelIdeal.Gen Cert.Delta
open Idealize.ShloMosaic Idealize.ShloMosaic.TcCoe

/-- A sum over the rows at places below `n`, in the order of the places. -/
theorem sum_below (τ : Equiv.Perm (Fin 64)) (n : ℕ) (hn : n ≤ 64) (f : ℕ → ℝ) :
    ∑ j : Fin 64, (if (τ j).val < n then f (τ j).val else 0) = ∑ i ∈ Finset.range n, f i := by
  rw [Equiv.sum_comp τ (fun j : Fin 64 => if j.val < n then f j.val else 0),
    Fin.sum_univ_eq_sum_range (fun j => if j < n then f j else 0) 64, ← Finset.sum_filter]
  refine Finset.sum_congr (Finset.ext fun i => ?_) fun _ _ => rfl
  simp only [Finset.mem_filter, Finset.mem_range]
  omega

/-- The loads are those of the first 64 tokens of a stream, row `i` holding token `τ i`. -/
def Loads.IsChunk (u : Loads Ideal) (τ : Equiv.Perm (Fin 64)) (T : Stream) (s : Fin 128 → Fin 128 → ℝ) : Prop :=
  u.IsReal (fun i => (τ i).val) (fun i => T.q (τ i).val) (fun i => T.k (τ i).val) (fun i => T.v (τ i).val) (fun i => T.b (τ i).val)
    (fun i => T.acc ((τ i).val + 1)) (T.acc 64) s

namespace Loads.IsChunk

variable {u : Loads Ideal} {τ : Equiv.Perm (Fin 64)} {T : Stream} {s : Fin 128 → Fin 128 → ℝ}

/-- The new values of the chunk, by row. -/
def new (τ : Equiv.Perm (Fin 64)) (T : Stream) (s : Fin 128 → Fin 128 → ℝ) (i : Fin 64) (e : Fin 128) : ℝ :=
  Loads.IsReal.newM (Loads.IsReal.lowM (fun i => (τ i).val) (fun i => T.k (τ i).val) (fun i => T.b (τ i).val) (fun i => T.acc ((τ i).val + 1)))
    (Loads.IsReal.rhsM (fun i => T.k (τ i).val) (fun i => T.v (τ i).val) (fun i => T.b (τ i).val) (fun i => T.acc ((τ i).val + 1))) s i e

/-- The new values, by token. -/
def newAt (τ : Equiv.Perm (Fin 64)) (T : Stream) (s : Fin 128 → Fin 128 → ℝ) (n : ℕ) (e : Fin 128) : ℝ :=
  if h : n < 64 then new τ T s (τ.symm ⟨n, h⟩) e else 0

theorem newAt_row (i : Fin 64) (e : Fin 128) : newAt τ T s (τ i).val e = new τ T s i e := by
  unfold newAt; rw [dif_pos (τ i).isLt]; simp

theorem solves : T.Solves s 64 (newAt τ T s) := by
  intro n hn e
  obtain ⟨i, rfl⟩ : ∃ i, n = (τ i).val := ⟨τ.symm ⟨n, hn⟩, by simp⟩
  set L := Loads.IsReal.lowM (fun i => (τ i).val) (fun i => T.k (τ i).val) (fun i => T.b (τ i).val) (fun i => T.acc ((τ i).val + 1)) with hL
  set X := Loads.IsReal.rhsM (fun i => T.k (τ i).val) (fun i => T.v (τ i).val) (fun i => T.b (τ i).val) (fun i => T.acc ((τ i).val + 1)) with hX
  have hs := Loads.IsReal.solM_spec (σ := fun i => (τ i).val) (k := fun i => T.k (τ i).val) (beta := fun i => T.b (τ i).val)
    (gc := fun i => T.acc ((τ i).val + 1)) (fun i => (τ i).isLt) X
  rw [← hL] at hs
  have hrow : ∀ c, Loads.IsReal.solM L X i c + ∑ j, L i j * Loads.IsReal.solM L X j c = X i c := by
    intro c
    have := congrFun (congrFun hs i) c
    rw [Matrix.add_mul, Matrix.one_mul, Matrix.add_apply, Matrix.mul_apply] at this
    exact this
  have e1 : newAt τ T s (τ i).val e + ∑ j, L i j * newAt τ T s (τ j).val e
      = X i ⟨e.val, by omega⟩ - ∑ d : Fin 128, X i ⟨128 + d.val, by omega⟩ * s d e := by
    simp only [newAt_row, new, ← hL, ← hX, Loads.IsReal.newM, ← hrow, mul_sub, Finset.sum_sub_distrib, add_mul, Finset.sum_add_distrib,
      Finset.sum_mul, Finset.mul_sum]
    rw [Finset.sum_comm (s := Finset.univ) (t := Finset.univ) (f := fun (j : Fin 64) (d : Fin 128) => L i j * (Loads.IsReal.solM L X j ⟨128 + d.val, by omega⟩ * s d e))]
    simp only [mul_assoc]
    ring
  have e2 : ∑ j, L i j * newAt τ T s (τ j).val e
      = ∑ j ∈ Finset.range (τ i).val, (∑ d, T.b (τ i).val * T.k (τ i).val d * T.k j d) * Real.exp (T.acc ((τ i).val + 1) - T.acc (j + 1)) * newAt τ T s j e := by
    rw [← sum_below τ _ (τ i).isLt.le]
    refine Finset.sum_congr rfl fun j _ => ?_
    rw [hL]
    unfold Loads.IsReal.lowM
    split_ifs with hj
    · congr 2
      exact Finset.sum_congr rfl fun d _ => by ring
    · rw [zero_mul]
  rw [← e2, e1, hX]
  unfold Loads.IsReal.rhsM
  simp only [cols_left, cols_right]
  congr 1
  · ring
  · exact Finset.sum_congr rfl fun d _ => by ring

theorem out_apply (h : u.IsChunk τ T s) (i : Fin 64) (e : Fin 128) : u.out (ix2 i e) = ((T.outAt s (τ i).val e : ℝ) : EReal) := by
  have h' : u.IsReal _ _ _ _ _ _ _ _ := h
  rw [h'.out_apply, T.outAt_of_solves (solves (τ := τ)) _ (τ i).isLt, ← sum_below τ _ (τ i).isLt]
  refine congrArg (fun x : ℝ => (x : EReal)) (congrArg₂ (· + ·) rfl ?_)
  refine Finset.sum_congr rfl fun j _ => ?_
  rw [newAt_row]
  unfold Loads.IsReal.attnM
  by_cases hj : (τ j).val ≤ (τ i).val
  · rw [if_pos hj, if_pos (by omega)]; rfl
  · rw [if_neg hj, if_neg (by omega), zero_mul]

theorem next_apply (h : u.IsChunk τ T s) (d e : Fin 128) : u.next (ix2 d e) = ((T.stateFrom s 64 d e : ℝ) : EReal) := by
  have h' : u.IsReal _ _ _ _ _ _ _ _ := h
  rw [h'.next_apply, T.stateFrom_of_solves (solves (τ := τ)) _ le_rfl, ← sum_below τ _ le_rfl]
  refine congrArg (fun x : ℝ => (x : EReal)) (congrArg₂ (· + ·) (mul_comm _ _) ?_)
  refine Finset.sum_congr rfl fun j _ => ?_
  rw [newAt_row, if_pos (τ j).isLt, mul_comm (T.k _ _)]
  rfl

end Loads.IsChunk

end Cert.KernelIdeal.Own

end
-- ==== Proof.Prep.lean ====
/-
The layouts that the kernel's call reads, as the host operations before it leave them: at an index, in terms of the arguments.
-/
module

public import proofs.«01_k».proof.Proof.UnitStream
public import Idealize.ShloMosaic.Lib.StableHlo.ReadAt

@[expose] public section

noncomputable section

namespace Cert.KernelIdeal.Own

open Cert.KernelIdeal Cert.KernelIdeal.Gen
open Idealize.ShloMosaic Idealize.ShloMosaic.TcCoe Idealize.ShloMosaic.Tactic

variable (m : (ℓ : Loc nD τ sig) → Buf (Elt Ideal) ℓ)

theorem foldl_add {ι : Type} (g : ι → EReal) (l : List ι) (a : EReal) : l.foldl (fun r n => r + g n) a = a + (l.map g).sum := by
  induction l generalizing a with
  | nil => simp
  | cons n l ih => rw [List.foldl_cons, ih, List.map_cons, List.sum_cons, add_assoc]

/-- The positions of the running sum's window. -/
abbrev Win : Shape := ⟨3, ![1, 64, 1]⟩

theorem win_bijective : Function.Bijective fun w : Fin 64 => (ix3 0 w 0 : Win.Idx) := by
  refine ⟨fun a b hab => ?_, fun w => ⟨w 1, ?_⟩⟩
  · exact congrFun hab 1
  · funext a
    match a with
    | ⟨0, _⟩ => exact Fin.ext (by have := (w 0).isLt; change _ < 1 at this; change 0 = (w 0).val; omega)
    | ⟨1, _⟩ => rfl
    | ⟨2, _⟩ => exact Fin.ext (by have := (w 2).isLt; change _ < 1 at this; change 0 = (w 2).val; omega)

/-- A running sum along the 64 tokens of each chunk, at an index. -/
theorem cumsum_apply (x : FVec Ideal S512x64x8 .f32) (v : FVec Ideal S_ .f32) (hv : ∀ i, v i = (0 : EReal)) (n : Fin 512) (i : Fin 64) (h : Fin 8) :
    Host.reduceWindowAdd ![1, 64, 1] ![1, 1, 1] ![0, 63, 0] ![0, 0, 0] x v reduceWindows_S512x64x8_S512x64x8_w1s1p0_0_w64s1p63_0_w1s1p0_0 h_S_ (ix3 n i h)
      = ∑ j : Fin 64, if j.val ≤ i.val then (x (ix3 n j h) : EReal) else 0 := by
  change Ideal.hostReduceWindowAdd ![1, 64, 1] ![1, 1, 1] ![0, 63, 0] ![0, 0, 0] reduceWindows_S512x64x8_S512x64x8_w1s1p0_0_w64s1p63_0_w1s1p0_0 x (v _) (ix3 n i h) = _
  rw [hv]
  unfold Ideal.hostReduceWindowAdd Host.reduceWindow
  refine (foldl_add _ _ _).trans ?_
  rw [zero_add, ← Fin.sum_univ_def]
  refine (Equiv.sum_comp (Win.rowMajor.symm) (fun w : Win.Idx => @dite EReal (∀ a : Fin 3, (![0, 63, 0] : Fin 3 → ℕ) a ≤ (ix3 n i h a).val * (![1, 1, 1] : Fin 3 → ℕ) a + (w a).val
    ∧ (ix3 n i h a).val * (![1, 1, 1] : Fin 3 → ℕ) a + (w a).val - (![0, 63, 0] : Fin 3 → ℕ) a < (![512, 64, 8] : Fin 3 → ℕ) a) (Nat.decidableForallFin _)
    (fun hin => x fun a => ⟨(ix3 n i h a).val * (![1, 1, 1] : Fin 3 → ℕ) a + (w a).val - (![0, 63, 0] : Fin 3 → ℕ) a, (hin a).2⟩) (fun _ => 0))).trans ?_
  rw [← win_bijective.sum_comp, ← Equiv.sum_comp (Equiv.addRight i.rev)]
  refine Finset.sum_congr rfl fun j _ => ?_
  have hw : ((Equiv.addRight i.rev) j).val = (j.val + (63 - i.val)) % 64 := by
    simp only [Equiv.coe_addRight, Fin.val_add, Fin.val_rev]; congr 2; omega
  by_cases hj : j.val ≤ i.val
  · have hw' : ((Equiv.addRight i.rev) j).val = j.val + (63 - i.val) := by rw [hw]; omega
    rw [if_pos hj, dif_pos]
    · refine congrArg x (funext fun a => Fin.ext ?_)
      match a with
      | ⟨0, _⟩ => change n.val * 1 + 0 - 0 = n.val; omega
      | ⟨1, _⟩ => change i.val * 1 + ((Equiv.addRight i.rev) j).val - 63 = j.val; omega
      | ⟨2, _⟩ => change h.val * 1 + 0 - 0 = h.val; omega
    · intro a
      match a with
      | ⟨0, _⟩ => change 0 ≤ n.val * 1 + 0 ∧ n.val * 1 + 0 - 0 < 512; omega
      | ⟨1, _⟩ => change 63 ≤ i.val * 1 + ((Equiv.addRight i.rev) j).val ∧ i.val * 1 + ((Equiv.addRight i.rev) j).val - 63 < 64; omega
      | ⟨2, _⟩ => change 0 ≤ h.val * 1 + 0 ∧ h.val * 1 + 0 - 0 < 8; omega
  · rw [if_neg hj, dif_neg]
    intro ha
    have h1 := (ha 1).1
    change 63 ≤ i.val * 1 + ((Equiv.addRight i.rev) j).val at h1
    omega

/-- The arguments, and the layouts as the call finds them, at their shapes. -/
def aX (c : Dev nD) : S32768x3072.Idx → EReal := m (c, main_arg0)
def aG (c : Dev nD) : S4x8192x2x8.Idx → EReal := m (c, main_arg1)
def aB (c : Dev nD) : S4x8192x2x8.Idx → EReal := m (c, main_arg2)
def vKt (c : Dev nD) : S512x1024x64.Idx → EReal := V m c main_v2
def vGc (c : Dev nD) : S512x64x2x8.Idx → EReal := V m c main_v14
def vB (c : Dev nD) : S512x64x2x8.Idx → EReal := V m c main_v17
def vTot (c : Dev nD) : S512x1x2x8.Idx → EReal := V m c main_v16
def vEgc (c : Dev nD) : S512x64x2x8.Idx → EReal := V m c main_v21
def vKd (c : Dev nD) : S512x64x2x8.Idx → EReal := V m c main_v31
def vEtot (c : Dev nD) : S512x1x2x8.Idx → EReal := V m c main_v34
def vGs (c : Dev nD) : S32768x128.Idx → EReal := V m c main_v26
def vAux (c : Dev nD) : S512x2x24x128.Idx → EReal := V m c main_v37

theorem V_kt (c : Dev nD) (n : Fin 512) (d : Fin 1024) (i : Fin 64) :
    vKt m c (ix3 n d i) = aX m c (ix2 ⟨64 * n.val + i.val, by omega⟩ ⟨1024 + d.val, by omega⟩) := by
  unfold vKt aX V
  after_reads_at
  exact congrArg (fun r => aX m c (ix2 r _)) (Fin.ext (Nat.add_right_cancel_iff.mpr (Nat.mul_comm _ _)))

theorem V_v17 (c : Dev nD) (n : Fin 512) (i : Fin 64) (d : Fin 2) (h : Fin 8) :
    vB m c (ix4 n i d h) = aB m c
      (ix4 ⟨n.val / 128, by omega⟩ ⟨n.val % 128 * 64 + i.val, by omega⟩ d h) := by
  unfold vB aB V
  after_reads_at

theorem V_v14_0 (c : Dev nD) (n : Fin 512) (i : Fin 64) (h : Fin 8) :
    vGc m c (ix4 n i 0 h)
      = ∑ j : Fin 64, if j.val ≤ i.val then (aG m c
          (ix4 ⟨n.val / 128, by omega⟩ ⟨n.val % 128 * 64 + j.val, by omega⟩ 0 h) : EReal) else 0 := by
  unfold vGc aG V
  after_reads_at
  rw [cumsum_apply _ _ (by intro i; simp only [pointwise])]
  rfl

theorem V_v14_1 (c : Dev nD) (n : Fin 512) (i : Fin 64) (h : Fin 8) :
    vGc m c (ix4 n i 1 h)
      = ∑ j : Fin 64, if i.val ≤ j.val then (aG m c
          (ix4 ⟨n.val / 128, by omega⟩ ⟨n.val % 128 * 64 + j.val, by omega⟩ 1 h) : EReal) else 0 := by
  unfold vGc aG V
  after_reads_at
  refine (cumsum_apply _ _ (by intro i; simp only [pointwise]) n i.rev h).trans ?_
  rw [← Equiv.sum_comp Fin.revPerm]
  refine Finset.sum_congr rfl fun j _ => ?_
  have hc : ((Fin.revPerm j).val ≤ i.rev.val) = (i.val ≤ j.val) := by
    rw [Fin.revPerm_apply, Fin.val_rev, Fin.val_rev]; exact propext (by omega)
  simp only [hc]
  refine congrArg (fun z : EReal => if i.val ≤ j.val then z else 0) ?_
  refine congrArg (fun z : Fin 64 => aG m c (ix4 ⟨n.val / 128, by omega⟩ ⟨n.val % 128 * 64 + z.val, by omega⟩ 1 h)) ?_
  exact Fin.rev_rev j

theorem V_v16 (c : Dev nD) (n : Fin 512) (d : Fin 2) (h : Fin 8) :
    vTot m c (ix4 n 0 d h)
      = ∑ j : Fin 64, aG m c
          (ix4 ⟨n.val / 128, by omega⟩ ⟨n.val % 128 * 64 + j.val, by omega⟩ d h) := by
  unfold vTot aG V
  after_reads_at

theorem V_v21 (c : Dev nD) (n : Fin 512) (i : Fin 64) (d : Fin 2) (h : Fin 8) :
    vEgc m c (ix4 n i d h)
      = Ideal.exp (vGc m c (ix4 n i d h)) := by
  unfold vGc vEgc V
  repeat after_reads_at

theorem V_v31 (c : Dev nD) (n : Fin 512) (i : Fin 64) (d : Fin 2) (h : Fin 8) :
    vKd m c (ix4 n i d h)
      = Ideal.exp (vTot m c (ix4 n 0 d h) - vGc m c (ix4 n i d h)) := by
  unfold vGc vTot vKd V
  repeat after_reads_at

theorem V_v34 (c : Dev nD) (n : Fin 512) (d : Fin 2) (h : Fin 8) :
    vEtot m c (ix4 n 0 d h) = Ideal.exp (vTot m c (ix4 n 0 d h)) := by
  unfold vTot vEtot V
  after_reads_at

theorem V_gs_gc (c : Dev nD) (n : Fin 512) (i : Fin 64) (d : Fin 2) (h : Fin 8) :
    vGs m c (ix2 ⟨64 * n.val + i.val, by omega⟩ ⟨64 * d.val + (h.val), by omega⟩)
      = vGc m c (ix4 n i d h) := by
  unfold vGs V
  after_reads_at
  rw [dif_pos (show (64 * d.val + h.val) % 64 < 8 from by omega)]
  simp only [show (64 * d.val + h.val) % 64 = h.val from by omega]
  unfold vGc V
  repeat after_reads_at

theorem V_gs_beta (c : Dev nD) (n : Fin 512) (i : Fin 64) (d : Fin 2) (h : Fin 8) :
    vGs m c (ix2 ⟨64 * n.val + i.val, by omega⟩ ⟨64 * d.val + (8 + h.val), by omega⟩)
      = vB m c (ix4 n i d h) := by
  unfold vB vGs V
  after_reads_at
  rw [dif_neg (by omega), dif_pos (by omega)]
  simp only [show (64 * d.val + (8 + h.val)) % 64 - 8 = h.val from by omega]
  after_reads_at

theorem V_gs_egc (c : Dev nD) (n : Fin 512) (i : Fin 64) (d : Fin 2) (h : Fin 8) :
    vGs m c (ix2 ⟨64 * n.val + i.val, by omega⟩ ⟨64 * d.val + (16 + h.val), by omega⟩)
      = vEgc m c (ix4 n i d h) := by
  unfold vEgc vGs V
  after_reads_at
  rw [dif_neg (by omega), dif_neg (by omega), dif_pos (by omega)]
  simp only [show (64 * d.val + (16 + h.val)) % 64 - 8 - 8 = h.val from by omega]
  repeat after_reads_at

theorem V_aux_gc (c : Dev nD) (n : Fin 512) (d : Fin 2) (h : Fin 8) (i : Fin 64) :
    vAux m c (ix4 n d ⟨h.val, by omega⟩ ⟨i.val, by omega⟩)
      = vGc m c (ix4 n i d h) := by
  unfold vGc vAux V
  repeat after_reads_at

theorem V_aux_kd (c : Dev nD) (n : Fin 512) (d : Fin 2) (h : Fin 8) (i : Fin 64) :
    vAux m c (ix4 n d ⟨8 + h.val, by omega⟩ ⟨i.val, by omega⟩)
      = vKd m c (ix4 n i d h) := by
  unfold vKd vAux V
  repeat after_reads_at

theorem V_aux_etot (c : Dev nD) (n : Fin 512) (d : Fin 2) (h : Fin 8) (i : Fin 128) :
    vAux m c (ix4 n d ⟨16 + h.val, by omega⟩ i)
      = vEtot m c (ix4 n 0 d h) := by
  unfold vEtot vAux V
  after_reads_at
  rw [dif_neg (by omega), dif_neg (by omega)]
  simp only [show 16 + h.val - 8 - 8 = h.val from by omega]
  after_reads_at

end Cert.KernelIdeal.Own

end
-- ==== Proof.Blocks.lean ====
/-
The blocks that a grid point stages, at an index: which elements of the arrays they are.
-/
module

public import proofs.«01_k».proof.Proof.Prep
public import Idealize.ShloMosaic.Lib.Pipeline.ValueKit.Point

@[expose] public section

noncomputable section

namespace Cert.KernelIdeal.Own

open Cert.KernelIdeal Cert.KernelIdeal.Gen
open Idealize.ShloMosaic Idealize.ShloMosaic.TcCoe Idealize.ShloMosaic.Tactic

variable (m : (ℓ : Loc nD τ sig) → Buf (Elt Ideal) ℓ)

/-- The chunk that the backward half of point `t` works on. -/
def back (t : ℕ) : ℕ := 128 * (t / 128) + (127 - t % 128)

/-- Where each window's block lies at each point. -/
theorem idx : ∀ t : Fin grid0.N,
    win0_0.index t = ![t.val, 0] ∧ win0_1.index t = ![t.val, 1] ∧ win0_2.index t = ![t.val, 2]
    ∧ win0_3.index t = ![t.val, 0, 0] ∧ win0_4.index t = ![t.val, 0] ∧ win0_5.index t = ![t.val, 0, 0, 0]
    ∧ win0_6.index t = ![back t.val, 0] ∧ win0_7.index t = ![back t.val, 1] ∧ win0_8.index t = ![back t.val, 2]
    ∧ win0_9.index t = ![back t.val, 0, 0] ∧ win0_10.index t = ![back t.val, 0] ∧ win0_11.index t = ![back t.val, 1, 0, 0]
    ∧ win0_12.index t = ![t.val, 0] ∧ win0_13.index t = ![back t.val, 0] := by decide +kernel

theorem back_lt (t : Fin cfg0.N) : back t.val < 512 := by
  have := t.isLt; change _ < 512 at this; unfold back; omega

theorem blkF_q (c : Dev nD) (t : Fin cfg0.N) (i : Fin 64) (x : Fin 1024) :
    iblk m c 0 t (ix2 i x) = aX m c (ix2 ⟨64 * (t.val) + i.val, by have := t.isLt; change _ < 512 at this; omega⟩ ⟨0 + x.val, by omega⟩) := by
  unfold aX
  refine Eq.trans ?_ (congrFun (V_main_arg0 m c) _)
  blk_ext [iblk, idx t]

theorem blkF_k (c : Dev nD) (t : Fin cfg0.N) (i : Fin 64) (x : Fin 1024) :
    iblk m c 1 t (ix2 i x) = aX m c (ix2 ⟨64 * (t.val) + i.val, by have := t.isLt; change _ < 512 at this; omega⟩ ⟨1024 + x.val, by omega⟩) := by
  unfold aX
  refine Eq.trans ?_ (congrFun (V_main_arg0 m c) _)
  blk_ext [iblk, idx t]

theorem blkF_v (c : Dev nD) (t : Fin cfg0.N) (i : Fin 64) (x : Fin 1024) :
    iblk m c 2 t (ix2 i x) = aX m c (ix2 ⟨64 * (t.val) + i.val, by have := t.isLt; change _ < 512 at this; omega⟩ ⟨2048 + x.val, by omega⟩) := by
  unfold aX
  refine Eq.trans ?_ (congrFun (V_main_arg0 m c) _)
  blk_ext [iblk, idx t]

theorem blkF_kt (c : Dev nD) (t : Fin cfg0.N) (z : Fin 1) (x : Fin 1024) (i : Fin 64) :
    iblk m c 3 t (ix3 z x i) = vKt m c (ix3 ⟨t.val, by have := t.isLt; change _ < 512 at this; omega⟩ x i) := by
  unfold vKt
  blk_ext [iblk, idx t]

theorem blkF_gs (c : Dev nD) (t : Fin cfg0.N) (i : Fin 64) (x : Fin 128) :
    iblk m c 4 t (ix2 i x) = vGs m c (ix2 ⟨64 * (t.val) + i.val, by have := t.isLt; change _ < 512 at this; omega⟩ x) := by
  unfold vGs
  blk_ext [iblk, idx t]

theorem blkF_aux (c : Dev nD) (t : Fin cfg0.N) (z z' : Fin 1) (r : Fin 24) (x : Fin 128) :
    iblk m c 5 t (ix4 z z' r x) = vAux m c (ix4 ⟨t.val, by have := t.isLt; change _ < 512 at this; omega⟩ 0 r x) := by
  unfold vAux
  blk_ext [iblk, idx t]

theorem blkB_q (c : Dev nD) (t : Fin cfg0.N) (i : Fin 64) (x : Fin 1024) :
    iblk m c 6 t (ix2 i x) = aX m c (ix2 ⟨64 * (back t.val) + i.val, by have := back_lt t; omega⟩ ⟨0 + x.val, by omega⟩) := by
  unfold aX
  refine Eq.trans ?_ (congrFun (V_main_arg0 m c) _)
  blk_ext [iblk, idx t]

theorem blkB_k (c : Dev nD) (t : Fin cfg0.N) (i : Fin 64) (x : Fin 1024) :
    iblk m c 7 t (ix2 i x) = aX m c (ix2 ⟨64 * (back t.val) + i.val, by have := back_lt t; omega⟩ ⟨1024 + x.val, by omega⟩) := by
  unfold aX
  refine Eq.trans ?_ (congrFun (V_main_arg0 m c) _)
  blk_ext [iblk, idx t]

theorem blkB_v (c : Dev nD) (t : Fin cfg0.N) (i : Fin 64) (x : Fin 1024) :
    iblk m c 8 t (ix2 i x) = aX m c (ix2 ⟨64 * (back t.val) + i.val, by have := back_lt t; omega⟩ ⟨2048 + x.val, by omega⟩) := by
  unfold aX
  refine Eq.trans ?_ (congrFun (V_main_arg0 m c) _)
  blk_ext [iblk, idx t]

theorem blkB_kt (c : Dev nD) (t : Fin cfg0.N) (z : Fin 1) (x : Fin 1024) (i : Fin 64) :
    iblk m c 9 t (ix3 z x i) = vKt m c (ix3 ⟨back t.val, by have := back_lt t; omega⟩ x i) := by
  unfold vKt
  blk_ext [iblk, idx t]

theorem blkB_gs (c : Dev nD) (t : Fin cfg0.N) (i : Fin 64) (x : Fin 128) :
    iblk m c 10 t (ix2 i x) = vGs m c (ix2 ⟨64 * (back t.val) + i.val, by have := back_lt t; omega⟩ x) := by
  unfold vGs
  blk_ext [iblk, idx t]

theorem blkB_aux (c : Dev nD) (t : Fin cfg0.N) (z z' : Fin 1) (r : Fin 24) (x : Fin 128) :
    iblk m c 11 t (ix4 z z' r x) = vAux m c (ix4 ⟨back t.val, by have := back_lt t; omega⟩ 1 r x) := by
  unfold vAux
  blk_ext [iblk, idx t]

end Cert.KernelIdeal.Own

end
-- ==== Proof.ChunkSums.lean ====
/-
The layouts of log decays at a chunk, as real numbers: the decay accumulated in the chunk by each of its tokens, in the direction's order.
-/
module

public import proofs.«01_k».proof.Proof.Prep
public import proofs.«01_k».proof.Proof.Streams

@[expose] public section

noncomputable section

namespace Cert.KernelIdeal.Own

open Cert.KernelIdeal Cert.KernelIdeal.Gen Cert.Delta
open Idealize.ShloMosaic Idealize.ShloMosaic.TcCoe Idealize.ShloMosaic.Tactic

variable (m : (ℓ : Loc nD τ sig) → Buf (Elt Ideal) ℓ) (c : Dev nD)

/-- A stream of the call's arguments. -/
abbrev stream (b : Fin 4) (d : Fin 2) (h : Fin 8) : Stream := streamOf (aX m c) (aG m c) (aB m c) b d h

/-- The place in a chunk, in the direction's order, of the token in row `i`; and the chunk that the direction's `j`-th step works on. -/
def place (d : Fin 2) : Equiv.Perm (Fin 64) := if d = 0 then Equiv.refl _ else Fin.revPerm
def chunk (b : Fin 4) (d : Fin 2) (j : Fin 128) : Fin 512 :=
  if d = 0 then ⟨128 * b.val + j.val, by omega⟩ else ⟨128 * b.val + (127 - j.val), by omega⟩

theorem place_zero (i : Fin 64) : place 0 i = i := rfl
theorem place_one (i : Fin 64) : (place 1 i).val = 63 - i.val := by
  change (Fin.rev i).val = _; rw [Fin.val_rev]; omega

/-- The place of a row of a chunk in the whole sequence, both ways. -/
theorem tok_place (b : Fin 4) (d : Fin 2) (j : Fin 128) (i : Fin 64) :
    (tok d (64 * j.val + (place d i).val)).val = (chunk b d j).val % 128 * 64 + i.val := by
  obtain rfl | rfl : d = 0 ∨ d = 1 := by omega
  · rw [place_zero, tok_zero _ (by omega)]
    change 64 * j.val + i.val = (128 * b.val + j.val) % 128 * 64 + i.val; omega
  · have hp := place_one i
    rw [tok_one _ (by omega)]
    change 8191 - (64 * j.val + (place 1 i).val) = (128 * b.val + (127 - j.val)) % 128 * 64 + i.val
    rw [hp]
    change 8191 - (64 * j.val + (63 - i.val)) = (128 * b.val + (127 - j.val)) % 128 * 64 + i.val; omega

theorem chunk_div (b : Fin 4) (d : Fin 2) (j : Fin 128) : (chunk b d j).val / 128 = b.val := by
  obtain rfl | rfl : d = 0 ∨ d = 1 := by omega
  · change (128 * b.val + j.val) / 128 = _; omega
  · change (128 * b.val + (127 - j.val)) / 128 = _; omega

theorem tok_row (b : Fin 4) (d : Fin 2) (j : Fin 128) (i : Fin 64) :
    8192 * b.val + (tok d (64 * j.val + (place d i).val)).val = 64 * (chunk b d j).val + i.val := by
  rw [tok_place b]; have := chunk_div b d j; omega

/-- The argument's element for row `i` of a chunk. -/
theorem at_place (G : SG.Idx → EReal) (b : Fin 4) (d : Fin 2) (h : Fin 8) (j : Fin 128) (i : Fin 64) :
    G (ix4 ⟨(chunk b d j).val / 128, by omega⟩ ⟨(chunk b d j).val % 128 * 64 + i.val, by omega⟩ d h)
      = G (ix4 b (tok d (64 * j.val + (place d i).val)) d h) := by
  congr 2
  · exact Fin.ext (chunk_div b d j)
  · exact Fin.ext (tok_place b d j i).symm

variable {m c} (hf : AllReal (aX m c) (aG m c) (aB m c))
include hf

theorem vGc_real (b : Fin 4) (d : Fin 2) (h : Fin 8) (j : Fin 128) (i : Fin 64) :
    vGc m c (ix4 (chunk b d j) i d h) = (((((stream m c b d h).shift (64 * j.val)).acc ((place d i).val + 1) : ℝ)) : EReal) := by
  unfold Stream.acc
  rw [← sum_below (place d) _ (by omega), coe_sum]
  have key : vGc m c (ix4 (chunk b d j) i d h) = ∑ j' : Fin 64, if (place d j').val < (place d i).val + 1 then (aG m c
      (ix4 ⟨(chunk b d j).val / 128, by omega⟩ ⟨(chunk b d j).val % 128 * 64 + j'.val, by omega⟩ d h) : EReal) else 0 := by
    obtain rfl | rfl : d = 0 ∨ d = 1 := by omega
    · rw [V_v14_0]
      refine Finset.sum_congr rfl fun j' _ => if_congr ?_ rfl rfl
      rw [place_zero, place_zero]; omega
    · rw [V_v14_1]
      refine Finset.sum_congr rfl fun j' _ => if_congr ?_ rfl rfl
      rw [place_one, place_one]; omega
  rw [key]
  refine Finset.sum_congr rfl fun j' _ => ?_
  rw [at_place (aG m c)]
  split_ifs
  · exact hf.hG _ _ _ _
  · rfl

theorem vTot_real (b : Fin 4) (d : Fin 2) (h : Fin 8) (j : Fin 128) :
    vTot m c (ix4 (chunk b d j) 0 d h) = (((((stream m c b d h).shift (64 * j.val)).acc 64 : ℝ)) : EReal) := by
  unfold Stream.acc
  rw [← sum_below (place d) _ le_rfl, coe_sum, V_v16]
  refine Finset.sum_congr rfl fun j' _ => ?_
  rw [at_place (aG m c), if_pos (place d j').isLt]
  exact hf.hG _ _ _ _

theorem vB_real (b : Fin 4) (d : Fin 2) (h : Fin 8) (j : Fin 128) (i : Fin 64) :
    vB m c (ix4 (chunk b d j) i d h) = (((((stream m c b d h).shift (64 * j.val)).b (place d i).val : ℝ)) : EReal) := by
  rw [V_v17, at_place (aB m c)]
  exact hf.hB _ _ _ _

theorem vEgc_real (b : Fin 4) (d : Fin 2) (h : Fin 8) (j : Fin 128) (i : Fin 64) :
    vEgc m c (ix4 (chunk b d j) i d h)
      = ((Real.exp (((stream m c b d h).shift (64 * j.val)).acc ((place d i).val + 1)) : ℝ) : EReal) := by
  rw [V_v21, vGc_real hf]; rfl

theorem vKd_real (b : Fin 4) (d : Fin 2) (h : Fin 8) (j : Fin 128) (i : Fin 64) :
    vKd m c (ix4 (chunk b d j) i d h)
      = ((Real.exp (((stream m c b d h).shift (64 * j.val)).acc 64
          - ((stream m c b d h).shift (64 * j.val)).acc ((place d i).val + 1)) : ℝ) : EReal) := by
  rw [V_v31, vGc_real hf, vTot_real hf, ← EReal.coe_sub]; rfl

theorem vEtot_real (b : Fin 4) (d : Fin 2) (h : Fin 8) (j : Fin 128) :
    vEtot m c (ix4 (chunk b d j) 0 d h) = ((Real.exp (((stream m c b d h).shift (64 * j.val)).acc 64) : ℝ) : EReal) := by
  rw [V_v34, vTot_real hf]; rfl

end Cert.KernelIdeal.Own

end
-- ==== Proof.UnitRun.lean ====
/-
The body's two runs, unit by unit: what each piece of an output block or of the state holds is the unit function of `Unit.lean` at that
unit's loads, at any unit.
-/
module

public import proofs.«01_k».proof.Proof.Unit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

theorem inbH (h : Fin 8) : ∀ a, (![0, 128 * h.val] : Fin 2 → ℕ) a + S64x128.size a ≤ S64x1024.size a := by
  decide +revert
theorem inbKt (h : Fin 8) : ∀ a, (![0, 128 * h.val, 0] : Fin 3 → ℕ) a + S1x128x64.size a ≤ S1x1024x64.size a := by
  decide +revert
theorem inbRow (o : Fin 16) : ∀ a, (![0, 0, o.val, 0] : Fin 4 → ℕ) a + S1x1x1x64.size a ≤ S1x1x24x128.size a := by
  decide +revert
theorem inbTot (h : Fin 8) : ∀ a, (![0, 0, 16 + h.val, 0] : Fin 4 → ℕ) a + S1x1x1x128.size a ≤ S1x1x24x128.size a := by
  decide +revert
theorem inbS (n : Fin 16) : ∀ a, (![n.val, 0, 0] : Fin 3 → ℕ) a + S1x128x128.size a ≤ S16x128x128.size a := by
  decide +revert
theorem slicesCol (o : Fin 128) : S64x128.Slices ![0, o.val] S64x1 := by
  decide +revert

/-- A unit's loads from its direction's six input blocks, over a state. -/
def loadsOf (aq : Memref sig .tc .vmem S64x1024 .bf16) (hq : aq.IsWhole) (ak : Memref sig .tc .vmem S64x1024 .bf16) (hk : ak.IsWhole)
    (av : Memref sig .tc .vmem S64x1024 .bf16) (hv : av.IsWhole) (at' : Memref sig .tc .vmem S1x1024x64 .bf16) (ht : at'.IsWhole)
    (ag : Memref sig .tc .vmem S64x128 .f32) (hg : ag.IsWhole) (ax : Memref sig .tc .vmem S1x1x24x128 .f32) (hx : ax.IsWhole)
    (xq xk xv : Vec F S64x1024 .bf16) (xt : Vec F S1x1024x64 .bf16) (xg : Vec F S64x128 .f32) (xx : Vec F S1x1x24x128 .f32)
    (incl strict : IVec S64x64 1) (d : Fin 2) (h : Fin 8) (s : FVec F S128x128 .f32) : Loads F where
  q := aq.view.readAt (Elt F) (Rect.unit (s := S64x1024) ![0, 128 * h.val] S64x128.size (inbH h)).toLoadRect (hq.unread xq)
  k := ak.view.readAt (Elt F) (Rect.unit (s := S64x1024) ![0, 128 * h.val] S64x128.size (inbH h)).toLoadRect (hk.unread xk)
  v := av.view.readAt (Elt F) (Rect.unit (s := S64x1024) ![0, 128 * h.val] S64x128.size (inbH h)).toLoadRect (hv.unread xv)
  kt := shapeCast S128x64 (at'.view.readAt (Elt F) (Rect.unit (s := S1x1024x64) ![0, 128 * h.val, 0] S1x128x64.size (inbKt h)).toLoadRect (ht.unread xt)) shapeCasts_S1x128x64_S128x64
  gcol := extractStridedSlice S64x1 ![0, (⟨64 * d.val + h.val, by omega⟩ : Fin 128).val] (shapeCast S64x128 (ag.view.readAt (Elt F) (Rect.unit (s := S64x128) ![0, 0] S64x128.size inb_S64x128_S64x128_0_0).toLoadRect (hg.unread xg)) shapeCasts_S64x128_S64x128) (slicesCol _)
  beta := extractStridedSlice S64x1 ![0, (⟨64 * d.val + (8 + h.val), by omega⟩ : Fin 128).val] (shapeCast S64x128 (ag.view.readAt (Elt F) (Rect.unit (s := S64x128) ![0, 0] S64x128.size inb_S64x128_S64x128_0_0).toLoadRect (hg.unread xg)) shapeCasts_S64x128_S64x128) (slicesCol _)
  egc := extractStridedSlice S64x1 ![0, (⟨64 * d.val + (16 + h.val), by omega⟩ : Fin 128).val] (shapeCast S64x128 (ag.view.readAt (Elt F) (Rect.unit (s := S64x128) ![0, 0] S64x128.size inb_S64x128_S64x128_0_0).toLoadRect (hg.unread xg)) shapeCasts_S64x128_S64x128) (slicesCol _)
  grow := shapeCast S1x64 (ax.view.readAt (Elt F) (Rect.unit (s := S1x1x24x128) ![0, 0, (⟨h.val, by omega⟩ : Fin 16).val, 0] S1x1x1x64.size (inbRow _)).toLoadRect (hx.unread xx)) shapeCasts_S1x1x1x64_S1x64
  kdrow := shapeCast S1x64 (ax.view.readAt (Elt F) (Rect.unit (s := S1x1x24x128) ![0, 0, (⟨8 + h.val, by omega⟩ : Fin 16).val, 0] S1x1x1x64.size (inbRow _)).toLoadRect (hx.unread xx)) shapeCasts_S1x1x1x64_S1x64
  etot := shapeCast S1x128 (ax.view.readAt (Elt F) (Rect.unit (s := S1x1x24x128) ![0, 0, 16 + h.val, 0] S1x1x1x128.size (inbTot h)).toLoadRect (hx.unread xx)) shapeCasts_S1x1x1x128_S1x128
  s := s
  incl := incl
  strict := strict

/-- The loads of the forward and of the backward unit of head `h` at point `t`, over a state. -/
def loadsF (c : Dev nD) (t : Fin cfg0.N) (h : Fin 8) (s : FVec F S128x128 .f32) : Loads F :=
  loadsOf (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) (iblk m c 4 t) (iblk m c 5 t)
    (cmpi .sge iotaR iotaC) (cmpi .sgt iotaR iotaC) 0 h s
def loadsB (c : Dev nD) (t : Fin cfg0.N) (h : Fin 8) (s : FVec F S128x128 .f32) : Loads F :=
  loadsOf (ms0_6 t) (hs0_6 t) (ms0_7 t) (hs0_7 t) (ms0_8 t) (hs0_8 t) (ms0_9 t) (hs0_9 t) (ms0_10 t) (hs0_10 t) (ms0_11 t) (hs0_11 t)
    (iblk m c 6 t) (iblk m c 7 t) (iblk m c 8 t) (iblk m c 9 t) (iblk m c 10 t) (iblk m c 11 t)
    (cmpi .sle iotaR iotaC) (cmpi .slt iotaR iotaC) 1 h s

/-- The state's slice `n`, loaded from the scratch at the contents `s`. -/
def stateOf (s : Vec F S16x128x128 .f32) (n : Fin 16) : FVec F S128x128 .f32 :=
  shapeCast S128x128 (scM0_0.view.readAt (Elt F) (Rect.unit (s := S16x128x128) ![n.val, 0, 0] S1x128x128.size (inbS n)).toLoadRect
    ((Memref.isWhole_whole _ : scM0_0.IsWhole).unread s)) shapeCasts_S1x128x128_S128x128

/-- The pieces of an output block, and of a direction's half of the state, unit by unit (the last stored first). -/
def outPieces (u : Fin 8 → Loads F) : List (View.Piece (Elt F) S64x1024 .bf16) :=
  (List.finRange 8).reverse.map fun h => ⟨Rect.unit (s := S64x1024) ![0, 128 * h.val] S64x128.size (inbH h), truncf .bf16 (u h).out bitsLt_bf16_f32⟩
def statePieces (d : Fin 2) (u : Fin 8 → Loads F) : List (View.Piece (Elt F) S16x128x128 .f32) :=
  (List.finRange 8).reverse.map fun h => ⟨Rect.unit (s := S16x128x128) ![(⟨8 * d.val + h.val, by omega⟩ : Fin 16).val, 0, 0] S1x128x128.size (inbS _),
    shapeCast S1x128x128 (u h).next shapeCasts_S128x128_S1x128x128⟩

theorem runB_fwd (c : Dev nD) (t : Fin cfg0.N) (h0 : ¬t.val % 128 = 0) (s : Vec F S16x128x128 .f32) :
    (runB m c t h0 s).1 = outPieces fun h => loadsF m c t h (stateOf s (⟨h.val, by omega⟩ : Fin 16)) := by sl_kernel_rfl
theorem runB_bwd (c : Dev nD) (t : Fin cfg0.N) (h0 : ¬t.val % 128 = 0) (s : Vec F S16x128x128 .f32) :
    (runB m c t h0 s).2.1 = outPieces fun h => loadsB m c t h (stateOf s (⟨8 + h.val, by omega⟩ : Fin 16)) := by sl_kernel_rfl
theorem runB_state (c : Dev nD) (t : Fin cfg0.N) (h0 : ¬t.val % 128 = 0) (s : Vec F S16x128x128 .f32) :
    (runB m c t h0 s).2.2.1 = statePieces 1 (fun h => loadsB m c t h (stateOf s (⟨8 + h.val, by omega⟩ : Fin 16)))
      ++ statePieces 0 (fun h => loadsF m c t h (stateOf s (⟨h.val, by omega⟩ : Fin 16))) := by sl_kernel_rfl

/-- The piece that resets the state, and the state's slice `n` loaded after it. -/
def zeroPieces : List (View.Piece (Elt F) S16x128x128 .f32) :=
  [⟨Rect.unit (s := S16x128x128) ![0, 0, 0] S16x128x128.size inb_S16x128x128_S16x128x128_0_0_0, k0_pay2⟩]
def stateZ (n : Fin 16) : FVec F S128x128 .f32 :=
  shapeCast S128x128 (scM0_0.view.readCov zeroPieces (Rect.unit (s := S16x128x128) ![n.val, 0, 0] S1x128x128.size (inbS n)).toLoadRect)
    shapeCasts_S1x128x128_S128x128

theorem runA_fwd (c : Dev nD) (t : Fin cfg0.N) (h0 : t.val % 128 = 0) :
    (runA m c t h0).1 = outPieces fun h => loadsF m c t h (stateZ (⟨h.val, by omega⟩ : Fin 16)) := by sl_kernel_rfl
theorem runA_bwd (c : Dev nD) (t : Fin cfg0.N) (h0 : t.val % 128 = 0) :
    (runA m c t h0).2.1 = outPieces fun h => loadsB m c t h (stateZ (⟨8 + h.val, by omega⟩ : Fin 16)) := by sl_kernel_rfl
theorem runA_state (c : Dev nD) (t : Fin cfg0.N) (h0 : t.val % 128 = 0) :
    (runA m c t h0).2.2.1 = statePieces 1 (fun h => loadsB m c t h (stateZ (⟨8 + h.val, by omega⟩ : Fin 16)))
      ++ (statePieces 0 (fun h => loadsF m c t h (stateZ (⟨h.val, by omega⟩ : Fin 16))) ++ zeroPieces) := by sl_kernel_rfl

end Cert.KernelIdeal.Own

end
-- ==== Proof.Chunk.lean ====
/-
What each unit of a grid point loads: the loads of the chunk of its stream, at any real state.
-/
module

public import proofs.«01_k».proof.Proof.Blocks
public import proofs.«01_k».proof.Proof.ChunkSums
public import proofs.«01_k».proof.Proof.UnitRun
public import Idealize.ShloMosaic.Lib.WholeRead
public import Idealize.ShloMosaic.Lib.ValueLayout

@[expose] public section

noncomputable section

namespace Cert.KernelIdeal.Own

open Cert.KernelIdeal Cert.KernelIdeal.Gen Cert.Delta
open Idealize.ShloMosaic Idealize.ShloMosaic.TcCoe Idealize.ShloMosaic.Tactic

variable {m : (ℓ : Loc nD τ sig) → Buf (Elt Ideal) ℓ} {c : Dev nD} (hf : AllReal (aX m c) (aG m c) (aB m c))
include hf

set_option maxHeartbeats 400000 in
/-- The loads from any six blocks that are the blocks of a chunk. -/
theorem loadsOf_isChunk (b : Fin 4) (d : Fin 2) (h : Fin 8) (j : Fin 128)
    (aq : Memref sig .tc .vmem S64x1024 .bf16) (hq : aq.IsWhole) (ak : Memref sig .tc .vmem S64x1024 .bf16) (hk : ak.IsWhole)
    (av : Memref sig .tc .vmem S64x1024 .bf16) (hv : av.IsWhole) (at' : Memref sig .tc .vmem S1x1024x64 .bf16) (ht : at'.IsWhole)
    (ag : Memref sig .tc .vmem S64x128 .f32) (hg : ag.IsWhole) (ax : Memref sig .tc .vmem S1x1x24x128 .f32) (hx : ax.IsWhole)
    (xq xk xv : Vec Ideal S64x1024 .bf16) (xt : Vec Ideal S1x1024x64 .bf16) (xg : Vec Ideal S64x128 .f32) (xx : Vec Ideal S1x1x24x128 .f32)
    (incl strict : IVec S64x64 1) (s : FVec Ideal S128x128 .f32) (S : Fin 128 → Fin 128 → ℝ)
    (eq : ∀ (i : Fin 64) (x : Fin 1024), xq (ix2 i x) = aX m c (ix2 ⟨64 * (chunk b d j).val + i.val, by omega⟩ ⟨0 + x.val, by omega⟩))
    (ek : ∀ (i : Fin 64) (x : Fin 1024), xk (ix2 i x) = aX m c (ix2 ⟨64 * (chunk b d j).val + i.val, by omega⟩ ⟨1024 + x.val, by omega⟩))
    (ev : ∀ (i : Fin 64) (x : Fin 1024), xv (ix2 i x) = aX m c (ix2 ⟨64 * (chunk b d j).val + i.val, by omega⟩ ⟨2048 + x.val, by omega⟩))
    (et : ∀ (z : Fin 1) (x : Fin 1024) (i : Fin 64), xt (ix3 z x i) = vKt m c (ix3 (chunk b d j) x i))
    (eg : ∀ (i : Fin 64) (x : Fin 128), xg (ix2 i x) = vGs m c (ix2 ⟨64 * (chunk b d j).val + i.val, by omega⟩ x))
    (ex : ∀ (z z' : Fin 1) (r : Fin 24) (x : Fin 128), xx (ix4 z z' r x) = vAux m c (ix4 (chunk b d j) d r x))
    (hs : ∀ x e, s (ix2 x e) = ((S x e : ℝ) : EReal))
    (hincl : ∀ i i', incl (ix2 i i') = if (place d i').val ≤ (place d i).val then 1#1 else 0#1)
    (hstrict : ∀ i i', strict (ix2 i i') = if (place d i').val < (place d i).val then 1#1 else 0#1) :
    (loadsOf aq hq ak hk av hv at' ht ag hg ax hx xq xk xv xt xg xx incl strict d h s).IsChunk (place d)
      ((stream m c b d h).shift (64 * j.val)) S where
  hq i x := by
    refine (Memref.IsWhole.readAt_unread hq _ _ _).trans ?_
    refine Eq.trans ?_ ((eq i ⟨128 * h.val + x.val, by omega⟩).trans ?_)
    · pointwise
    · refine (hf.hX _ _).trans ?_
      simp only [← tok_row b d j i, Nat.zero_add]; rfl
  hk i x := by
    refine (Memref.IsWhole.readAt_unread hk _ _ _).trans ?_
    refine Eq.trans ?_ ((ek i ⟨128 * h.val + x.val, by omega⟩).trans ?_)
    · pointwise
    · refine (hf.hX _ _).trans ?_
      simp only [← tok_row b d j i]; rfl
  hv i x := by
    refine (Memref.IsWhole.readAt_unread hv _ _ _).trans ?_
    refine Eq.trans ?_ ((ev i ⟨128 * h.val + x.val, by omega⟩).trans ?_)
    · pointwise
    · refine (hf.hX _ _).trans ?_
      simp only [← tok_row b d j i]; rfl
  hkt x i := by
    refine Eq.trans ?_ ((et 0 ⟨128 * h.val + x.val, by omega⟩ i).trans ?_)
    · refine (ValueIdx.shapeCast_1ab_ab_apply (a := 128) (b := 64) (at'.view.readAt (Elt Ideal)
        (Rect.unit (s := S1x1024x64) ![0, 128 * h.val, 0] S1x128x64.size (inbKt h)).toLoadRect (ht.unread xt)) _ x i).trans ?_
      refine (Memref.IsWhole.readAt_unread ht _ _ _).trans (congrArg xt (funext fun a => Fin.ext ?_))
      match a with
      | ⟨0, _⟩ => rfl
      | ⟨1, _⟩ => exact congrArg (128 * h.val + ·) (Nat.one_mul _)
      | ⟨2, _⟩ => exact (Nat.zero_add _).trans (Nat.one_mul _)
    · rw [V_kt]
      refine (hf.hX _ _).trans ?_
      simp only [← tok_row b d j i]; rfl
  hgcol i := by
    refine Eq.trans ?_ (((eg i ⟨64 * d.val + h.val, by omega⟩).trans (V_gs_gc m c _ i d h)).trans (vGc_real hf b d h j i))
    unfold loadsOf
    pointwise
    refine (Memref.IsWhole.readAt_unread hg _ _ _).trans ?_
    pointwise
  hbeta i := by
    refine Eq.trans ?_ (((eg i ⟨64 * d.val + (8 + h.val), by omega⟩).trans (V_gs_beta m c _ i d h)).trans (vB_real hf b d h j i))
    unfold loadsOf
    pointwise
    refine (Memref.IsWhole.readAt_unread hg _ _ _).trans ?_
    pointwise
  hegc i := by
    refine Eq.trans ?_ (((eg i ⟨64 * d.val + (16 + h.val), by omega⟩).trans (V_gs_egc m c _ i d h)).trans (vEgc_real hf b d h j i))
    unfold loadsOf
    pointwise
    refine (Memref.IsWhole.readAt_unread hg _ _ _).trans ?_
    pointwise
  hgrow i := by
    refine Eq.trans ?_ (((ex 0 0 ⟨h.val, by omega⟩ ⟨i.val, by omega⟩).trans (V_aux_gc m c _ d h i)).trans (vGc_real hf b d h j i))
    unfold loadsOf
    pointwise
    refine (Memref.IsWhole.readAt_unread hx _ _ _).trans ?_
    pointwise
  hkdrow i := by
    refine Eq.trans ?_ (((ex 0 0 ⟨8 + h.val, by omega⟩ ⟨i.val, by omega⟩).trans (V_aux_kd m c _ d h i)).trans (vKd_real hf b d h j i))
    unfold loadsOf
    pointwise
    refine (Memref.IsWhole.readAt_unread hx _ _ _).trans ?_
    pointwise
  hetot e := by
    refine Eq.trans ?_ (((ex 0 0 ⟨16 + h.val, by omega⟩ e).trans (V_aux_etot m c _ d h e)).trans (vEtot_real hf b d h j))
    unfold loadsOf
    pointwise
    refine (Memref.IsWhole.readAt_unread hx _ _ _).trans ?_
    pointwise
  hs := hs
  hincl := hincl
  hstrict := hstrict

/-- The batch and the step of a grid point. -/
def batch (t : Fin cfg0.N) : Fin 4 := ⟨t.val / 128, by have := t.isLt; change _ < 512 at this; omega⟩
def step (t : Fin cfg0.N) : Fin 128 := ⟨t.val % 128, by omega⟩

omit hf in
theorem chunk_fwd (t : Fin cfg0.N) : chunk (batch t) 0 (step t) = ⟨t.val, t.isLt⟩ := by
  refine Fin.ext ?_
  change 128 * (t.val / 128) + t.val % 128 = t.val; omega
omit hf in
theorem chunk_bwd (t : Fin cfg0.N) : chunk (batch t) 1 (step t) = ⟨back t.val, back_lt t⟩ := rfl

theorem loadsF_isChunk (t : Fin cfg0.N) (h : Fin 8) (s : FVec Ideal S128x128 .f32) (S : Fin 128 → Fin 128 → ℝ)
    (hs : ∀ x e, s (ix2 x e) = ((S x e : ℝ) : EReal)) :
    (loadsF m c t h s).IsChunk (place 0) ((stream m c (batch t) 0 h).shift (64 * (step t).val)) S := by
  unfold loadsF
  refine loadsOf_isChunk hf (batch t) 0 h (step t) _ _ _ _ _ _ _ _ _ _ _ _ _ _ _ _ _ _ _ _ _ _ ?_ ?_ ?_ ?_ ?_ ?_ hs ?_ ?_
  · simp only [chunk_fwd]; exact blkF_q m c t
  · simp only [chunk_fwd]; exact blkF_k m c t
  · simp only [chunk_fwd]; exact blkF_v m c t
  · simp only [chunk_fwd]; exact blkF_kt m c t
  · simp only [chunk_fwd]; exact blkF_gs m c t
  · simp only [chunk_fwd]; exact blkF_aux m c t
  · intro i i'
    rw [place_zero, place_zero]; revert i i'; decide +kernel
  · intro i i'
    rw [place_zero, place_zero]; revert i i'; decide +kernel

theorem loadsB_isChunk (t : Fin cfg0.N) (h : Fin 8) (s : FVec Ideal S128x128 .f32) (S : Fin 128 → Fin 128 → ℝ)
    (hs : ∀ x e, s (ix2 x e) = ((S x e : ℝ) : EReal)) :
    (loadsB m c t h s).IsChunk (place 1) ((stream m c (batch t) 1 h).shift (64 * (step t).val)) S := by
  unfold loadsB
  refine loadsOf_isChunk hf (batch t) 1 h (step t) _ _ _ _ _ _ _ _ _ _ _ _ _ _ _ _ _ _ _ _ _ _ ?_ ?_ ?_ ?_ ?_ ?_ hs ?_ ?_
  · simp only [chunk_bwd]; exact blkB_q m c t
  · simp only [chunk_bwd]; exact blkB_k m c t
  · simp only [chunk_bwd]; exact blkB_v m c t
  · simp only [chunk_bwd]; exact blkB_kt m c t
  · simp only [chunk_bwd]; exact blkB_gs m c t
  · simp only [chunk_bwd]; exact blkB_aux m c t
  · intro i i'
    rw [place_one, place_one]; revert i i'; decide +kernel
  · intro i i'
    rw [place_one, place_one]; revert i i'; decide +kernel

end Cert.KernelIdeal.Own

end
-- ==== Proof.Steps.lean ====
/-
What a grid point leaves, at an index: its two output blocks and the carried state, unit by unit.
-/
module

public import proofs.«01_k».proof.Proof.Chunk

@[expose] public section

noncomputable section

namespace Cert.KernelIdeal.Own

open Cert.KernelIdeal Cert.KernelIdeal.Gen Cert.Delta
open Idealize.ShloMosaic Idealize.ShloMosaic.TcCoe Idealize.ShloMosaic.Tactic

/-- Every index of a rectangle has its coordinates. -/
theorem exists_ix2 {a b : ℕ} (x : (⟨2, ![a, b]⟩ : Shape).Idx) : ∃ (i : Fin a) (j : Fin b), x = ix2 i j :=
  ⟨x 0, x 1, by funext k; match k with | ⟨0, _⟩ => rfl | ⟨1, _⟩ => rfl⟩
theorem exists_ix3 {a b d : ℕ} (x : (⟨3, ![a, b, d]⟩ : Shape).Idx) : ∃ (i : Fin a) (j : Fin b) (k : Fin d), x = ix3 i j k :=
  ⟨x 0, x 1, x 2, by funext k; match k with | ⟨0, _⟩ => rfl | ⟨1, _⟩ => rfl | ⟨2, _⟩ => rfl⟩

/-- An output block read after the stores of its eight units. -/
theorem outPieces_read (v : View sig .tc .vmem S64x1024 .bf16) (f : v.ty.Contents (Elt Ideal)) (u : Fin 8 → Loads Ideal) (i : Fin 64)
    (h : Fin 8) (e : Fin 128) :
    v.read (Elt Ideal) (v.writes (Elt Ideal) f (outPieces u)) (ix2 i ⟨128 * h.val + e.val, by omega⟩) = (u h).out (ix2 i e) := by
  let G : S64x1024.Idx → EReal := fun y => (u ⟨(y 1).val / 128, by have := (y 1).isLt; change _ < 1024 at this; omega⟩).out
    (ix2 (y 0) ⟨(y 1).val % 128, by omega⟩)
  refine (View.read_writes_apply_of_pieces (Val := Elt Ideal) v f G (outPieces u) ?_ _ ?_).trans ?_
  · intro p hp x
    obtain ⟨h', -, rfl⟩ := List.mem_map.mp hp
    obtain ⟨i', e', rfl⟩ := exists_ix2 x
    change (u h').out (ix2 i' e') = (u _).out (ix2 _ _)
    have e0 : ((Rect.unit (s := S64x1024) ![0, 128 * h'.val] S64x128.size (inbH h')).emb (ix2 i' e') 0).val = i'.val := by
      change 0 + 1 * i'.val = _; omega
    have e1 : ((Rect.unit (s := S64x1024) ![0, 128 * h'.val] S64x128.size (inbH h')).emb (ix2 i' e') 1).val = 128 * h'.val + e'.val := by
      change 128 * h'.val + 1 * e'.val = _; omega
    congr 2
    · exact Fin.ext (by change h'.val = _ / 128; rw [e1]; omega)
    · exact Fin.ext e0.symm
    · exact Fin.ext (by change e'.val = _ % 128; rw [e1]; omega)
  · refine ⟨_, List.mem_map.mpr ⟨h, by simp, rfl⟩, ?_⟩
    refine (Rect.mem_set_unit (inb := inbH h)).mpr fun a => ?_
    match a with
    | ⟨0, _⟩ => exact ⟨Nat.zero_le _, by change i.val < 0 + 64; omega⟩
    | ⟨1, _⟩ => exact ⟨Nat.le_add_right _ _, Nat.add_lt_add_left e.isLt _⟩
  · change (u _).out (ix2 _ _) = _
    congr 2
    · exact Fin.ext (by change (128 * h.val + e.val) / 128 = _; omega)
    · exact Fin.ext (by change (128 * h.val + e.val) % 128 = _; omega)

theorem next_congr (u : Fin 2 → Fin 8 → Loads Ideal) {d d' : Fin 2} {h h' : Fin 8} {x x' e e' : Fin 128} (h1 : d = d') (h2 : h = h')
    (h3 : x = x') (h4 : e = e') : (u d h).next (ix2 x e) = (u d' h').next (ix2 x' e') := by
  rw [h1, h2, h3, h4]

/-- The carried state read after the stores of the sixteen units, over any stores before them: the forward slices, then the backward. -/
theorem statePieces_read (v : View sig .tc .vmem S16x128x128 .f32) (f : v.ty.Contents (Elt Ideal)) (uF uB : Fin 8 → Loads Ideal)
    (d : Fin 2) (h : Fin 8) (x e : Fin 128) :
    v.read (Elt Ideal) (v.writes (Elt Ideal) f (statePieces 1 uB ++ statePieces 0 uF)) (ix3 ⟨8 * d.val + h.val, by omega⟩ x e)
      = ((if d = 0 then uF else uB) h).next (ix2 x e) := by
  let u : Fin 2 → Fin 8 → Loads Ideal := fun d => if d = 0 then uF else uB
  let G : S16x128x128.Idx → EReal := fun y => (u ⟨(y 0).val / 8, by have := (y 0).isLt; change _ < 16 at this; omega⟩
    ⟨(y 0).val % 8, by omega⟩).next (ix2 (y 1) (y 2))
  have piece : ∀ d : Fin 2, ∀ p ∈ statePieces d (u d), ∀ y : p.1.shape.Idx, p.2 y = G (p.1.emb y) := by
    intro d p hp y
    obtain ⟨h', -, rfl⟩ := List.mem_map.mp hp
    obtain ⟨z, x', e', rfl⟩ := exists_ix3 y
    refine (ValueIdx.shapeCast_ab_1ab_apply (a := 128) (b := 128) (u d h').next _ z x' e').trans ?_
    have e0 : ((Rect.unit (s := S16x128x128) ![(⟨8 * d.val + h'.val, by omega⟩ : Fin 16).val, 0, 0] S1x128x128.size (inbS _)).emb (ix3 z x' e') 0).val
        = 8 * d.val + h'.val := by
      change 8 * d.val + h'.val + 1 * z.val = _; omega
    have e1 : ((Rect.unit (s := S16x128x128) ![(⟨8 * d.val + h'.val, by omega⟩ : Fin 16).val, 0, 0] S1x128x128.size (inbS _)).emb (ix3 z x' e') 1).val
        = x'.val := by
      change 0 + 1 * x'.val = _; omega
    have e2 : ((Rect.unit (s := S16x128x128) ![(⟨8 * d.val + h'.val, by omega⟩ : Fin 16).val, 0, 0] S1x128x128.size (inbS _)).emb (ix3 z x' e') 2).val
        = e'.val := by
      change 0 + 1 * e'.val = _; omega
    refine next_congr u (Fin.ext ?_) (Fin.ext ?_) (Fin.ext e1.symm) (Fin.ext e2.symm)
    · change d.val = _ / 8; rw [e0]; omega
    · change h'.val = _ % 8; rw [e0]; omega
  refine (View.read_writes_apply_of_pieces (Val := Elt Ideal) v f G (statePieces 1 (u 1) ++ statePieces 0 (u 0)) ?_ _ ?_).trans ?_
  · intro p hp
    rcases List.mem_append.mp hp with hp | hp
    · exact piece 1 p hp
    · exact piece 0 p hp
  · have : ∃ p ∈ statePieces d (u d), ix3 ⟨8 * d.val + h.val, by omega⟩ x e ∈ p.1.set := by
      refine ⟨_, List.mem_map.mpr ⟨h, by simp, rfl⟩, ?_⟩
      refine (Rect.mem_set_unit (inb := inbS _)).mpr fun a => ?_
      match a with
      | ⟨0, _⟩ => exact ⟨le_rfl, Nat.lt_succ_self _⟩
      | ⟨1, _⟩ => exact ⟨Nat.zero_le _, by change x.val < 0 + 128; omega⟩
      | ⟨2, _⟩ => exact ⟨Nat.zero_le _, by change e.val < 0 + 128; omega⟩
    obtain ⟨p, hp, hy⟩ := this
    refine ⟨p, List.mem_append.mpr ?_, hy⟩
    obtain rfl | rfl : d = 0 ∨ d = 1 := by omega
    · exact Or.inr hp
    · exact Or.inl hp
  · refine next_congr u (d' := d) (h' := h) (Fin.ext ?_) (Fin.ext ?_) rfl rfl
    · change (8 * d.val + h.val) / 8 = _; omega
    · change (8 * d.val + h.val) % 8 = _; omega

/-- The same over the stores `Z` that came first. -/
theorem statePieces_read_over (v : View sig .tc .vmem S16x128x128 .f32) (f : v.ty.Contents (Elt Ideal)) (uF uB : Fin 8 → Loads Ideal)
    (Z : List (View.Piece (Elt Ideal) S16x128x128 .f32)) (d : Fin 2) (h : Fin 8) (x e : Fin 128) :
    v.read (Elt Ideal) (v.writes (Elt Ideal) f (statePieces 1 uB ++ (statePieces 0 uF ++ Z))) (ix3 ⟨8 * d.val + h.val, by omega⟩ x e)
      = ((if d = 0 then uF else uB) h).next (ix2 x e) := by
  rw [← List.append_assoc, View.writes_append]
  exact statePieces_read v _ uF uB d h x e

/-- A slice of the state loaded from the scratch; and after the reset. -/
theorem stateOf_apply (s : Vec Ideal S16x128x128 .f32) (n : Fin 16) (x e : Fin 128) : stateOf s n (ix2 x e) = s (ix3 n x e) := by
  refine (ValueIdx.shapeCast_1ab_ab_apply (a := 128) (b := 128) _ _ x e).trans ?_
  refine (Memref.IsWhole.readAt_unread (Memref.isWhole_whole _ : scM0_0.IsWhole) _ _ _).trans (congrArg s (funext fun a => Fin.ext ?_))
  match a with
  | ⟨0, _⟩ => rfl
  | ⟨1, _⟩ => exact (Nat.zero_add _).trans (Nat.one_mul _)
  | ⟨2, _⟩ => exact (Nat.zero_add _).trans (Nat.one_mul _)

theorem stateZ_apply (n : Fin 16) (x e : Fin 128) : stateZ (F := Ideal) n (ix2 x e) = (0 : EReal) := by
  refine (ValueIdx.shapeCast_1ab_ab_apply (a := 128) (b := 128) _ _ x e).trans ?_
  unfold View.readCov
  rw [View.readAt_apply]
  refine View.read_writes_apply_of_pieces (Val := Elt Ideal) scM0_0.view _ (fun _ => (0 : EReal)) zeroPieces ?_ _ ?_
  · intro p hp y
    obtain rfl := List.mem_singleton.mp hp
    exact Ideal.ofBits_zero_f32
  · refine ⟨_, List.mem_singleton.mpr rfl, (Rect.mem_set_unit (inb := inb_S16x128x128_S16x128x128_0_0_0)).mpr fun a => ⟨?_, ?_⟩⟩
    · match a with
      | ⟨0, _⟩ => exact Nat.zero_le _
      | ⟨1, _⟩ => exact Nat.zero_le _
      | ⟨2, _⟩ => exact Nat.zero_le _
    · match a with
      | ⟨0, _⟩ => exact lt_of_lt_of_eq (Fin.isLt _) (Nat.zero_add _).symm
      | ⟨1, _⟩ => exact lt_of_lt_of_eq (Fin.isLt _) (Nat.zero_add _).symm
      | ⟨2, _⟩ => exact lt_of_lt_of_eq (Fin.isLt _) (Nat.zero_add _).symm

variable (m : (ℓ : Loc nD τ sig) → Buf (Elt Ideal) ℓ) (c : Dev nD)

/-- The state slices that point `t` starts from: the reset ones at the start of a batch, the carried ones otherwise. -/
def start (t : Fin cfg0.N) (s : Vec Ideal S16x128x128 .f32) (n : Fin 16) : FVec Ideal S128x128 .f32 :=
  if t.val % 128 = 0 then stateZ n else stateOf s n

/-- The loads of the two units of a head at a point. -/
def unitF (t : Fin cfg0.N) (s : Vec Ideal S16x128x128 .f32) (h : Fin 8) : Loads Ideal := loadsF m c t h (start t s ⟨h.val, by omega⟩)
def unitB (t : Fin cfg0.N) (s : Vec Ideal S16x128x128 .f32) (h : Fin 8) : Loads Ideal := loadsB m c t h (start t s ⟨8 + h.val, by omega⟩)

theorem stepAt_fwd (t : Fin cfg0.N) (s : Vec Ideal S16x128x128 .f32) (i : Fin 64) (h : Fin 8) (e : Fin 128) :
    (stepAt m c t s).1 (ix2 i ⟨128 * h.val + e.val, by omega⟩) = (unitF m c t s h).out (ix2 i e) := by
  unfold unitF start
  by_cases h0 : t.val % 128 = 0
  · rw [if_pos h0]
    refine (congrFun (congrArg Prod.fst (dif_pos h0)) _).trans ?_
    refine (congrFun (congrArg (fun L => VO0_12.read (Elt Ideal) (VO0_12.writes (Elt Ideal) VO0_12.junk L)) (runA_fwd m c t h0)) _).trans ?_
    exact outPieces_read _ _ _ i h e
  · rw [if_neg h0]
    refine (congrFun (congrArg Prod.fst (dif_neg h0)) _).trans ?_
    refine (congrFun (congrArg (fun L => VO0_12.read (Elt Ideal) (VO0_12.writes (Elt Ideal) VO0_12.junk L)) (runB_fwd m c t h0 s)) _).trans ?_
    exact outPieces_read _ _ _ i h e

theorem stepAt_bwd (t : Fin cfg0.N) (s : Vec Ideal S16x128x128 .f32) (i : Fin 64) (h : Fin 8) (e : Fin 128) :
    (stepAt m c t s).2.1 (ix2 i ⟨128 * h.val + e.val, by omega⟩) = (unitB m c t s h).out (ix2 i e) := by
  unfold unitB start
  by_cases h0 : t.val % 128 = 0
  · rw [if_pos h0]
    refine (congrFun (congrArg (fun p : Vec Ideal S64x1024 .bf16 × Vec Ideal S64x1024 .bf16 × Vec Ideal S16x128x128 .f32 => p.2.1) (dif_pos h0)) _).trans ?_
    refine (congrFun (congrArg (fun L => VO0_13.read (Elt Ideal) (VO0_13.writes (Elt Ideal) VO0_13.junk L)) (runA_bwd m c t h0)) _).trans ?_
    exact outPieces_read _ _ _ i h e
  · rw [if_neg h0]
    refine (congrFun (congrArg (fun p : Vec Ideal S64x1024 .bf16 × Vec Ideal S64x1024 .bf16 × Vec Ideal S16x128x128 .f32 => p.2.1) (dif_neg h0)) _).trans ?_
    refine (congrFun (congrArg (fun L => VO0_13.read (Elt Ideal) (VO0_13.writes (Elt Ideal) VO0_13.junk L)) (runB_bwd m c t h0 s)) _).trans ?_
    exact outPieces_read _ _ _ i h e

/-- The state that a point leaves, in the two cases. -/
theorem stepAt_statePos (t : Fin cfg0.N) (s : Vec Ideal S16x128x128 .f32) (h0 : t.val % 128 = 0) :
    (stepAt m c t s).2.2 = VS0_0.read (Elt Ideal) (VS0_0.writes (Elt Ideal) VS0_0.junk (runA m c t h0).2.2.1) := by
  unfold stepAt
  split
  · rfl
  · contradiction
theorem stepAt_stateNeg (t : Fin cfg0.N) (s : Vec Ideal S16x128x128 .f32) (h0 : ¬t.val % 128 = 0) :
    (stepAt m c t s).2.2 = VS0_0.read (Elt Ideal) (VS0_0.writes (Elt Ideal) VS0_0.junk (runB m c t h0 s).2.2.1) := by
  unfold stepAt
  split
  · contradiction
  · rfl

theorem stepAt_state (t : Fin cfg0.N) (s : Vec Ideal S16x128x128 .f32) (d : Fin 2) (h : Fin 8) (x e : Fin 128) :
    (stepAt m c t s).2.2 (ix3 ⟨8 * d.val + h.val, by omega⟩ x e)
      = ((if d = 0 then unitF m c t s else unitB m c t s) h).next (ix2 x e) := by
  by_cases h0 : t.val % 128 = 0
  · have eF : unitF m c t s = fun h => loadsF m c t h (stateZ (⟨h.val, by omega⟩ : Fin 16)) := by
      funext h; unfold unitF start; rw [if_pos h0]
    have eB : unitB m c t s = fun h => loadsB m c t h (stateZ (⟨8 + h.val, by omega⟩ : Fin 16)) := by
      funext h; unfold unitB start; rw [if_pos h0]
    rw [eF, eB]
    refine (congrFun (stepAt_statePos m c t s h0) _).trans ?_
    refine (congrFun (congrArg (fun L => VS0_0.read (Elt Ideal) (VS0_0.writes (Elt Ideal) VS0_0.junk L)) (runA_state m c t h0)) _).trans ?_
    exact statePieces_read_over _ _ _ _ _ d h x e
  · have eF : unitF m c t s = fun h => loadsF m c t h (stateOf s (⟨h.val, by omega⟩ : Fin 16)) := by
      funext h; unfold unitF start; rw [if_neg h0]
    have eB : unitB m c t s = fun h => loadsB m c t h (stateOf s (⟨8 + h.val, by omega⟩ : Fin 16)) := by
      funext h; unfold unitB start; rw [if_neg h0]
    rw [eF, eB]
    refine (congrFun (stepAt_stateNeg m c t s h0) _).trans ?_
    refine (congrFun (congrArg (fun L => VS0_0.read (Elt Ideal) (VS0_0.writes (Elt Ideal) VS0_0.junk L)) (runB_state m c t h0 s)) _).trans ?_
    exact statePieces_read _ _ _ _ d h x e

end Cert.KernelIdeal.Own

end
-- ==== Proof.Fold.lean ====
/-
The carried state before every grid point and the blocks that it leaves, as the rule's states and outputs.
-/
module

public import proofs.«01_k».proof.Proof.Steps

@[expose] public section

noncomputable section

namespace Cert.KernelIdeal.Own

open Cert.KernelIdeal Cert.KernelIdeal.Gen Cert.Delta
open Idealize.ShloMosaic Idealize.ShloMosaic.TcCoe Idealize.ShloMosaic.Tactic

variable {m : (ℓ : Loc nD τ sig) → Buf (Elt Ideal) ℓ} {c : Dev nD} (hf : AllReal (aX m c) (aG m c) (aB m c))

/-- The rule's state of a stream at the start of a grid point. -/
def stateAt (m : (ℓ : Loc nD τ sig) → Buf (Elt Ideal) ℓ) (c : Dev nD) (t : Fin cfg0.N) (d : Fin 2) (h : Fin 8) : Fin 128 → Fin 128 → ℝ :=
  (stream m c (batch t) d h).stateFrom 0 (64 * (step t).val)

/-- The slices that a point starts from are the rule's states. -/
def Starts (m : (ℓ : Loc nD τ sig) → Buf (Elt Ideal) ℓ) (c : Dev nD) (t : Fin cfg0.N) : Prop :=
  ∀ (d : Fin 2) (h : Fin 8) (x e : Fin 128),
    start t (scratchAt m c t.val) ⟨8 * d.val + h.val, by omega⟩ (ix2 x e) = ((stateAt m c t d h x e : ℝ) : EReal)

include hf

theorem unitF_isChunk (t : Fin cfg0.N) (hs : Starts m c t) (h : Fin 8) :
    (unitF m c t (scratchAt m c t.val) h).IsChunk (place 0) ((stream m c (batch t) 0 h).shift (64 * (step t).val)) (stateAt m c t 0 h) :=
  loadsF_isChunk hf t h _ _ fun x e => by
    have eh : (⟨h.val, by omega⟩ : Fin 16) = ⟨8 * (0 : Fin 2).val + h.val, by change 8 * 0 + h.val < 16; omega⟩ :=
      Fin.ext (by change h.val = 8 * 0 + h.val; omega)
    rw [eh]
    exact hs 0 h x e

theorem unitB_isChunk (t : Fin cfg0.N) (hs : Starts m c t) (h : Fin 8) :
    (unitB m c t (scratchAt m c t.val) h).IsChunk (place 1) ((stream m c (batch t) 1 h).shift (64 * (step t).val)) (stateAt m c t 1 h) :=
  loadsB_isChunk hf t h _ _ fun x e => hs 1 h x e

theorem starts : ∀ (n : ℕ) (hn : n < cfg0.N), Starts m c ⟨n, hn⟩
  | 0, hn => fun d h x e => by
    have h0 : (⟨0, hn⟩ : Fin cfg0.N).val % 128 = 0 := rfl
    unfold start stateAt
    rw [if_pos h0, stateZ_apply]
    rfl
  | n + 1, hn => fun d h x e => by
    have hn' : n + 1 < 512 := hn
    by_cases h0 : (n + 1) % 128 = 0
    · unfold start stateAt
      rw [if_pos h0, stateZ_apply]
      have e0 : (step ⟨n + 1, hn⟩).val = 0 := h0
      rw [e0]
      rfl
    · have hs := starts n (by omega)
      unfold start
      rw [if_neg h0, stateOf_apply]
      let t : Fin cfg0.N := ⟨n, by omega⟩
      refine (congrFun (scratchAt_succ m c t) _).trans ((stepAt_state m c t _ d h x e).trans ?_)
      have hb : batch ⟨n + 1, hn⟩ = batch t := Fin.ext (by change (n + 1) / 128 = n / 128; omega)
      have hj : 64 * (step ⟨n + 1, hn⟩).val = 64 * (step t).val + 64 := by change 64 * ((n + 1) % 128) = 64 * (n % 128) + 64; omega
      unfold stateAt
      rw [hb, hj, Stream.stateFrom_add]
      obtain rfl | rfl : d = 0 ∨ d = 1 := by omega
      · exact (unitF_isChunk hf t hs h).next_apply x e
      · exact (unitB_isChunk hf t hs h).next_apply x e

/-- The forward block that a point leaves, and the backward one. -/
theorem after_12_apply (t : Fin cfg0.N) (i : Fin 64) (h : Fin 8) (e : Fin 128) :
    (dats m 0 c).after 12 t (ix2 i ⟨128 * h.val + e.val, by omega⟩)
      = (((stream m c (batch t) 0 h).outAt 0 (64 * (step t).val + (place 0 i).val) e : ℝ) : EReal) := by
  rw [after_12, Stream.outAt_add]
  exact (stepAt_fwd m c t _ i h e).trans ((unitF_isChunk hf t (starts hf t.val t.isLt) h).out_apply i e)

theorem after_13_apply (t : Fin cfg0.N) (i : Fin 64) (h : Fin 8) (e : Fin 128) :
    (dats m 0 c).after 13 t (ix2 i ⟨128 * h.val + e.val, by omega⟩)
      = (((stream m c (batch t) 1 h).outAt 0 (64 * (step t).val + (place 1 i).val) e : ℝ) : EReal) := by
  rw [after_13, Stream.outAt_add]
  exact (stepAt_bwd m c t _ i h e).trans ((unitB_isChunk hf t (starts hf t.val t.isLt) h).out_apply i e)

end Cert.KernelIdeal.Own

end
-- ==== Proof.Arrays.lean ====
/-
The two result arrays that the call leaves, as the rule's outputs.
-/
module

public import proofs.«01_k».proof.Proof.Fold
public import Idealize.ShloMosaic.Lib.Pipeline.ValueKit.Point

@[expose] public section

noncomputable section

namespace Cert.KernelIdeal.Own

open Cert.KernelIdeal Cert.KernelIdeal.Gen Cert.Delta
open Idealize.ShloMosaic Idealize.ShloMosaic.TcCoe Idealize.ShloMosaic.Tactic

variable {m : (ℓ : Loc nD τ sig) → Buf (Elt Ideal) ℓ} {c : Dev nD} (hf : AllReal (aX m c) (aG m c) (aB m c))

/-- Where the two result blocks of a point lie. -/
theorem emb_12 (t : Fin cfg0.N) (i : Fin 64) (z : Fin 1024) :
    (win0_12.blk t).view.emb (ix2 i z) = ix2 ⟨64 * t.val + i.val, by have := t.isLt; change _ < 512 at this; omega⟩ z := by
  blk_ext [iblk, idx t]

theorem emb_13 (t : Fin cfg0.N) (i : Fin 64) (z : Fin 1024) :
    (win0_13.blk t).view.emb (ix2 i z) = ix2 ⟨64 * back t.val + i.val, by have := back_lt t; omega⟩ z := by
  blk_ext [iblk, idx t]

/-- An entry of the result array, its column by head and lane. -/
theorem outArr_apply (X : SX.Idx → EReal) (G B : SG.Idx → EReal) (b : Fin 4) (d : Fin 2) (j : Fin 128) (i : Fin 64) (h : Fin 8) (e : Fin 128)
    (r : Fin 32768) (z : Fin 1024) (hr : r.val = 64 * (chunk b d j).val + i.val) (hz : z.val = 128 * h.val + e.val) :
    outArr X G B d (ix2 r z) = (((streamOf X G B b d h).outAt 0 (64 * j.val + (place d i).val) e : ℝ) : EReal) := by
  have hb := chunk_div b d j
  have ht := tok_place b d j i
  have e0 : (⟨r.val / 8192, by omega⟩ : Fin 4) = b := Fin.ext (by change r.val / 8192 = _; omega)
  have e1 : (⟨z.val / 128, by omega⟩ : Fin 8) = h := Fin.ext (by change z.val / 128 = _; omega)
  have e2 : (⟨z.val % 128, by omega⟩ : Fin 128) = e := Fin.ext (by change z.val % 128 = _; omega)
  have e3 : (tok d r.val).val = 64 * j.val + (place d i).val := by
    obtain rfl | rfl : d = 0 ∨ d = 1 := by omega
    · rw [place_zero] at ht ⊢
      rw [tok_zero _ (by omega)] at ht
      change r.val % 8192 = _
      change 64 * j.val + i.val = _ at ht
      omega
    · have hp := place_one i
      rw [tok_one _ (by omega)] at ht
      change 8191 - r.val % 8192 = _
      change 8191 - (64 * j.val + (place 1 i).val) = _ at ht
      omega
  change (((streamOf X G B ⟨r.val / 8192, _⟩ d ⟨z.val / 128, _⟩).outAt 0 (tok d r.val).val ⟨z.val % 128, _⟩ : ℝ) : EReal) = _
  rw [e0, e1, e2, e3]

/-- A column by head and lane. -/
theorem exists_lane (z : Fin 1024) : ∃ (h : Fin 8) (e : Fin 128), z = ⟨128 * h.val + e.val, by omega⟩ :=
  ⟨⟨z.val / 128, by omega⟩, ⟨z.val % 128, by omega⟩, Fin.ext (by change z.val = 128 * (z.val / 128) + z.val % 128; omega)⟩

include hf

theorem arr_12 : (dats m 0 c).arrAt 12 cfg0.N = outArr (aX m c) (aG m c) (aB m c) 0 := by
  refine (dats m 0 c).arrAt_eq_of_covers 12 _ (by decide +kernel) fun t hfl y => ?_
  blk_simp
  obtain ⟨i, z, rfl⟩ := exists_ix2 (a := 64) (b := 1024) y
  obtain ⟨h, e, rfl⟩ := exists_lane z
  refine (after_12_apply hf t i h e).trans (Eq.trans ?_ (congrArg (outArr (aX m c) (aG m c) (aB m c) 0) (emb_12 t i _)).symm)
  exact (outArr_apply _ _ _ (batch t) 0 (step t) i h e _ _ (by change 64 * t.val + i.val = 64 * (128 * (t.val / 128) + t.val % 128) + i.val; omega) rfl).symm

theorem arr_13 : (dats m 0 c).arrAt 13 cfg0.N = outArr (aX m c) (aG m c) (aB m c) 1 := by
  refine (dats m 0 c).arrAt_eq_of_covers 13 _ (by decide +kernel) fun t hfl y => ?_
  blk_simp
  obtain ⟨i, z, rfl⟩ := exists_ix2 (a := 64) (b := 1024) y
  obtain ⟨h, e, rfl⟩ := exists_lane z
  refine (after_13_apply hf t i h e).trans (Eq.trans ?_ (congrArg (outArr (aX m c) (aG m c) (aB m c) 1) (emb_13 t i _)).symm)
  exact (outArr_apply _ _ _ (batch t) 1 (step t) i h e _ _ rfl rfl).symm

end Cert.KernelIdeal.Own

end
-- ==== Proof.RefTrip.lean ====
/-
The reference's loop: one trip at an index, and the carried buffers after any number of trips.
-/
module

public import proofs.«01_k».proof.Proof.Gen.ReferenceIdeal.Run
public import proofs.«01_k».proof.Proof.Streams
public import proofs.«01_k».proof.Proof.UnitIdeal
public import Idealize.ShloMosaic.Lib.ValueLayout
public import Idealize.ShloMosaic.Lib.Pointwise
public import Idealize.ShloMosaic.Lib.DynamicIndex

@[expose] public section

noncomputable section

namespace Cert.ReferenceIdeal.Own

open Cert.ReferenceIdeal Cert.ReferenceIdeal.Gen Cert.ReferenceIdeal.Value Cert.Delta
open Idealize.ShloMosaic Idealize.ShloMosaic.TcCoe Idealize.ShloMosaic.Tactic Idealize.ShloMosaic.Pipeline Idealize.ShloMosaic.StableHlo

/-- The carried buffers. -/
def rQ (V : Valuation τ sig (Elt Ideal)) : Vec Ideal S8192x8x8x128 .f32 := V (Proc.devRef .tc main_v39_0)
def rK (V : Valuation τ sig (Elt Ideal)) : Vec Ideal S8192x8x8x128 .f32 := V (Proc.devRef .tc main_v39_1)
def rV (V : Valuation τ sig (Elt Ideal)) : Vec Ideal S8192x8x8x128 .f32 := V (Proc.devRef .tc main_v39_2)
def rG (V : Valuation τ sig (Elt Ideal)) : Vec Ideal S8192x8x8 .f32 := V (Proc.devRef .tc main_v39_3)
def rB (V : Valuation τ sig (Elt Ideal)) : Vec Ideal S8192x8x8 .f32 := V (Proc.devRef .tc main_v39_4)
def rC (V : Valuation τ sig (Elt Ideal)) : IVec S_ 32 := V (Proc.devRef .tc main_v39_5)
def rS (V : Valuation τ sig (Elt Ideal)) : Vec Ideal S8x8x128x128 .f32 := V (Proc.devRef .tc main_v39_6)
def rO (V : Valuation τ sig (Elt Ideal)) : Vec Ideal S8192x8x8x128 .f32 := V (Proc.devRef .tc main_v39_7)

/-- The row of a stacked array that a trip loads. -/
theorem row4 (A : Vec Ideal S8192x8x8x128 .f32) (C : IVec S_ 32) (n : ℕ) (hn : n < 8192) (hC : C = fun _ => BitVec.ofNat 32 n)
    (s h : Fin 8) (x : Fin 128) :
    shapeCast S8x8x128 (Host.dynamicSlice S1x8x8x128 A (fun k => (((![C, constantI S_ 32 0#32, constantI S_ 32 0#32, constantI S_ 32 0#32] : Fin 4 → IVec S_ 32)) k (Shape.Idx.first h_S_)).toInt) sliceFits_S8192x8x8x128_S1x8x8x128) shapeCasts_S1x8x8x128_S8x8x128 (ix3 s h x)
      = A (ix4 ⟨n, hn⟩ s h x) := by
  subst hC
  refine (ValueIdx.shapeCast_1abc_abc_apply (m := 8) (a := 8) (b := 128) _ _ s h x).trans ?_
  refine congrArg A (funext fun a => Fin.ext ?_)
  have hn' := toInt_ofNat_of_lt (k := n) (by omega)
  match a with
  | ⟨0, _⟩ => change (min (max (BitVec.ofNat 32 n).toInt 0) ((8192 - 1 : ℕ) : ℤ)).toNat + 0 = n; rw [hn']; omega
  | ⟨1, _⟩ => exact Nat.zero_add _
  | ⟨2, _⟩ => exact Nat.zero_add _
  | ⟨3, _⟩ => exact Nat.zero_add _

theorem row3 (A : Vec Ideal S8192x8x8 .f32) (C : IVec S_ 32) (n : ℕ) (hn : n < 8192) (hC : C = fun _ => BitVec.ofNat 32 n)
    (s h : Fin 8) :
    shapeCast S8x8 (Host.dynamicSlice S1x8x8 A (fun k => (((![C, constantI S_ 32 0#32, constantI S_ 32 0#32] : Fin 3 → IVec S_ 32)) k (Shape.Idx.first h_S_)).toInt) sliceFits_S8192x8x8_S1x8x8) shapeCasts_S1x8x8_S8x8 (ix2 s h)
      = A (ix3 ⟨n, hn⟩ s h) := by
  subst hC
  refine (ValueIdx.shapeCast_1ab_ab_apply (a := 8) (b := 8) _ _ s h).trans ?_
  refine congrArg A (funext fun a => Fin.ext ?_)
  have hn' := toInt_ofNat_of_lt (k := n) (by omega)
  match a with
  | ⟨0, _⟩ => change (min (max (BitVec.ofNat 32 n).toInt 0) ((8192 - 1 : ℕ) : ℤ)).toNat + 0 = n; rw [hn']; omega
  | ⟨1, _⟩ => exact Nat.zero_add _
  | ⟨2, _⟩ => exact Nat.zero_add _

/-- The contraction of a row of vectors with the states. -/
theorem dot_apply (a : FVec Ideal S8x8x128 .f32) (w : FVec Ideal S8x8x128x128 .f32) (s h : Fin 8) (e : Fin 128) :
    (Host.dotGeneral dot_S8x8x128_S8x8x128x128_S8x8x128_2_2_n_3_01_01 none a w : FVec Ideal S8x8x128 .f32) (ix3 s h e)
      = (∑ d : Fin 128, a (ix3 s h d) * w (ix4 s h d e) : EReal) := by
  pointwise

/-- The state decayed by a head's log decay. -/
theorem decay_apply (S : FVec Ideal S8x8x128x128 .f32) (G : FVec Ideal S8x8 .f32) (s h : Fin 8) (d e : Fin 128) :
    mulf S (broadcastInDim S8x8x128x128 ![0, 1, 2, 3] bcast_S8x8x1x1_S8x8x128x128_0_1_2_3 (broadcastInDim S8x8x1x1 ![0, 1] bcast_S8x8_S8x8x1x1_0_1 (Host.exp G))) (ix4 s h d e)
      = S (ix4 s h d e) * Ideal.exp (G (ix2 s h)) := by
  pointwise

/-- The state with the outer product of a key and the corrected value added. -/
theorem update_apply (S : FVec Ideal S8x8x128x128 .f32) (K W D : FVec Ideal S8x8x128 .f32) (B : FVec Ideal S8x8 .f32) (s h : Fin 8) (d e : Fin 128) :
    addf S (mulf (broadcastInDim S8x8x128x128 ![0, 1, 2, 3] bcast_S8x8x128x1_S8x8x128x128_0_1_2_3 (broadcastInDim S8x8x128x1 ![0, 1, 2] bcast_S8x8x128_S8x8x128x1_0_1_2 K)) (broadcastInDim S8x8x128x128 ![0, 1, 2, 3] bcast_S8x8x1x128_S8x8x128x128_0_1_2_3 (broadcastInDim S8x8x1x128 ![0, 1, 3] bcast_S8x8x128_S8x8x1x128_0_1_3 (mulf (broadcastInDim S8x8x128 ![0, 1, 2] bcast_S8x8x1_S8x8x128_0_1_2 (broadcastInDim S8x8x1 ![0, 1] bcast_S8x8_S8x8x1_0_1 B)) (subf W D))))) (ix4 s h d e)
      = S (ix4 s h d e) + K (ix3 s h d) * (B (ix2 s h) * (W (ix3 s h e) - D (ix3 s h e))) := by
  pointwise

/-- The outputs with one row written, in that row and in another. -/
theorem upd_in (O : FVec Ideal S8192x8x8x128 .f32) (U : FVec Ideal S8x8x128 .f32) (C : IVec S_ 32) (n : ℕ) (hn : n < 8192)
    (hC : C = fun _ => BitVec.ofNat 32 n) (s h : Fin 8) (e : Fin 128) :
    Host.dynamicUpdateSlice O (broadcastInDim S1x8x8x128 ![1, 2, 3] bcast_S8x8x128_S1x8x8x128_1_2_3 U) (fun k => (((![C, constantI S_ 32 0#32, constantI S_ 32 0#32, constantI S_ 32 0#32] : Fin 4 → IVec S_ 32)) k (Shape.Idx.first h_S_)).toInt) updateFits_S8192x8x8x128_S1x8x8x128 (ix4 ⟨n, hn⟩ s h e) = U (ix3 s h e) := by
  subst hC
  have hn' := toInt_ofNat_of_lt (k := n) (by omega)
  have hk : ∀ a : Fin 4, ((![(fun _ => BitVec.ofNat 32 n : IVec S_ 32), constantI S_ 32 0#32, constantI S_ 32 0#32, constantI S_ 32 0#32] : Fin 4 → IVec S_ 32) a
      (Shape.Idx.first h_S_)).toInt = ((![n, 0, 0, 0] : Fin 4 → ℕ) a : ℤ) := fun a => by
    match a with
    | ⟨0, _⟩ => exact hn'
    | ⟨1, _⟩ => rfl
    | ⟨2, _⟩ => rfl
    | ⟨3, _⟩ => rfl
  refine (Host.dynamicUpdateSlice_apply ..).trans ((dif_pos fun a => ?_).trans (congrArg U (funext fun a => Fin.ext ?_)))
  · rw [Host.clampedStart_of_le (s := S8192x8x8x128) (t := S1x8x8x128) _ _ a _ (hk a) (by
      match a with
      | ⟨0, _⟩ => change n + 1 ≤ 8192; omega
      | ⟨1, _⟩ => exact Nat.le_refl 8
      | ⟨2, _⟩ => exact Nat.le_refl 8
      | ⟨3, _⟩ => exact Nat.le_refl 128)]
    match a with
    | ⟨0, _⟩ => exact ⟨le_rfl, Nat.lt_succ_self n⟩
    | ⟨1, _⟩ => exact ⟨Nat.zero_le _, by change s.val < 0 + 8; omega⟩
    | ⟨2, _⟩ => exact ⟨Nat.zero_le _, by change h.val < 0 + 8; omega⟩
    | ⟨3, _⟩ => exact ⟨Nat.zero_le _, by change e.val < 0 + 128; omega⟩
  · match a with
    | ⟨0, _⟩ => exact Nat.sub_zero _
    | ⟨1, _⟩ => exact Nat.sub_zero _
    | ⟨2, _⟩ => exact Nat.sub_zero _

theorem upd_out (O : FVec Ideal S8192x8x8x128 .f32) (U : FVec Ideal S8x8x128 .f32) (C : IVec S_ 32) (n : ℕ) (hn : n < 8192)
    (hC : C = fun _ => BitVec.ofNat 32 n) (t : Fin 8192) (ht : t.val ≠ n) (s h : Fin 8) (e : Fin 128) :
    Host.dynamicUpdateSlice O (broadcastInDim S1x8x8x128 ![1, 2, 3] bcast_S8x8x128_S1x8x8x128_1_2_3 U) (fun k => (((![C, constantI S_ 32 0#32, constantI S_ 32 0#32, constantI S_ 32 0#32] : Fin 4 → IVec S_ 32)) k (Shape.Idx.first h_S_)).toInt) updateFits_S8192x8x8x128_S1x8x8x128 (ix4 t s h e) = O (ix4 t s h e) := by
  subst hC
  have hn' := toInt_ofNat_of_lt (k := n) (by omega)
  refine (Host.dynamicUpdateSlice_apply ..).trans (dif_neg fun hin => ht ?_)
  have h0 := hin 0
  rw [Host.clampedStart_of_le (s := S8192x8x8x128) (t := S1x8x8x128) _ _ 0 n hn' (by change n + 1 ≤ 8192; omega)] at h0
  change n ≤ t.val ∧ t.val < n + 1 at h0
  omega

/-- The decayed state, the new state and the new outputs of a trip. -/
def rD (V : Valuation τ sig (Elt Ideal)) : FVec Ideal S8x8x128x128 .f32 := res_main_while0b_v56 V
def rN (V : Valuation τ sig (Elt Ideal)) : FVec Ideal S8x8x128x128 .f32 := res_main_while0b_v67 V
def rP (V : Valuation τ sig (Elt Ideal)) : FVec Ideal S8192x8x8x128 .f32 := step_main_v39_7 V

variable (V : Valuation τ sig (Elt Ideal)) (n : ℕ) (hn : n < 8192) (hC : rC V = fun _ => BitVec.ofNat 32 n)

include hC

theorem v49_apply (s h : Fin 8) (x : Fin 128) : res_main_while0b_v49 V (ix3 s h x) = rK V (ix4 ⟨n, hn⟩ s h x) :=
  row4 (rK V) (rC V) n hn hC s h x

theorem rD_apply (s h : Fin 8) (d e : Fin 128) :
    rD V (ix4 s h d e) = rS V (ix4 s h d e) * Ideal.exp (rG V (ix3 ⟨n, hn⟩ s h)) :=
  (decay_apply (rS V) _ s h d e).trans (congrArg (fun z => rS V (ix4 s h d e) * Ideal.exp z) (row3 (rG V) (rC V) n hn hC s h))

theorem rN_apply (s h : Fin 8) (d e : Fin 128) :
    rN V (ix4 s h d e) = rD V (ix4 s h d e) + rK V (ix4 ⟨n, hn⟩ s h d)
      * (rB V (ix3 ⟨n, hn⟩ s h) * (rV V (ix4 ⟨n, hn⟩ s h e) - (∑ d' : Fin 128, rK V (ix4 ⟨n, hn⟩ s h d') * rD V (ix4 s h d' e) : EReal))) := by
  refine (update_apply (rD V) (res_main_while0b_v49 V) _ _ _ s h d e).trans ?_
  have hk := v49_apply V n hn hC s h
  have hb := row3 (rB V) (rC V) n hn hC s h
  have hv := row4 (rV V) (rC V) n hn hC s h e
  have hd := (dot_apply (res_main_while0b_v49 V) (rD V) s h e).trans (Finset.sum_congr rfl fun d' _ => congrArg (· * rD V (ix4 s h d' e)) (hk d'))
  exact congrArg₂ (fun x y : EReal => rD V (ix4 s h d e) + x * y) (hk d)
    (congrArg₂ (fun x y : EReal => x * y) hb (congrArg₂ (fun x y : EReal => x - y) hv hd))

/-- What a trip leaves in the row of the outputs that it writes, and in the others. -/
theorem rP_apply (s h : Fin 8) (e : Fin 128) :
    rP V (ix4 ⟨n, hn⟩ s h e) = (∑ d : Fin 128, rQ V (ix4 ⟨n, hn⟩ s h d) * rN V (ix4 s h d e) : EReal) := by
  refine Eq.trans (b := (Host.dotGeneral dot_S8x8x128_S8x8x128x128_S8x8x128_2_2_n_3_01_01 none _ (rN V) : FVec Ideal S8x8x128 .f32) (ix3 s h e)) ?_
    ((dot_apply _ (rN V) s h e).trans (Finset.sum_congr rfl fun d _ => congrArg (· * rN V (ix4 s h d e)) (row4 (rQ V) (rC V) n hn hC s h d)))
  exact upd_in (rO V) _ (rC V) n hn hC s h e

include hn in
theorem rP_other (t : Fin 8192) (ht : t.val ≠ n) (s h : Fin 8) (e : Fin 128) : rP V (ix4 t s h e) = rO V (ix4 t s h e) :=
  upd_out (rO V) _ (rC V) n hn hC t ht s h e

end Cert.ReferenceIdeal.Own

end
-- ==== Proof.RefFold.lean ====
/-
The reference's carried buffers after any number of trips: the rule's states and outputs.
-/
module

public import proofs.«01_k».proof.Proof.RefTrip

@[expose] public section

noncomputable section

namespace Cert.ReferenceIdeal.Own

open Cert.ReferenceIdeal Cert.ReferenceIdeal.Gen Cert.ReferenceIdeal.Value Cert.Delta
open Idealize.ShloMosaic Idealize.ShloMosaic.TcCoe Idealize.ShloMosaic.Tactic Idealize.ShloMosaic.Pipeline Idealize.ShloMosaic.StableHlo

/-- The carried buffers before trip `n`, for the streams `T` of the sequences and heads. -/
structure Carried (T : Fin 8 → Fin 8 → Stream) (n : ℕ) (V : Valuation τ sig (Elt Ideal)) : Prop where
  ctr : rC V = fun _ => BitVec.ofNat 32 n
  q : ∀ (t : Fin 8192) (s h : Fin 8) (x : Fin 128), rQ V (ix4 t s h x) = (((T s h).q t.val x : ℝ) : EReal)
  k : ∀ (t : Fin 8192) (s h : Fin 8) (x : Fin 128), rK V (ix4 t s h x) = (((T s h).k t.val x : ℝ) : EReal)
  v : ∀ (t : Fin 8192) (s h : Fin 8) (x : Fin 128), rV V (ix4 t s h x) = (((T s h).v t.val x : ℝ) : EReal)
  g : ∀ (t : Fin 8192) (s h : Fin 8), rG V (ix3 t s h) = (((T s h).g t.val : ℝ) : EReal)
  b : ∀ (t : Fin 8192) (s h : Fin 8), rB V (ix3 t s h) = (((T s h).b t.val : ℝ) : EReal)
  st : ∀ (s h : Fin 8) (d e : Fin 128), rS V (ix4 s h d e) = (((T s h).stateFrom 0 n d e : ℝ) : EReal)
  out : ∀ (t : Fin 8192), t.val < n → ∀ (s h : Fin 8) (e : Fin 128), rO V (ix4 t s h e) = (((T s h).outAt 0 t.val e : ℝ) : EReal)

variable {T : Fin 8 → Fin 8 → Stream} {n : ℕ} {V : Valuation τ sig (Elt Ideal)}

theorem Carried.new (hV : Carried T n V) (hn : n < 8192) (s h : Fin 8) (d e : Fin 128) :
    rN V (ix4 s h d e) = (((T s h).stateFrom 0 (n + 1) d e : ℝ) : EReal) := by
  have hD : ∀ d, rD V (ix4 s h d e) = (((T s h).stateFrom 0 n d e * Real.exp ((T s h).g n) : ℝ) : EReal) := fun d => by
    rw [rD_apply V n hn hV.ctr, hV.st, hV.g]
    exact (EReal.coe_mul _ _).symm
  rw [rN_apply V n hn hV.ctr, hV.b, hV.k, hV.v, hD]
  have hs : (∑ d' : Fin 128, rK V (ix4 ⟨n, hn⟩ s h d') * rD V (ix4 s h d' e) : EReal)
      = ((∑ d' : Fin 128, (T s h).k n d' * ((T s h).stateFrom 0 n d' e * Real.exp ((T s h).g n)) : ℝ) : EReal) := by
    rw [Cert.KernelIdeal.Own.coe_sum]
    refine Finset.sum_congr rfl fun d' _ => ?_
    rw [hV.k, hD]
    exact (EReal.coe_mul _ _).symm
  rw [hs, ← EReal.coe_sub, ← EReal.coe_mul, ← EReal.coe_mul, ← EReal.coe_add]
  rfl

theorem Carried.next (hV : Carried T n V) (hn : n < 8192) : Carried T (n + 1) (STEP V) where
  ctr := by
    refine (STEP_main_v39_5 V).trans (funext fun i => ?_)
    refine (congrArg (fun z => IntOp.addi z 1#32) (congrFun hV.ctr i)).trans ?_
    exact (BitVec.ofNat_add n 1).symm
  q t s h x := (congrFun (STEP_main_v39_0 V) _).trans (hV.q t s h x)
  k t s h x := (congrFun (STEP_main_v39_1 V) _).trans (hV.k t s h x)
  v t s h x := (congrFun (STEP_main_v39_2 V) _).trans (hV.v t s h x)
  g t s h := (congrFun (STEP_main_v39_3 V) _).trans (hV.g t s h)
  b t s h := (congrFun (STEP_main_v39_4 V) _).trans (hV.b t s h)
  st s h d e := (congrFun (STEP_main_v39_6 V) _).trans (hV.new hn s h d e)
  out t ht s h e := by
    refine (congrFun (STEP_main_v39_7 V) _).trans ?_
    by_cases e0 : t.val = n
    · obtain rfl : t = ⟨n, hn⟩ := Fin.ext e0
      refine (rP_apply V n hn hV.ctr s h e).trans ?_
      change _ = ((∑ d, (T s h).q n d * (T s h).stateFrom 0 (n + 1) d e : ℝ) : EReal)
      rw [Cert.KernelIdeal.Own.coe_sum]
      refine Finset.sum_congr rfl fun d _ => ?_
      rw [hV.q, hV.new hn]
      exact (EReal.coe_mul _ _).symm
    · exact (rP_other V n hn hV.ctr t e0 s h e).trans (hV.out t (by omega) s h e)

theorem Carried.iterate (hV : Carried T 0 V) : ∀ n, n ≤ 8192 → Carried T n (STEP^[n] V)
  | 0, _ => hV
  | n + 1, h => by
    rw [Function.iterate_succ_apply']
    exact (Carried.iterate hV n (by omega)).next (by omega)

end Cert.ReferenceIdeal.Own

end
-- ==== Proof.RefEntry.lean ====
/-
The reference's carried buffers at the loop's entry, at an index.
-/
module

public import proofs.«01_k».proof.Proof.RefFold
public import Idealize.ShloMosaic.Lib.StableHlo.ReadAt

@[expose] public section

noncomputable section

namespace Cert.ReferenceIdeal.Own

open Cert.ReferenceIdeal Cert.ReferenceIdeal.Gen Cert.ReferenceIdeal.Value Cert.Delta
open Idealize.ShloMosaic Idealize.ShloMosaic.TcCoe Idealize.ShloMosaic.Tactic Idealize.ShloMosaic.Pipeline Idealize.ShloMosaic.StableHlo

/-- The eight sequences by step, of an array by batch and token. -/
def seqs (x : FVec Ideal S4x8192x8x128 .f32) : FVec Ideal S8192x8x8x128 .f32 :=
  transpose S8192x8x8x128 [1, 0, 2, 3] (concatenate S8x8192x8x128 0 [⟨S4x8192x8x128, x⟩, ⟨S4x8192x8x128, Host.reverse [1] x⟩] concatenates_S4x8192x8x128_S4x8192x8x128_S8x8192x8x128_d0)
    transposes_S8x8192x8x128_S8192x8x8x128_1_0_2_3
def seqsG (x y : FVec Ideal S4x8192x8 .f32) : FVec Ideal S8192x8x8 .f32 :=
  transpose S8192x8x8 [1, 0, 2] (concatenate S8x8192x8 0 [⟨S4x8192x8, x⟩, ⟨S4x8192x8, Host.reverse [1] y⟩] concatenates_S4x8192x8_S4x8192x8_S8x8192x8_d0)
    transposes_S8x8192x8_S8192x8x8_1_0_2

theorem seqs_apply (x : FVec Ideal S4x8192x8x128 .f32) (t : Fin 8192) (d : Fin 2) (b : Fin 4) (h : Fin 8) (e : Fin 128) :
    seqs x (ix4 t ⟨4 * d.val + b.val, by omega⟩ h e) = x (ix4 b (tok d t.val) h e) := by
  unfold seqs
  obtain rfl | rfl : d = 0 ∨ d = 1 := by omega
  · rw [tok_zero _ t.isLt]
    pointwise
  · rw [tok_one _ t.isLt]
    pointwise
    refine congrArg (fun y => x (ix4 b y h e)) (Fin.ext ?_)
    change t.rev.val = 8191 - t.val
    rw [Fin.val_rev]; omega

theorem seqsG_apply (x y : FVec Ideal S4x8192x8 .f32) (t : Fin 8192) (d : Fin 2) (b : Fin 4) (h : Fin 8) :
    seqsG x y (ix3 t ⟨4 * d.val + b.val, by omega⟩ h) = (if d = 0 then x else y) (ix3 b (tok d t.val) h) := by
  unfold seqsG
  obtain rfl | rfl : d = 0 ∨ d = 1 := by omega
  · rw [tok_zero _ t.isLt, if_pos rfl]
    pointwise
  · rw [tok_one _ t.isLt, if_neg (by decide)]
    pointwise
    refine congrArg (fun z => y (ix3 b z h)) (Fin.ext ?_)
    change t.rev.val = 8191 - t.val
    rw [Fin.val_rev]; omega

/-- A third of the first argument's columns, by batch, token, head and lane. -/
theorem col_q (X : FVec Ideal S32768x3072 .bf16) (b : Fin 4) (t : Fin 8192) (h : Fin 8) (e : Fin 128) :
    (shapeCast S4x8192x8x128 (extractStridedSlice S4x8192x1x8x128 ![0, 0, 0, 0, 0] (shapeCast S4x8192x3x8x128 (extf .f32 X bitsLt_bf16_f32) shapeCasts_S32768x3072_S4x8192x3x8x128) slices_S4x8192x3x8x128_S4x8192x1x8x128_0_0_0_0_0)
      shapeCasts_S4x8192x1x8x128_S4x8192x8x128 : FVec Ideal S4x8192x8x128 .f32) (ix4 b t h e)
      = X (ix2 ⟨8192 * b.val + t.val, by omega⟩ ⟨128 * h.val + e.val, by omega⟩) := by
  pointwise
  refine congrArg₂ (fun x y => X (ix2 x y)) (Fin.ext ?_) (Fin.ext ?_)
  · change _ = 8192 * b.val + t.val; simp only []; omega
  · change _ = 128 * h.val + e.val; simp only []; omega

theorem col_k (X : FVec Ideal S32768x3072 .bf16) (b : Fin 4) (t : Fin 8192) (h : Fin 8) (e : Fin 128) :
    (shapeCast S4x8192x8x128 (extractStridedSlice S4x8192x1x8x128 ![0, 0, 1, 0, 0] (shapeCast S4x8192x3x8x128 (extf .f32 X bitsLt_bf16_f32) shapeCasts_S32768x3072_S4x8192x3x8x128) slices_S4x8192x3x8x128_S4x8192x1x8x128_0_0_1_0_0)
      shapeCasts_S4x8192x1x8x128_S4x8192x8x128 : FVec Ideal S4x8192x8x128 .f32) (ix4 b t h e)
      = X (ix2 ⟨8192 * b.val + t.val, by omega⟩ ⟨1024 + (128 * h.val + e.val), by omega⟩) := by
  pointwise
  refine congrArg₂ (fun x y => X (ix2 x y)) (Fin.ext ?_) (Fin.ext ?_)
  · change _ = 8192 * b.val + t.val; simp only []; omega
  · change _ = 1024 + (128 * h.val + e.val); simp only []; omega

theorem col_v (X : FVec Ideal S32768x3072 .bf16) (b : Fin 4) (t : Fin 8192) (h : Fin 8) (e : Fin 128) :
    (shapeCast S4x8192x8x128 (extractStridedSlice S4x8192x1x8x128 ![0, 0, 2, 0, 0] (shapeCast S4x8192x3x8x128 (extf .f32 X bitsLt_bf16_f32) shapeCasts_S32768x3072_S4x8192x3x8x128) slices_S4x8192x3x8x128_S4x8192x1x8x128_0_0_2_0_0)
      shapeCasts_S4x8192x1x8x128_S4x8192x8x128 : FVec Ideal S4x8192x8x128 .f32) (ix4 b t h e)
      = X (ix2 ⟨8192 * b.val + t.val, by omega⟩ ⟨2048 + (128 * h.val + e.val), by omega⟩) := by
  pointwise
  refine congrArg₂ (fun x y => X (ix2 x y)) (Fin.ext ?_) (Fin.ext ?_)
  · change _ = 8192 * b.val + t.val; simp only []; omega
  · change _ = 2048 + (128 * h.val + e.val); simp only []; omega

/-- One direction of the second or third argument. -/
theorem gcol_0 (G : FVec Ideal S4x8192x2x8 .f32) (b : Fin 4) (t : Fin 8192) (h : Fin 8) :
    (shapeCast S4x8192x8 (extractStridedSlice S4x8192x1x8 ![0, 0, 0, 0] G slices_S4x8192x2x8_S4x8192x1x8_0_0_0_0) shapeCasts_S4x8192x1x8_S4x8192x8
      : FVec Ideal S4x8192x8 .f32) (ix3 b t h) = G (ix4 b t 0 h) := by
  pointwise

theorem gcol_1 (G : FVec Ideal S4x8192x2x8 .f32) (b : Fin 4) (t : Fin 8192) (h : Fin 8) :
    (shapeCast S4x8192x8 (extractStridedSlice S4x8192x1x8 ![0, 0, 1, 0] G slices_S4x8192x2x8_S4x8192x1x8_0_0_1_0) shapeCasts_S4x8192x1x8_S4x8192x8
      : FVec Ideal S4x8192x8 .f32) (ix3 b t h) = G (ix4 b t 1 h) := by
  pointwise

variable (m : (ℓ : Loc nD τ sig) → Buf (Elt Ideal) ℓ) (c : Dev nD)

/-- The arguments. -/
def aX : FVec Ideal S32768x3072 .bf16 := m ((c.tc : Thread nD τ).loc main_arg0)
def aG : FVec Ideal S4x8192x2x8 .f32 := m ((c.tc : Thread nD τ).loc main_arg1)
def aB : FVec Ideal S4x8192x2x8 .f32 := m ((c.tc : Thread nD τ).loc main_arg2)

set_option maxHeartbeats 2000000 in
theorem entry_q : rQ (entryContents preI m c) = seqs (shapeCast S4x8192x8x128 (extractStridedSlice S4x8192x1x8x128 ![0, 0, 0, 0, 0] (shapeCast S4x8192x3x8x128 (extf .f32 (aX m c) bitsLt_bf16_f32) shapeCasts_S32768x3072_S4x8192x3x8x128) slices_S4x8192x3x8x128_S4x8192x1x8x128_0_0_0_0_0)
      shapeCasts_S4x8192x1x8x128_S4x8192x8x128) := by
  unfold rQ aX
  simp only [entryContents, afterL_cons, afterL_nil]
  after_reads_simp
  rfl

set_option maxHeartbeats 2000000 in
theorem entry_k : rK (entryContents preI m c) = seqs (shapeCast S4x8192x8x128 (extractStridedSlice S4x8192x1x8x128 ![0, 0, 1, 0, 0] (shapeCast S4x8192x3x8x128 (extf .f32 (aX m c) bitsLt_bf16_f32) shapeCasts_S32768x3072_S4x8192x3x8x128) slices_S4x8192x3x8x128_S4x8192x1x8x128_0_0_1_0_0)
      shapeCasts_S4x8192x1x8x128_S4x8192x8x128) := by
  unfold rK aX
  simp only [entryContents, afterL_cons, afterL_nil]
  after_reads_simp
  rfl

set_option maxHeartbeats 2000000 in
theorem entry_v : rV (entryContents preI m c) = seqs (shapeCast S4x8192x8x128 (extractStridedSlice S4x8192x1x8x128 ![0, 0, 2, 0, 0] (shapeCast S4x8192x3x8x128 (extf .f32 (aX m c) bitsLt_bf16_f32) shapeCasts_S32768x3072_S4x8192x3x8x128) slices_S4x8192x3x8x128_S4x8192x1x8x128_0_0_2_0_0)
      shapeCasts_S4x8192x1x8x128_S4x8192x8x128) := by
  unfold rV aX
  simp only [entryContents, afterL_cons, afterL_nil]
  after_reads_simp
  rfl

set_option maxHeartbeats 2000000 in
theorem entry_g : rG (entryContents preI m c) = seqsG (shapeCast S4x8192x8 (extractStridedSlice S4x8192x1x8 ![0, 0, 0, 0] (aG m c) slices_S4x8192x2x8_S4x8192x1x8_0_0_0_0) shapeCasts_S4x8192x1x8_S4x8192x8)
    (shapeCast S4x8192x8 (extractStridedSlice S4x8192x1x8 ![0, 0, 1, 0] (aG m c) slices_S4x8192x2x8_S4x8192x1x8_0_0_1_0) shapeCasts_S4x8192x1x8_S4x8192x8) := by
  unfold rG aG
  simp only [entryContents, afterL_cons, afterL_nil]
  after_reads_simp
  rfl

set_option maxHeartbeats 2000000 in
theorem entry_b : rB (entryContents preI m c) = seqsG (shapeCast S4x8192x8 (extractStridedSlice S4x8192x1x8 ![0, 0, 0, 0] (aB m c) slices_S4x8192x2x8_S4x8192x1x8_0_0_0_0) shapeCasts_S4x8192x1x8_S4x8192x8)
    (shapeCast S4x8192x8 (extractStridedSlice S4x8192x1x8 ![0, 0, 1, 0] (aB m c) slices_S4x8192x2x8_S4x8192x1x8_0_0_1_0) shapeCasts_S4x8192x1x8_S4x8192x8) := by
  unfold rB aB
  simp only [entryContents, afterL_cons, afterL_nil]
  after_reads_simp
  rfl

set_option maxHeartbeats 2000000 in
theorem entry_s (s h : Fin 8) (d e : Fin 128) : rS (entryContents preI m c) (ix4 s h d e) = (0 : EReal) := by
  have e0 : rS (entryContents preI m c) = broadcastInDim S8x8x128x128 ![] bcast_S_S8x8x128x128 (constant S_ .f32 0x00000000#32 : FVec Ideal S_ .f32) := by
    unfold rS
    simp only [entryContents, afterL_cons, afterL_nil]
    after_reads_simp
    rfl
  rw [e0]
  exact Ideal.ofBits_zero_f32

/-- The streams of the reference's sequences. -/
def streams (s h : Fin 8) : Stream := streamOf (aX m c) (aG m c) (aB m c) ⟨s.val % 4, by omega⟩ ⟨s.val / 4, by omega⟩ h

variable {m c} (hf : AllReal (aX m c) (aG m c) (aB m c))

theorem seq_split (s : Fin 8) : s = ⟨4 * (⟨s.val / 4, by omega⟩ : Fin 2).val + (⟨s.val % 4, by omega⟩ : Fin 4).val, by
    change 4 * (s.val / 4) + s.val % 4 < 8; omega⟩ := Fin.ext (by change s.val = 4 * (s.val / 4) + s.val % 4; omega)

include hf in
theorem entry_carried : Carried (streams m c) 0 (entryContents preI m c) where
  ctr := ctr_entry m c
  q t s h x := by
    rw [entry_q]
    conv_lhs => rw [seq_split s]
    exact (seqs_apply _ t _ _ h x).trans ((col_q _ _ _ h x).trans (hf.hX _ _))
  k t s h x := by
    rw [entry_k]
    conv_lhs => rw [seq_split s]
    exact (seqs_apply _ t _ _ h x).trans ((col_k _ _ _ h x).trans (hf.hX _ _))
  v t s h x := by
    rw [entry_v]
    conv_lhs => rw [seq_split s]
    exact (seqs_apply _ t _ _ h x).trans ((col_v _ _ _ h x).trans (hf.hX _ _))
  g t s h := by
    rw [entry_g]
    conv_lhs => rw [seq_split s]
    refine (seqsG_apply _ _ t _ _ h).trans (Eq.trans ?_ (hf.hG _ _ _ _))
    generalize (⟨s.val / 4, _⟩ : Fin 2) = d
    obtain rfl | rfl : d = 0 ∨ d = 1 := by omega
    · exact gcol_0 _ _ _ h
    · exact gcol_1 _ _ _ h
  b t s h := by
    rw [entry_b]
    conv_lhs => rw [seq_split s]
    refine (seqsG_apply _ _ t _ _ h).trans (Eq.trans ?_ (hf.hB _ _ _ _))
    generalize (⟨s.val / 4, _⟩ : Fin 2) = d
    obtain rfl | rfl : d = 0 ∨ d = 1 := by omega
    · exact gcol_0 _ _ _ h
    · exact gcol_1 _ _ _ h
  st s h d e := entry_s m c s h d e
  out t ht := absurd ht (Nat.not_lt_zero _)

end Cert.ReferenceIdeal.Own

end
-- ==== Proof.RefOut.lean ====
/-
The reference's two results, as the rule's outputs.
-/
module

public import proofs.«01_k».proof.Proof.RefEntry

@[expose] public section

noncomputable section

namespace Cert.ReferenceIdeal.Own

open Cert.ReferenceIdeal Cert.ReferenceIdeal.Gen Cert.ReferenceIdeal.Value Cert.Delta
open Idealize.ShloMosaic Idealize.ShloMosaic.TcCoe Idealize.ShloMosaic.Tactic Idealize.ShloMosaic.Pipeline Idealize.ShloMosaic.StableHlo

/-- The results read at a token, head and lane. -/
theorem out_fwd (O : FVec Ideal S8192x8x8x128 .f32) (b : Fin 4) (t : Fin 8192) (h : Fin 8) (e : Fin 128) :
    (truncf .bf16 (shapeCast S32768x1024 (extractStridedSlice S4x8192x8x128 ![0, 0, 0, 0] (transpose S8x8192x8x128 [1, 0, 2, 3] O transposes_S8192x8x8x128_S8x8192x8x128_1_0_2_3) slices_S8x8192x8x128_S4x8192x8x128_0_0_0_0) shapeCasts_S4x8192x8x128_S32768x1024) bitsLt_bf16_f32 : FVec Ideal S32768x1024 .bf16)
      (ix2 ⟨8192 * b.val + t.val, by omega⟩ ⟨128 * h.val + e.val, by omega⟩) = O (ix4 t ⟨b.val, by omega⟩ h e) := by
  pointwise

theorem out_bwd (O : FVec Ideal S8192x8x8x128 .f32) (b : Fin 4) (t : Fin 8192) (h : Fin 8) (e : Fin 128) :
    (truncf .bf16 (shapeCast S32768x1024 (Host.reverse [1] (extractStridedSlice S4x8192x8x128 ![4, 0, 0, 0] (transpose S8x8192x8x128 [1, 0, 2, 3] O transposes_S8192x8x8x128_S8x8192x8x128_1_0_2_3) slices_S8x8192x8x128_S4x8192x8x128_4_0_0_0)) shapeCasts_S4x8192x8x128_S32768x1024) bitsLt_bf16_f32 : FVec Ideal S32768x1024 .bf16)
      (ix2 ⟨8192 * b.val + t.val, by omega⟩ ⟨128 * h.val + e.val, by omega⟩) = O (ix4 t.rev ⟨4 + b.val, by omega⟩ h e) := by
  pointwise
  rfl

variable (m : (ℓ : Loc nD τ sig) → Buf (Elt Ideal) ℓ) (c : Dev nD)

/-- The buffers after the loop, and the results. -/
def last : Valuation τ sig (Elt Ideal) := STEP^[8192] (entryContents preI m c)

variable {m c} (hf : AllReal (aX m c) (aG m c) (aB m c))

/-- An index of the results by batch, token, head and lane. -/
theorem exists_cell (y : S32768x1024.Idx) : ∃ (b : Fin 4) (t : Fin 8192) (h : Fin 8) (e : Fin 128),
    y = ix2 ⟨8192 * b.val + t.val, by omega⟩ ⟨128 * h.val + e.val, by omega⟩ := by
  have h0 : (y 0).val < 32768 := (y 0).isLt
  have h1 : (y 1).val < 1024 := (y 1).isLt
  refine ⟨⟨(y 0).val / 8192, by omega⟩, ⟨(y 0).val % 8192, by omega⟩, ⟨(y 1).val / 128, by omega⟩, ⟨(y 1).val % 128, by omega⟩, ?_⟩
  funext a
  match a with
  | ⟨0, _⟩ => exact Fin.ext (by change (y 0).val = 8192 * ((y 0).val / 8192) + (y 0).val % 8192; omega)
  | ⟨1, _⟩ => exact Fin.ext (by change (y 1).val = 128 * ((y 1).val / 128) + (y 1).val % 128; omega)

theorem outArr_cell (X : SX.Idx → EReal) (G B : SG.Idx → EReal) (d : Fin 2) (b : Fin 4) (t : Fin 8192) (h : Fin 8) (e : Fin 128) :
    outArr X G B d (ix2 ⟨8192 * b.val + t.val, by omega⟩ ⟨128 * h.val + e.val, by omega⟩)
      = (((streamOf X G B b d h).outAt 0 (tok d t.val).val e : ℝ) : EReal) := by
  have e0 : (⟨(8192 * b.val + t.val) / 8192, by omega⟩ : Fin 4) = b := Fin.ext (by change (8192 * b.val + t.val) / 8192 = _; omega)
  have e1 : (⟨(128 * h.val + e.val) / 128, by omega⟩ : Fin 8) = h := Fin.ext (by change (128 * h.val + e.val) / 128 = _; omega)
  have e2 : (⟨(128 * h.val + e.val) % 128, by omega⟩ : Fin 128) = e := Fin.ext (by change (128 * h.val + e.val) % 128 = _; omega)
  have e3 : (8192 * b.val + t.val) % 8192 = t.val % 8192 := by omega
  have e4 : tok d (8192 * b.val + t.val) = tok d t.val := by unfold tok; simp only [e3]
  change (((streamOf X G B ⟨(8192 * b.val + t.val) / 8192, _⟩ d ⟨(128 * h.val + e.val) / 128, _⟩).outAt 0 (tok d (8192 * b.val + t.val)).val
    ⟨(128 * h.val + e.val) % 128, _⟩ : ℝ) : EReal) = _
  rw [e0, e1, e2, e4]

include hf

theorem last_apply (t : Fin 8192) (d : Fin 2) (b : Fin 4) (h : Fin 8) (e : Fin 128) :
    rO (last m c) (ix4 t ⟨4 * d.val + b.val, by omega⟩ h e) = (((streamOf (aX m c) (aG m c) (aB m c) b d h).outAt 0 t.val e : ℝ) : EReal) := by
  refine (((entry_carried hf).iterate 8192 le_rfl).out t t.isLt _ h e).trans ?_
  have e0 : (⟨(4 * d.val + b.val) % 4, by omega⟩ : Fin 4) = b := Fin.ext (by change (4 * d.val + b.val) % 4 = _; omega)
  have e1 : (⟨(4 * d.val + b.val) / 4, by omega⟩ : Fin 2) = d := Fin.ext (by change (4 * d.val + b.val) / 4 = _; omega)
  change (((streamOf (aX m c) (aG m c) (aB m c) ⟨(4 * d.val + b.val) % 4, _⟩ ⟨(4 * d.val + b.val) / 4, _⟩ h).outAt 0 t.val e : ℝ) : EReal) = _
  rw [e0, e1]

theorem out_main_v43_eq : out_main_v43 (last m c) = outArr (aX m c) (aG m c) (aB m c) 0 := by
  funext y
  obtain ⟨b, t, h, e, rfl⟩ := exists_cell y
  rw [outArr_cell, tok_zero _ t.isLt]
  refine (out_fwd (rO (last m c)) b t h e).trans (Eq.trans ?_ (last_apply hf t 0 b h e))
  exact congrArg (fun s => rO (last m c) (ix4 t s h e)) (Fin.ext (by change b.val = 4 * 0 + b.val; omega))

theorem out_main_v47_eq : out_main_v47 (last m c) = outArr (aX m c) (aG m c) (aB m c) 1 := by
  funext y
  obtain ⟨b, t, h, e, rfl⟩ := exists_cell y
  rw [outArr_cell, tok_one _ t.isLt]
  refine (out_bwd (rO (last m c)) b t h e).trans ((last_apply hf t.rev 1 b h e).trans ?_)
  have e0 : t.rev.val = 8191 - t.val := by rw [Fin.val_rev]; omega
  rw [e0]

end Cert.ReferenceIdeal.Own

end
-- ==== Proof.Final.lean ====
/-
The reference's frame, and the two programs' results set side by side.
-/
module

public import proofs.«01_k».proof.Defs
public import proofs.«01_k».proof.Proof.Precond
public import proofs.«01_k».proof.Proof.Arrays
public import proofs.«01_k».proof.Proof.RefOut

@[expose] public section

noncomputable section

open Idealize.ShloMosaic Idealize.SL.Sem

namespace Cert.ReferenceIdeal.Own

open Cert.ReferenceIdeal Cert.ReferenceIdeal.Gen Cert.ReferenceIdeal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, no_sem r.2.sem⟩) (Value.run m ρ)

end Cert.ReferenceIdeal.Own

namespace Cert.Proof

open Cert.Delta

theorem algebraic : @algebraic_KernelIdeal_ReferenceIdeal_pre_finite Cert.KernelIdeal.Gen.facts Cert.ReferenceIdeal.Gen.facts Cert.Pre_finite.Gen.facts := by
  intro m g m' g' hpre hagree
  have hK : ∀ c, AllReal (Cert.KernelIdeal.Own.aX m c) (Cert.KernelIdeal.Own.aG m c) (Cert.KernelIdeal.Own.aB m c) := fun c =>
    Cert.Pre_finite.Own.allReal _ _ _ (hpre c)
  have hR : ∀ c, Cert.ReferenceIdeal.Own.aX m' c = Cert.KernelIdeal.Own.aX m c ∧ Cert.ReferenceIdeal.Own.aG m' c = Cert.KernelIdeal.Own.aG m c
      ∧ Cert.ReferenceIdeal.Own.aB m' c = Cert.KernelIdeal.Own.aB m c := fun c => hagree c
  refine ⟨fun c => outArr (Cert.KernelIdeal.Own.aX m c) (Cert.KernelIdeal.Own.aG m c) (Cert.KernelIdeal.Own.aB m c) 0,
    fun c => outArr (Cert.KernelIdeal.Own.aX m c) (Cert.KernelIdeal.Own.aG m c) (Cert.KernelIdeal.Own.aB m c) 1, ?_, ?_⟩
  · refine (θ_run _ _ _).mono (fun r h c => ?_) (Cert.KernelIdeal.Own.run_blocks m g)
    obtain ⟨h0, h1, h2⟩ := h c
    exact ⟨h0.trans (Cert.KernelIdeal.Own.arr_12 (hK c)), h1.trans (Cert.KernelIdeal.Own.arr_13 (hK c)), h2⟩
  · refine (θ_run _ _ _).mono (fun r h c => ?_) (Cert.ReferenceIdeal.Value.run m' g')
    obtain ⟨h0, h1, h2⟩ := h c
    obtain ⟨eX, eG, eB⟩ := hR c
    have hf : AllReal (Cert.ReferenceIdeal.Own.aX m' c) (Cert.ReferenceIdeal.Own.aG m' c) (Cert.ReferenceIdeal.Own.aB m' c) := by
      rw [eX, eG, eB]; exact hK c
    have e0 := Cert.ReferenceIdeal.Own.out_main_v43_eq hf
    have e1 := Cert.ReferenceIdeal.Own.out_main_v47_eq hf
    rw [eX, eG, eB] at e0 e1
    exact ⟨h0.trans e0, h1.trans e1, h2⟩

end Cert.Proof

end
-- ==== Proof.Rows.lean ====
/-
The norm of a row and its shift and scale, over the extended reals: what the layer's projections are applied to.
-/
module

public import Idealize.ShloMosaic.Lib.Pipeline.ValueKit.Point

@[expose] public section

noncomputable section

namespace Cert.Rows

open Idealize.ShloMosaic

/-- A row `x` over the root of its mean square (the sum over `d`, plus the small constant), times the weights `g`. -/
def norm {n : ℕ} (d : EReal) (x g : Fin n → EReal) (k : Fin n) : EReal :=
  x k * Ideal.rsqrt (Ideal.div (∑ j, x j * x j) d + Ideal.ofBits .f32 0x358637BD#32) * g k

/-- A row scaled by `1 + sc` and shifted by `sh`. -/
def adapt {n : ℕ} (y sc sh : Fin n → EReal) (k : Fin n) : EReal := y k * (1 + sc k) + sh k

/-- The number of columns, 1024, and the width of a head, 128, as the float words of the two programs have them. -/
def width : EReal := Ideal.ofBits .f32 0x44800000#32
def headWidth : EReal := Ideal.ofBits .f32 0x43000000#32

/-- A row times a column. -/
def dot {n : ℕ} (x y : Fin n → EReal) : EReal := ∑ k, x k * y k

theorem dot_zero {n : ℕ} (x : Fin n → EReal) : dot x (fun _ => 0) = 0 := by
  unfold dot; simp only [mul_zero, Finset.sum_const_zero]

/-- An index of two coordinates. -/
theorem exists_ix2 {a b : ℕ} (y : (⟨2, ![a, b]⟩ : Shape).Idx) : ∃ (i : Fin a) (j : Fin b), y = ix2 i j :=
  ⟨y 0, y 1, funext fun c => match c with | ⟨0, _⟩ => rfl | ⟨1, _⟩ => rfl⟩

/-- An index of three coordinates. -/
theorem exists_ix3 {a b c : ℕ} (y : (⟨3, ![a, b, c]⟩ : Shape).Idx) : ∃ (i : Fin a) (j : Fin b) (k : Fin c), y = ix3 i j k :=
  ⟨y 0, y 1, y 2, funext fun c => match c with | ⟨0, _⟩ => rfl | ⟨1, _⟩ => rfl | ⟨2, _⟩ => rfl⟩

end Cert.Rows

end
-- ==== Proof.InBody.lean ====
/-
What the input projection's body writes: its row of the norm, scaled and shifted, times the columns of the two weight arrays.
-/
module

public import proofs.«01_k».proof.Proof.Gen.Kernel2Ideal.Frame
public import proofs.«01_k».proof.Proof.Rows
public import Idealize.ShloMosaic.Lib.StableHlo.ReadAt

@[expose] public section

noncomputable section

namespace Cert.Kernel2Ideal.Own

open Cert.Kernel2Ideal Cert.Kernel2Ideal.Gen Cert.Rows
open Idealize.ShloMosaic Idealize.ShloMosaic.TcCoe Idealize.ShloMosaic.Tactic

/-- The row that is projected. -/
theorem row_apply (x : FVec Ideal S512x1024 .f32) (g : FVec Ideal S1x1024 .f32) (sc sh : FVec Ideal S1x1x1024 .f32) (i : Fin 512) (k : Fin 1024) :
    k0_pay4 (F := Ideal) x g sc sh (ix2 i k)
      = adapt (norm width (fun k => x (ix2 i k)) fun k => g (ix2 0 k)) (fun k => sc (ix3 0 0 k)) (fun k => sh (ix3 0 0 k)) k := by
  unfold k0_pay4
  simp only [pointwise]
  rfl

/-- A product with a block of weights. -/
theorem product_apply (h : FVec Ideal S512x1024 .bf16) (w : FVec Ideal S1024x1024 .bf16) (i : Fin 512) (z : Fin 1024) :
    k0_pay1 (F := Ideal) h w (ix2 i z) = dot (fun k => h (ix2 i k)) (fun k => w (ix2 k z)) := by
  unfold k0_pay1
  simp only [pointwise]
  exact zero_add _

theorem lanes_apply (x : FVec Ideal S512x1024 .f32) (g : FVec Ideal S1x1024 .f32) (sc sh : FVec Ideal S1x1x1024 .f32)
    (w : FVec Ideal S1024x128 .bf16) (i : Fin 512) (z : Fin 128) :
    k0_pay5 (F := Ideal) x g sc sh w (ix2 i z) = dot (fun k => k0_pay4 (F := Ideal) x g sc sh (ix2 i k)) (fun k => w (ix2 k z)) := by
  unfold k0_pay5
  simp only [pointwise]
  exact zero_add _

/-- The projected row, from the blocks staged. -/
def rowOf (x0 : FVec Ideal S512x1024 .f32) (x1 : FVec Ideal S1x8x1024 .f32) (x2 : FVec Ideal S1x1024 .f32) (i : Fin 512) : Fin 1024 → EReal :=
  adapt (norm width (fun k => x0 (ix2 i k)) fun k => x2 (ix2 0 k)) (fun k => x1 (ix3 0 1 k)) (fun k => x1 (ix3 0 0 k))

theorem pay4_blocks (x0 : FVec Ideal S512x1024 .f32) (x1 : FVec Ideal S1x8x1024 .f32) (x2 : FVec Ideal S1x1024 .f32) (i : Fin 512) (k : Fin 1024) :
    k0_pay4 (F := Ideal) (View.ld x0 r0_0) (View.ld x2 r0_1) (View.ld x1 r0_2) (View.ld x1 r0_3) (ix2 i k) = rowOf x0 x1 x2 i k := by
  refine (row_apply _ _ _ _ i k).trans ?_
  unfold rowOf
  have e0 : ∀ k : Fin 1024, View.ld (Val := Elt Ideal) (e' := .f32) x0 r0_0 (ix2 i k) = x0 (ix2 i k) := fun k =>
    View.ld_unit_apply_of (Val := Elt Ideal) (e := .f32) x0 _ _ _ (ix2 i k) (ix2 i k) (by intro a; match a with | ⟨0, _⟩ => exact (Nat.zero_add _).symm | ⟨1, _⟩ => exact (Nat.zero_add _).symm)
  have e2 : ∀ k : Fin 1024, View.ld (Val := Elt Ideal) (e' := .f32) x2 r0_1 (ix2 0 k) = x2 (ix2 0 k) := fun k =>
    View.ld_unit_apply_of (Val := Elt Ideal) (e := .f32) x2 _ _ _ (ix2 0 k) (ix2 0 k) (by intro a; match a with | ⟨0, _⟩ => rfl | ⟨1, _⟩ => exact (Nat.zero_add _).symm)
  have e1 : ∀ k : Fin 1024, View.ld (Val := Elt Ideal) (e' := .f32) x1 r0_2 (ix3 0 0 k) = x1 (ix3 0 1 k) := fun k =>
    View.ld_unit_apply_of (Val := Elt Ideal) (e := .f32) x1 _ _ _ (ix3 0 0 k) (ix3 0 1 k) (by intro a; match a with | ⟨0, _⟩ => rfl | ⟨1, _⟩ => rfl | ⟨2, _⟩ => exact (Nat.zero_add _).symm)
  have e3 : ∀ k : Fin 1024, View.ld (Val := Elt Ideal) (e' := .f32) x1 r0_3 (ix3 0 0 k) = x1 (ix3 0 0 k) := fun k =>
    View.ld_unit_apply_of (Val := Elt Ideal) (e := .f32) x1 _ _ _ (ix3 0 0 k) (ix3 0 0 k) (by intro a; match a with | ⟨0, _⟩ => rfl | ⟨1, _⟩ => rfl | ⟨2, _⟩ => exact (Nat.zero_add _).symm)
  simp only [e0, e1, e2, e3]

/-- A stored block of 1024 columns: the products of the rows with those columns. -/
theorem tile (x0 : FVec Ideal S512x1024 .f32) (x1 : FVec Ideal S1x8x1024 .f32) (x2 : FVec Ideal S1x1024 .f32) (x3 : FVec Ideal S1024x9216 .bf16)
    (h : FVec Ideal S512x1024 .bf16) (hh : ∀ i k, h (ix2 i k) = rowOf x0 x1 x2 i k) (i : Fin 512) (z : Fin 9216) (o : ℕ)
    (inb : ∀ a, (![0, o] : Fin 2 → ℕ) a + S1024x1024.size a ≤ S1024x9216.size a) :
    View.TileAt (Val := Elt Ideal) (e := .bf16) (S := S512x9216) (ix2 i z) ![0, o] S512x1024.size
      (k0_pay1 (F := Ideal) h (View.ld x3 (Rect.unit (s := S1024x9216) ![0, o] S1024x1024.size inb)))
      (dot (rowOf x0 x1 x2 i) fun k => x3 (ix2 k z)) := by
  intro y hy
  obtain ⟨i', z', rfl⟩ := Cert.Rows.exists_ix2 (a := 512) (b := 1024) y
  have h0 : i.val = i'.val := (hy 0).trans (Nat.zero_add _)
  obtain rfl : i = i' := Fin.ext h0
  refine (product_apply h _ i z').trans ?_
  have e3 : ∀ k : Fin 1024, View.ld (Val := Elt Ideal) (e' := .bf16) x3 (Rect.unit (s := S1024x9216) ![0, o] S1024x1024.size inb) (ix2 k z') = x3 (ix2 k z) := fun k =>
    View.ld_unit_apply_of (Val := Elt Ideal) (e := .bf16) x3 _ _ _ (ix2 k z') (ix2 k z) (by intro a; match a with | ⟨0, _⟩ => exact (Nat.zero_add _).symm | ⟨1, _⟩ => exact hy 1)
  simp only [hh, e3]

/-- The block of the projection that a point writes. -/
theorem out_main (x0 : FVec Ideal S512x1024 .f32) (x1 : FVec Ideal S1x8x1024 .f32) (x2 : FVec Ideal S1x1024 .f32) (x3 : FVec Ideal S1024x9216 .bf16)
    (x4 : FVec Ideal S1024x128 .bf16) (i : Fin 512) (z : Fin 9216) :
    out0_5 (F := Ideal) x0 x1 x2 x3 x4 (ix2 i z) = dot (rowOf x0 x1 x2 i) fun k => x3 (ix2 k z) := by
  have hh := pay4_blocks x0 x1 x2
  unfold out0_5
  refine View.canon_eq_of_allAt _ _ _ (cover0_5 ..) ?_
  iterate 9 refine View.allAt_cons_unit _ _ _ _ _ (tile x0 x1 x2 x3 _ hh i z _ _) ?_
  exact View.allAt_nil _ _

/-- The block of the rates and decays that a point writes. -/
theorem out_lanes (x0 : FVec Ideal S512x1024 .f32) (x1 : FVec Ideal S1x8x1024 .f32) (x2 : FVec Ideal S1x1024 .f32) (x3 : FVec Ideal S1024x9216 .bf16)
    (x4 : FVec Ideal S1024x128 .bf16) (i : Fin 512) (z : Fin 128) :
    out0_6 (F := Ideal) x0 x1 x2 x3 x4 (ix2 i z) = dot (rowOf x0 x1 x2 i) fun k => x4 (ix2 k z) := by
  unfold out0_6
  refine View.canon_eq_of_allAt _ _ _ (cover0_6 ..) (View.allAt_cons_unit _ _ _ _ _ ?_ (View.allAt_nil _ _))
  intro y hy
  obtain ⟨i', z', rfl⟩ := Cert.Rows.exists_ix2 (a := 512) (b := 128) y
  obtain rfl : i = i' := Fin.ext ((hy 0).trans (Nat.zero_add _))
  obtain rfl : z = z' := Fin.ext ((hy 1).trans (Nat.zero_add _))
  refine (lanes_apply _ _ _ _ _ i z).trans ?_
  have e4 : ∀ k : Fin 1024, View.ld (Val := Elt Ideal) (e' := .bf16) x4 r0_4 (ix2 k z) = x4 (ix2 k z) := fun k =>
    View.ld_unit_apply_of (Val := Elt Ideal) (e := .bf16) x4 _ _ _ (ix2 k z) (ix2 k z) (by intro a; match a with | ⟨0, _⟩ => exact (Nat.zero_add _).symm | ⟨1, _⟩ => exact (Nat.zero_add _).symm)
  simp only [pay4_blocks, e4]

end Cert.Kernel2Ideal.Own

end
-- ==== Proof.InSpec.lean ====
/-
What the input projection computes: the rows of the norm, scaled and shifted by sequence, times the columns of the weights, in the
order in which the call returns them.
-/
module

public import proofs.«01_k».proof.Proof.Rows

@[expose] public section

noncomputable section

namespace Cert.InProj

open Idealize.ShloMosaic Cert.Rows

/-- The shapes of the arguments. -/
abbrev SX : Shape := ⟨3, ![4, 8192, 1024]⟩
abbrev SM : Shape := ⟨2, ![4, 6144]⟩
abbrev SG : Shape := ⟨1, ![1024]⟩
abbrev SW : Shape := ⟨2, ![1024, 9248]⟩

variable (X : SX.Idx → EReal) (M : SM.Idx → EReal) (G : SG.Idx → EReal) (W : SW.Idx → EReal)

/-- Row `r` of the batch: the norm of token `r % 8192` of sequence `r / 8192`, its shift and scale the first two of the sequence's six. -/
def row (r : Fin 32768) : Fin 1024 → EReal :=
  adapt (norm width (fun k => X (ix3 ⟨r.val / 8192, by omega⟩ ⟨r.val % 8192, by omega⟩ k)) fun k => G (ix1 k))
    (fun k => M (ix2 ⟨r.val / 8192, by omega⟩ ⟨1024 + k.val, by omega⟩)) (fun k => M (ix2 ⟨r.val / 8192, by omega⟩ ⟨k.val, by omega⟩))

/-- An entry of the projection: a row times a column of the weights. -/
def entry (r : Fin 32768) (z : Fin 9248) : EReal := dot (row X M G r) fun k => W (ix2 k z)

/-- The column of the weights that the call returns as its column `z`: q, k and v first, then the convolution's and the merge gates' columns, then the output gate's. -/
def src (z : Fin 9216) : Fin 9248 :=
  if z.val < 3072 then ⟨z.val, by omega⟩ else if h : z.val < 8192 then ⟨z.val + 1056, by omega⟩ else ⟨z.val - 5120, by omega⟩

/-- The column of the weights that lane `l` of a direction's half holds: decays, rates, and the decays three times more, by head; no column in the lanes that pad it. -/
def lane (l : Fin 128) : Option (Fin 9248) :=
  if l.val % 64 < 8 then some ⟨4112 + 8 * (l.val / 64) + l.val % 64, by omega⟩
  else if h : l.val % 64 < 16 then some ⟨4096 + 8 * (l.val / 64) + (l.val % 64 - 8), by omega⟩
  else if l.val % 64 < 40 then some ⟨4112 + 8 * (l.val / 64) + l.val % 8, by omega⟩
  else none

/-- A function of a column, zero where there is none. -/
def orZero (f : Fin 9248 → EReal) : Option (Fin 9248) → EReal
  | some z => f z
  | none => 0

theorem src_low {z : Fin 9216} (h : z.val < 3072) : (src z).val = z.val := by unfold src; rw [if_pos h]
theorem src_mid {z : Fin 9216} (h : 3072 ≤ z.val) (h' : z.val < 8192) : (src z).val = z.val + 1056 := by
  unfold src; rw [if_neg (by omega), dif_pos h']
theorem src_high {z : Fin 9216} (h : 8192 ≤ z.val) : (src z).val = z.val - 5120 := by
  unfold src; rw [if_neg (by omega), dif_neg (by omega)]

theorem lane_decay (l : Fin 128) (h : l.val % 64 < 8 ∨ 16 ≤ l.val % 64) (h' : l.val % 64 < 40) (z : Fin 9248)
    (hz : z.val = 4112 + 8 * (l.val / 64) + l.val % 8) : lane l = some z := by
  unfold lane
  split
  · exact congrArg some (Fin.ext (by rw [hz]; change 4112 + 8 * (l.val / 64) + l.val % 64 = _; omega))
  · rw [dif_neg (by omega)]
    exact congrArg some (Fin.ext hz.symm)
theorem lane_rate (l : Fin 128) (h : 8 ≤ l.val % 64) (h' : l.val % 64 < 16) (z : Fin 9248)
    (hz : z.val = 4096 + 8 * (l.val / 64) + (l.val % 64 - 8)) : lane l = some z := by
  unfold lane; rw [if_neg (by omega), dif_pos h']; exact congrArg some (Fin.ext hz.symm)
theorem lane_pad (l : Fin 128) (h : 40 ≤ l.val % 64) : lane l = none := by
  unfold lane; rw [if_neg (by omega), dif_neg (by omega), if_neg (by omega)]

/-- The two results. -/
def main (y : (⟨2, ![32768, 9216]⟩ : Shape).Idx) : EReal := entry X M G W (y 0) (src (y 1))
def lanes (y : (⟨2, ![32768, 128]⟩ : Shape).Idx) : EReal := orZero (entry X M G W (y 0)) (lane (y 1))

/-- A product with the column that a lane holds, or with zeros. -/
theorem dot_lane (x : Fin 1024 → EReal) (l : Fin 128) : dot x (fun k => orZero (fun z => W (ix2 k z)) (lane l)) = orZero (fun z => dot x fun k => W (ix2 k z)) (lane l) := by
  cases lane l with
  | some z => rfl
  | none => exact dot_zero x

end Cert.InProj

end
-- ==== Proof.InPrep.lean ====
/-
The arrays that the input projection's call reads, as the host operations before it leave them: at an index, in terms of the arguments.
-/
module

public import proofs.«01_k».proof.Proof.InBody
public import proofs.«01_k».proof.Proof.InSpec

@[expose] public section

noncomputable section

namespace Cert.Kernel2Ideal.Own

open Cert.Kernel2Ideal Cert.Kernel2Ideal.Gen Cert.Rows Cert.InProj
open Idealize.ShloMosaic Idealize.ShloMosaic.TcCoe Idealize.ShloMosaic.Tactic

variable (m : (ℓ : Loc nD τ sig) → Buf (Elt Ideal) ℓ) (c : Dev nD)

/-- The arguments, and the layouts as the call finds them, at their shapes. -/
def aX : InProj.SX.Idx → EReal := m (c, main_arg0)
def aM : InProj.SM.Idx → EReal := m (c, main_arg1)
def aG : InProj.SG.Idx → EReal := m (c, main_arg2)
def aW : InProj.SW.Idx → EReal := m (c, main_arg3)
def vX : S32768x1024.Idx → EReal := V m c main_v19
def vM : S4x8x1024.Idx → EReal := V m c main_v18
def vG : S1x1024.Idx → EReal := V m c main_v20
def vW : S1024x9216.Idx → EReal := V m c main_v5
def vL : S1024x128.Idx → EReal := V m c main_v16

theorem V_x (r : Fin 32768) (k : Fin 1024) : vX m c (ix2 r k) = aX m c (ix3 ⟨r.val / 8192, by omega⟩ ⟨r.val % 8192, by omega⟩ k) := by
  unfold vX aX V
  after_reads_at

theorem V_g (k : Fin 1024) : vG m c (ix2 0 k) = aG m c (ix1 k) := by
  unfold vG aG V
  after_reads_at

theorem V_mod (b : Fin 4) (j : Fin 6) (k : Fin 1024) : vM m c (ix3 b ⟨j.val, by omega⟩ k) = aM m c (ix2 b ⟨1024 * j.val + k.val, by omega⟩) := by
  unfold vM aM V
  after_reads_at
  simp only [Nat.mul_comm 1024]

theorem V_w (k : Fin 1024) (z : Fin 9216) : vW m c (ix2 k z) = aW m c (ix2 k (src z)) := by
  have key : ∀ z' : Fin 9248, z'.val = (src z).val → aW m c (ix2 k z') = aW m c (ix2 k (src z)) := fun z' h =>
    congrArg (fun z => aW m c (ix2 k z)) (Fin.ext h)
  unfold vW V
  after_reads_at
  split
  · after_reads_at
    exact key _ (by rw [src_low ‹_›])
  split
  · after_reads_at
    exact key _ (by rw [src_mid (by omega) (by omega)]; change 4128 + (z.val - 3072) = _; omega)
  split
  · after_reads_at
    exact key _ (by rw [src_mid (by omega) (by omega)]; change 7200 + (z.val - 3072 - 3072) = _; omega)
  · after_reads_at
    exact key _ (by rw [src_high (by omega)]; change 3072 + (z.val - 3072 - 3072 - 2048) = _; omega)

theorem V_lane (k : Fin 1024) (l : Fin 128) : vL m c (ix2 k l) = orZero (fun z => aW m c (ix2 k z)) (lane l) := by
  have key : ∀ z : Fin 9248, lane l = some z → aW m c (ix2 k z) = orZero (fun z => aW m c (ix2 k z)) (lane l) := fun z h => by rw [h]; rfl
  have key' : lane l = none → (0 : EReal) = orZero (fun z => aW m c (ix2 k z)) (lane l) := fun h => by rw [h]; rfl
  unfold vL V
  after_reads_at
  split <;> after_reads_at
  · split <;> [skip; split <;> [skip; split <;> [skip; split <;> [skip; split]]]] <;> after_reads_at
    all_goals first
      | exact key' (lane_pad _ (by omega))
      | exact key _ (lane_rate _ (by omega) (by omega) _ (by dsimp only; omega))
      | exact key _ (lane_decay _ (by omega) (by omega) _ (by dsimp only; omega))
  · split <;> [skip; split <;> [skip; split <;> [skip; split <;> [skip; split]]]] <;> after_reads_at
    all_goals first
      | exact key' (lane_pad _ (by omega))
      | exact key _ (lane_rate _ (by omega) (by omega) _ (by dsimp only; omega))
      | exact key _ (lane_decay _ (by omega) (by omega) _ (by dsimp only; omega))

end Cert.Kernel2Ideal.Own

end
-- ==== Proof.InArrays.lean ====
/-
The blocks that a grid point of the input projection stages, and the two arrays that the call leaves.
-/
module

public import proofs.«01_k».proof.Proof.InPrep
public import Idealize.ShloMosaic.Lib.Pipeline.ValueKit.Point

@[expose] public section

noncomputable section

namespace Cert.Kernel2Ideal.Own

open Cert.Kernel2Ideal Cert.Kernel2Ideal.Gen Cert.Rows Cert.InProj
open Idealize.ShloMosaic Idealize.ShloMosaic.TcCoe Idealize.ShloMosaic.Tactic

variable (m : (ℓ : Loc nD τ sig) → Buf (Elt Ideal) ℓ) (c : Dev nD)

/-- Where each window's block lies at each point. -/
theorem idx : ∀ t : Fin grid0.N,
    win0_0.index t = ![t.val, 0] ∧ win0_1.index t = ![t.val / 16, 0, 0] ∧ win0_2.index t = ![0, 0]
    ∧ win0_3.index t = ![0, 0] ∧ win0_4.index t = ![0, 0] ∧ win0_5.index t = ![t.val, 0] ∧ win0_6.index t = ![t.val, 0] := by decide +kernel

theorem lt_64 (t : Fin cfg0.N) : t.val < 64 := t.isLt

theorem blk_x (t : Fin cfg0.N) (i : Fin 512) (k : Fin 1024) :
    iblk m c 0 t (ix2 i k) = vX m c (ix2 ⟨512 * t.val + i.val, by have := lt_64 t; omega⟩ k) := by
  unfold vX
  blk_ext [iblk, idx t]

theorem blk_mod (t : Fin cfg0.N) (j : Fin 8) (k : Fin 1024) :
    iblk m c 1 t (ix3 0 j k) = vM m c (ix3 ⟨t.val / 16, by have := lt_64 t; omega⟩ j k) := by
  unfold vM
  blk_ext [iblk, idx t]

theorem blk_g (t : Fin cfg0.N) (k : Fin 1024) : iblk m c 2 t (ix2 0 k) = vG m c (ix2 0 k) := by
  unfold vG
  blk_ext [iblk, idx t]

theorem blk_w (t : Fin cfg0.N) (k : Fin 1024) (z : Fin 9216) : iblk m c 3 t (ix2 k z) = vW m c (ix2 k z) := by
  unfold vW
  blk_ext [iblk, idx t]

theorem blk_l (t : Fin cfg0.N) (k : Fin 1024) (z : Fin 128) : iblk m c 4 t (ix2 k z) = vL m c (ix2 k z) := by
  unfold vL
  blk_ext [iblk, idx t]

/-- The projected row of a point is the row of the batch. -/
theorem rowOf_blk (t : Fin cfg0.N) (i : Fin 512) :
    rowOf (iblk m c 0 t) (iblk m c 1 t) (iblk m c 2 t) i = row (aX m c) (aM m c) (aG m c) ⟨512 * t.val + i.val, by have := lt_64 t; omega⟩ := by
  have ht := lt_64 t
  have hb : t.val / 16 = (512 * t.val + i.val) / 8192 := by omega
  have e1 : ∀ k : Fin 1024, vM m c (ix3 ⟨t.val / 16, by omega⟩ 1 k) = aM m c (ix2 ⟨(512 * t.val + i.val) / 8192, by omega⟩ ⟨1024 + k.val, by omega⟩) := fun k =>
    (V_mod m c ⟨t.val / 16, by omega⟩ 1 k).trans (congrArg (aM m c) (by simp only [hb]; rfl))
  have e0 : ∀ k : Fin 1024, vM m c (ix3 ⟨t.val / 16, by omega⟩ 0 k) = aM m c (ix2 ⟨(512 * t.val + i.val) / 8192, by omega⟩ ⟨k.val, by omega⟩) := fun k =>
    (V_mod m c ⟨t.val / 16, by omega⟩ 0 k).trans (congrArg (aM m c) (by simp only [hb]; congr 1; exact Fin.ext (Nat.zero_add _)))
  unfold rowOf row
  simp only [blk_x, blk_mod, blk_g, V_x, V_g, e0, e1]

theorem emb_5 (t : Fin cfg0.N) (i : Fin 512) (z : Fin 9216) :
    (win0_5.blk t).view.emb (ix2 i z) = ix2 ⟨512 * t.val + i.val, by have := lt_64 t; omega⟩ z := by
  blk_ext [iblk, idx t]

theorem emb_6 (t : Fin cfg0.N) (i : Fin 512) (z : Fin 128) :
    (win0_6.blk t).view.emb (ix2 i z) = ix2 ⟨512 * t.val + i.val, by have := lt_64 t; omega⟩ z := by
  blk_ext [iblk, idx t]

theorem arr_5 : (dats m 0 c).arrAt 5 cfg0.N = InProj.main (aX m c) (aM m c) (aG m c) (aW m c) := by
  refine (dats m 0 c).arrAt_eq_of_covers 5 _ (by decide +kernel) fun t hfl y => ?_
  blk_simp
  obtain ⟨i, z, rfl⟩ := exists_ix2 (a := 512) (b := 9216) y
  refine Eq.trans ?_ (congrArg (InProj.main (aX m c) (aM m c) (aG m c) (aW m c)) (emb_5 t i _)).symm
  refine (congrFun (after0_5 m c t) _).trans ?_
  refine (out_main _ _ _ _ _ i z).trans ?_
  rw [rowOf_blk m c t i]
  simp only [blk_w, V_w]
  rfl

theorem arr_6 : (dats m 0 c).arrAt 6 cfg0.N = InProj.lanes (aX m c) (aM m c) (aG m c) (aW m c) := by
  refine (dats m 0 c).arrAt_eq_of_covers 6 _ (by decide +kernel) fun t hfl y => ?_
  blk_simp
  obtain ⟨i, z, rfl⟩ := exists_ix2 (a := 512) (b := 128) y
  refine Eq.trans ?_ (congrArg (InProj.lanes (aX m c) (aM m c) (aG m c) (aW m c)) (emb_6 t i _)).symm
  refine (congrFun (after0_6 m c t) _).trans ?_
  refine (out_lanes _ _ _ _ _ i z).trans ?_
  rw [rowOf_blk m c t i]
  simp only [blk_l, V_lane]
  exact dot_lane _ _ _

end Cert.Kernel2Ideal.Own

end
-- ==== Proof.InRef.lean ====
/-
The input projection's reference: its two results are the entries of the projection.
-/
module

public import proofs.«01_k».proof.Proof.Gen.Reference2Ideal.Run
public import proofs.«01_k».proof.Proof.InSpec
public import Idealize.ShloMosaic.Lib.StableHlo.ReadAt

@[expose] public section

noncomputable section

namespace Cert.Reference2Ideal.Own

open Cert.Reference2Ideal Cert.Reference2Ideal.Gen Cert.Reference2Ideal.Value Cert.Rows Cert.InProj
open Idealize.ShloMosaic Idealize.ShloMosaic.TcCoe Idealize.ShloMosaic.Tactic Idealize.ShloMosaic.StableHlo

/-- The norm of every token, scaled and shifted. -/
def adapted (x : FVec Ideal S4x8192x1024 .f32) (md : FVec Ideal S4x6144 .f32) (g : FVec Ideal S1024 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] md slices_S4x6144_S4x1024_0_1024))))) (broadcastInDim S4x8192x1024 ![0, 1, 2] bcast_S4x1x1024_S4x8192x1024_0_1_2 (broadcastInDim S4x1x1024 ![0, 2] bcast_S4x1024_S4x1x1024_0_2 (extractStridedSlice S4x1024 ![0, 0] md slices_S4x6144_S4x1024_0_0)))

/-- The projection of the rows. -/
def product (h : FVec Ideal S4x8192x1024 .f32) (w : FVec Ideal S1024x9248 .f32) : FVec Ideal S32768x9248 .f32 :=
  Host.dotGeneral dot_S32768x1024_S1024x9248_S32768x9248_1_0_0_1_n_n none (shapeCast _ h shapeCasts_S4x8192x1024_S32768x1024) w

theorem adapted_apply (x : FVec Ideal S4x8192x1024 .f32) (md : FVec Ideal S4x6144 .f32) (g : FVec Ideal S1024 .f32) (b : Fin 4) (t : Fin 8192) (k : Fin 1024) :
    adapted x md g (ix3 b t k) = adapt (Cert.Rows.norm width (fun k => x (ix3 b t k)) fun k => g (ix1 k)) (fun k => md (ix2 b ⟨1024 + k.val, by omega⟩)) (fun k => md (ix2 b ⟨k.val, by omega⟩)) k := by
  unfold adapted
  pointwise
  unfold adapt Cert.Rows.norm width
  simp only [zero_add]

theorem product_apply (h : FVec Ideal S4x8192x1024 .f32) (w : FVec Ideal S1024x9248 .f32) (r : Fin 32768) (z : Fin 9248) :
    product h w (ix2 r z) = dot (fun k => h (ix3 ⟨r.val / 8192, by omega⟩ ⟨r.val % 8192, by omega⟩ k)) (fun k => w (ix2 k z)) := by
  unfold product
  simp only [pointwise]
  exact zero_add _

/-- The first result, the columns of the projection in their order. -/
def cols (p : FVec Ideal S32768x9248 .f32) : FVec Ideal S32768x9216 .bf16 :=
  truncf .bf16 (concatenate S32768x9216 1 [⟨S32768x3072, (extractStridedSlice S32768x3072 ![0, 0] p slices_S32768x9248_S32768x3072_0_0 : FVec Ideal S32768x3072 .f32)⟩,
    ⟨S32768x3072, (extractStridedSlice S32768x3072 ![0, 4128] p slices_S32768x9248_S32768x3072_0_4128 : FVec Ideal S32768x3072 .f32)⟩,
    ⟨S32768x2048, (extractStridedSlice S32768x2048 ![0, 7200] p slices_S32768x9248_S32768x2048_0_7200 : FVec Ideal S32768x2048 .f32)⟩,
    ⟨S32768x1024, (extractStridedSlice S32768x1024 ![0, 3072] p slices_S32768x9248_S32768x1024_0_3072 : FVec Ideal S32768x1024 .f32)⟩]
    concatenates_S32768x3072_S32768x3072_S32768x2048_S32768x1024_S32768x9216_d1) bitsLt_bf16_f32

theorem cols_apply (p : FVec Ideal S32768x9248 .f32) (r : Fin 32768) (z : Fin 9216) : cols p (ix2 r z) = p (ix2 r (src z)) := by
  have key : ∀ z' : Fin 9248, z'.val = (src z).val → p (ix2 r z') = p (ix2 r (src z)) := fun z' h => congrArg (fun z => p (ix2 r z)) (Fin.ext h)
  unfold cols
  pointwise
  split
  · exact key _ (by rw [src_low ‹_›])
  split
  · exact key _ (by rw [src_mid (by omega) (by omega)]; change 4128 + (z.val - 3072) = _; omega)
  split
  · exact key _ (by rw [src_mid (by omega) (by omega)]; change 7200 + (z.val - 3072 - 3072) = _; omega)
  · exact key _ (by rw [src_high (by omega)]; change 3072 + (z.val - 3072 - 3072 - 2048) = _; omega)

/-- The first half of the second result's columns. -/
def half0 (p : FVec Ideal S32768x9248 .f32) : FVec Ideal S32768x64 .f32 :=
  concatenate S32768x64 1 [
    ⟨S32768x8, (extractStridedSlice S32768x8 ![0, 0] (extractStridedSlice S32768x16 ![0, 4112] p slices_S32768x9248_S32768x16_0_4112) slices_S32768x16_S32768x8_0_0 : FVec Ideal S32768x8 .f32)⟩,
    ⟨S32768x8, (extractStridedSlice S32768x8 ![0, 0] (extractStridedSlice S32768x16 ![0, 4096] p slices_S32768x9248_S32768x16_0_4096) slices_S32768x16_S32768x8_0_0 : FVec Ideal S32768x8 .f32)⟩,
    ⟨S32768x8, (extractStridedSlice S32768x8 ![0, 0] (extractStridedSlice S32768x16 ![0, 4112] p slices_S32768x9248_S32768x16_0_4112) slices_S32768x16_S32768x8_0_0 : FVec Ideal S32768x8 .f32)⟩,
    ⟨S32768x8, (extractStridedSlice S32768x8 ![0, 0] (extractStridedSlice S32768x16 ![0, 4112] p slices_S32768x9248_S32768x16_0_4112) slices_S32768x16_S32768x8_0_0 : FVec Ideal S32768x8 .f32)⟩,
    ⟨S32768x8, (extractStridedSlice S32768x8 ![0, 0] (extractStridedSlice S32768x16 ![0, 4112] p slices_S32768x9248_S32768x16_0_4112) slices_S32768x16_S32768x8_0_0 : FVec Ideal S32768x8 .f32)⟩,
    ⟨S32768x24, (broadcastInDim S32768x24 ![] bcast_S_S32768x24 (constant S_ .f32 0x00000000#32) : FVec Ideal S32768x24 .f32)⟩]
    concatenates_S32768x8_S32768x8_S32768x8_S32768x8_S32768x8_S32768x24_S32768x64_d1

theorem half0_apply (p : FVec Ideal S32768x9248 .f32) (r : Fin 32768) (l : Fin 64) (l' : Fin 128) (hl : l'.val = 0 + l.val) :
    half0 p (ix2 r l) = orZero (fun z => p (ix2 r z)) (lane l') := by
  have key : ∀ z : Fin 9248, lane l' = some z → p (ix2 r z) = orZero (fun z => p (ix2 r z)) (lane l') := fun z h => by rw [h]; rfl
  have key' : lane l' = none → (0 : EReal) = orZero (fun z => p (ix2 r z)) (lane l') := fun h => by rw [h]; rfl
  unfold half0
  pointwise
  split <;> [skip; split <;> [skip; split <;> [skip; split <;> [skip; split]]]]
  all_goals first
    | exact key' (lane_pad _ (by omega))
    | exact key _ (lane_rate _ (by omega) (by omega) _ (by dsimp only; omega))
    | exact key _ (lane_decay _ (by omega) (by omega) _ (by dsimp only; omega))

/-- The second half of the second result's columns. -/
def half1 (p : FVec Ideal S32768x9248 .f32) : FVec Ideal S32768x64 .f32 :=
  concatenate S32768x64 1 [
    ⟨S32768x8, (extractStridedSlice S32768x8 ![0, 8] (extractStridedSlice S32768x16 ![0, 4112] p slices_S32768x9248_S32768x16_0_4112) slices_S32768x16_S32768x8_0_8 : FVec Ideal S32768x8 .f32)⟩,
    ⟨S32768x8, (extractStridedSlice S32768x8 ![0, 8] (extractStridedSlice S32768x16 ![0, 4096] p slices_S32768x9248_S32768x16_0_4096) slices_S32768x16_S32768x8_0_8 : FVec Ideal S32768x8 .f32)⟩,
    ⟨S32768x8, (extractStridedSlice S32768x8 ![0, 8] (extractStridedSlice S32768x16 ![0, 4112] p slices_S32768x9248_S32768x16_0_4112) slices_S32768x16_S32768x8_0_8 : FVec Ideal S32768x8 .f32)⟩,
    ⟨S32768x8, (extractStridedSlice S32768x8 ![0, 8] (extractStridedSlice S32768x16 ![0, 4112] p slices_S32768x9248_S32768x16_0_4112) slices_S32768x16_S32768x8_0_8 : FVec Ideal S32768x8 .f32)⟩,
    ⟨S32768x8, (extractStridedSlice S32768x8 ![0, 8] (extractStridedSlice S32768x16 ![0, 4112] p slices_S32768x9248_S32768x16_0_4112) slices_S32768x16_S32768x8_0_8 : FVec Ideal S32768x8 .f32)⟩,
    ⟨S32768x24, (broadcastInDim S32768x24 ![] bcast_S_S32768x24 (constant S_ .f32 0x00000000#32) : FVec Ideal S32768x24 .f32)⟩]
    concatenates_S32768x8_S32768x8_S32768x8_S32768x8_S32768x8_S32768x24_S32768x64_d1

theorem half1_apply (p : FVec Ideal S32768x9248 .f32) (r : Fin 32768) (l : Fin 64) (l' : Fin 128) (hl : l'.val = 64 + l.val) :
    half1 p (ix2 r l) = orZero (fun z => p (ix2 r z)) (lane l') := by
  have key : ∀ z : Fin 9248, lane l' = some z → p (ix2 r z) = orZero (fun z => p (ix2 r z)) (lane l') := fun z h => by rw [h]; rfl
  have key' : lane l' = none → (0 : EReal) = orZero (fun z => p (ix2 r z)) (lane l') := fun h => by rw [h]; rfl
  unfold half1
  pointwise
  split <;> [skip; split <;> [skip; split <;> [skip; split <;> [skip; split]]]]
  all_goals first
    | exact key' (lane_pad _ (by omega))
    | exact key _ (lane_rate _ (by omega) (by omega) _ (by dsimp only; omega))
    | exact key _ (lane_decay _ (by omega) (by omega) _ (by dsimp only; omega))

/-- The second result. -/
def halves (p : FVec Ideal S32768x9248 .f32) : FVec Ideal S32768x128 .f32 :=
  concatenate S32768x128 1 [⟨S32768x64, half0 p⟩, ⟨S32768x64, half1 p⟩] concatenates_S32768x64_S32768x64_S32768x128_d1

theorem halves_apply (p : FVec Ideal S32768x9248 .f32) (r : Fin 32768) (l : Fin 128) :
    halves p (ix2 r l) = orZero (fun z => p (ix2 r z)) (lane l) := by
  unfold halves
  pointwise
  split
  · exact half0_apply p r _ l (by dsimp only; omega)
  · exact half1_apply p r _ l (by dsimp only; omega)

variable (m : (ℓ : Loc nD τ sig) → Buf (Elt Ideal) ℓ) (c : Dev nD)

/-- The arguments at their shapes. -/
def aX : InProj.SX.Idx → EReal := m (c, main_arg0)
def aM : InProj.SM.Idx → EReal := m (c, main_arg1)
def aG : InProj.SG.Idx → EReal := m (c, main_arg2)
def aW : InProj.SW.Idx → EReal := m (c, main_arg3)

theorem res_cols : res_main_v39 m c = cols (product (adapted (aX m c) (aM m c) (aG m c)) (aW m c)) := rfl

theorem res_halves : res_main_v40 m c = halves (product (adapted (aX m c) (aM m c) (aG m c)) (aW m c)) := rfl

theorem product_entry (r : Fin 32768) (z : Fin 9248) :
    product (adapted (aX m c) (aM m c) (aG m c)) (aW m c) (ix2 r z) = entry (aX m c) (aM m c) (aG m c) (aW m c) r z := by
  refine (product_apply _ _ r z).trans ?_
  simp only [adapted_apply]
  rfl

theorem res_cols_eq : res_main_v39 m c = InProj.main (aX m c) (aM m c) (aG m c) (aW m c) := by
  refine (res_cols m c).trans (funext fun y => ?_)
  obtain ⟨r, z, rfl⟩ := exists_ix2 (a := 32768) (b := 9216) y
  exact (cols_apply _ r z).trans (product_entry m c r _)

theorem res_halves_eq : res_main_v40 m c = InProj.lanes (aX m c) (aM m c) (aG m c) (aW m c) := by
  refine (res_halves m c).trans (funext fun y => ?_)
  obtain ⟨r, z, rfl⟩ := exists_ix2 (a := 32768) (b := 128) y
  refine (halves_apply _ r z).trans ?_
  simp only [product_entry]
  rfl

end Cert.Reference2Ideal.Own

end
-- ==== Proof.InFinal.lean ====
/-
The input projection's reference's frame, and the two programs' results set side by side.
-/
module

public import proofs.«01_k».proof.Defs
public import proofs.«01_k».proof.Proof.Gen.Kernel2
public import proofs.«01_k».proof.Proof.Gen.Kernel2.Frame
public import proofs.«01_k».proof.Proof.Gen.Kernel2Ideal.Value
public import proofs.«01_k».proof.Proof.InArrays
public import proofs.«01_k».proof.Proof.InRef

@[expose] public section

noncomputable section

open Idealize.ShloMosaic Idealize.SL.Sem

namespace Cert.Reference2Ideal.Own

open Cert.Reference2Ideal Cert.Reference2Ideal.Gen Cert.Reference2Ideal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, no_sem r.2.sem⟩) (Value.run m ρ)

end Cert.Reference2Ideal.Own

namespace Cert.Proof

theorem algebraic2 : @algebraic_Kernel2Ideal_Reference2Ideal Cert.Kernel2Ideal.Gen.facts Cert.Reference2Ideal.Gen.facts := by
  intro m g m' g' _ hagree
  have hR : ∀ c, Cert.Reference2Ideal.Own.aX m' c = Cert.Kernel2Ideal.Own.aX m c ∧ Cert.Reference2Ideal.Own.aM m' c = Cert.Kernel2Ideal.Own.aM m c
      ∧ Cert.Reference2Ideal.Own.aG m' c = Cert.Kernel2Ideal.Own.aG m c ∧ Cert.Reference2Ideal.Own.aW m' c = Cert.Kernel2Ideal.Own.aW m c := fun c => hagree c
  refine ⟨fun c => InProj.main (Cert.Kernel2Ideal.Own.aX m c) (Cert.Kernel2Ideal.Own.aM m c) (Cert.Kernel2Ideal.Own.aG m c) (Cert.Kernel2Ideal.Own.aW m c),
    fun c => InProj.lanes (Cert.Kernel2Ideal.Own.aX m c) (Cert.Kernel2Ideal.Own.aM m c) (Cert.Kernel2Ideal.Own.aG m c) (Cert.Kernel2Ideal.Own.aW m c), ?_, ?_⟩
  · refine (θ_run _ _ _).mono (fun r h c => ?_) (Cert.Kernel2Ideal.Value.run_blocks m g)
    obtain ⟨h0, h1, h2⟩ := h c
    exact ⟨h0.trans (Cert.Kernel2Ideal.Own.arr_5 m c), h1.trans (Cert.Kernel2Ideal.Own.arr_6 m c), h2⟩
  · refine (θ_run _ _ _).mono (fun r h c => ?_) (Cert.Reference2Ideal.Value.run m' g')
    obtain ⟨h0, h1, h2⟩ := h c
    obtain ⟨eX, eM, eG, eW⟩ := hR c
    have e0 := Cert.Reference2Ideal.Own.res_cols_eq m' c
    have e1 := Cert.Reference2Ideal.Own.res_halves_eq m' c
    rw [eX, eM, eG, eW] at e0 e1
    exact ⟨h0.trans e0, h1.trans e1, h2⟩

end Cert.Proof

end
-- ==== Proof.MixSpec.lean ====
/-
What the mixing call computes, row by row: the heads' norms times their gates, the two branches' projections weighted by their gates and
projected again, the residual sum with its norm, and the norm of the next sub-layer's input.
-/
module

public import proofs.«01_k».proof.Proof.Rows

@[expose] public section

noncomputable section

namespace Cert.Mix

open Idealize.ShloMosaic Cert.Rows

/-- A number times its logistic. -/
def swish (z : EReal) : EReal := z * Ideal.logistic z

/-- Column `e` of the head that starts at column `h`: its norm, times its gate. -/
def headAt (o z : Fin 1024 → EReal) (g : Fin 128 → EReal) (h : ℕ) (hh : h + 128 ≤ 1024) (e : Fin 128) : EReal :=
  Cert.Rows.norm headWidth (fun e => o ⟨h + e.val, by omega⟩) g e * swish (z ⟨h + e.val, by omega⟩)

theorem headAt_zero (o z : Fin 1024 → EReal) (g : Fin 128 → EReal) (hh : 0 + 128 ≤ 1024) (e : Fin 128) :
    headAt o z g 0 hh e = Cert.Rows.norm headWidth (fun e => o ⟨e.val, by omega⟩) g e * swish (z ⟨e.val, by omega⟩) := by
  unfold headAt
  simp only [Nat.zero_add]

/-- Column `k` of a row of eight heads. -/
def gated (o z : Fin 1024 → EReal) (g : Fin 128 → EReal) (k : Fin 1024) : EReal :=
  headAt o z g (128 * (k.val / 128)) (by omega) ⟨k.val % 128, by omega⟩

theorem gated_of (o z : Fin 1024 → EReal) (g : Fin 128 → EReal) (k : Fin 1024) (h : ℕ) (hh : h + 128 ≤ 1024) (e : Fin 128)
    (h8 : h % 128 = 0) (hk : k.val = h + e.val) : headAt o z g h hh e = gated o z g k := by
  obtain rfl : h = 128 * (k.val / 128) := by omega
  exact congrArg (headAt o z g _ hh) (Fin.ext (by dsimp only; omega))

/-- The two branches' projections, each times its gate's logistic, added. -/
def merged (a b : Fin 1024 → EReal) (mg : Fin 2048 → EReal) (wa wb : Fin 1024 → Fin 1024 → EReal) (k : Fin 1024) : EReal :=
  Ideal.logistic (mg ⟨k.val, by omega⟩) * dot a (fun j => wa j k) + Ideal.logistic (mg ⟨1024 + k.val, by omega⟩) * dot b (fun j => wb j k)

/-- The merged row's projection. -/
def mixed (a b : Fin 1024 → EReal) (mg : Fin 2048 → EReal) (wa wb wo : Fin 1024 → Fin 1024 → EReal) (k : Fin 1024) : EReal :=
  dot (merged a b mg wa wb) fun j => wo j k

/-- The residual sum: the row, plus the projection's norm times the sequence's scale. -/
def resid (x md mo g : Fin 1024 → EReal) (k : Fin 1024) : EReal := x k + md k * Cert.Rows.norm width mo g k

/-- The shapes of the arguments. -/
abbrev ST : Shape := ⟨2, ![32768, 1024]⟩
abbrev SZ : Shape := ⟨2, ![32768, 9216]⟩
abbrev SX : Shape := ⟨3, ![4, 8192, 1024]⟩
abbrev SM : Shape := ⟨2, ![4, 6144]⟩
abbrev SH : Shape := ⟨1, ![128]⟩
abbrev SG : Shape := ⟨1, ![1024]⟩
abbrev SW : Shape := ⟨2, ![1024, 1024]⟩

/-- The arguments: the two directions' outputs, the input projection, the other branch's output, the input, the sequences' six
modulations, the three norms' weights and the three projections' weights. -/
structure Args where
  of : ST.Idx → EReal
  ob : ST.Idx → EReal
  zin : SZ.Idx → EReal
  yb : ST.Idx → EReal
  x : SX.Idx → EReal
  md : SM.Idx → EReal
  gh : SH.Idx → EReal
  g1 : SG.Idx → EReal
  g2 : SG.Idx → EReal
  wa : SW.Idx → EReal
  wb : SW.Idx → EReal
  wo : SW.Idx → EReal

variable (A : Args) (r : Fin 32768)

/-- Modulation `j` of row `r`'s sequence. -/
def mdRow (j : Fin 6) (k : Fin 1024) : EReal := A.md (ix2 ⟨r.val / 8192, by omega⟩ ⟨1024 * j.val + k.val, by omega⟩)

/-- Row `r` of the heads. -/
def gatedRow : Fin 1024 → EReal :=
  gated (fun k => A.of (ix2 r k) + A.ob (ix2 r k)) (fun k => A.zin (ix2 r ⟨8192 + k.val, by omega⟩)) (fun e => A.gh (ix1 e))

/-- Row `r` of the projected merge. -/
def mixedRow : Fin 1024 → EReal :=
  mixed (gatedRow A r) (fun k => A.yb (ix2 r k)) (fun k => A.zin (ix2 r ⟨6144 + k.val, by omega⟩))
    (fun j k => A.wa (ix2 j k)) (fun j k => A.wb (ix2 j k)) (fun j k => A.wo (ix2 j k))

/-- Row `r` of the residual sum. -/
def sumRow : Fin 1024 → EReal :=
  resid (fun k => A.x (ix3 ⟨r.val / 8192, by omega⟩ ⟨r.val % 8192, by omega⟩ k)) (mdRow A r 2) (mixedRow A r) (fun k => A.g1 (ix1 k))

/-- Row `r` of the next sub-layer's input. -/
def nextRow : Fin 1024 → EReal :=
  adapt (Cert.Rows.norm width (sumRow A r) fun k => A.g2 (ix1 k)) (mdRow A r 4) (mdRow A r 3)

/-- The two results: the residual sum, and the next sub-layer's input transposed in groups of 256 rows. -/
def sums : ST.Idx → EReal := fun y => sumRow A (y 0) (y 1)
def nexts : (⟨3, ![128, 1024, 256]⟩ : Shape).Idx → EReal := fun y =>
  nextRow A ⟨256 * (show Fin 128 from y 0).val + (show Fin 256 from y 2).val, by have := (show Fin 128 from y 0).isLt; have := (show Fin 256 from y 2).isLt; omega⟩ (y 1)

end Cert.Mix

end
-- ==== Proof.MixHeads.lean ====
/-
One head of the mixing call, as each of the eight stored pieces computes it: the head's norm, times its gate.
-/
module

public import proofs.«01_k».proof.Proof.Gen.Kernel3Ideal.Frame
public import proofs.«01_k».proof.Proof.MixSpec
public import Idealize.ShloMosaic.Lib.StableHlo.ReadAt

@[expose] public section

noncomputable section

namespace Cert.Kernel3Ideal.Own

open Cert.Kernel3Ideal Cert.Kernel3Ideal.Gen Cert.Rows Cert.Mix
open Idealize.ShloMosaic Idealize.ShloMosaic.TcCoe Idealize.ShloMosaic.Tactic

variable (a b z : FVec Ideal S512x1024 .bf16) (g : FVec Ideal S1x128 .f32) (i : Fin 512) (e : Fin 128)

theorem head0 : k0_pay6 (F := Ideal) a b z g (ix2 i e)
    = headAt (fun k => a (ix2 i k) + b (ix2 i k)) (fun k => z (ix2 i k)) (fun e => g (ix2 0 e)) 0 (by omega) e := by
  rw [headAt_zero]
  unfold k0_pay6 k0_pay5 k0_pay4
  pointwise
  rfl

theorem head1 : k0_pay10 (F := Ideal) (k0_pay5 z) (k0_pay7 a b) (k0_pay8 g) (k0_pay9 a b) (ix2 i e)
    = headAt (fun k => a (ix2 i k) + b (ix2 i k)) (fun k => z (ix2 i k)) (fun e => g (ix2 0 e)) 128 (by omega) e := by
  unfold k0_pay10 k0_pay5 k0_pay9 k0_pay8 k0_pay7 k0_pay4
  pointwise
  rfl

theorem head2 : k0_pay11 (F := Ideal) (k0_pay4 a b) (k0_pay5 z) g (ix2 i e)
    = headAt (fun k => a (ix2 i k) + b (ix2 i k)) (fun k => z (ix2 i k)) (fun e => g (ix2 0 e)) 256 (by omega) e := by
  unfold k0_pay11 k0_pay5 k0_pay4
  pointwise
  rfl

theorem head3 : k0_pay15 (F := Ideal) (k0_pay5 z) (k0_pay12 (k0_pay4 a b)) (k0_pay13 g) (k0_pay14 (k0_pay4 a b)) (Scalar.ofBits .f32 0x358637BD#32) (ix2 i e)
    = headAt (fun k => a (ix2 i k) + b (ix2 i k)) (fun k => z (ix2 i k)) (fun e => g (ix2 0 e)) 384 (by omega) e := by
  unfold k0_pay15 k0_pay14 k0_pay13 k0_pay12 k0_pay5 k0_pay4
  pointwise
  rfl

theorem head4 : k0_pay16 (F := Ideal) (k0_pay4 a b) (k0_pay5 z) g (ix2 i e)
    = headAt (fun k => a (ix2 i k) + b (ix2 i k)) (fun k => z (ix2 i k)) (fun e => g (ix2 0 e)) 512 (by omega) e := by
  unfold k0_pay16 k0_pay5 k0_pay4
  pointwise
  rfl

theorem head5 : k0_pay21 (F := Ideal) (k0_pay5 z) (k0_pay17 (k0_pay4 a b)) (k0_pay18 g) (k0_pay19 (k0_pay4 a b)) k0_pay20 (ix2 i e)
    = headAt (fun k => a (ix2 i k) + b (ix2 i k)) (fun k => z (ix2 i k)) (fun e => g (ix2 0 e)) 640 (by omega) e := by
  unfold k0_pay21 k0_pay20 k0_pay19 k0_pay18 k0_pay17 k0_pay5 k0_pay4
  pointwise
  rfl

theorem head6 : k0_pay22 (F := Ideal) (k0_pay4 a b) (k0_pay5 z) g (ix2 i e)
    = headAt (fun k => a (ix2 i k) + b (ix2 i k)) (fun k => z (ix2 i k)) (fun e => g (ix2 0 e)) 768 (by omega) e := by
  unfold k0_pay22 k0_pay5 k0_pay4
  pointwise
  rfl

theorem head7 : k0_pay26 (F := Ideal) (k0_pay5 z) (k0_pay23 (k0_pay4 a b)) (k0_pay24 g) (k0_pay25 (k0_pay4 a b)) (ix2 i e)
    = headAt (fun k => a (ix2 i k) + b (ix2 i k)) (fun k => z (ix2 i k)) (fun e => g (ix2 0 e)) 896 (by omega) e := by
  unfold k0_pay26 k0_pay25 k0_pay24 k0_pay23 k0_pay5 k0_pay4
  pointwise
  rfl

end Cert.Kernel3Ideal.Own

end
-- ==== Proof.MixTail.lean ====
/-
The mixing call's later payloads at an index, over the values they read: the projected merge, the residual sum, and the transposed blocks.
-/
module

public import proofs.«01_k».proof.Proof.MixHeads

@[expose] public section

noncomputable section

namespace Cert.Kernel3Ideal.Own

open Cert.Kernel3Ideal Cert.Kernel3Ideal.Gen Cert.Rows Cert.Mix
open Idealize.ShloMosaic Idealize.ShloMosaic.TcCoe Idealize.ShloMosaic.Tactic

theorem mixed_apply (G : FVec Ideal S512x1024 .bf16) (wa : FVec Ideal S1024x1024 .bf16) (yb : FVec Ideal S512x1024 .bf16) (wb : FVec Ideal S1024x1024 .bf16)
    (mg : FVec Ideal S512x2048 .bf16) (wo : FVec Ideal S1024x1024 .bf16) (i : Fin 512) (k : Fin 1024) :
    k0_pay27 (F := Ideal) G wa yb wb mg wo (ix2 i k)
      = mixed (fun k => G (ix2 i k)) (fun k => yb (ix2 i k)) (fun k => mg (ix2 i k)) (fun j k => wa (ix2 j k)) (fun j k => wb (ix2 j k)) (fun j k => wo (ix2 j k)) k := by
  unfold k0_pay27 mixed merged dot
  pointwise

theorem resid_apply (mo x : FVec Ideal S512x1024 .f32) (md : FVec Ideal S1x1x1024 .f32) (g : FVec Ideal S1x1024 .f32) (i : Fin 512) (k : Fin 1024) :
    k0_pay28 (F := Ideal) mo x md g (ix2 i k)
      = resid (fun k => x (ix2 i k)) (fun k => md (ix3 0 0 k)) (fun k => mo (ix2 i k)) (fun k => g (ix2 0 k)) k := by
  unfold k0_pay28
  pointwise
  rfl

theorem normed_apply (mo x : FVec Ideal S512x1024 .f32) (md : FVec Ideal S1x1x1024 .f32) (g g' : FVec Ideal S1x1024 .f32) (i : Fin 512) (k : Fin 1024) :
    k0_pay29 (F := Ideal) mo x md g g' (ix2 i k)
      = Cert.Rows.norm width (fun k => k0_pay28 (F := Ideal) mo x md g (ix2 i k)) (fun k => g' (ix2 0 k)) k := by
  unfold k0_pay29
  pointwise
  rfl

theorem scale_apply (md : FVec Ideal S1x1x1024 .f32) (k : Fin 1024) : k0_pay30 (F := Ideal) md (ix2 0 k) = 1 + md (ix3 0 0 k) := by
  unfold k0_pay30
  pointwise

theorem low_apply (y : FVec Ideal S512x1024 .f32) (sc : FVec Ideal S1x1024 .f32) (sh : FVec Ideal S1x1x1024 .f32) (k : Fin 1024) (j : Fin 256) :
    k0_pay2 (F := Ideal) y sc sh (ix3 0 k j) = y (ix2 ⟨j.val, by omega⟩ k) * sc (ix2 0 k) + sh (ix3 0 0 k) := by
  unfold k0_pay2 k0_pay1
  pointwise

theorem high_apply (y : FVec Ideal S512x1024 .f32) (sc : FVec Ideal S1x1024 .f32) (sh : FVec Ideal S1x1x1024 .f32) (k : Fin 1024) (j : Fin 256) :
    k0_pay3 (F := Ideal) y sc sh (ix3 0 k j) = y (ix2 ⟨256 + j.val, by omega⟩ k) * sc (ix2 0 k) + sh (ix3 0 0 k) := by
  unfold k0_pay3 k0_pay1
  pointwise

end Cert.Kernel3Ideal.Own

end
-- ==== Proof.MixBody.lean ====
/-
What a grid point of the mixing call leaves in its two output blocks, at an index: from the blocks that it stages.
-/
module

public import proofs.«01_k».proof.Proof.MixTail

@[expose] public section

set_option maxRecDepth 16384

noncomputable section

namespace Cert.Kernel3Ideal.Own

open Cert.Kernel3Ideal Cert.Kernel3Ideal.Gen Cert.Rows Cert.Mix
open Idealize.ShloMosaic Idealize.ShloMosaic.TcCoe Idealize.ShloMosaic.Tactic

theorem zero2 : (![0, 0] : Fin 2 → ℕ) = fun _ => 0 := funext fun a => by match a with | ⟨0, _⟩ => rfl | ⟨1, _⟩ => rfl

/-- A load of the whole of an array of two axes reads the array. -/
theorem ld_whole2 {a b : ℕ} {e : EltTy} (X : (⟨2, ![a, b]⟩ : Shape).Idx → Elt Ideal e) (inb : ∀ c, (![0, 0] : Fin 2 → ℕ) c + (![a, b] : Fin 2 → ℕ) c ≤ (![a, b] : Fin 2 → ℕ) c) :
    View.ld (Val := Elt Ideal) X (Rect.unit (s := ⟨2, ![a, b]⟩) ![0, 0] ![a, b] inb) = X := View.ld_unit_zero (S := ⟨2, ![a, b]⟩) zero2 inb X

/-- A head's stored piece holds that head's columns of the gated row. -/
theorem headTile (o z : Fin 512 → Fin 1024 → EReal) (g : Fin 128 → EReal) (h : ℕ) (hh : h + 128 ≤ 1024) (h8 : h % 128 = 0)
    (w : FVec Ideal S512x128 .bf16) (hw : ∀ i e, w (ix2 i e) = headAt (o i) (z i) g h hh e) (i : Fin 512) (k : Fin 1024) :
    View.TileAt (Val := Elt Ideal) (e := .bf16) (S := S512x1024) (ix2 i k) ![0, h] S512x128.size w (gated (o i) (z i) g k) := by
  intro y hy
  obtain ⟨i', e, rfl⟩ := Cert.Rows.exists_ix2 (a := 512) (b := 128) y
  obtain rfl : i = i' := Fin.ext ((hy 0).trans (Nat.zero_add _))
  exact (hw i e).trans (gated_of _ _ _ _ _ hh e h8 (hy 1))

variable (c : Dev nD) (p : grid0.Coords)
  (a1 : Memref sig .tc .vmem S512x1024 .bf16) (h1 : a1.IsWhole)
  (a2 : Memref sig .tc .vmem S512x1024 .bf16) (h2 : a2.IsWhole)
  (a3 : Memref sig .tc .vmem S512x1024 .bf16) (h3 : a3.IsWhole)
  (a4 : Memref sig .tc .vmem S512x2048 .bf16) (h4 : a4.IsWhole)
  (a5 : Memref sig .tc .vmem S512x1024 .bf16) (h5 : a5.IsWhole)
  (a6 : Memref sig .tc .vmem S512x1024 .f32) (h6 : a6.IsWhole)
  (a7 : Memref sig .tc .vmem S1x8x1024 .f32) (h7 : a7.IsWhole)
  (a8 : Memref sig .tc .vmem S1x128 .f32) (h8 : a8.IsWhole)
  (a9 : Memref sig .tc .vmem S1x1024 .f32) (h9 : a9.IsWhole)
  (a10 : Memref sig .tc .vmem S1x1024 .f32) (h10 : a10.IsWhole)
  (a11 : Memref sig .tc .vmem S1024x1024 .bf16) (h11 : a11.IsWhole)
  (a12 : Memref sig .tc .vmem S1024x1024 .bf16) (h12 : a12.IsWhole)
  (a13 : Memref sig .tc .vmem S1024x1024 .bf16) (h13 : a13.IsWhole)
  (a14 : Memref sig .tc .vmem S512x1024 .f32) (h14 : a14.IsWhole)
  (a15 : Memref sig .tc .vmem S2x1024x256 .bf16) (h15 : a15.IsWhole)
  (a16 : Memref sig .tc .vmem S512x1024 .bf16) (h16 : a16.IsWhole)
  (x0 : FVec Ideal S512x1024 .bf16)
  (x1 : FVec Ideal S512x1024 .bf16)
  (x2 : FVec Ideal S512x1024 .bf16)
  (x3 : FVec Ideal S512x2048 .bf16)
  (x4 : FVec Ideal S512x1024 .bf16)
  (x5 : FVec Ideal S512x1024 .f32)
  (x6 : FVec Ideal S1x8x1024 .f32)
  (x7 : FVec Ideal S1x128 .f32)
  (x8 : FVec Ideal S1x1024 .f32)
  (x9 : FVec Ideal S1x1024 .f32)
  (x10 : FVec Ideal S1024x1024 .bf16)
  (x11 : FVec Ideal S1024x1024 .bf16)
  (x12 : FVec Ideal S1024x1024 .bf16)

/-- The scratch, once its eight heads are stored. -/
theorem scratch_apply (i : Fin 512) (k : Fin 1024) :
    kernelRun0_A.sl.v191 (F := Ideal) c a1 h1 a2 h2 a3 h3 a8 h8 a16 x0 x1 x2 x7 (ix2 i k)
      = gated (fun k => x0 (ix2 i k) + x1 (ix2 i k)) (fun k => x2 (ix2 i k)) (fun e => x7 (ix2 0 e)) k := by
  have cov : ∀ y, ∃ q ∈ kernelRun0_A.sl.HS0_8 (F := Ideal) c a1 h1 a2 h2 a3 h3 a8 h8 x0 x1 x2 x7, y ∈ q.1.set := fun y =>
    View.cover_of_tiledL (kernelRun0_A.sl.HS0_8 (F := Ideal) c a1 h1 a2 h2 a3 h3 a8 h8 x0 x1 x2 x7) S512x128.size (by sl_kernel_rfl) y
  have e : kernelRun0_A.sl.v191 (F := Ideal) c a1 h1 a2 h2 a3 h3 a8 h8 a16 x0 x1 x2 x7
      = View.canon (kernelRun0_A.sl.HS0_8 (F := Ideal) c a1 h1 a2 h2 a3 h3 a8 h8 x0 x1 x2 x7) :=
    (View.readCov_eq_canon_ld (Val := Elt Ideal) a16.view _ (Rect.unit (s := S512x1024) ![0, 0] S512x1024.size inb_S512x1024_S512x1024_0_0) cov).trans (ld_whole2 _ _)
  refine (congrFun e (ix2 i k)).trans ?_
  refine View.canon_eq_of_allAt _ _ _ (cov _) ?_
  unfold kernelRun0_A.sl.HS0_8 kernelRun0_A.sl.r_13 kernelRun0_A.sl.r_12 kernelRun0_A.sl.r_11 kernelRun0_A.sl.r_10 kernelRun0_A.sl.r_9 kernelRun0_A.sl.r_8
    kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r kernelRun0_A.sl.cst_27
  simp only [View.readAt_eq_ld, h1.read_unread, h2.read_unread, h3.read_unread, h8.read_unread, ld_whole2]
  refine View.allAt_cons_unit _ _ _ _ _ (headTile _ _ _ 896 (by omega) rfl _ (fun i e => head7 x0 x1 x2 x7 i e) i k) ?_
  refine View.allAt_cons_unit _ _ _ _ _ (headTile _ _ _ 768 (by omega) rfl _ (fun i e => head6 x0 x1 x2 x7 i e) i k) ?_
  refine View.allAt_cons_unit _ _ _ _ _ (headTile _ _ _ 640 (by omega) rfl _ (fun i e => head5 x0 x1 x2 x7 i e) i k) ?_
  refine View.allAt_cons_unit _ _ _ _ _ (headTile _ _ _ 512 (by omega) rfl _ (fun i e => head4 x0 x1 x2 x7 i e) i k) ?_
  refine View.allAt_cons_unit _ _ _ _ _ (headTile _ _ _ 384 (by omega) rfl _ (fun i e => head3 x0 x1 x2 x7 i e) i k) ?_
  refine View.allAt_cons_unit _ _ _ _ _ (headTile _ _ _ 256 (by omega) rfl _ (fun i e => head2 x0 x1 x2 x7 i e) i k) ?_
  refine View.allAt_cons_unit _ _ _ _ _ (headTile _ _ _ 128 (by omega) rfl _ (fun i e => head1 x0 x1 x2 x7 i e) i k) ?_
  refine View.allAt_cons_unit _ _ _ _ _ (headTile _ _ _ 0 (by omega) rfl _ (fun i e => head0 x0 x1 x2 x7 i e) i k) ?_
  exact View.allAt_nil _ _

/-- Row `i` of the projected merge, of the residual sum and of the next sub-layer's input, from the blocks staged. -/
def mixedBlk (x0 x1 x2 : FVec Ideal S512x1024 .bf16) (x3 : FVec Ideal S512x2048 .bf16) (x4 : FVec Ideal S512x1024 .bf16) (x7 : FVec Ideal S1x128 .f32)
    (x10 x11 x12 : FVec Ideal S1024x1024 .bf16) (i : Fin 512) : Fin 1024 → EReal :=
  mixed (gated (fun k => x0 (ix2 i k) + x1 (ix2 i k)) (fun k => x2 (ix2 i k)) (fun e => x7 (ix2 0 e))) (fun k => x4 (ix2 i k)) (fun k => x3 (ix2 i k))
    (fun j k => x10 (ix2 j k)) (fun j k => x11 (ix2 j k)) (fun j k => x12 (ix2 j k))
def sumBlk (x5 : FVec Ideal S512x1024 .f32) (x6 : FVec Ideal S1x8x1024 .f32) (x8 : FVec Ideal S1x1024 .f32) (mo : Fin 1024 → EReal) (i : Fin 512) : Fin 1024 → EReal :=
  resid (fun k => x5 (ix2 i k)) (fun k => x6 (ix3 0 2 k)) mo (fun k => x8 (ix2 0 k))
def nextBlk (x6 : FVec Ideal S1x8x1024 .f32) (x9 : FVec Ideal S1x1024 .f32) (y : Fin 1024 → EReal) : Fin 1024 → EReal :=
  adapt (Cert.Rows.norm width y fun k => x9 (ix2 0 k)) (fun k => x6 (ix3 0 4 k)) (fun k => x6 (ix3 0 3 k))

theorem mixedBlk_apply (i : Fin 512) (k : Fin 1024) :
    kernelRun0_A.sl.r_14 (F := Ideal) c a1 h1 a2 h2 a3 h3 a4 h4 a5 h5 a8 h8 a11 h11 a12 h12 a13 h13 a16 x0 x1 x2 x3 x4 x7 x10 x11 x12 (ix2 i k) = mixedBlk x0 x1 x2 x3 x4 x7 x10 x11 x12 i k := by
  unfold kernelRun0_A.sl.r_14 mixedBlk
  simp only [View.readAt_eq_ld, h4.read_unread, h5.read_unread, h11.read_unread, h12.read_unread, h13.read_unread, ld_whole2]
  refine (mixed_apply _ _ _ _ _ _ i k).trans ?_
  simp only [scratch_apply]

/-- A row of the modulations, loaded. -/
theorem ld_mod (o : ℕ) (j : Fin 8) (hj : j.val = o) (inb : ∀ a, (![0, o, 0] : Fin 3 → ℕ) a + S1x1x1024.size a ≤ S1x8x1024.size a) (k : Fin 1024) :
    View.ld (Val := Elt Ideal) (e' := .f32) x6 (Rect.unit (s := S1x8x1024) ![0, o, 0] S1x1x1024.size inb) (ix3 0 0 k) = x6 (ix3 0 j k) :=
  View.ld_unit_apply_of (Val := Elt Ideal) (e := .f32) x6 _ _ _ (ix3 0 0 k) (ix3 0 j k)
    (by intro a; match a with | ⟨0, _⟩ => rfl | ⟨1, _⟩ => exact hj | ⟨2, _⟩ => exact (Nat.zero_add _).symm)

theorem sumBlk_apply (i : Fin 512) (k : Fin 1024) :
    k0_pay28 (F := Ideal) (kernelRun0_A.sl.r_14 (F := Ideal) c a1 h1 a2 h2 a3 h3 a4 h4 a5 h5 a8 h8 a11 h11 a12 h12 a13 h13 a16 x0 x1 x2 x3 x4 x7 x10 x11 x12) x5
      (View.ld (Val := Elt Ideal) (e' := .f32) x6 (Rect.unit (s := S1x8x1024) ![0, 2, 0] S1x1x1024.size inb_S1x8x1024_S1x1x1024_0_2_0)) x8 (ix2 i k)
      = sumBlk x5 x6 x8 (mixedBlk x0 x1 x2 x3 x4 x7 x10 x11 x12 i) i k := by
  refine (resid_apply _ _ _ _ i k).trans ?_
  unfold sumBlk
  simp only [mixedBlk_apply, ld_mod x6 2 2 rfl]

theorem out_sum (i : Fin 512) (k : Fin 1024) :
    out0_A_13 (F := Ideal) c p a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 (ix2 i k) = sumBlk x5 x6 x8 (mixedBlk x0 x1 x2 x3 x4 x7 x10 x11 x12 i) i k := by
  unfold out0_A_13 kernelRun0_A
  dsimp only
  rw [View.read_writes_junk_eq_canon, View.canon_unit_zero zero2]
  simp only [View.readAt_eq_ld, h6.read_unread, h7.read_unread, h9.read_unread, ld_whole2]
  exact sumBlk_apply ..

theorem normedBlk_apply (i : Fin 512) (k : Fin 1024) :
    kernelRun0_A.sl.r_15 (F := Ideal) c a1 h1 a2 h2 a3 h3 a4 h4 a5 h5 a6 h6 a7 h7 a8 h8 a9 h9 a10 h10 a11 h11 a12 h12 a13 h13 a16 x0 x1 x2 x3 x4 x5 x6 x7 x8 x9 x10 x11 x12 (ix2 i k)
      = Cert.Rows.norm width (sumBlk x5 x6 x8 (mixedBlk x0 x1 x2 x3 x4 x7 x10 x11 x12 i) i) (fun k => x9 (ix2 0 k)) k := by
  unfold kernelRun0_A.sl.r_15
  simp only [View.readAt_eq_ld, h6.read_unread, h7.read_unread, h9.read_unread, h10.read_unread, ld_whole2]
  refine (normed_apply _ _ _ _ _ i k).trans ?_
  simp only [sumBlk_apply]

theorem scaleBlk_apply (k : Fin 1024) : kernelRun0_A.sl.r_16 (F := Ideal) c a7 h7 x6 (ix2 0 k) = 1 + x6 (ix3 0 4 k) := by
  unfold kernelRun0_A.sl.r_16
  simp only [View.readAt_eq_ld, h7.read_unread]
  refine (scale_apply _ k).trans ?_
  rw [ld_mod x6 4 4 rfl]

theorem out_next (q : Fin 2) (k : Fin 1024) (j : Fin 256) :
    out0_A_14 (F := Ideal) c p a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 (ix3 q k j)
      = nextBlk x6 x9 (sumBlk x5 x6 x8 (mixedBlk x0 x1 x2 x3 x4 x7 x10 x11 x12 ⟨256 * q.val + j.val, by omega⟩) ⟨256 * q.val + j.val, by omega⟩) k := by
  unfold out0_A_14
  rw [View.read_writes_junk_eq_canon]
  refine View.canon_eq_of_allAt _ _ _ (cover0_A_14 ..) ?_
  unfold kernelRun0_A
  dsimp only
  simp only [View.readAt_eq_ld, h7.read_unread]
  refine View.allAt_cons_unit _ _ _ _ _ ?_ (View.allAt_cons_unit _ _ _ _ _ ?_ (View.allAt_nil _ _))
  · intro y hy
    obtain ⟨u, k', j', rfl⟩ := Cert.Rows.exists_ix3 (a := 1) (b := 1024) (c := 256) y
    obtain rfl : u = 0 := Subsingleton.elim _ _
    obtain rfl : k = k' := Fin.ext ((hy 1).trans (Nat.zero_add _))
    obtain rfl : j = j' := Fin.ext ((hy 2).trans (Nat.zero_add _))
    obtain rfl : q = 1 := Fin.ext (hy 0)
    refine (high_apply _ _ _ k j).trans ?_
    rw [normedBlk_apply, scaleBlk_apply, ld_mod x6 3 3 rfl]
    rfl
  · intro y hy
    obtain ⟨u, k', j', rfl⟩ := Cert.Rows.exists_ix3 (a := 1) (b := 1024) (c := 256) y
    obtain rfl : u = 0 := Subsingleton.elim _ _
    obtain rfl : k = k' := Fin.ext ((hy 1).trans (Nat.zero_add _))
    obtain rfl : j = j' := Fin.ext ((hy 2).trans (Nat.zero_add _))
    obtain rfl : q = 0 := Fin.ext (hy 0)
    refine (low_apply _ _ _ k j).trans ?_
    rw [normedBlk_apply, scaleBlk_apply, ld_mod x6 3 3 rfl]
    have e : (⟨j.val, by omega⟩ : Fin 512) = ⟨256 * (0 : Fin 2).val + j.val, by omega⟩ := Fin.ext (Nat.zero_add _).symm
    rw [e]
    rfl

end Cert.Kernel3Ideal.Own

end
-- ==== Proof.MixPrep.lean ====
/-
The arrays that the mixing call reads, as the host operations before it leave them: at an index, in terms of the arguments.
-/
module

public import proofs.«01_k».proof.Proof.MixBody

@[expose] public section

noncomputable section

namespace Cert.Kernel3Ideal.Own

open Cert.Kernel3Ideal Cert.Kernel3Ideal.Gen Cert.Rows
open Idealize.ShloMosaic Idealize.ShloMosaic.TcCoe Idealize.ShloMosaic.Tactic

variable (m : (ℓ : Loc nD τ sig) → Buf (Elt Ideal) ℓ) (c : Dev nD)

/-- The arguments at their shapes. -/
def args : Mix.Args where
  of := m (c, main_arg0)
  ob := m (c, main_arg1)
  zin := m (c, main_arg2)
  yb := m (c, main_arg3)
  x := m (c, main_arg4)
  md := m (c, main_arg5)
  gh := m (c, main_arg6)
  g1 := m (c, main_arg7)
  g2 := m (c, main_arg8)
  wa := m (c, main_arg9)
  wb := m (c, main_arg10)
  wo := m (c, main_arg11)

/-- The layouts as the call finds them. -/
def vOf : S32768x1024.Idx → EReal := V m c main_arg0
def vOb : S32768x1024.Idx → EReal := V m c main_arg1
def vZ : S32768x9216.Idx → EReal := V m c main_arg2
def vYb : S32768x1024.Idx → EReal := V m c main_arg3
def vX : S32768x1024.Idx → EReal := V m c main_v2
def vM : S4x8x1024.Idx → EReal := V m c main_v1
def vH : S1x128.Idx → EReal := V m c main_v3
def v1 : S1x1024.Idx → EReal := V m c main_v4
def v2 : S1x1024.Idx → EReal := V m c main_v5
def vA : S1024x1024.Idx → EReal := V m c main_v6
def vB : S1024x1024.Idx → EReal := V m c main_v7
def vO : S1024x1024.Idx → EReal := V m c main_v8

theorem V_of : vOf m c = (args m c).of := by
  funext y; obtain ⟨i, k, rfl⟩ := exists_ix2 (a := 32768) (b := 1024) y
  unfold vOf args V
  after_reads_at
theorem V_ob : vOb m c = (args m c).ob := by
  funext y; obtain ⟨i, k, rfl⟩ := exists_ix2 (a := 32768) (b := 1024) y
  unfold vOb args V
  after_reads_at
theorem V_z : vZ m c = (args m c).zin := by
  funext y; obtain ⟨i, k, rfl⟩ := exists_ix2 (a := 32768) (b := 9216) y
  unfold vZ args V
  after_reads_at
theorem V_yb : vYb m c = (args m c).yb := by
  funext y; obtain ⟨i, k, rfl⟩ := exists_ix2 (a := 32768) (b := 1024) y
  unfold vYb args V
  after_reads_at

theorem V_x (r : Fin 32768) (k : Fin 1024) : vX m c (ix2 r k) = (args m c).x (ix3 ⟨r.val / 8192, by omega⟩ ⟨r.val % 8192, by omega⟩ k) := by
  unfold vX args V
  after_reads_at

theorem V_mod (b : Fin 4) (j : Fin 6) (k : Fin 1024) : vM m c (ix3 b ⟨j.val, by omega⟩ k) = (args m c).md (ix2 b ⟨1024 * j.val + k.val, by omega⟩) := by
  unfold vM args V
  after_reads_at
  simp only [Nat.mul_comm 1024]

theorem V_h (k : Fin 128) : vH m c (ix2 0 k) = (args m c).gh (ix1 k) := by
  unfold vH args V
  after_reads_at
theorem V_1 (k : Fin 1024) : v1 m c (ix2 0 k) = (args m c).g1 (ix1 k) := by
  unfold v1 args V
  after_reads_at
theorem V_2 (k : Fin 1024) : v2 m c (ix2 0 k) = (args m c).g2 (ix1 k) := by
  unfold v2 args V
  after_reads_at
theorem V_a (j k : Fin 1024) : vA m c (ix2 j k) = (args m c).wa (ix2 j k) := by
  unfold vA args V
  after_reads_at
theorem V_b (j k : Fin 1024) : vB m c (ix2 j k) = (args m c).wb (ix2 j k) := by
  unfold vB args V
  after_reads_at
theorem V_o (j k : Fin 1024) : vO m c (ix2 j k) = (args m c).wo (ix2 j k) := by
  unfold vO args V
  after_reads_at

end Cert.Kernel3Ideal.Own

end
-- ==== Proof.MixArrays.lean ====
/-
The blocks that a grid point of the mixing call stages, and the two arrays that the call leaves.
-/
module

public import proofs.«01_k».proof.Proof.MixPrep
public import Idealize.ShloMosaic.Lib.Pipeline.ValueKit.Point

@[expose] public section

noncomputable section

namespace Cert.Kernel3Ideal.Own

open Cert.Kernel3Ideal Cert.Kernel3Ideal.Gen Cert.Rows Cert.Mix
open Idealize.ShloMosaic Idealize.ShloMosaic.TcCoe Idealize.ShloMosaic.Tactic

variable (m : (ℓ : Loc nD τ sig) → Buf (Elt Ideal) ℓ) (c : Dev nD)

/-- Where each window's block lies at each point. -/
theorem idx : ∀ t : Fin grid0.N,
    win0_0.index t = ![t.val, 0] ∧ win0_1.index t = ![t.val, 0] ∧ win0_2.index t = ![t.val, 8] ∧ win0_3.index t = ![t.val, 3]
    ∧ win0_4.index t = ![t.val, 0] ∧ win0_5.index t = ![t.val, 0] ∧ win0_6.index t = ![t.val / 16, 0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![t.val, 0] ∧ win0_14.index t = ![t.val, 0, 0] := by decide +kernel

theorem lt_64 (t : Fin cfg0.N) : t.val < 64 := t.isLt

theorem blk_of (t : Fin cfg0.N) (i : Fin 512) (k : Fin 1024) :
    iblk m c 0 t (ix2 i k) = vOf m c (ix2 ⟨512 * t.val + i.val, by have := lt_64 t; omega⟩ k) := by
  unfold vOf
  blk_ext [iblk, idx t]

theorem blk_ob (t : Fin cfg0.N) (i : Fin 512) (k : Fin 1024) :
    iblk m c 1 t (ix2 i k) = vOb m c (ix2 ⟨512 * t.val + i.val, by have := lt_64 t; omega⟩ k) := by
  unfold vOb
  blk_ext [iblk, idx t]

theorem blk_z (t : Fin cfg0.N) (i : Fin 512) (k : Fin 1024) :
    iblk m c 2 t (ix2 i k) = vZ m c (ix2 ⟨512 * t.val + i.val, by have := lt_64 t; omega⟩ ⟨8192 + k.val, by omega⟩) := by
  unfold vZ
  blk_ext [iblk, idx t]

theorem blk_mg (t : Fin cfg0.N) (i : Fin 512) (k : Fin 2048) :
    X0_3 m c t (ix2 i k) = vZ m c (ix2 ⟨512 * t.val + i.val, by have := lt_64 t; omega⟩ ⟨6144 + k.val, by omega⟩) := by
  unfold X0_3 Pipeline.Window.fill
  rw [dif_pos (moved0_3 t _)]
  refine congrArg (vZ m c) (funext fun a => Fin.ext ?_)
  have e := (idx t).2.2.2.1
  match a with
  | ⟨0, _⟩ =>
    have e0 : win0_3.index t 0 = t.val := congrFun e 0
    show win0_3.index t 0 * 512 + 1 * i.val = 512 * t.val + i.val
    omega
  | ⟨1, _⟩ =>
    have e1 : win0_3.index t 1 = 3 := congrFun e 1
    show win0_3.index t 1 * 2048 + 1 * k.val = 6144 + k.val
    omega

theorem blk_yb (t : Fin cfg0.N) (i : Fin 512) (k : Fin 1024) :
    iblk m c 4 t (ix2 i k) = vYb m c (ix2 ⟨512 * t.val + i.val, by have := lt_64 t; omega⟩ k) := by
  unfold vYb
  blk_ext [iblk, idx t]

theorem blk_x (t : Fin cfg0.N) (i : Fin 512) (k : Fin 1024) :
    iblk m c 5 t (ix2 i k) = vX m c (ix2 ⟨512 * t.val + i.val, by have := lt_64 t; omega⟩ k) := by
  unfold vX
  blk_ext [iblk, idx t]

theorem blk_mod (t : Fin cfg0.N) (j : Fin 8) (k : Fin 1024) :
    iblk m c 6 t (ix3 0 j k) = vM m c (ix3 ⟨t.val / 16, by have := lt_64 t; omega⟩ j k) := by
  unfold vM
  blk_ext [iblk, idx t]

theorem blk_h (t : Fin cfg0.N) (k : Fin 128) : iblk m c 7 t (ix2 0 k) = vH m c (ix2 0 k) := by
  unfold vH
  blk_ext [iblk, idx t]

theorem blk_1 (t : Fin cfg0.N) (k : Fin 1024) : iblk m c 8 t (ix2 0 k) = v1 m c (ix2 0 k) := by
  unfold v1
  blk_ext [iblk, idx t]

theorem blk_2 (t : Fin cfg0.N) (k : Fin 1024) : iblk m c 9 t (ix2 0 k) = v2 m c (ix2 0 k) := by
  unfold v2
  blk_ext [iblk, idx t]

theorem blk_a (t : Fin cfg0.N) (j k : Fin 1024) : iblk m c 10 t (ix2 j k) = vA m c (ix2 j k) := by
  unfold vA
  blk_ext [iblk, idx t]

theorem blk_b (t : Fin cfg0.N) (j k : Fin 1024) : iblk m c 11 t (ix2 j k) = vB m c (ix2 j k) := by
  unfold vB
  blk_ext [iblk, idx t]

theorem blk_o (t : Fin cfg0.N) (j k : Fin 1024) : iblk m c 12 t (ix2 j k) = vO m c (ix2 j k) := by
  unfold vO
  blk_ext [iblk, idx t]

/-- The rows of a point are rows of the batch. -/
theorem mixedBlk_row (t : Fin cfg0.N) (i : Fin 512) :
    mixedBlk (iblk m c 0 t) (iblk m c 1 t) (iblk m c 2 t) (X0_3 m c t) (iblk m c 4 t) (iblk m c 7 t) (iblk m c 10 t) (iblk m c 11 t) (iblk m c 12 t) i
      = mixedRow (args m c) ⟨512 * t.val + i.val, by have := lt_64 t; omega⟩ := by
  unfold mixedBlk mixedRow gatedRow
  simp only [blk_of, blk_ob, blk_z, blk_mg, blk_yb, blk_h, blk_a, blk_b, blk_o, V_of, V_ob, V_z, V_yb, V_h, V_a, V_b, V_o]

theorem md_row (t : Fin cfg0.N) (r : Fin 32768) (hr : r.val / 8192 = t.val / 16) (j : Fin 6) (j' : Fin 8) (hj : j'.val = j.val) (k : Fin 1024) :
    iblk m c 6 t (ix3 0 j' k) = mdRow (args m c) r j k := by
  have ht := lt_64 t
  have e : j' = ⟨j.val, by omega⟩ := Fin.ext hj
  rw [e]
  refine (blk_mod m c t _ k).trans ((V_mod m c ⟨t.val / 16, by omega⟩ j k).trans ?_)
  unfold mdRow
  simp only [hr]

theorem sumBlk_row (t : Fin cfg0.N) (i : Fin 512) (mo : Fin 1024 → EReal) (hmo : mo = mixedRow (args m c) ⟨512 * t.val + i.val, by have := lt_64 t; omega⟩) :
    sumBlk (iblk m c 5 t) (iblk m c 6 t) (iblk m c 8 t) mo i = sumRow (args m c) ⟨512 * t.val + i.val, by have := lt_64 t; omega⟩ := by
  have ht := lt_64 t
  unfold sumBlk sumRow
  rw [hmo]
  simp only [blk_x, blk_1, V_x, V_1, md_row m c t ⟨512 * t.val + i.val, by omega⟩ (by dsimp only; omega) 2 2 rfl]

theorem nextBlk_row (t : Fin cfg0.N) (r : Fin 32768) (hr : r.val / 8192 = t.val / 16) (y : Fin 1024 → EReal) (hy : y = sumRow (args m c) r) :
    nextBlk (iblk m c 6 t) (iblk m c 9 t) y = nextRow (args m c) r := by
  unfold nextBlk nextRow
  rw [hy]
  simp only [blk_2, V_2, md_row m c t r hr 4 4 rfl, md_row m c t r hr 3 3 rfl]

theorem emb_13 (t : Fin cfg0.N) (i : Fin 512) (k : Fin 1024) :
    (win0_13.blk t).view.emb (ix2 i k) = ix2 ⟨512 * t.val + i.val, by have := lt_64 t; omega⟩ k := by
  blk_ext [iblk, idx t]

theorem emb_14 (t : Fin cfg0.N) (q : Fin 2) (k : Fin 1024) (j : Fin 256) :
    (win0_14.blk t).view.emb (ix3 q k j) = ix3 ⟨2 * t.val + q.val, by have := lt_64 t; omega⟩ k j := by
  blk_ext [iblk, idx t]

/-- What a point leaves in the two blocks, at an index. -/
theorem after_sum (t : Fin cfg0.N) (i : Fin 512) (k : Fin 1024) :
    (outsAt0 m c t).1 (ix2 i k) = sumRow (args m c) ⟨512 * t.val + i.val, by have := lt_64 t; omega⟩ k := by
  have e := out_sum c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) i k
  rw [mixedBlk_row m c t i, sumBlk_row m c t i _ rfl] at e
  unfold outsAt0
  dsimp only
  exact e

theorem after_next (t : Fin cfg0.N) (q : Fin 2) (k : Fin 1024) (j : Fin 256) :
    (outsAt0 m c t).2 (ix3 q k j) = nextRow (args m c) ⟨512 * t.val + (256 * q.val + j.val), by have := lt_64 t; omega⟩ k := by
  have ht := lt_64 t
  have e := out_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) q k j
  rw [mixedBlk_row m c t ⟨256 * q.val + j.val, by omega⟩, sumBlk_row m c t ⟨256 * q.val + j.val, by omega⟩ _ rfl,
    nextBlk_row m c t ⟨512 * t.val + (256 * q.val + j.val), by omega⟩ (by dsimp only; omega) _ rfl] at e
  unfold outsAt0
  dsimp only
  exact e

theorem arr_13 : (dats m 0 c).arrAt 13 cfg0.N = Mix.sums (args m c) := by
  refine (dats m 0 c).arrAt_eq_of_covers 13 _ (by decide +kernel) fun t hfl y => ?_
  blk_simp
  obtain ⟨i, k, rfl⟩ := exists_ix2 (a := 512) (b := 1024) y
  refine Eq.trans ?_ (congrArg (Mix.sums (args m c)) (emb_13 t i k)).symm
  exact (congrFun (after0_13 m c t) _).trans (after_sum m c t i k)

theorem arr_14 : (dats m 0 c).arrAt 14 cfg0.N = Mix.nexts (args m c) := by
  refine (dats m 0 c).arrAt_eq_of_covers 14 _ (by decide +kernel) fun t hfl y => ?_
  blk_simp
  obtain ⟨q, k, j, rfl⟩ := exists_ix3 (a := 2) (b := 1024) (c := 256) y
  refine Eq.trans ?_ (congrArg (Mix.nexts (args m c)) (emb_14 t q k j)).symm
  refine (congrFun (after0_14 m c t) _).trans ((after_next m c t q k j).trans ?_)
  exact congrArg (fun r => nextRow (args m c) r k) (Fin.ext (by show 512 * t.val + (256 * q.val + j.val) = 256 * (2 * t.val + q.val) + j.val; omega))

end Cert.Kernel3Ideal.Own

end
-- ==== Proof.MixRef.lean ====
/-
The mixing call's reference: its two results are the rows of the residual sum and of the next sub-layer's input.
-/
module

public import proofs.«01_k».proof.Proof.Gen.Reference3Ideal.Run
public import proofs.«01_k».proof.Proof.MixSpec
public import Idealize.ShloMosaic.Lib.StableHlo.ReadAt

@[expose] public section

set_option maxRecDepth 8192

noncomputable section

namespace Cert.Reference3Ideal.Own

open Cert.Reference3Ideal Cert.Reference3Ideal.Gen Cert.Reference3Ideal.Value Cert.Rows Cert.Mix
open Idealize.ShloMosaic Idealize.ShloMosaic.TcCoe Idealize.ShloMosaic.Tactic Idealize.ShloMosaic.StableHlo

/-- The two directions' sum and the gate's columns, by head. -/
def sum3 (of ob : FVec Ideal S32768x1024 .bf16) : FVec Ideal S32768x8x128 .f32 :=
  shapeCast S32768x8x128 (addf (extf .f32 of bitsLt_bf16_f32) (extf .f32 ob bitsLt_bf16_f32)) shapeCasts_S32768x1024_S32768x8x128
def gate3 (zin : FVec Ideal S32768x9216 .bf16) : FVec Ideal S32768x8x128 .f32 :=
  shapeCast S32768x8x128 (extf .f32 (extractStridedSlice S32768x1024 ![0, 8192] zin slices_S32768x9216_S32768x1024_0_8192) bitsLt_bf16_f32) shapeCasts_S32768x1024_S32768x8x128

/-- The heads' norms, times their gates. -/
def heads3 (o z : FVec Ideal S32768x8x128 .f32) (gh : FVec Ideal S128 .f32) : FVec Ideal S32768x8x128 .f32 :=
  mulf (mulf (mulf o (broadcastInDim S32768x8x128 ![0, 1, 2] bcast_S32768x8x1_S32768x8x128_0_1_2 (Host.rsqrt (addf (Host.divf (broadcastInDim S32768x8x1 ![0, 1] bcast_S32768x8_S32768x8x1_0_1 (Host.reduceAdd (mulf o o) (constant S_ .f32 0x00000000#32) reducesTo_S32768x8x128_S32768x8_d2 h_S_)) (broadcastInDim S32768x8x1 ![] bcast_S_S32768x8x1 (constant S_ .f32 0x43000000#32))) (broadcastInDim S32768x8x1 ![] bcast_S_S32768x8x1 (constant S_ .f32 0x358637BD#32)))))) (broadcastInDim S32768x8x128 ![0, 1, 2] bcast_S1x1x128_S32768x8x128_0_1_2 (broadcastInDim S1x1x128 ![2] bcast_S128_S1x1x128_2 gh)))
    (mulf z (Host.divf (broadcastInDim S32768x8x128 ![] bcast_S_S32768x8x128 (constant S_ .f32 0x3F800000#32)) (addf (broadcastInDim S32768x8x128 ![] bcast_S_S32768x8x128 (constant S_ .f32 0x3F800000#32)) (Host.exp (Host.negf z)))))

/-- The heads side by side. -/
def flat (h : FVec Ideal S32768x8x128 .f32) : FVec Ideal S32768x1024 .f32 := shapeCast S32768x1024 h shapeCasts_S32768x8x128_S32768x1024

/-- The logistics of the merge's gates. -/
def gates (zin : FVec Ideal S32768x9216 .bf16) : FVec Ideal S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf (extf .f32 (extractStridedSlice S32768x2048 ![0, 6144] zin slices_S32768x9216_S32768x2048_0_6144) bitsLt_bf16_f32))))

/-- The rows times a projection's weights. -/
def prod (h : FVec Ideal S32768x1024 .f32) (w : FVec Ideal S1024x1024 .f32) : FVec Ideal S32768x1024 .f32 :=
  Host.dotGeneral dot_S32768x1024_S1024x1024_S32768x1024_1_0_0_1_n_n none h w

/-- The two branches, merged. -/
def merge (h y : FVec Ideal S32768x1024 .f32) (p : FVec Ideal S32768x2048 .f32) (wa wb : FVec Ideal S1024x1024 .f32) : FVec Ideal S32768x1024 .f32 :=
  addf (mulf (extractStridedSlice S32768x1024 ![0, 0] p slices_S32768x2048_S32768x1024_0_0) (prod h wa)) (mulf (extractStridedSlice S32768x1024 ![0, 1024] p slices_S32768x2048_S32768x1024_0_1024) (prod y wb))

/-- The rows' norms. -/
def normed (y : FVec Ideal S32768x1024 .f32) (g : FVec Ideal S1024 .f32) : FVec Ideal S32768x1024 .f32 :=
  mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- A modulation, at every row of its sequence. -/
def perRow (md : FVec Ideal S4x1024 .f32) : FVec Ideal S32768x1024 .f32 :=
  shapeCast S32768x1024 (broadcastInDim S4x8192x1024 ![0, 1, 2] bcast_S4x1x1024_S4x8192x1024_0_1_2 (broadcastInDim S4x1x1024 ![0, 2] bcast_S4x1024_S4x1x1024_0_2 md)) shapeCasts_S4x8192x1024_S32768x1024

/-- The first result. -/
def added (x : FVec Ideal S4x8192x1024 .f32) (mo m2 : FVec Ideal S32768x1024 .f32) : FVec Ideal S32768x1024 .f32 :=
  addf (shapeCast S32768x1024 x shapeCasts_S4x8192x1024_S32768x1024) (mulf m2 mo)

/-- The second result. -/
def turned (y m4 m3 : FVec Ideal S32768x1024 .f32) : FVec Ideal S128x1024x256 .bf16 :=
  truncf .bf16 (transpose S128x1024x256 [0, 2, 1] (shapeCast S128x256x1024 (addf (mulf y (addf (broadcastInDim S32768x1024 ![] bcast_S_S32768x1024 (constant S_ .f32 0x3F800000#32)) m4)) m3) shapeCasts_S32768x1024_S128x256x1024) transposes_S128x256x1024_S128x1024x256_0_2_1) bitsLt_bf16_f32

theorem sum3_apply (of ob : FVec Ideal S32768x1024 .bf16) (r : Fin 32768) (h : Fin 8) (e : Fin 128) :
    sum3 of ob (ix3 r h e) = of (ix2 r ⟨128 * h.val + e.val, by omega⟩) + ob (ix2 r ⟨128 * h.val + e.val, by omega⟩) := by
  unfold sum3
  pointwise
  simp only [Nat.mul_comm h.val 128]

theorem gate3_apply (zin : FVec Ideal S32768x9216 .bf16) (r : Fin 32768) (h : Fin 8) (e : Fin 128) :
    gate3 zin (ix3 r h e) = zin (ix2 r ⟨8192 + (128 * h.val + e.val), by omega⟩) := by
  unfold gate3
  pointwise
  simp only [Nat.mul_comm h.val 128]

theorem heads3_apply (o z : FVec Ideal S32768x8x128 .f32) (gh : FVec Ideal S128 .f32) (r : Fin 32768) (h : Fin 8) (e : Fin 128) :
    heads3 o z gh (ix3 r h e) = Cert.Rows.norm headWidth (fun e => o (ix3 r h e)) (fun e => gh (ix1 e)) e * swish (z (ix3 r h e)) := by
  unfold heads3
  pointwise
  unfold Cert.Rows.norm headWidth swish Ideal.logistic
  simp only [zero_add]

theorem flat_apply (h : FVec Ideal S32768x8x128 .f32) (r : Fin 32768) (k : Fin 1024) :
    flat h (ix2 r k) = h (ix3 r ⟨k.val / 128, by omega⟩ ⟨k.val % 128, by omega⟩) := by
  unfold flat
  pointwise

theorem gates_apply (zin : FVec Ideal S32768x9216 .bf16) (r : Fin 32768) (k : Fin 2048) :
    gates zin (ix2 r k) = Ideal.logistic (zin (ix2 r ⟨6144 + k.val, by omega⟩)) := by
  unfold gates Ideal.logistic
  pointwise

theorem prod_apply (h : FVec Ideal S32768x1024 .f32) (w : FVec Ideal S1024x1024 .f32) (r : Fin 32768) (k : Fin 1024) :
    prod h w (ix2 r k) = dot (fun j => h (ix2 r j)) (fun j => w (ix2 j k)) := by
  unfold prod
  simp only [pointwise]
  exact zero_add _

theorem merge_apply (h y : FVec Ideal S32768x1024 .f32) (p : FVec Ideal S32768x2048 .f32) (wa wb : FVec Ideal S1024x1024 .f32) (r : Fin 32768) (k : Fin 1024) :
    merge h y p wa wb (ix2 r k) = p (ix2 r ⟨k.val, by omega⟩) * prod h wa (ix2 r k) + p (ix2 r ⟨1024 + k.val, by omega⟩) * prod y wb (ix2 r k) := by
  unfold merge
  pointwise

theorem normed_apply (y : FVec Ideal S32768x1024 .f32) (g : FVec Ideal S1024 .f32) (r : Fin 32768) (k : Fin 1024) :
    normed y g (ix2 r k) = Cert.Rows.norm width (fun k => y (ix2 r k)) (fun k => g (ix1 k)) k := by
  unfold normed
  pointwise
  unfold Cert.Rows.norm width
  simp only [zero_add]

theorem perRow_apply (md : FVec Ideal S4x1024 .f32) (r : Fin 32768) (k : Fin 1024) :
    perRow md (ix2 r k) = md (ix2 ⟨r.val / 8192, by omega⟩ k) := by
  unfold perRow
  pointwise

theorem added_apply (x : FVec Ideal S4x8192x1024 .f32) (mo m2 : FVec Ideal S32768x1024 .f32) (r : Fin 32768) (k : Fin 1024) :
    added x mo m2 (ix2 r k) = x (ix3 ⟨r.val / 8192, by omega⟩ ⟨r.val % 8192, by omega⟩ k) + m2 (ix2 r k) * mo (ix2 r k) := by
  unfold added
  pointwise

theorem turned_apply (y m4 m3 : FVec Ideal S32768x1024 .f32) (q : Fin 128) (k : Fin 1024) (j : Fin 256) :
    turned y m4 m3 (ix3 q k j) = y (ix2 ⟨256 * q.val + j.val, by omega⟩ k) * (1 + m4 (ix2 ⟨256 * q.val + j.val, by omega⟩ k)) + m3 (ix2 ⟨256 * q.val + j.val, by omega⟩ k) := by
  unfold turned
  pointwise
  simp only [Nat.mul_comm q.val 256]

variable (m : (ℓ : Loc nD τ sig) → Buf (Elt Ideal) ℓ) (c : Dev nD)

/-- The arguments at their shapes. -/
def args : Mix.Args where
  of := m (c, main_arg0)
  ob := m (c, main_arg1)
  zin := m (c, main_arg2)
  yb := m (c, main_arg3)
  x := m (c, main_arg4)
  md := m (c, main_arg5)
  gh := m (c, main_arg6)
  g1 := m (c, main_arg7)
  g2 := m (c, main_arg8)
  wa := m (c, main_arg9)
  wb := m (c, main_arg10)
  wo := m (c, main_arg11)

/-- The reference's arrays of the arguments: the projected merge and the residual sum. -/
def mixT (A : Mix.Args) : FVec Ideal S32768x1024 .f32 :=
  prod (merge (flat (heads3 (sum3 A.of A.ob) (gate3 A.zin) A.gh)) (extf .f32 (A.yb : FVec Ideal S32768x1024 .bf16) bitsLt_bf16_f32) (gates A.zin) A.wa A.wb) A.wo
def sumT (A : Mix.Args) : FVec Ideal S32768x1024 .f32 :=
  added A.x (normed (mixT A) A.g1) (perRow (extractStridedSlice S4x1024 ![0, 2048] (A.md : FVec Ideal S4x6144 .f32) slices_S4x6144_S4x1024_0_2048))
def nextT (A : Mix.Args) : FVec Ideal S128x1024x256 .bf16 :=
  turned (normed (sumT A) A.g2) (perRow (extractStridedSlice S4x1024 ![0, 4096] (A.md : FVec Ideal S4x6144 .f32) slices_S4x6144_S4x1024_0_4096))
    (perRow (extractStridedSlice S4x1024 ![0, 3072] (A.md : FVec Ideal S4x6144 .f32) slices_S4x6144_S4x1024_0_3072))

theorem res_sum : res_main_v59 m c = sumT (args m c) := rfl

theorem res_next : res_main_v87 m c = nextT (args m c) := rfl

variable (A : Mix.Args) (r : Fin 32768) (k : Fin 1024)

theorem mod2_apply : perRow (extractStridedSlice S4x1024 ![0, 2048] (A.md : FVec Ideal S4x6144 .f32) slices_S4x6144_S4x1024_0_2048) (ix2 r k) = mdRow A r 2 k := by
  refine (perRow_apply _ r k).trans ?_
  pointwise
  rfl
theorem mod3_apply : perRow (extractStridedSlice S4x1024 ![0, 3072] (A.md : FVec Ideal S4x6144 .f32) slices_S4x6144_S4x1024_0_3072) (ix2 r k) = mdRow A r 3 k := by
  refine (perRow_apply _ r k).trans ?_
  pointwise
  rfl
theorem mod4_apply : perRow (extractStridedSlice S4x1024 ![0, 4096] (A.md : FVec Ideal S4x6144 .f32) slices_S4x6144_S4x1024_0_4096) (ix2 r k) = mdRow A r 4 k := by
  refine (perRow_apply _ r k).trans ?_
  pointwise
  rfl

theorem flat_gated : flat (heads3 (sum3 A.of A.ob) (gate3 A.zin) A.gh) (ix2 r k) = gatedRow A r k := by
  refine (flat_apply _ r k).trans ((heads3_apply _ _ _ r _ _).trans ?_)
  simp only [sum3_apply, gate3_apply]
  rfl

theorem mixT_apply : mixT A (ix2 r k) = mixedRow A r k := by
  unfold mixT
  simp only [prod_apply, merge_apply, flat_gated, gates_apply]
  rfl

theorem sumT_apply : sumT A (ix2 r k) = sumRow A r k := by
  unfold sumT
  refine (added_apply _ _ _ r k).trans ?_
  simp only [normed_apply, mixT_apply, mod2_apply]
  rfl

theorem res_sum_eq : res_main_v59 m c = Mix.sums (args m c) := by
  refine (res_sum m c).trans (funext fun y => ?_)
  obtain ⟨r, k, rfl⟩ := exists_ix2 (a := 32768) (b := 1024) y
  exact sumT_apply _ r k

theorem res_next_eq : res_main_v87 m c = Mix.nexts (args m c) := by
  refine (res_next m c).trans (funext fun y => ?_)
  obtain ⟨q, k, j, rfl⟩ := exists_ix3 (a := 128) (b := 1024) (c := 256) y
  unfold nextT
  refine (turned_apply _ _ _ q k j).trans ?_
  simp only [normed_apply, sumT_apply, mod3_apply, mod4_apply]
  rfl

end Cert.Reference3Ideal.Own

end
-- ==== Proof.MixFinal.lean ====
/-
The mixing call's reference's frame, and the two programs' results set side by side.
-/
module

public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.MixArrays
public import proofs.«01_k».proof.Proof.MixRef

@[expose] public section

noncomputable section

open Idealize.ShloMosaic Idealize.SL.Sem

namespace Cert.Reference3Ideal.Own

open Cert.Reference3Ideal Cert.Reference3Ideal.Gen Cert.Reference3Ideal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h c).2.2, no_sem r.2.sem⟩) (Value.run m ρ)

end Cert.Reference3Ideal.Own

namespace Cert.Proof

theorem algebraic3 : @algebraic_Kernel3Ideal_Reference3Ideal Cert.Kernel3Ideal.Gen.facts Cert.Reference3Ideal.Gen.facts := by
  intro m g m' g' _ hagree
  have hR : ∀ c, Cert.Reference3Ideal.Own.args m' c = Cert.Kernel3Ideal.Own.args m c := fun c => by
    obtain ⟨h0, h1, h2, h3, h4, h5, h6, h7, h8, h9, h10, h11⟩ := hagree c
    exact Mix.Args.mk.injEq .. |>.mpr ⟨h0, h1, h2, h3, h4, h5, h6, h7, h8, h9, h10, h11⟩
  refine ⟨fun c => Mix.sums (Cert.Kernel3Ideal.Own.args m c), fun c => Mix.nexts (Cert.Kernel3Ideal.Own.args m c), ?_, ?_⟩
  · refine (θ_run _ _ _).mono (fun r h c => ?_) (Cert.Kernel3Ideal.Value.run_blocks m g)
    obtain ⟨h0, h1, h2⟩ := h c
    exact ⟨h0.trans (Cert.Kernel3Ideal.Own.arr_13 m c), h1.trans (Cert.Kernel3Ideal.Own.arr_14 m c), h2⟩
  · refine (θ_run _ _ _).mono (fun r h c => ?_) (Cert.Reference3Ideal.Value.run m' g')
    obtain ⟨h0, h1, h2⟩ := h c
    have e0 := Cert.Reference3Ideal.Own.res_sum_eq m' c
    have e1 := Cert.Reference3Ideal.Own.res_next_eq m' c
    rw [hR c] at e0 e1
    exact ⟨h0.trans e0, h1.trans e1, h2⟩

end Cert.Proof

end
-- ==== Proof.EndSpec.lean ====
/-
What the layer's last call computes, row by row: the residual sum with the norm of the channel mixer's output.
-/
module

public import proofs.«01_k».proof.Proof.MixSpec

@[expose] public section

noncomputable section

namespace Cert.End

open Idealize.ShloMosaic Cert.Rows Cert.Mix

/-- The shape of the channel mixer's output: transposed, in groups of 256 rows. -/
abbrev SF : Shape := ⟨3, ![128, 1024, 256]⟩

variable (f : SF.Idx → EReal) (x : ST.Idx → EReal) (md : SM.Idx → EReal) (g : SG.Idx → EReal)

/-- Row `r` of the residual sum. -/
def row (r : Fin 32768) : Fin 1024 → EReal :=
  resid (fun k => x (ix2 r k)) (fun k => md (ix2 ⟨r.val / 8192, by omega⟩ ⟨5120 + k.val, by omega⟩))
    (fun k => f (ix3 ⟨r.val / 256, by omega⟩ k ⟨r.val % 256, by omega⟩)) (fun k => g (ix1 k))

def rows : ST.Idx → EReal := fun y => row f x md g (y 0) (y 1)

end Cert.End

end
-- ==== Proof.EndBody.lean ====
/-
What a grid point of the last call leaves in its output block, at an index: from the blocks that it stages.
-/
module

public import proofs.«01_k».proof.Proof.Gen.Kernel4Ideal.Frame
public import proofs.«01_k».proof.Proof.EndSpec
public import Idealize.ShloMosaic.Lib.StableHlo.ReadAt

@[expose] public section

noncomputable section

namespace Cert.Kernel4Ideal.Own

open Cert.Kernel4Ideal Cert.Kernel4Ideal.Gen Cert.Rows Cert.Mix
open Idealize.ShloMosaic Idealize.ShloMosaic.TcCoe Idealize.ShloMosaic.Tactic

theorem first_apply (x : FVec Ideal S256x1024 .f32) (md : FVec Ideal S1x1x1024 .f32) (f : FVec Ideal S1x1024x256 .f32) (g : FVec Ideal S1x1024 .f32) (i : Fin 256) (k : Fin 1024) :
    k0_pay2 (F := Ideal) x md f g (ix2 i k)
      = resid (fun k => x (ix2 i k)) (fun k => md (ix3 0 0 k)) (fun k => f (ix3 0 k i)) (fun k => g (ix2 0 k)) k := by
  unfold k0_pay2
  pointwise
  rfl

theorem second_apply (x : FVec Ideal S256x1024 .f32) (md : FVec Ideal S1x1x1024 .f32) (f : FVec Ideal S1x1024x256 .f32) (g : FVec Ideal S1x1024 .f32) (i : Fin 256) (k : Fin 1024) :
    k0_pay1 (F := Ideal) x (k0_pay3 md) (k0_pay4 f) (k0_pay5 g) (k0_pay6 f) (ix2 i k)
      = resid (fun k => x (ix2 i k)) (fun k => md (ix3 0 0 k)) (fun k => f (ix3 0 k i)) (fun k => g (ix2 0 k)) k := by
  unfold k0_pay1 k0_pay3 k0_pay5 k0_pay6 k0_pay4
  pointwise
  rfl

/-- Row `i` of the residual sum, from the blocks staged. -/
def rowBlk (x0 : FVec Ideal S2x1024x256 .f32) (x1 : FVec Ideal S512x1024 .f32) (x2 : FVec Ideal S1x8x1024 .f32) (x3 : FVec Ideal S1x1024 .f32) (i : Fin 512) : Fin 1024 → EReal :=
  resid (fun k => x1 (ix2 i k)) (fun k => x2 (ix3 0 5 k)) (fun k => x0 (ix3 ⟨i.val / 256, by omega⟩ k ⟨i.val % 256, by omega⟩)) (fun k => x3 (ix2 0 k))

variable (x0 : FVec Ideal S2x1024x256 .f32) (x1 : FVec Ideal S512x1024 .f32) (x2 : FVec Ideal S1x8x1024 .f32) (x3 : FVec Ideal S1x1024 .f32)

theorem ld_md (k : Fin 1024) : View.ld (Val := Elt Ideal) (e' := .f32) x2 (Rect.unit (s := S1x8x1024) ![0, 5, 0] S1x1x1024.size inb_S1x8x1024_S1x1x1024_0_5_0) (ix3 0 0 k) = x2 (ix3 0 5 k) :=
  View.ld_unit_apply_of (Val := Elt Ideal) (e := .f32) x2 _ _ _ (ix3 0 0 k) (ix3 0 5 k)
    (by intro a; match a with | ⟨0, _⟩ => rfl | ⟨1, _⟩ => rfl | ⟨2, _⟩ => exact (Nat.zero_add _).symm)

theorem ld_g (k : Fin 1024) : View.ld (Val := Elt Ideal) (e' := .f32) x3 (Rect.unit (s := S1x1024) ![0, 0] S1x1024.size inb_S1x1024_S1x1024_0_0) (ix2 0 k) = x3 (ix2 0 k) :=
  View.ld_unit_apply_of (Val := Elt Ideal) (e := .f32) x3 _ _ _ (ix2 0 k) (ix2 0 k)
    (by intro a; match a with | ⟨0, _⟩ => rfl | ⟨1, _⟩ => exact (Nat.zero_add _).symm)

/-- A half of the rows, and a group of the channel mixer's output. -/
theorem ld_x (o : ℕ) (inb : ∀ a, (![o, 0] : Fin 2 → ℕ) a + S256x1024.size a ≤ S512x1024.size a) (j : Fin 256) (i : Fin 512) (h : i.val = o + j.val) (k : Fin 1024) :
    View.ld (Val := Elt Ideal) (e' := .f32) x1 (Rect.unit (s := S512x1024) ![o, 0] S256x1024.size inb) (ix2 j k) = x1 (ix2 i k) :=
  View.ld_unit_apply_of (Val := Elt Ideal) (e := .f32) x1 _ _ _ (ix2 j k) (ix2 i k)
    (by intro a; match a with | ⟨0, _⟩ => exact h | ⟨1, _⟩ => exact (Nat.zero_add _).symm)

theorem ld_f (o : ℕ) (inb : ∀ a, (![o, 0, 0] : Fin 3 → ℕ) a + S1x1024x256.size a ≤ S2x1024x256.size a) (q : Fin 2) (h : q.val = o) (j : Fin 256) (k : Fin 1024) :
    View.ld (Val := Elt Ideal) (e' := .f32) x0 (Rect.unit (s := S2x1024x256) ![o, 0, 0] S1x1024x256.size inb) (ix3 0 k j) = x0 (ix3 q k j) :=
  View.ld_unit_apply_of (Val := Elt Ideal) (e := .f32) x0 _ _ _ (ix3 0 k j) (ix3 q k j)
    (by intro a; match a with | ⟨0, _⟩ => exact h | ⟨1, _⟩ => exact (Nat.zero_add _).symm | ⟨2, _⟩ => exact (Nat.zero_add _).symm)

theorem out_rows (i : Fin 512) (k : Fin 1024) : out0_4 (F := Ideal) x0 x1 x2 x3 (ix2 i k) = rowBlk x0 x1 x2 x3 i k := by
  unfold out0_4
  refine View.canon_eq_of_allAt _ _ _ (cover0_4 ..) ?_
  refine View.allAt_cons_unit _ _ _ _ _ ?_ (View.allAt_cons_unit _ _ _ _ _ ?_ (View.allAt_nil _ _))
  · intro y hy
    obtain ⟨j, k', rfl⟩ := Cert.Rows.exists_ix2 (a := 256) (b := 1024) y
    obtain rfl : k = k' := Fin.ext ((hy 1).trans (Nat.zero_add _))
    have hi : i.val = 256 + j.val := hy 0
    have e1 : (⟨i.val / 256, by omega⟩ : Fin 2) = 1 := Fin.ext (show i.val / 256 = 1 by omega)
    have e2 : (⟨i.val % 256, by omega⟩ : Fin 256) = j := Fin.ext (show i.val % 256 = j.val by omega)
    refine (second_apply _ _ _ _ j k).trans ?_
    unfold rowBlk
    rw [e1, e2]
    simp only [ld_md x2, ld_g x3, ld_x x1 256 _ j i hi, ld_f x0 1 _ 1 rfl]
  · intro y hy
    obtain ⟨j, k', rfl⟩ := Cert.Rows.exists_ix2 (a := 256) (b := 1024) y
    obtain rfl : k = k' := Fin.ext ((hy 1).trans (Nat.zero_add _))
    have hi : i.val = 0 + j.val := hy 0
    have e1 : (⟨i.val / 256, by omega⟩ : Fin 2) = 0 := Fin.ext (show i.val / 256 = 0 by omega)
    have e2 : (⟨i.val % 256, by omega⟩ : Fin 256) = j := Fin.ext (show i.val % 256 = j.val by omega)
    refine (first_apply _ _ _ _ j k).trans ?_
    unfold rowBlk
    rw [e1, e2]
    simp only [ld_md x2, ld_g x3, ld_x x1 0 _ j i hi, ld_f x0 0 _ 0 rfl]

end Cert.Kernel4Ideal.Own

end
-- ==== Proof.EndArrays.lean ====
/-
The arrays that the last call reads, the blocks that a grid point stages, and the array that the call leaves.
-/
module

public import proofs.«01_k».proof.Proof.EndBody
public import Idealize.ShloMosaic.Lib.Pipeline.ValueKit.Point

@[expose] public section

noncomputable section

namespace Cert.Kernel4Ideal.Own

open Cert.Kernel4Ideal Cert.Kernel4Ideal.Gen Cert.Rows Cert.Mix
open Idealize.ShloMosaic Idealize.ShloMosaic.TcCoe Idealize.ShloMosaic.Tactic

variable (m : (ℓ : Loc nD τ sig) → Buf (Elt Ideal) ℓ) (c : Dev nD)

/-- The arguments at their shapes. -/
def aF : End.SF.Idx → EReal := m (c, main_arg0)
def aX : ST.Idx → EReal := m (c, main_arg1)
def aM : SM.Idx → EReal := m (c, main_arg2)
def aG : SG.Idx → EReal := m (c, main_arg3)

/-- The layouts as the call finds them. -/
def vF : S128x1024x256.Idx → EReal := V m c main_arg0
def vX : S32768x1024.Idx → EReal := V m c main_arg1
def vM : S4x8x1024.Idx → EReal := V m c main_v1
def vG : S1x1024.Idx → EReal := V m c main_v2

theorem V_f : vF m c = aF m c := by
  funext y; obtain ⟨q, k, j, rfl⟩ := exists_ix3 (a := 128) (b := 1024) (c := 256) y
  unfold vF aF V
  after_reads_at
theorem V_x : vX m c = aX m c := by
  funext y; obtain ⟨i, k, rfl⟩ := exists_ix2 (a := 32768) (b := 1024) y
  unfold vX aX V
  after_reads_at
theorem V_mod (b : Fin 4) (k : Fin 1024) : vM m c (ix3 b 5 k) = aM m c (ix2 b ⟨5120 + k.val, by omega⟩) := by
  unfold vM aM V
  after_reads_at
theorem V_g (k : Fin 1024) : vG m c (ix2 0 k) = aG m c (ix1 k) := by
  unfold vG aG V
  after_reads_at

/-- Where each window's block lies at each point. -/
theorem idx : ∀ t : Fin grid0.N,
    win0_0.index t = ![t.val, 0, 0] ∧ win0_1.index t = ![t.val, 0] ∧ win0_2.index t = ![t.val / 16, 0, 0] ∧ win0_3.index t = ![0, 0] ∧ win0_4.index t = ![t.val, 0] := by decide +kernel

theorem lt_64 (t : Fin cfg0.N) : t.val < 64 := t.isLt

theorem blk_f (t : Fin cfg0.N) (q : Fin 2) (k : Fin 1024) (j : Fin 256) :
    iblk m c 0 t (ix3 q k j) = vF m c (ix3 ⟨2 * t.val + q.val, by have := lt_64 t; omega⟩ k j) := by
  unfold vF
  blk_ext [iblk, idx t]

theorem blk_x (t : Fin cfg0.N) (i : Fin 512) (k : Fin 1024) :
    iblk m c 1 t (ix2 i k) = vX m c (ix2 ⟨512 * t.val + i.val, by have := lt_64 t; omega⟩ k) := by
  unfold vX
  blk_ext [iblk, idx t]

theorem blk_mod (t : Fin cfg0.N) (j : Fin 8) (k : Fin 1024) :
    iblk m c 2 t (ix3 0 j k) = vM m c (ix3 ⟨t.val / 16, by have := lt_64 t; omega⟩ j k) := by
  unfold vM
  blk_ext [iblk, idx t]

theorem blk_g (t : Fin cfg0.N) (k : Fin 1024) : iblk m c 3 t (ix2 0 k) = vG m c (ix2 0 k) := by
  unfold vG
  blk_ext [iblk, idx t]

/-- The rows of a point are rows of the batch. -/
theorem rowBlk_row (t : Fin cfg0.N) (i : Fin 512) :
    rowBlk (iblk m c 0 t) (iblk m c 1 t) (iblk m c 2 t) (iblk m c 3 t) i
      = End.row (aF m c) (aX m c) (aM m c) (aG m c) ⟨512 * t.val + i.val, by have := lt_64 t; omega⟩ := by
  have ht := lt_64 t
  have e0 : (512 * t.val + i.val) / 8192 = t.val / 16 := by omega
  have e1 : (512 * t.val + i.val) / 256 = 2 * t.val + i.val / 256 := by omega
  have e2 : (512 * t.val + i.val) % 256 = i.val % 256 := by omega
  unfold rowBlk End.row
  simp only [blk_f, blk_x, blk_mod, blk_g, V_f, V_x, V_mod, V_g, e0, e1, e2]

theorem emb_4 (t : Fin cfg0.N) (i : Fin 512) (k : Fin 1024) :
    (win0_4.blk t).view.emb (ix2 i k) = ix2 ⟨512 * t.val + i.val, by have := lt_64 t; omega⟩ k := by
  blk_ext [iblk, idx t]

theorem arr_4 : (dats m 0 c).arrAt 4 cfg0.N = End.rows (aF m c) (aX m c) (aM m c) (aG m c) := by
  refine (dats m 0 c).arrAt_eq_of_covers 4 _ (by decide +kernel) fun t hfl y => ?_
  blk_simp
  obtain ⟨i, k, rfl⟩ := exists_ix2 (a := 512) (b := 1024) y
  refine Eq.trans ?_ (congrArg (End.rows (aF m c) (aX m c) (aM m c) (aG m c)) (emb_4 t i k)).symm
  refine (congrFun (after0_4 m c t) _).trans ?_
  refine (out_rows _ _ _ _ i k).trans ?_
  rw [rowBlk_row m c t i]
  rfl

end Cert.Kernel4Ideal.Own

end
-- ==== Proof.EndRef.lean ====
/-
The last call's reference: its result is the rows of the residual sum.
-/
module

public import proofs.«01_k».proof.Proof.Gen.Reference4Ideal.Run
public import proofs.«01_k».proof.Proof.EndSpec
public import Idealize.ShloMosaic.Lib.StableHlo.ReadAt

@[expose] public section

set_option maxRecDepth 8192

noncomputable section

namespace Cert.Reference4Ideal.Own

open Cert.Reference4Ideal Cert.Reference4Ideal.Gen Cert.Reference4Ideal.Value Cert.Rows Cert.Mix
open Idealize.ShloMosaic Idealize.ShloMosaic.TcCoe Idealize.ShloMosaic.Tactic Idealize.ShloMosaic.StableHlo

/-- The channel mixer's output, by sequence and token. -/
def swapped (f : FVec Ideal S128x1024x256 .f32) : FVec Ideal S128x256x1024 .f32 :=
  transpose S128x256x1024 [0, 2, 1] f transposes_S128x1024x256_S128x256x1024_0_2_1
def turned (f : FVec Ideal S128x1024x256 .f32) : FVec Ideal S4x8192x1024 .f32 :=
  shapeCast S4x8192x1024 (swapped f) shapeCasts_S128x256x1024_S4x8192x1024

/-- The tokens' norms. -/
def normed (y : FVec Ideal S4x8192x1024 .f32) (g : FVec Ideal S1024 .f32) : FVec Ideal S4x8192x1024 .f32 :=
  mulf (mulf y (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf y y) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 g))

/-- The residual sum. -/
def added (x : FVec Ideal S32768x1024 .f32) (md : FVec Ideal S4x6144 .f32) (y : FVec Ideal S4x8192x1024 .f32) : FVec Ideal S32768x1024 .f32 :=
  shapeCast S32768x1024 (addf (shapeCast S4x8192x1024 x shapeCasts_S32768x1024_S4x8192x1024) (mulf (broadcastInDim S4x8192x1024 ![0, 1, 2] bcast_S4x1x1024_S4x8192x1024_0_1_2 (broadcastInDim S4x1x1024 ![0, 2] bcast_S4x1024_S4x1x1024_0_2 (extractStridedSlice S4x1024 ![0, 5120] md slices_S4x6144_S4x1024_0_5120))) y)) shapeCasts_S4x8192x1024_S32768x1024

theorem swapped_apply (f : FVec Ideal S128x1024x256 .f32) (q : Fin 128) (j : Fin 256) (k : Fin 1024) : swapped f (ix3 q j k) = f (ix3 q k j) := by
  unfold swapped
  pointwise

theorem turned_apply (f : FVec Ideal S128x1024x256 .f32) (b : Fin 4) (s : Fin 8192) (k : Fin 1024) :
    turned f (ix3 b s k) = f (ix3 ⟨(8192 * b.val + s.val) / 256, by omega⟩ k ⟨(8192 * b.val + s.val) % 256, by omega⟩) := by
  unfold turned
  pointwise
  refine (swapped_apply f _ _ k).trans ?_
  have e1 : b.val * 32 + s.val / 256 = (8192 * b.val + s.val) / 256 := by omega
  have e2 : s.val % 256 = (8192 * b.val + s.val) % 256 := by omega
  simp only [e1, e2]

theorem normed_apply (y : FVec Ideal S4x8192x1024 .f32) (g : FVec Ideal S1024 .f32) (b : Fin 4) (s : Fin 8192) (k : Fin 1024) :
    normed y g (ix3 b s k) = Cert.Rows.norm width (fun k => y (ix3 b s k)) (fun k => g (ix1 k)) k := by
  unfold normed
  pointwise
  unfold Cert.Rows.norm width
  simp only [zero_add]

theorem added_apply (x : FVec Ideal S32768x1024 .f32) (md : FVec Ideal S4x6144 .f32) (y : FVec Ideal S4x8192x1024 .f32) (r : Fin 32768) (k : Fin 1024) :
    added x md y (ix2 r k) = x (ix2 r k) + md (ix2 ⟨r.val / 8192, by omega⟩ ⟨5120 + k.val, by omega⟩) * y (ix3 ⟨r.val / 8192, by omega⟩ ⟨r.val % 8192, by omega⟩ k) := by
  unfold added
  pointwise

variable (m : (ℓ : Loc nD τ sig) → Buf (Elt Ideal) ℓ) (c : Dev nD)

/-- The arguments at their shapes. -/
def aF : End.SF.Idx → EReal := m (c, main_arg0)
def aX : ST.Idx → EReal := m (c, main_arg1)
def aM : SM.Idx → EReal := m (c, main_arg2)
def aG : SG.Idx → EReal := m (c, main_arg3)

/-- The reference's array. -/
def result : FVec Ideal S32768x1024 .f32 := added (aX m c) (aM m c) (normed (turned (aF m c)) (aG m c))

theorem result_eq : result m c = End.rows (aF m c) (aX m c) (aM m c) (aG m c) := by
  funext y
  obtain ⟨r, k, rfl⟩ := exists_ix2 (a := 32768) (b := 1024) y
  have e : 8192 * (r.val / 8192) + r.val % 8192 = r.val := Nat.div_add_mod r.val 8192
  unfold result
  refine (added_apply _ _ _ r k).trans ?_
  simp only [normed_apply, turned_apply, e]
  rfl

end Cert.Reference4Ideal.Own

end
-- ==== Proof.EndFinal.lean ====
/-
The last call's reference's frame, and the two programs' results set side by side.
-/
module

public import proofs.«01_k».proof.Defs
public import proofs.«01_k».proof.Proof.Gen.Kernel4
public import proofs.«01_k».proof.Proof.Gen.Kernel4.Frame
public import proofs.«01_k».proof.Proof.Gen.Kernel4Ideal.Value
public import proofs.«01_k».proof.Proof.EndArrays
public import proofs.«01_k».proof.Proof.EndRef

@[expose] public section

noncomputable section

open Idealize.ShloMosaic Idealize.SL.Sem

namespace Cert.Reference4Ideal.Own

open Cert.Reference4Ideal Cert.Reference4Ideal.Gen Cert.Reference4Ideal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, no_sem r.2.sem⟩) (Value.run m ρ)

end Cert.Reference4Ideal.Own

namespace Cert.Proof

theorem algebraic4 : @algebraic_Kernel4Ideal_Reference4Ideal Cert.Kernel4Ideal.Gen.facts Cert.Reference4Ideal.Gen.facts := by
  intro m g m' g' _ hagree
  have hR : ∀ c, Cert.Reference4Ideal.Own.aF m' c = Cert.Kernel4Ideal.Own.aF m c ∧ Cert.Reference4Ideal.Own.aX m' c = Cert.Kernel4Ideal.Own.aX m c
      ∧ Cert.Reference4Ideal.Own.aM m' c = Cert.Kernel4Ideal.Own.aM m c ∧ Cert.Reference4Ideal.Own.aG m' c = Cert.Kernel4Ideal.Own.aG m c := fun c => hagree c
  refine ⟨fun c => End.rows (Cert.Kernel4Ideal.Own.aF m c) (Cert.Kernel4Ideal.Own.aX m c) (Cert.Kernel4Ideal.Own.aM m c) (Cert.Kernel4Ideal.Own.aG m c), ?_, ?_⟩
  · refine (θ_run _ _ _).mono (fun r h c => ?_) (Cert.Kernel4Ideal.Value.run_blocks m g)
    obtain ⟨h0, h1⟩ := h c
    exact ⟨h0.trans (Cert.Kernel4Ideal.Own.arr_4 m c), h1⟩
  · refine (θ_run _ _ _).mono (fun r h c => ?_) (Cert.Reference4Ideal.Value.run m' g')
    obtain ⟨h0, h1⟩ := h c
    obtain ⟨eF, eX, eM, eG⟩ := hR c
    have e0 := Cert.Reference4Ideal.Own.result_eq m' c
    rw [eF, eX, eM, eG] at e0
    exact ⟨h0.trans e0, h1⟩

end Cert.Proof

end
-- ==== Proof.AdaSpec.lean ====
/-
What the conditions' projection computes: the gated conditions of the two batches times the weights, plus the bias.
-/
module

public import proofs.«01_k».proof.Proof.MixSpec

@[expose] public section

noncomputable section

namespace Cert.Ada

open Idealize.ShloMosaic Cert.Rows Cert.Mix

/-- The shapes of the arguments and of the result. -/
abbrev SC : Shape := ⟨2, ![4, 1024]⟩
abbrev SA : Shape := ⟨2, ![1024, 6144]⟩
abbrev SB : Shape := ⟨1, ![6144]⟩
abbrev SO : Shape := ⟨2, ![8, 6144]⟩

variable (cp cs : SC.Idx → EReal) (w : SA.Idx → EReal) (b : SB.Idx → EReal)

/-- Condition `r` of the eight. -/
def source (r : Fin 8) (k : Fin 1024) : EReal := if h : r.val < 4 then cp (ix2 ⟨r.val, h⟩ k) else cs (ix2 ⟨r.val - 4, by omega⟩ k)

/-- Modulation `z` of condition `r`. -/
def entry (r : Fin 8) (z : Fin 6144) : EReal := dot (fun k => swish (source cp cs r k)) (fun k => w (ix2 k z)) + b (ix1 z)

def mods : SO.Idx → EReal := fun y => entry cp cs w b (y 0) (y 1)

end Cert.Ada

end
-- ==== Proof.AdaArrays.lean ====
/-
What a grid point of the conditions' projection leaves in its block, the arrays that the call reads, and the array that it leaves.
-/
module

public import proofs.«01_k».proof.Proof.Gen.Kernel5Ideal.Frame
public import proofs.«01_k».proof.Proof.AdaSpec
public import Idealize.ShloMosaic.Lib.StableHlo.ReadAt
public import Idealize.ShloMosaic.Lib.Pipeline.ValueKit.Point

@[expose] public section

noncomputable section

namespace Cert.Kernel5Ideal.Own

open Cert.Kernel5Ideal Cert.Kernel5Ideal.Gen Cert.Rows Cert.Mix Cert.Ada
open Idealize.ShloMosaic Idealize.ShloMosaic.TcCoe Idealize.ShloMosaic.Tactic

theorem pay_apply (x : FVec Ideal S8x1024 .f32) (w : FVec Ideal S1024x1536 .f32) (b : FVec Ideal S1x1536 .f32) (r : Fin 8) (z : Fin 1536) :
    k0_pay1 (F := Ideal) x w b (ix2 r z) = dot (fun k => swish (x (ix2 r k))) (fun k => w (ix2 k z)) + b (ix2 0 z) := by
  unfold k0_pay1 dot swish
  pointwise

theorem out_entry (x : FVec Ideal S8x1024 .f32) (w : FVec Ideal S1024x1536 .f32) (b : FVec Ideal S1x1536 .f32) (r : Fin 8) (z : Fin 1536) :
    out0_3 (F := Ideal) x w b (ix2 r z) = dot (fun k => swish (x (ix2 r k))) (fun k => w (ix2 k z)) + b (ix2 0 z) := by
  have zero2 : (![0, 0] : Fin 2 → ℕ) = fun _ => 0 := funext fun a => by match a with | ⟨0, _⟩ => rfl | ⟨1, _⟩ => rfl
  have e0 : View.ld (Val := Elt Ideal) (e' := .f32) x r0_0 = x := View.ld_unit_zero (Val := Elt Ideal) (e := .f32) (S := S8x1024) zero2 _ x
  have e1 : View.ld (Val := Elt Ideal) (e' := .f32) w r0_1 = w := View.ld_unit_zero (Val := Elt Ideal) (e := .f32) (S := S1024x1536) zero2 _ w
  have e2 : View.ld (Val := Elt Ideal) (e' := .f32) b r0_2 = b := View.ld_unit_zero (Val := Elt Ideal) (e := .f32) (S := S1x1536) zero2 _ b
  unfold out0_3
  rw [e0, e1, e2, View.canon_unit_zero zero2]
  exact pay_apply x w b r z

variable (m : (ℓ : Loc nD τ sig) → Buf (Elt Ideal) ℓ) (c : Dev nD)

/-- The arguments at their shapes. -/
def aP : SC.Idx → EReal := m (c, main_arg0)
def aS : SC.Idx → EReal := m (c, main_arg1)
def aW : SA.Idx → EReal := m (c, main_arg2)
def aB : SB.Idx → EReal := m (c, main_arg3)

/-- The layouts as the call finds them. -/
def vC : S8x1024.Idx → EReal := V m c main_v0
def vW : S1024x6144.Idx → EReal := V m c main_arg2
def vB : S1x6144.Idx → EReal := V m c main_v1

theorem V_c (r : Fin 8) (k : Fin 1024) : vC m c (ix2 r k) = source (aP m c) (aS m c) r k := by
  unfold vC source aP aS V
  after_reads_at
theorem V_w : vW m c = aW m c := by
  funext y; obtain ⟨k, z, rfl⟩ := exists_ix2 (a := 1024) (b := 6144) y
  unfold vW aW V
  after_reads_at
theorem V_b (z : Fin 6144) : vB m c (ix2 0 z) = aB m c (ix1 z) := by
  unfold vB aB V
  after_reads_at

/-- Where each window's block lies at each point. -/
theorem idx : ∀ t : Fin grid0.N,
    win0_0.index t = ![0, 0] ∧ win0_1.index t = ![0, t.val] ∧ win0_2.index t = ![0, t.val] ∧ win0_3.index t = ![0, t.val] := by decide +kernel

theorem lt_4 (t : Fin cfg0.N) : t.val < 4 := t.isLt

theorem blk_c (t : Fin cfg0.N) (r : Fin 8) (k : Fin 1024) : iblk m c 0 t (ix2 r k) = vC m c (ix2 r k) := by
  unfold vC
  blk_ext [iblk, idx t]

theorem blk_w (t : Fin cfg0.N) (k : Fin 1024) (z : Fin 1536) :
    iblk m c 1 t (ix2 k z) = vW m c (ix2 k ⟨1536 * t.val + z.val, by have := lt_4 t; omega⟩) := by
  unfold vW
  blk_ext [iblk, idx t]

theorem blk_b (t : Fin cfg0.N) (z : Fin 1536) :
    iblk m c 2 t (ix2 0 z) = vB m c (ix2 0 ⟨1536 * t.val + z.val, by have := lt_4 t; omega⟩) := by
  unfold vB
  blk_ext [iblk, idx t]

theorem emb_3 (t : Fin cfg0.N) (r : Fin 8) (z : Fin 1536) :
    (win0_3.blk t).view.emb (ix2 r z) = ix2 r ⟨1536 * t.val + z.val, by have := lt_4 t; omega⟩ := by
  blk_ext [iblk, idx t]

theorem arr_3 : (dats m 0 c).arrAt 3 cfg0.N = Ada.mods (aP m c) (aS m c) (aW m c) (aB m c) := by
  refine (dats m 0 c).arrAt_eq_of_covers 3 _ (by decide +kernel) fun t hfl y => ?_
  blk_simp
  obtain ⟨r, z, rfl⟩ := exists_ix2 (a := 8) (b := 1536) y
  refine Eq.trans ?_ (congrArg (Ada.mods (aP m c) (aS m c) (aW m c) (aB m c)) (emb_3 t r z)).symm
  refine (congrFun (after0_3 m c t) _).trans ?_
  refine (out_entry _ _ _ r z).trans ?_
  simp only [blk_c, blk_w, blk_b, V_c, V_w, V_b]
  rfl

end Cert.Kernel5Ideal.Own

end
-- ==== Proof.AdaRef.lean ====
/-
The conditions' projection's reference: its result is the modulations of the two batches.
-/
module

public import proofs.«01_k».proof.Proof.Gen.Reference5Ideal.Run
public import proofs.«01_k».proof.Proof.AdaSpec
public import Idealize.ShloMosaic.Lib.StableHlo.ReadAt

@[expose] public section

set_option maxRecDepth 8192

noncomputable section

namespace Cert.Reference5Ideal.Own

open Cert.Reference5Ideal Cert.Reference5Ideal.Gen Cert.Reference5Ideal.Value Cert.Rows Cert.Mix Cert.Ada
open Idealize.ShloMosaic Idealize.ShloMosaic.TcCoe Idealize.ShloMosaic.Tactic Idealize.ShloMosaic.StableHlo

/-- A batch's gated conditions, and their projection. -/
def gatedC (x : FVec Ideal S4x1024 .f32) : FVec Ideal S4x1024 .f32 :=
  mulf x (Host.divf (broadcastInDim S4x1024 ![] bcast_S_S4x1024 (constant S_ .f32 0x3F800000#32)) (addf (broadcastInDim S4x1024 ![] bcast_S_S4x1024 (constant S_ .f32 0x3F800000#32)) (Host.exp (Host.negf x))))
def batch (x : FVec Ideal S4x1024 .f32) (w : FVec Ideal S1024x6144 .f32) (b : FVec Ideal S6144 .f32) : FVec Ideal S4x6144 .f32 :=
  addf (Host.dotGeneral dot_S4x1024_S1024x6144_S4x6144_1_0_0_1_n_n none x w) (broadcastInDim S4x6144 ![0, 1] bcast_S1x6144_S4x6144_0_1 (broadcastInDim S1x6144 ![1] bcast_S6144_S1x6144_1 b))

/-- The two batches, one above the other. -/
def both (p s : FVec Ideal S4x6144 .f32) : FVec Ideal S8x6144 .f32 :=
  concatenate S8x6144 0 [⟨S4x6144, p⟩, ⟨S4x6144, s⟩] concatenates_S4x6144_S4x6144_S8x6144_d0

theorem gatedC_apply (x : FVec Ideal S4x1024 .f32) (i : Fin 4) (k : Fin 1024) : gatedC x (ix2 i k) = swish (x (ix2 i k)) := by
  unfold gatedC swish Ideal.logistic
  pointwise

theorem batch_apply (x : FVec Ideal S4x1024 .f32) (w : FVec Ideal S1024x6144 .f32) (b : FVec Ideal S6144 .f32) (i : Fin 4) (z : Fin 6144) :
    batch x w b (ix2 i z) = dot (fun k => x (ix2 i k)) (fun k => w (ix2 k z)) + b (ix1 z) := by
  unfold batch dot
  pointwise

theorem both_apply (p s : FVec Ideal S4x6144 .f32) (r : Fin 8) (z : Fin 6144) :
    both p s (ix2 r z) = if h : r.val < 4 then p (ix2 ⟨r.val, h⟩ z) else s (ix2 ⟨r.val - 4, by omega⟩ z) := by
  unfold both
  pointwise

variable (m : (ℓ : Loc nD τ sig) → Buf (Elt Ideal) ℓ) (c : Dev nD)

/-- The arguments at their shapes. -/
def aP : SC.Idx → EReal := m (c, main_arg0)
def aS : SC.Idx → EReal := m (c, main_arg1)
def aW : SA.Idx → EReal := m (c, main_arg2)
def aB : SB.Idx → EReal := m (c, main_arg3)

/-- The reference's array. -/
def result : FVec Ideal S8x6144 .f32 := both (batch (gatedC (aP m c)) (aW m c) (aB m c)) (batch (gatedC (aS m c)) (aW m c) (aB m c))

theorem result_eq : result m c = Ada.mods (aP m c) (aS m c) (aW m c) (aB m c) := by
  funext y
  obtain ⟨r, z, rfl⟩ := exists_ix2 (a := 8) (b := 6144) y
  unfold result
  refine (both_apply _ _ r z).trans ?_
  show _ = entry (aP m c) (aS m c) (aW m c) (aB m c) r z
  unfold entry source
  split
  · simp only [batch_apply, gatedC_apply]
  · simp only [batch_apply, gatedC_apply]

end Cert.Reference5Ideal.Own

end
-- ==== Proof.AdaFinal.lean ====
/-
The conditions' projection's reference's frame, and the two programs' results set side by side.
-/
module

public import proofs.«01_k».proof.Defs
public import proofs.«01_k».proof.Proof.Gen.Kernel5
public import proofs.«01_k».proof.Proof.Gen.Kernel5.Frame
public import proofs.«01_k».proof.Proof.Gen.Kernel5Ideal.Value
public import proofs.«01_k».proof.Proof.AdaArrays
public import proofs.«01_k».proof.Proof.AdaRef

@[expose] public section

noncomputable section

open Idealize.ShloMosaic Idealize.SL.Sem

namespace Cert.Reference5Ideal.Own

open Cert.Reference5Ideal Cert.Reference5Ideal.Gen Cert.Reference5Ideal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, no_sem r.2.sem⟩) (Value.run m ρ)

end Cert.Reference5Ideal.Own

namespace Cert.Proof

theorem algebraic5 : @algebraic_Kernel5Ideal_Reference5Ideal Cert.Kernel5Ideal.Gen.facts Cert.Reference5Ideal.Gen.facts := by
  intro m g m' g' _ hagree
  have hR : ∀ c, Cert.Reference5Ideal.Own.aP m' c = Cert.Kernel5Ideal.Own.aP m c ∧ Cert.Reference5Ideal.Own.aS m' c = Cert.Kernel5Ideal.Own.aS m c
      ∧ Cert.Reference5Ideal.Own.aW m' c = Cert.Kernel5Ideal.Own.aW m c ∧ Cert.Reference5Ideal.Own.aB m' c = Cert.Kernel5Ideal.Own.aB m c := fun c => hagree c
  refine ⟨fun c => Ada.mods (Cert.Kernel5Ideal.Own.aP m c) (Cert.Kernel5Ideal.Own.aS m c) (Cert.Kernel5Ideal.Own.aW m c) (Cert.Kernel5Ideal.Own.aB m c), ?_, ?_⟩
  · refine (θ_run _ _ _).mono (fun r h c => ?_) (Cert.Kernel5Ideal.Value.run_blocks m g)
    obtain ⟨h0, h1⟩ := h c
    exact ⟨h0.trans (Cert.Kernel5Ideal.Own.arr_3 m c), h1⟩
  · refine (θ_run _ _ _).mono (fun r h c => ?_) (Cert.Reference5Ideal.Value.run m' g')
    obtain ⟨h0, h1⟩ := h c
    obtain ⟨eP, eS, eW, eB⟩ := hR c
    have e0 := Cert.Reference5Ideal.Own.result_eq m' c
    rw [eP, eS, eW, eB] at e0
    exact ⟨h0.trans e0, h1⟩

end Cert.Proof

end
-- ==== Proof.ConvSpec.lean ====
/-
What the convolution call computes, row by row: the width-3 convolution along a sequence, its SiLU, the l2 norms of the heads of q and k
with q's scale, and the short convolution of the gated columns.
-/
module

public import proofs.«01_k».proof.Proof.MixSpec

@[expose] public section

noncomputable section

namespace Cert.Conv

open Idealize.ShloMosaic Cert.Rows

/-- The row before and the row after, in sequences of 8192 rows: zero outside the sequence. -/
def prev (f : Fin 32768 → EReal) (r : Fin 32768) : EReal := if r.val % 8192 = 0 then 0 else f ⟨r.val - 1, by omega⟩
def next (f : Fin 32768 → EReal) (r : Fin 32768) : EReal := if h : r.val % 8192 = 8191 then 0 else f ⟨r.val + 1, by omega⟩

/-- The weighted sum of a row and its two neighbours. -/
def conv (w : Fin 3 → EReal) (f : Fin 32768 → EReal) (r : Fin 32768) : EReal := w 0 * prev f r + w 1 * f r + w 2 * next f r

/-- Column `e` of the head that starts at column `h`, over the root of the head's sum of squares (plus the small constant). -/
def unit (y : Fin 3072 → EReal) (h : ℕ) (hh : h + 128 ≤ 3072) (e : Fin 128) : EReal :=
  y ⟨h + e.val, by omega⟩ * Ideal.rsqrt ((∑ d : Fin 128, y ⟨h + d.val, by omega⟩ * y ⟨h + d.val, by omega⟩) + Ideal.ofBits .f32 0x358637BD#32)

/-- The scale of q, as the float word of the two programs has it. -/
def scale : EReal := Ideal.ofBits .f32 0x3DB504F3#32

/-- Column `k` of a row: q's heads scaled, k's heads, and v as it is. -/
def heads (y : Fin 3072 → EReal) (k : Fin 3072) : EReal :=
  if k.val < 1024 then unit y (128 * (k.val / 128)) (by omega) ⟨k.val % 128, by omega⟩ * scale
  else if k.val < 2048 then unit y (128 * (k.val / 128)) (by omega) ⟨k.val % 128, by omega⟩
  else y k

theorem heads_q (y : Fin 3072 → EReal) (k : Fin 3072) (h : ℕ) (hh : h + 128 ≤ 3072) (e : Fin 128) (h8 : h % 128 = 0) (hq : h < 1024)
    (hk : k.val = h + e.val) : unit y h hh e * scale = heads y k := by
  obtain rfl : h = 128 * (k.val / 128) := by omega
  unfold heads
  rw [if_pos (by omega)]
  exact congrArg (fun e => unit y _ hh e * scale) (Fin.ext (by dsimp only; omega))

theorem heads_k (y : Fin 3072 → EReal) (k : Fin 3072) (h : ℕ) (hh : h + 128 ≤ 3072) (e : Fin 128) (h8 : h % 128 = 0) (hq : 1024 ≤ h) (hq' : h < 2048)
    (hk : k.val = h + e.val) : unit y h hh e = heads y k := by
  obtain rfl : h = 128 * (k.val / 128) := by omega
  unfold heads
  rw [if_neg (by omega), if_pos (by omega)]
  exact congrArg (unit y _ hh) (Fin.ext (by dsimp only; omega))

theorem heads_v (y : Fin 3072 → EReal) (k : Fin 3072) (hk : 2048 ≤ k.val) : y k = heads y k := by
  unfold heads
  rw [if_neg (by omega), if_neg (by omega)]

/-- The arguments that the results depend on: the projection and the two convolutions' weights. -/
structure Args where
  zin : (⟨2, ![32768, 9216]⟩ : Shape).Idx → EReal
  cq : (⟨2, ![3, 3072]⟩ : Shape).Idx → EReal
  cs : (⟨2, ![3, 1024]⟩ : Shape).Idx → EReal

variable (A : Args)

/-- Column `k` of the projection, by row. -/
def col (k : ℕ) (hk : k < 9216) (r : Fin 32768) : EReal := A.zin (ix2 r ⟨k, hk⟩)

/-- Row `r` of the convolution of the first 3072 columns, after SiLU. -/
def qkvRow (r : Fin 32768) (k : Fin 3072) : EReal :=
  Cert.Mix.swish (conv (fun j => A.cq (ix2 j k)) (col A k.val (by omega)) r)

/-- The columns of the short convolution's input, and its row `r`. -/
def gatedCol (k : Fin 1024) (r : Fin 32768) : EReal := col A (5120 + k.val) (by omega) r * col A (3072 + k.val) (by omega) r
def shortRow (r : Fin 32768) (k : Fin 1024) : EReal :=
  col A (4096 + k.val) (by omega) r * conv (fun j => A.cs (ix2 j k)) (gatedCol A k) r

/-- The results: q, k and v; the keys transposed by groups of 64 rows; and the short convolution. -/
def qkvs : (⟨2, ![32768, 3072]⟩ : Shape).Idx → EReal := fun y => heads (qkvRow A (y 0)) (y 1)
def keys : (⟨3, ![512, 1024, 64]⟩ : Shape).Idx → EReal := fun y =>
  heads (qkvRow A ⟨64 * (y 0).val + (y 2).val, by have h0 : (y 0).val < 512 := (y 0).isLt; have h2 : (y 2).val < 64 := (y 2).isLt; omega⟩)
    ⟨1024 + (y 1).val, by have h1 : (y 1).val < 1024 := (y 1).isLt; omega⟩
def shorts : (⟨2, ![32768, 1024]⟩ : Shape).Idx → EReal := fun y => shortRow A (y 0) (y 1)

end Cert.Conv

end
-- ==== Proof.ConvRows.lean ====
/-
The convolution call's payloads at an index: the neighbouring rows that its selection products pick, the short convolution, and the
convolution of q, k and v.
-/
module

public import proofs.«01_k».proof.Proof.Gen.Kernel6Ideal.Frame
public import proofs.«01_k».proof.Proof.ConvSpec
public import Idealize.ShloMosaic.Lib.StableHlo.ReadAt

@[expose] public section

noncomputable section

namespace Cert.Kernel6Ideal.Own

open Cert.Kernel6Ideal Cert.Kernel6Ideal.Gen Cert.Rows Cert.Conv
open Idealize.ShloMosaic Idealize.ShloMosaic.TcCoe Idealize.ShloMosaic.Tactic

/-- A selection by the equality of two small words. -/
theorem select_word (a b n : ℕ) (ha : a < 1000) (hb : b + n < 1000) (u v : EReal) :
    Scalar.select (IntOp.cmpi CmpIPredicate.eq (BitVec.ofNat 32 a) (IntOp.addi (BitVec.ofNat 32 b) (BitVec.ofNat 32 n))) u v = if a = b + n then u else v := by
  have e : (BitVec.ofNat 32 a = BitVec.ofNat 32 b + BitVec.ofNat 32 n) ↔ a = b + n := by
    rw [← BitVec.ofNat_add]
    refine ⟨fun h => ?_, fun h => by rw [h]⟩
    have h' := congrArg BitVec.toNat h
    simp only [BitVec.toNat_ofNat] at h'
    omega
  unfold Scalar.select IntOp.cmpi IntOp.addi
  by_cases h : a = b + n
  · have q : (BitVec.ofNat 32 a == BitVec.ofNat 32 b + BitVec.ofNat 32 n) = true := beq_iff_eq.mpr (e.mpr h)
    rw [if_pos h, q]
    rfl
  · have q : (BitVec.ofNat 32 a == BitVec.ofNat 32 b + BitVec.ofNat 32 n) = false := beq_eq_false_iff_ne.mpr fun q => h (e.mp q)
    rw [if_neg h, q]
    rfl

/-- A sum that selects one entry, and one that selects none. -/
theorem pick {n : ℕ} (f : Fin n → EReal) (P : Fin n → Prop) [DecidablePred P] (a : Fin n) (h : ∀ x, P x ↔ x = a) : (∑ x, if P x then f x else 0) = f a := by
  simp only [h]
  simp
theorem pick_none {n : ℕ} (f : Fin n → EReal) (P : Fin n → Prop) [DecidablePred P] (h : ∀ x, ¬ P x) : (∑ x, if P x then f x else 0) = 0 := by
  simp only [h]
  simp

/-- The row before and the row after in a block: the halo's last and first rows at the block's ends. -/
def above (x : Fin 256 → EReal) (p : Fin 16 → EReal) (i : Fin 256) : EReal := if i.val = 0 then p 15 else x ⟨i.val - 1, by omega⟩
def below (x : Fin 256 → EReal) (n : Fin 16 → EReal) (i : Fin 256) : EReal := if h : i.val = 255 then n 0 else x ⟨i.val + 1, by omega⟩

theorem above_sum (x : Fin 256 → EReal) (p : Fin 16 → EReal) (i : Fin 256) :
    (∑ j : Fin 16, Scalar.select (IntOp.cmpi CmpIPredicate.eq (BitVec.ofNat 32 j.val) (IntOp.addi (BitVec.ofNat 32 i.val) 15#32)) (p j) 0)
      + ∑ j : Fin 256, Scalar.select (IntOp.cmpi CmpIPredicate.eq (BitVec.ofNat 32 (16 + j.val)) (IntOp.addi (BitVec.ofNat 32 i.val) 15#32)) (x j) 0
      = above x p i := by
  have e1 : ∀ j : Fin 16, Scalar.select (IntOp.cmpi CmpIPredicate.eq (BitVec.ofNat 32 j.val) (IntOp.addi (BitVec.ofNat 32 i.val) 15#32)) (p j) 0 = if j.val = i.val + 15 then p j else 0 :=
    fun j => select_word _ _ _ (by omega) (by omega) _ _
  have e2 : ∀ j : Fin 256, Scalar.select (IntOp.cmpi CmpIPredicate.eq (BitVec.ofNat 32 (16 + j.val)) (IntOp.addi (BitVec.ofNat 32 i.val) 15#32)) (x j) 0 = if 16 + j.val = i.val + 15 then x j else 0 :=
    fun j => select_word _ _ _ (by omega) (by omega) _ _
  simp only [e1, e2]
  unfold above
  by_cases h : i.val = 0
  · rw [if_pos h, pick p (fun j => j.val = i.val + 15) 15 (fun j => by rw [Fin.ext_iff]; show _ ↔ j.val = 15; omega),
      pick_none x (fun j => 16 + j.val = i.val + 15) (fun j => by omega), add_zero]
  · rw [if_neg h, pick_none p (fun j => j.val = i.val + 15) (fun j => by omega),
      pick x (fun j => 16 + j.val = i.val + 15) ⟨i.val - 1, by omega⟩ (fun j => by rw [Fin.ext_iff]; dsimp only; omega), zero_add]

theorem below_sum (x : Fin 256 → EReal) (n : Fin 16 → EReal) (i : Fin 256) :
    (∑ j : Fin 256, Scalar.select (IntOp.cmpi CmpIPredicate.eq (BitVec.ofNat 32 j.val) (IntOp.addi (BitVec.ofNat 32 i.val) 1#32)) (x j) 0)
      + ∑ j : Fin 16, Scalar.select (IntOp.cmpi CmpIPredicate.eq (BitVec.ofNat 32 (256 + j.val)) (IntOp.addi (BitVec.ofNat 32 i.val) 1#32)) (n j) 0
      = below x n i := by
  have e1 : ∀ j : Fin 256, Scalar.select (IntOp.cmpi CmpIPredicate.eq (BitVec.ofNat 32 j.val) (IntOp.addi (BitVec.ofNat 32 i.val) 1#32)) (x j) 0 = if j.val = i.val + 1 then x j else 0 :=
    fun j => select_word _ _ _ (by omega) (by omega) _ _
  have e2 : ∀ j : Fin 16, Scalar.select (IntOp.cmpi CmpIPredicate.eq (BitVec.ofNat 32 (256 + j.val)) (IntOp.addi (BitVec.ofNat 32 i.val) 1#32)) (n j) 0 = if 256 + j.val = i.val + 1 then n j else 0 :=
    fun j => select_word _ _ _ (by omega) (by omega) _ _
  simp only [e1, e2]
  unfold below
  by_cases h : i.val = 255
  · rw [dif_pos h, pick_none x (fun j => j.val = i.val + 1) (fun j => by omega),
      pick n (fun j => 256 + j.val = i.val + 1) 0 (fun j => by rw [Fin.ext_iff]; show _ ↔ j.val = 0; omega), zero_add]
  · rw [dif_neg h, pick x (fun j => j.val = i.val + 1) ⟨i.val + 1, by omega⟩ (fun j => by rw [Fin.ext_iff]),
      pick_none n (fun j => 256 + j.val = i.val + 1) (fun j => by omega), add_zero]

section short

variable (x : FVec Ideal S256x1024 .bf16) (p : FVec Ideal S16x1024 .bf16) (i : Fin 256) (k : Fin 1024) (s : Ideal .bf16)

theorem x_above : k0_pay85 (F := Ideal) x p (k0_pay83 (F := Ideal)) (ix2 i k) = above (fun i => x (ix2 i k)) (fun j => p (ix2 j k)) i := by
  refine Eq.trans ?_ (above_sum _ _ i)
  unfold k0_pay85 k0_pay83
  pointwise

theorem x_below : k0_pay86 (F := Ideal) x p (k0_pay84 (F := Ideal)) (ix2 i k) = below (fun i => x (ix2 i k)) (fun j => p (ix2 j k)) i := by
  refine Eq.trans ?_ (below_sum _ _ i)
  unfold k0_pay86 k0_pay84
  pointwise

theorem c_above : k0_pay87 (F := Ideal) s x p (ix2 i k) = above (fun i => x (ix2 i k)) (fun j => p (ix2 j k) * s) i := by
  refine Eq.trans ?_ (above_sum _ _ i)
  unfold k0_pay87
  pointwise

theorem c_below : k0_pay88 (F := Ideal) s x p (ix2 i k) = below (fun i => x (ix2 i k)) (fun j => p (ix2 j k) * s) i := by
  refine Eq.trans ?_ (below_sum _ _ i)
  unfold k0_pay88
  pointwise

theorem halo_above (j : Fin 16) : k0_pay81 (F := Ideal) s p (ix2 j k) = p (ix2 j k) * s := by
  unfold k0_pay81
  pointwise

theorem halo_below (j : Fin 16) : k0_pay82 (F := Ideal) s p (ix2 j k) = p (ix2 j k) * s := by
  unfold k0_pay82
  pointwise

theorem gated_apply (y : FVec Ideal S256x1024 .bf16) : k0_pay89 (F := Ideal) x y (ix2 i k) = x (ix2 i k) * y (ix2 i k) := by
  unfold k0_pay89
  pointwise

theorem short_apply (a b c d e : FVec Ideal S256x1024 .f32) (w0 w1 w2 : FVec Ideal S1x1024 .f32) :
    k0_pay90 (F := Ideal) a b c d e w0 w1 w2 x (ix2 i k)
      = x (ix2 i k) * (w0 (ix2 0 k) * (c (ix2 i k) * a (ix2 i k)) + w1 (ix2 0 k) * e (ix2 i k) + w2 (ix2 0 k) * (d (ix2 i k) * b (ix2 i k))) := by
  unfold k0_pay90
  pointwise

end short

theorem qkv_apply (x : FVec Ideal S256x3072 .bf16) (p n : FVec Ideal S16x3072 .bf16) (w0 w1 w2 : FVec Ideal S1x3072 .f32) (i : Fin 256) (k : Fin 3072) :
    k0_pay8 (F := Ideal) x p n (iota .tc S256x272 32 [0] iota_S256x272_d0_w32) (iota .tc S256x272 32 [1] iota_S256x272_d1_w32) k0_pay7 w0 w1 w2 (ix2 i k)
      = Cert.Mix.swish (w0 (ix2 0 k) * above (fun i => x (ix2 i k)) (fun j => p (ix2 j k)) i + w1 (ix2 0 k) * x (ix2 i k)
        + w2 (ix2 0 k) * below (fun i => x (ix2 i k)) (fun j => n (ix2 j k)) i) := by
  rw [← above_sum, ← below_sum]
  unfold k0_pay8 k0_pay7 Cert.Mix.swish
  pointwise

theorem qkvHalo_above (c : grid0.Coords) (p : FVec Ideal S16x3072 .bf16) (j : Fin 16) (k : Fin 3072) : k0_pay5 (F := Ideal) c p (ix2 j k) = p (ix2 j k) * k0_pay3 (F := Ideal) c := by
  unfold k0_pay5
  pointwise

theorem qkvHalo_below (c : grid0.Coords) (p : FVec Ideal S16x3072 .bf16) (j : Fin 16) (k : Fin 3072) : k0_pay6 (F := Ideal) c p (ix2 j k) = p (ix2 j k) * k0_pay4 (F := Ideal) c := by
  unfold k0_pay6
  pointwise

/-- The halo before a sequence's first block and the one after its last count for nothing. -/
theorem keep_above (p : grid0.Coords) : k0_pay3 (F := Ideal) p = if (p 0).val % 32 = 0 then 0 else 1 := by
  have h : ∀ n : Fin 128, (Scalar.extui (Scalar.cmpi CmpIPredicate.ne (Scalar.select (Scalar.andi (Scalar.xori
      (Scalar.cmpi CmpIPredicate.slt (Scalar.remsi (BitVec.ofNat 32 n.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32))
      (Scalar.cmpi CmpIPredicate.ne (Scalar.remsi (BitVec.ofNat 32 n.val) (Scalar.select (Scalar.cmpi CmpIPredicate.eq 32#32 0#32) 1#32 32#32)) 0#32))
      (Scalar.addi (Scalar.remsi (BitVec.ofNat 32 n.val) (Scalar.select (Scalar.cmpi CmpIPredicate.eq 32#32 0#32) 1#32 32#32)) (Scalar.select (Scalar.cmpi CmpIPredicate.eq 32#32 0#32) 1#32 32#32))
      (Scalar.remsi (BitVec.ofNat 32 n.val) (Scalar.select (Scalar.cmpi CmpIPredicate.eq 32#32 0#32) 1#32 32#32))) 0#32) : BitVec 32).toInt = if n.val % 32 = 0 then 0 else 1 := by decide +kernel
  have e := h (p 0)
  unfold k0_pay3
  pointwise
  rw [e]
  split <;> simp

theorem keep_below (p : grid0.Coords) : k0_pay4 (F := Ideal) p = if (p 0).val % 32 = 31 then 0 else 1 := by
  have h : ∀ n : Fin 128, (Scalar.extui (Scalar.cmpi CmpIPredicate.ne (Scalar.select (Scalar.andi (Scalar.xori
      (Scalar.cmpi CmpIPredicate.slt (Scalar.remsi (BitVec.ofNat 32 n.val) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32))
      (Scalar.cmpi CmpIPredicate.ne (Scalar.remsi (BitVec.ofNat 32 n.val) (Scalar.select (Scalar.cmpi CmpIPredicate.eq 32#32 0#32) 1#32 32#32)) 0#32))
      (Scalar.addi (Scalar.remsi (BitVec.ofNat 32 n.val) (Scalar.select (Scalar.cmpi CmpIPredicate.eq 32#32 0#32) 1#32 32#32)) (Scalar.select (Scalar.cmpi CmpIPredicate.eq 32#32 0#32) 1#32 32#32))
      (Scalar.remsi (BitVec.ofNat 32 n.val) (Scalar.select (Scalar.cmpi CmpIPredicate.eq 32#32 0#32) 1#32 32#32))) 31#32) : BitVec 32).toInt = if n.val % 32 = 31 then 0 else 1 := by decide +kernel
  have e := h (p 0)
  unfold k0_pay4
  pointwise
  rw [e]
  split <;> simp

end Cert.Kernel6Ideal.Own

end
-- ==== Proof.ConvHeads.lean ====
/-
The heads of q and k, and v, as the convolution call's stored pieces hold them.
-/
module

public import proofs.«01_k».proof.Proof.ConvRows

@[expose] public section

noncomputable section

namespace Cert.Kernel6Ideal.Own

open Cert.Kernel6Ideal Cert.Kernel6Ideal.Gen Cert.Rows Cert.Conv
open Idealize.ShloMosaic Idealize.ShloMosaic.TcCoe Idealize.ShloMosaic.Tactic

variable (y : FVec Ideal S256x3072 .f32) (i : Fin 256) (e : Fin 128)

/-- Row `i` of the convolved block. -/
def row (y : FVec Ideal S256x3072 .f32) (i : Fin 256) : Fin 3072 → EReal := fun k => y (ix2 i k)

theorem q1 : k0_pay10 (F := Ideal) y (ix2 i e) = unit (row y i) 128 (by omega) e * scale := by
  unfold k0_pay10 unit scale row
  pointwise

theorem q2 : k0_pay11 (F := Ideal) y (ix2 i e) = unit (row y i) 256 (by omega) e * scale := by
  unfold k0_pay11 unit scale row
  pointwise

theorem q3 : k0_pay12 (F := Ideal) y (ix2 i e) = unit (row y i) 384 (by omega) e * scale := by
  unfold k0_pay12 unit scale row
  pointwise

theorem q4 : k0_pay13 (F := Ideal) y (ix2 i e) = unit (row y i) 512 (by omega) e * scale := by
  unfold k0_pay13 unit scale row
  pointwise

theorem q5 : k0_pay14 (F := Ideal) y (ix2 i e) = unit (row y i) 640 (by omega) e * scale := by
  unfold k0_pay14 unit scale row
  pointwise

theorem q6 : k0_pay15 (F := Ideal) y (ix2 i e) = unit (row y i) 768 (by omega) e * scale := by
  unfold k0_pay15 unit scale row
  pointwise

theorem q7 : k0_pay18 (F := Ideal) (k0_pay16 y) (k0_pay17 y) (ix2 i e) = unit (row y i) 896 (by omega) e * scale := by
  unfold k0_pay18 k0_pay17 k0_pay16 unit scale row
  pointwise

theorem k3 : k0_pay44 (F := Ideal) (k0_pay41 y) (k0_pay42 y) (ix2 i e) = unit (row y i) 1408 (by omega) e := by
  unfold k0_pay44 k0_pay43 k0_pay42 k0_pay41 unit row
  pointwise

theorem k0 : k0_pay20 (F := Ideal) y (ix2 i e) = unit (row y i) 1024 (by omega) e := by
  unfold k0_pay20 k0_pay19 unit row
  pointwise

theorem k1 : k0_pay27 (F := Ideal) y (ix2 i e) = unit (row y i) 1152 (by omega) e := by
  unfold k0_pay27 k0_pay26 unit row
  pointwise

theorem k2 : k0_pay35 (F := Ideal) y (ix2 i e) = unit (row y i) 1280 (by omega) e := by
  unfold k0_pay35 k0_pay34 unit row
  pointwise

theorem k4 : k0_pay51 (F := Ideal) y (ix2 i e) = unit (row y i) 1536 (by omega) e := by
  unfold k0_pay51 k0_pay50 unit row
  pointwise

theorem k5 : k0_pay58 (F := Ideal) y (ix2 i e) = unit (row y i) 1664 (by omega) e := by
  unfold k0_pay58 k0_pay57 unit row
  pointwise

theorem k6 : k0_pay66 (F := Ideal) y (ix2 i e) = unit (row y i) 1792 (by omega) e := by
  unfold k0_pay66 k0_pay65 unit row
  pointwise

theorem k7 : k0_pay73 (F := Ideal) y (ix2 i e) = unit (row y i) 1920 (by omega) e := by
  unfold k0_pay73 k0_pay72 unit row
  pointwise

theorem q0 (x : FVec Ideal S256x3072 .bf16) (p n : FVec Ideal S16x3072 .bf16) (a b c : IVec S256x272 32) (w0 w1 w2 : FVec Ideal S1x3072 .f32) :
    k0_pay9 (F := Ideal) x p n a b c w0 w1 w2 (ix2 i e) = unit (row (k0_pay8 x p n a b c w0 w1 w2) i) 0 (by omega) e * scale := by
  unfold k0_pay9 unit scale row
  generalize k0_pay8 (F := Ideal) x p n a b c w0 w1 w2 = y
  pointwise

theorem v_apply (k : Fin 1024) : k0_pay80 (F := Ideal) y (ix2 i k) = y (ix2 i ⟨2048 + k.val, by omega⟩) := by
  unfold k0_pay80
  pointwise

end Cert.Kernel6Ideal.Own

end
-- ==== Proof.ConvBody.lean ====
/-
What a grid point of the convolution call leaves in its blocks, at an index: from the blocks that it stages.
-/
module

public import proofs.«01_k».proof.Proof.ConvHeads

@[expose] public section

set_option maxRecDepth 16384

noncomputable section

namespace Cert.Kernel6Ideal.Own

open Cert.Kernel6Ideal Cert.Kernel6Ideal.Gen Cert.Rows Cert.Conv
open Idealize.ShloMosaic Idealize.ShloMosaic.TcCoe Idealize.ShloMosaic.Tactic

theorem zero2 : (![0, 0] : Fin 2 → ℕ) = fun _ => 0 := funext fun a => by match a with | ⟨0, _⟩ => rfl | ⟨1, _⟩ => rfl

/-- A load of the whole of an array of two axes reads the array. -/
theorem ld_whole2 {a b : ℕ} {e : EltTy} (X : (⟨2, ![a, b]⟩ : Shape).Idx → Elt Ideal e) (inb : ∀ c, (![0, 0] : Fin 2 → ℕ) c + (![a, b] : Fin 2 → ℕ) c ≤ (![a, b] : Fin 2 → ℕ) c) :
    View.ld (Val := Elt Ideal) X (Rect.unit (s := ⟨2, ![a, b]⟩) ![0, 0] ![a, b] inb) = X := View.ld_unit_zero (Val := Elt Ideal) (e := e) (S := ⟨2, ![a, b]⟩) zero2 inb X

/-- A load of some columns, and of one row. -/
theorem ld_cols {a b d : ℕ} {e : EltTy} (X : (⟨2, ![a, b]⟩ : Shape).Idx → Elt Ideal e) (o : ℕ) (inb : ∀ c, (![0, o] : Fin 2 → ℕ) c + (![a, d] : Fin 2 → ℕ) c ≤ (![a, b] : Fin 2 → ℕ) c)
    (i : Fin a) (k : Fin d) (h : o + k.val < b) :
    View.ld (Val := Elt Ideal) X (Rect.unit (s := ⟨2, ![a, b]⟩) ![0, o] ![a, d] inb) (ix2 i k) = X (ix2 i ⟨o + k.val, h⟩) :=
  View.ld_unit_apply_of (Val := Elt Ideal) (e := e) X _ _ _ (ix2 i k) (ix2 i ⟨o + k.val, h⟩)
    (by intro c; match c with | ⟨0, _⟩ => exact (Nat.zero_add _).symm | ⟨1, _⟩ => rfl)
theorem ld_row {a b : ℕ} {e : EltTy} (X : (⟨2, ![a, b]⟩ : Shape).Idx → Elt Ideal e) (o : ℕ) (inb : ∀ c, (![o, 0] : Fin 2 → ℕ) c + (![1, b] : Fin 2 → ℕ) c ≤ (![a, b] : Fin 2 → ℕ) c)
    (k : Fin b) (h : o < a) :
    View.ld (Val := Elt Ideal) X (Rect.unit (s := ⟨2, ![a, b]⟩) ![o, 0] ![1, b] inb) (ix2 0 k) = X (ix2 ⟨o, h⟩ k) :=
  View.ld_unit_apply_of (Val := Elt Ideal) (e := e) X _ _ _ (ix2 0 k) (ix2 ⟨o, h⟩ k)
    (by intro c; match c with | ⟨0, _⟩ => rfl | ⟨1, _⟩ => exact (Nat.zero_add _).symm)

theorem ld_cols3 (X : S256x3072.Idx → Elt Ideal .bf16) (o : ℕ) (inb : ∀ c, (![0, o] : Fin 2 → ℕ) c + S256x1024.size c ≤ S256x3072.size c) (i : Fin 256) (k : Fin 1024) :
    View.ld (Val := Elt Ideal) X (Rect.unit (s := S256x3072) ![0, o] S256x1024.size inb) (ix2 i k) = X (ix2 i ⟨o + k.val, (Nat.add_lt_add_left k.isLt o).trans_le (inb 1)⟩) :=
  ld_cols (a := 256) (b := 3072) (d := 1024) (e := .bf16) X o inb i k _
theorem ld_cols3' (X : S16x3072.Idx → Elt Ideal .bf16) (o : ℕ) (inb : ∀ c, (![0, o] : Fin 2 → ℕ) c + S16x1024.size c ≤ S16x3072.size c) (i : Fin 16) (k : Fin 1024) :
    View.ld (Val := Elt Ideal) X (Rect.unit (s := S16x3072) ![0, o] S16x1024.size inb) (ix2 i k) = X (ix2 i ⟨o + k.val, (Nat.add_lt_add_left k.isLt o).trans_le (inb 1)⟩) :=
  ld_cols (a := 16) (b := 3072) (d := 1024) (e := .bf16) X o inb i k _
theorem ld_row8 (X : S3x1024.Idx → Elt Ideal .f32) (o : ℕ) (inb : ∀ c, (![o, 0] : Fin 2 → ℕ) c + S1x1024.size c ≤ S3x1024.size c) (k : Fin 1024) :
    View.ld (Val := Elt Ideal) X (Rect.unit (s := S3x1024) ![o, 0] S1x1024.size inb) (ix2 0 k) = X (ix2 ⟨o, Nat.lt_of_succ_le (inb 0)⟩ k) :=
  ld_row (a := 3) (b := 1024) (e := .f32) X o inb k _

/-- The stored pieces of q, k and v hold their columns of the row. -/
theorem qTile (y : Fin 256 → Fin 3072 → EReal) (h : ℕ) (hh : h + 128 ≤ 3072) (h8 : h % 128 = 0) (hq : h < 1024)
    (w : FVec Ideal S256x128 .bf16) (hw : ∀ i e, w (ix2 i e) = unit (y i) h hh e * scale) (i : Fin 256) (k : Fin 3072) :
    View.TileAt (Val := Elt Ideal) (e := .bf16) (S := S256x3072) (ix2 i k) ![0, h] S256x128.size w (heads (y i) k) := by
  intro z hz
  obtain ⟨i', e, rfl⟩ := Cert.Rows.exists_ix2 (a := 256) (b := 128) z
  obtain rfl : i = i' := Fin.ext ((hz 0).trans (Nat.zero_add _))
  exact (hw i e).trans (heads_q _ _ _ hh e h8 hq (hz 1))
theorem kTile (y : Fin 256 → Fin 3072 → EReal) (h : ℕ) (hh : h + 128 ≤ 3072) (h8 : h % 128 = 0) (hq : 1024 ≤ h) (hq' : h < 2048)
    (w : FVec Ideal S256x128 .bf16) (hw : ∀ i e, w (ix2 i e) = unit (y i) h hh e) (i : Fin 256) (k : Fin 3072) :
    View.TileAt (Val := Elt Ideal) (e := .bf16) (S := S256x3072) (ix2 i k) ![0, h] S256x128.size w (heads (y i) k) := by
  intro z hz
  obtain ⟨i', e, rfl⟩ := Cert.Rows.exists_ix2 (a := 256) (b := 128) z
  obtain rfl : i = i' := Fin.ext ((hz 0).trans (Nat.zero_add _))
  exact (hw i e).trans (heads_k _ _ _ hh e h8 hq hq' (hz 1))
theorem vTile (y : Fin 256 → Fin 3072 → EReal)
    (w : FVec Ideal S256x1024 .bf16) (hw : ∀ i (k : Fin 1024), w (ix2 i k) = y i ⟨2048 + k.val, by omega⟩) (i : Fin 256) (k : Fin 3072) :
    View.TileAt (Val := Elt Ideal) (e := .bf16) (S := S256x3072) (ix2 i k) ![0, 2048] S256x1024.size w (heads (y i) k) := by
  intro z hz
  obtain ⟨i', e, rfl⟩ := Cert.Rows.exists_ix2 (a := 256) (b := 1024) z
  obtain rfl : i = i' := Fin.ext ((hz 0).trans (Nat.zero_add _))
  have hk : k.val = 2048 + e.val := hz 1
  refine (hw i e).trans ?_
  rw [← heads_v _ _ (by omega)]
  exact congrArg (y i) (Fin.ext hk.symm)

/-- Row `i` of the convolved block, and of the short convolution's, from the blocks staged. -/
def convBlk (p : grid0.Coords) (x0 : FVec Ideal S256x3072 .bf16) (x1 x2 : FVec Ideal S16x3072 .bf16) (x7 : FVec Ideal S3x3072 .f32) (i : Fin 256) (k : Fin 3072) : EReal :=
  Cert.Mix.swish (x7 (ix2 0 k) * above (fun i => x0 (ix2 i k)) (fun j => x1 (ix2 j k) * k0_pay3 (F := Ideal) p) i + x7 (ix2 1 k) * x0 (ix2 i k)
    + x7 (ix2 2 k) * below (fun i => x0 (ix2 i k)) (fun j => x2 (ix2 j k) * k0_pay4 (F := Ideal) p) i)
def aboveBlk (p : grid0.Coords) (x3 : FVec Ideal S256x3072 .bf16) (x4 : FVec Ideal S16x3072 .bf16) (k : Fin 3072) (i : Fin 256) : EReal :=
  above (fun i => x3 (ix2 i k)) (fun j => x4 (ix2 j k) * k0_pay3 (F := Ideal) p) i
def belowBlk (p : grid0.Coords) (x3 : FVec Ideal S256x3072 .bf16) (x5 : FVec Ideal S16x3072 .bf16) (k : Fin 3072) (i : Fin 256) : EReal :=
  below (fun i => x3 (ix2 i k)) (fun j => x5 (ix2 j k) * k0_pay4 (F := Ideal) p) i
def shortBlk (p : grid0.Coords) (x3 : FVec Ideal S256x3072 .bf16) (x4 x5 : FVec Ideal S16x3072 .bf16) (x8 : FVec Ideal S3x1024 .f32) (i : Fin 256) (k : Fin 1024) : EReal :=
  x3 (ix2 i ⟨1024 + k.val, by omega⟩) * (x8 (ix2 0 k) * (aboveBlk p x3 x4 ⟨2048 + k.val, by omega⟩ i * aboveBlk p x3 x4 ⟨0 + k.val, by omega⟩ i)
    + x8 (ix2 1 k) * (x3 (ix2 i ⟨2048 + k.val, by omega⟩) * x3 (ix2 i ⟨0 + k.val, by omega⟩))
    + x8 (ix2 2 k) * (belowBlk p x3 x5 ⟨2048 + k.val, by omega⟩ i * belowBlk p x3 x5 ⟨0 + k.val, by omega⟩ i))

section run

variable (c : Dev nD) (p : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x3072 .bf16) (harg4 : arg4.IsWhole) (arg5 : Memref sig .tc .vmem S16x3072 .bf16) (harg5 : arg5.IsWhole) (arg6 : Memref sig .tc .vmem S16x3072 .bf16) (harg6 : arg6.IsWhole) (arg7 : Memref sig .tc .vmem S256x128 .f32) (harg7 : arg7.IsWhole) (arg8 : Memref sig .tc .vmem S3x3072 .f32) (harg8 : arg8.IsWhole) (arg9 : Memref sig .tc .vmem S3x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S256x3072 .bf16) (harg12 : arg12.IsWhole) (arg13 : Memref sig .tc .vmem S4x1024x64 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S4x2x24x128 .f32) (harg16 : arg16.IsWhole) (x0 : FVec Ideal S256x3072 .bf16) (x1 : FVec Ideal S16x3072 .bf16) (x2 : FVec Ideal S16x3072 .bf16) (x3 : FVec Ideal S256x3072 .bf16) (x4 : FVec Ideal S16x3072 .bf16) (x5 : FVec Ideal S16x3072 .bf16) (x6 : FVec Ideal S256x128 .f32) (x7 : FVec Ideal S3x3072 .f32) (x8 : FVec Ideal S3x1024 .f32) (x9 : FVec Ideal S1x128 .f32) (x10 : FVec Ideal S1x128 .f32)

theorem out_short (i : Fin 256) (k : Fin 1024) :
    out0_A_13 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 i k) = shortBlk p x3 x4 x5 x8 i k := by
  unfold out0_A_13 kernelRun0_A
  dsimp only
  rw [View.read_writes_junk_eq_canon, View.canon_unit_zero zero2]
  refine (short_apply _ _ _ _ _ _ _ _ _ _ _).trans ?_
  unfold kernelRun0_A.sl.r_21 kernelRun0_A.sl.r_22 kernelRun0_A.sl.r_23 kernelRun0_A.sl.r_24 kernelRun0_A.sl.r_25 kernelRun0_A.sl.r_26 kernelRun0_A.sl.r_18 kernelRun0_A.sl.r_19 kernelRun0_A.sl.r_20
  simp only [View.readAt_eq_ld, harg4.read_unread, harg5.read_unread, harg6.read_unread, harg9.read_unread]
  simp only [x_above, x_below, c_above, c_below, halo_above, halo_below, gated_apply]
  unfold shortBlk aboveBlk belowBlk
  exact congrArg₂ (· * ·) (ld_cols3 x3 1024 _ i k) (congrArg₂ (· + ·) (congrArg₂ (· + ·) (congrArg₂ (· * ·) (ld_row8 x8 0 _ k) (congrArg₂ (· * ·) (congrArg₂ (fun f g => above f g i) (funext fun i => ld_cols3 x3 2048 _ i k) (funext fun j => congrArg (· * k0_pay3 (F := Ideal) p) (ld_cols3' x4 2048 _ j k))) (congrArg₂ (fun f g => above f g i) (funext fun i => ld_cols3 x3 0 _ i k) (funext fun j => congrArg (· * k0_pay3 (F := Ideal) p) (ld_cols3' x4 0 _ j k))))) (congrArg₂ (· * ·) (ld_row8 x8 1 _ k) (congrArg₂ (· * ·) (ld_cols3 x3 2048 _ i k) (ld_cols3 x3 0 _ i k)))) (congrArg₂ (· * ·) (ld_row8 x8 2 _ k) (congrArg₂ (· * ·) (congrArg₂ (fun f g => below f g i) (funext fun i => ld_cols3 x3 2048 _ i k) (funext fun j => congrArg (· * k0_pay4 (F := Ideal) p) (ld_cols3' x5 2048 _ j k))) (congrArg₂ (fun f g => below f g i) (funext fun i => ld_cols3 x3 0 _ i k) (funext fun j => congrArg (· * k0_pay4 (F := Ideal) p) (ld_cols3' x5 0 _ j k))))))

theorem conv_block (i : Fin 256) (k : Fin 3072) :
    kernelRun0_A.sl.r_3 (F := Ideal) c p arg1 harg1 arg2 harg2 arg3 harg3 arg8 harg8 x0 x1 x2 x7 (ix2 i k) = convBlk p x0 x1 x2 x7 i k := by
  unfold kernelRun0_A.sl.r_3 kernelRun0_A.sl.r kernelRun0_A.sl.r_1 kernelRun0_A.sl.r_2 kernelRun0_A.sl.v35 kernelRun0_A.sl.v36
  simp only [View.readAt_eq_ld, harg1.read_unread, harg2.read_unread, harg3.read_unread, harg8.read_unread, ld_whole2]
  refine (qkv_apply _ _ _ _ _ _ i k).trans ?_
  simp only [qkvHalo_above, qkvHalo_below]
  unfold convBlk
  exact congrArg Cert.Mix.swish (congr (congrArg HAdd.hAdd (congr (congrArg HAdd.hAdd (congrArg (· * _) (ld_row (a := 3) (b := 3072) (e := .f32) x7 0 _ k (by omega)))) (congrArg (· * _) (ld_row (a := 3) (b := 3072) (e := .f32) x7 1 _ k (by omega)))))
    (congrArg (· * _) (ld_row (a := 3) (b := 3072) (e := .f32) x7 2 _ k (by omega))))

theorem conv_row (i : Fin 256) : row (kernelRun0_A.sl.r_3 (F := Ideal) c p arg1 harg1 arg2 harg2 arg3 harg3 arg8 harg8 x0 x1 x2 x7) i = convBlk p x0 x1 x2 x7 i := funext fun k => conv_block c p arg1 harg1 arg2 harg2 arg3 harg3 arg8 harg8 x0 x1 x2 x7 i k

theorem out_qkv (i : Fin 256) (k : Fin 3072) : out0_A_11 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix2 i k) = heads (convBlk p x0 x1 x2 x7 i) k := by
  rw [← conv_row c p arg1 harg1 arg2 harg2 arg3 harg3 arg8 harg8 x0 x1 x2 x7 i]
  unfold out0_A_11
  rw [View.read_writes_junk_eq_canon]
  refine View.canon_eq_of_allAt _ _ _ (cover0_A_11 ..) ?_
  unfold kernelRun0_A
  dsimp only
  unfold kernelRun0_A.sl.r_12 kernelRun0_A.sl.r_9 kernelRun0_A.sl.r_10 kernelRun0_A.sl.r_5 kernelRun0_A.sl.r_6 kernelRun0_A.sl.r_4
  refine View.allAt_cons_unit _ _ _ _ _ (vTile _ _ (fun i e => v_apply _ i e) i k) ?_
  refine View.allAt_cons_unit _ _ _ _ _ (kTile _ 1920 (by omega) rfl (by omega) (by omega) _ (fun i e => k7 _ i e) i k) ?_
  refine View.allAt_cons_unit _ _ _ _ _ (kTile _ 1792 (by omega) rfl (by omega) (by omega) _ (fun i e => k6 _ i e) i k) ?_
  refine View.allAt_cons_unit _ _ _ _ _ (kTile _ 1664 (by omega) rfl (by omega) (by omega) _ (fun i e => k5 _ i e) i k) ?_
  refine View.allAt_cons_unit _ _ _ _ _ (kTile _ 1536 (by omega) rfl (by omega) (by omega) _ (fun i e => k4 _ i e) i k) ?_
  refine View.allAt_cons_unit _ _ _ _ _ (kTile _ 1408 (by omega) rfl (by omega) (by omega) _ (fun i e => k3 _ i e) i k) ?_
  refine View.allAt_cons_unit _ _ _ _ _ (kTile _ 1280 (by omega) rfl (by omega) (by omega) _ (fun i e => k2 _ i e) i k) ?_
  refine View.allAt_cons_unit _ _ _ _ _ (kTile _ 1152 (by omega) rfl (by omega) (by omega) _ (fun i e => k1 _ i e) i k) ?_
  refine View.allAt_cons_unit _ _ _ _ _ (kTile _ 1024 (by omega) rfl (by omega) (by omega) _ (fun i e => k0 _ i e) i k) ?_
  refine View.allAt_cons_unit _ _ _ _ _ (qTile _ 896 (by omega) rfl (by omega) _ (fun i e => q7 _ i e) i k) ?_
  refine View.allAt_cons_unit _ _ _ _ _ (qTile _ 768 (by omega) rfl (by omega) _ (fun i e => q6 _ i e) i k) ?_
  refine View.allAt_cons_unit _ _ _ _ _ (qTile _ 640 (by omega) rfl (by omega) _ (fun i e => q5 _ i e) i k) ?_
  refine View.allAt_cons_unit _ _ _ _ _ (qTile _ 512 (by omega) rfl (by omega) _ (fun i e => q4 _ i e) i k) ?_
  refine View.allAt_cons_unit _ _ _ _ _ (qTile _ 384 (by omega) rfl (by omega) _ (fun i e => q3 _ i e) i k) ?_
  refine View.allAt_cons_unit _ _ _ _ _ (qTile _ 256 (by omega) rfl (by omega) _ (fun i e => q2 _ i e) i k) ?_
  refine View.allAt_cons_unit _ _ _ _ _ (qTile _ 128 (by omega) rfl (by omega) _ (fun i e => q1 _ i e) i k) ?_
  exact View.allAt_cons_unit _ _ _ _ _ (qTile _ 0 (by omega) rfl (by omega) _ (fun i e => q0 i e _ _ _ _ _ _ _ _ _) i k) (View.allAt_nil _ _)

end run

end Cert.Kernel6Ideal.Own

end
-- ==== Proof.ConvKeys.lean ====
/-
The keys transposed by chunk, as the convolution call's stored pieces hold them.
-/
module

public import proofs.«01_k».proof.Proof.ConvBody

@[expose] public section

set_option maxRecDepth 16384

noncomputable section

namespace Cert.Kernel6Ideal.Own

open Cert.Kernel6Ideal Cert.Kernel6Ideal.Gen Cert.Rows Cert.Conv
open Idealize.ShloMosaic Idealize.ShloMosaic.TcCoe Idealize.ShloMosaic.Tactic

section pieces

variable (y : FVec Ideal S256x3072 .f32) (e : Fin 128) (j : Fin 64)

theorem t00 : k0_pay22 (F := Ideal) y (ix3 0 e j) = unit (row y ⟨j.val, by omega⟩) 1024 (by omega) e := by
  unfold k0_pay22 k0_pay21
  pointwise
  exact k0 y _ e
theorem t01 : k0_pay23 (F := Ideal) y (ix3 0 e j) = unit (row y ⟨64 + j.val, by omega⟩) 1024 (by omega) e := by
  unfold k0_pay23 k0_pay21
  pointwise
  exact k0 y _ e
theorem t02 : k0_pay24 (F := Ideal) y (ix3 0 e j) = unit (row y ⟨128 + j.val, by omega⟩) 1024 (by omega) e := by
  unfold k0_pay24 k0_pay21
  pointwise
  exact k0 y _ e
theorem t03 : k0_pay25 (F := Ideal) (k0_pay21 y) (ix3 0 e j) = unit (row y ⟨192 + j.val, by omega⟩) 1024 (by omega) e := by
  unfold k0_pay25 k0_pay21
  pointwise
  exact k0 y _ e
theorem t10 : k0_pay29 (F := Ideal) y (ix3 0 e j) = unit (row y ⟨j.val, by omega⟩) 1152 (by omega) e := by
  unfold k0_pay29 k0_pay28
  pointwise
  exact k1 y _ e
theorem t11 : k0_pay30 (F := Ideal) y (ix3 0 e j) = unit (row y ⟨64 + j.val, by omega⟩) 1152 (by omega) e := by
  unfold k0_pay30 k0_pay28
  pointwise
  exact k1 y _ e
theorem t12 : k0_pay31 (F := Ideal) y (ix3 0 e j) = unit (row y ⟨128 + j.val, by omega⟩) 1152 (by omega) e := by
  unfold k0_pay31 k0_pay28
  pointwise
  exact k1 y _ e
theorem t13 : k0_pay33 (F := Ideal) (k0_pay32 y) (ix3 0 e j) = unit (row y ⟨192 + j.val, by omega⟩) 1152 (by omega) e := by
  unfold k0_pay33 k0_pay32 k0_pay28
  pointwise
  exact k1 y _ e
theorem t20 : k0_pay37 (F := Ideal) y (ix3 0 e j) = unit (row y ⟨j.val, by omega⟩) 1280 (by omega) e := by
  unfold k0_pay37 k0_pay36
  pointwise
  exact k2 y _ e
theorem t21 : k0_pay38 (F := Ideal) y (ix3 0 e j) = unit (row y ⟨64 + j.val, by omega⟩) 1280 (by omega) e := by
  unfold k0_pay38 k0_pay36
  pointwise
  exact k2 y _ e
theorem t22 : k0_pay39 (F := Ideal) y (ix3 0 e j) = unit (row y ⟨128 + j.val, by omega⟩) 1280 (by omega) e := by
  unfold k0_pay39 k0_pay36
  pointwise
  exact k2 y _ e
theorem t23 : k0_pay40 (F := Ideal) y (ix3 0 e j) = unit (row y ⟨192 + j.val, by omega⟩) 1280 (by omega) e := by
  unfold k0_pay40 k0_pay36
  pointwise
  exact k2 y _ e
theorem t30 : k0_pay46 (F := Ideal) (k0_pay41 y) (k0_pay42 y) (ix3 0 e j) = unit (row y ⟨j.val, by omega⟩) 1408 (by omega) e := by
  unfold k0_pay46 k0_pay45
  pointwise
  exact k3 y _ e
theorem t31 : k0_pay47 (F := Ideal) (k0_pay41 y) (k0_pay42 y) (ix3 0 e j) = unit (row y ⟨64 + j.val, by omega⟩) 1408 (by omega) e := by
  unfold k0_pay47 k0_pay45
  pointwise
  exact k3 y _ e
theorem t32 : k0_pay48 (F := Ideal) (k0_pay41 y) (k0_pay42 y) (ix3 0 e j) = unit (row y ⟨128 + j.val, by omega⟩) 1408 (by omega) e := by
  unfold k0_pay48 k0_pay45
  pointwise
  exact k3 y _ e
theorem t33 : k0_pay49 (F := Ideal) (k0_pay41 y) (k0_pay42 y) (ix3 0 e j) = unit (row y ⟨192 + j.val, by omega⟩) 1408 (by omega) e := by
  unfold k0_pay49 k0_pay45
  pointwise
  exact k3 y _ e
theorem t40 : k0_pay53 (F := Ideal) (k0_pay50 y) (ix3 0 e j) = unit (row y ⟨j.val, by omega⟩) 1536 (by omega) e := by
  unfold k0_pay53 k0_pay52
  pointwise
  exact k4 y _ e
theorem t41 : k0_pay54 (F := Ideal) (k0_pay50 y) (ix3 0 e j) = unit (row y ⟨64 + j.val, by omega⟩) 1536 (by omega) e := by
  unfold k0_pay54 k0_pay52
  pointwise
  exact k4 y _ e
theorem t42 : k0_pay55 (F := Ideal) (k0_pay50 y) (ix3 0 e j) = unit (row y ⟨128 + j.val, by omega⟩) 1536 (by omega) e := by
  unfold k0_pay55 k0_pay52
  pointwise
  exact k4 y _ e
theorem t43 : k0_pay56 (F := Ideal) (k0_pay50 y) (ix3 0 e j) = unit (row y ⟨192 + j.val, by omega⟩) 1536 (by omega) e := by
  unfold k0_pay56 k0_pay52
  pointwise
  exact k4 y _ e
theorem t50 : k0_pay61 (F := Ideal) (k0_pay60 y) (ix3 0 e j) = unit (row y ⟨j.val, by omega⟩) 1664 (by omega) e := by
  unfold k0_pay61 k0_pay60 k0_pay59
  pointwise
  exact k5 y _ e
theorem t51 : k0_pay62 (F := Ideal) (k0_pay59 y) (ix3 0 e j) = unit (row y ⟨64 + j.val, by omega⟩) 1664 (by omega) e := by
  unfold k0_pay62 k0_pay59
  pointwise
  exact k5 y _ e
theorem t52 : k0_pay63 (F := Ideal) (k0_pay59 y) (ix3 0 e j) = unit (row y ⟨128 + j.val, by omega⟩) 1664 (by omega) e := by
  unfold k0_pay63 k0_pay59
  pointwise
  exact k5 y _ e
theorem t53 : k0_pay64 (F := Ideal) (k0_pay59 y) (ix3 0 e j) = unit (row y ⟨192 + j.val, by omega⟩) 1664 (by omega) e := by
  unfold k0_pay64 k0_pay59
  pointwise
  exact k5 y _ e
theorem t60 : k0_pay68 (F := Ideal) y (ix3 0 e j) = unit (row y ⟨j.val, by omega⟩) 1792 (by omega) e := by
  unfold k0_pay68 k0_pay67
  pointwise
  exact k6 y _ e
theorem t61 : k0_pay69 (F := Ideal) (k0_pay67 y) (ix3 0 e j) = unit (row y ⟨64 + j.val, by omega⟩) 1792 (by omega) e := by
  unfold k0_pay69 k0_pay67
  pointwise
  exact k6 y _ e
theorem t62 : k0_pay70 (F := Ideal) (k0_pay67 y) (ix3 0 e j) = unit (row y ⟨128 + j.val, by omega⟩) 1792 (by omega) e := by
  unfold k0_pay70 k0_pay67
  pointwise
  exact k6 y _ e
theorem t63 : k0_pay71 (F := Ideal) (k0_pay67 y) (ix3 0 e j) = unit (row y ⟨192 + j.val, by omega⟩) 1792 (by omega) e := by
  unfold k0_pay71 k0_pay67
  pointwise
  exact k6 y _ e
theorem t70 : k0_pay75 (F := Ideal) y (ix3 0 e j) = unit (row y ⟨j.val, by omega⟩) 1920 (by omega) e := by
  unfold k0_pay75 k0_pay74
  pointwise
  exact k7 y _ e
theorem t71 : k0_pay77 (F := Ideal) (k0_pay76 y) (ix3 0 e j) = unit (row y ⟨64 + j.val, by omega⟩) 1920 (by omega) e := by
  unfold k0_pay77 k0_pay76 k0_pay74
  pointwise
  exact k7 y _ e
theorem t72 : k0_pay78 (F := Ideal) (k0_pay74 y) (ix3 0 e j) = unit (row y ⟨128 + j.val, by omega⟩) 1920 (by omega) e := by
  unfold k0_pay78 k0_pay74
  pointwise
  exact k7 y _ e
theorem t73 : k0_pay79 (F := Ideal) (k0_pay74 y) (ix3 0 e j) = unit (row y ⟨192 + j.val, by omega⟩) 1920 (by omega) e := by
  unfold k0_pay79 k0_pay74
  pointwise
  exact k7 y _ e

end pieces

/-- A stored piece holds its rows of the keys' columns. -/
theorem tTile (y : Fin 256 → Fin 3072 → EReal) (h : ℕ) (hh : 1024 + h + 128 ≤ 3072) (h8 : h % 128 = 0) (hq : h < 1024) (o : ℕ)
    (w : FVec Ideal S1x128x64 .bf16) (r : Fin 64 → Fin 256) (hr : ∀ j, (r j).val = 64 * o + j.val) (hw : ∀ e j, w (ix3 0 e j) = unit (y (r j)) (1024 + h) hh e)
    (q : Fin 4) (k : Fin 1024) (j : Fin 64) :
    View.TileAt (Val := Elt Ideal) (e := .bf16) (S := S4x1024x64) (ix3 q k j) ![o, h, 0] S1x128x64.size w
      (heads (y ⟨64 * q.val + j.val, by omega⟩) ⟨1024 + k.val, by omega⟩) := by
  intro z hz
  obtain ⟨u, e, j', rfl⟩ := Cert.Rows.exists_ix3 (a := 1) (b := 128) (c := 64) z
  obtain rfl : u = 0 := Subsingleton.elim _ _
  have h0 : q.val = o + 0 := hz 0
  have h1 : k.val = h + e.val := hz 1
  have h2 : j.val = 0 + j'.val := hz 2
  refine (hw e j').trans ((heads_k _ ⟨1024 + k.val, by omega⟩ _ hh e (by omega) (by omega) (by omega) (by dsimp only; omega)).trans ?_)
  exact congrArg (fun r => heads (y r) ⟨1024 + k.val, by omega⟩) (Fin.ext ((hr j').trans (by dsimp only; omega)))

section run

variable (c : Dev nD) (p : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x3072 .bf16) (harg4 : arg4.IsWhole) (arg5 : Memref sig .tc .vmem S16x3072 .bf16) (harg5 : arg5.IsWhole) (arg6 : Memref sig .tc .vmem S16x3072 .bf16) (harg6 : arg6.IsWhole) (arg7 : Memref sig .tc .vmem S256x128 .f32) (harg7 : arg7.IsWhole) (arg8 : Memref sig .tc .vmem S3x3072 .f32) (harg8 : arg8.IsWhole) (arg9 : Memref sig .tc .vmem S3x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S256x3072 .bf16) (harg12 : arg12.IsWhole) (arg13 : Memref sig .tc .vmem S4x1024x64 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S4x2x24x128 .f32) (harg16 : arg16.IsWhole) (x0 : FVec Ideal S256x3072 .bf16) (x1 : FVec Ideal S16x3072 .bf16) (x2 : FVec Ideal S16x3072 .bf16) (x3 : FVec Ideal S256x3072 .bf16) (x4 : FVec Ideal S16x3072 .bf16) (x5 : FVec Ideal S16x3072 .bf16) (x6 : FVec Ideal S256x128 .f32) (x7 : FVec Ideal S3x3072 .f32) (x8 : FVec Ideal S3x1024 .f32) (x9 : FVec Ideal S1x128 .f32) (x10 : FVec Ideal S1x128 .f32)

theorem out_keys (q : Fin 4) (k : Fin 1024) (j : Fin 64) :
    out0_A_12 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix3 q k j) = heads (convBlk p x0 x1 x2 x7 ⟨64 * q.val + j.val, by omega⟩) ⟨1024 + k.val, by omega⟩ := by
  rw [← conv_row c p arg1 harg1 arg2 harg2 arg3 harg3 arg8 harg8 x0 x1 x2 x7]
  unfold out0_A_12
  rw [View.read_writes_junk_eq_canon]
  refine View.canon_eq_of_allAt _ _ _ (cover0_A_12 ..) ?_
  unfold kernelRun0_A
  dsimp only
  unfold kernelRun0_A.sl.r_7 kernelRun0_A.sl.r_8 kernelRun0_A.sl.r_9 kernelRun0_A.sl.r_10 kernelRun0_A.sl.r_11 kernelRun0_A.sl.r_13 kernelRun0_A.sl.r_14 kernelRun0_A.sl.r_15 kernelRun0_A.sl.r_16 kernelRun0_A.sl.r_17
  refine View.allAt_cons_unit _ _ _ _ _ (tTile (row _) 896 (by omega) rfl (by omega) 3 _ (fun j => ⟨192 + j.val, by omega⟩) (fun _ => rfl) (fun e j => t73 _ e j) q k j) ?_
  refine View.allAt_cons_unit _ _ _ _ _ (tTile (row _) 896 (by omega) rfl (by omega) 2 _ (fun j => ⟨128 + j.val, by omega⟩) (fun _ => rfl) (fun e j => t72 _ e j) q k j) ?_
  refine View.allAt_cons_unit _ _ _ _ _ (tTile (row _) 896 (by omega) rfl (by omega) 1 _ (fun j => ⟨64 + j.val, by omega⟩) (fun _ => rfl) (fun e j => t71 _ e j) q k j) ?_
  refine View.allAt_cons_unit _ _ _ _ _ (tTile (row _) 896 (by omega) rfl (by omega) 0 _ (fun j => ⟨j.val, by omega⟩) (fun j => by dsimp only; omega) (fun e j => t70 _ e j) q k j) ?_
  refine View.allAt_cons_unit _ _ _ _ _ (tTile (row _) 768 (by omega) rfl (by omega) 3 _ (fun j => ⟨192 + j.val, by omega⟩) (fun _ => rfl) (fun e j => t63 _ e j) q k j) ?_
  refine View.allAt_cons_unit _ _ _ _ _ (tTile (row _) 768 (by omega) rfl (by omega) 2 _ (fun j => ⟨128 + j.val, by omega⟩) (fun _ => rfl) (fun e j => t62 _ e j) q k j) ?_
  refine View.allAt_cons_unit _ _ _ _ _ (tTile (row _) 768 (by omega) rfl (by omega) 1 _ (fun j => ⟨64 + j.val, by omega⟩) (fun _ => rfl) (fun e j => t61 _ e j) q k j) ?_
  refine View.allAt_cons_unit _ _ _ _ _ (tTile (row _) 768 (by omega) rfl (by omega) 0 _ (fun j => ⟨j.val, by omega⟩) (fun j => by dsimp only; omega) (fun e j => t60 _ e j) q k j) ?_
  refine View.allAt_cons_unit _ _ _ _ _ (tTile (row _) 640 (by omega) rfl (by omega) 3 _ (fun j => ⟨192 + j.val, by omega⟩) (fun _ => rfl) (fun e j => t53 _ e j) q k j) ?_
  refine View.allAt_cons_unit _ _ _ _ _ (tTile (row _) 640 (by omega) rfl (by omega) 2 _ (fun j => ⟨128 + j.val, by omega⟩) (fun _ => rfl) (fun e j => t52 _ e j) q k j) ?_
  refine View.allAt_cons_unit _ _ _ _ _ (tTile (row _) 640 (by omega) rfl (by omega) 1 _ (fun j => ⟨64 + j.val, by omega⟩) (fun _ => rfl) (fun e j => t51 _ e j) q k j) ?_
  refine View.allAt_cons_unit _ _ _ _ _ (tTile (row _) 640 (by omega) rfl (by omega) 0 _ (fun j => ⟨j.val, by omega⟩) (fun j => by dsimp only; omega) (fun e j => t50 _ e j) q k j) ?_
  refine View.allAt_cons_unit _ _ _ _ _ (tTile (row _) 512 (by omega) rfl (by omega) 3 _ (fun j => ⟨192 + j.val, by omega⟩) (fun _ => rfl) (fun e j => t43 _ e j) q k j) ?_
  refine View.allAt_cons_unit _ _ _ _ _ (tTile (row _) 512 (by omega) rfl (by omega) 2 _ (fun j => ⟨128 + j.val, by omega⟩) (fun _ => rfl) (fun e j => t42 _ e j) q k j) ?_
  refine View.allAt_cons_unit _ _ _ _ _ (tTile (row _) 512 (by omega) rfl (by omega) 1 _ (fun j => ⟨64 + j.val, by omega⟩) (fun _ => rfl) (fun e j => t41 _ e j) q k j) ?_
  refine View.allAt_cons_unit _ _ _ _ _ (tTile (row _) 512 (by omega) rfl (by omega) 0 _ (fun j => ⟨j.val, by omega⟩) (fun j => by dsimp only; omega) (fun e j => t40 _ e j) q k j) ?_
  refine View.allAt_cons_unit _ _ _ _ _ (tTile (row _) 384 (by omega) rfl (by omega) 3 _ (fun j => ⟨192 + j.val, by omega⟩) (fun _ => rfl) (fun e j => t33 _ e j) q k j) ?_
  refine View.allAt_cons_unit _ _ _ _ _ (tTile (row _) 384 (by omega) rfl (by omega) 2 _ (fun j => ⟨128 + j.val, by omega⟩) (fun _ => rfl) (fun e j => t32 _ e j) q k j) ?_
  refine View.allAt_cons_unit _ _ _ _ _ (tTile (row _) 384 (by omega) rfl (by omega) 1 _ (fun j => ⟨64 + j.val, by omega⟩) (fun _ => rfl) (fun e j => t31 _ e j) q k j) ?_
  refine View.allAt_cons_unit _ _ _ _ _ (tTile (row _) 384 (by omega) rfl (by omega) 0 _ (fun j => ⟨j.val, by omega⟩) (fun j => by dsimp only; omega) (fun e j => t30 _ e j) q k j) ?_
  refine View.allAt_cons_unit _ _ _ _ _ (tTile (row _) 256 (by omega) rfl (by omega) 3 _ (fun j => ⟨192 + j.val, by omega⟩) (fun _ => rfl) (fun e j => t23 _ e j) q k j) ?_
  refine View.allAt_cons_unit _ _ _ _ _ (tTile (row _) 256 (by omega) rfl (by omega) 2 _ (fun j => ⟨128 + j.val, by omega⟩) (fun _ => rfl) (fun e j => t22 _ e j) q k j) ?_
  refine View.allAt_cons_unit _ _ _ _ _ (tTile (row _) 256 (by omega) rfl (by omega) 1 _ (fun j => ⟨64 + j.val, by omega⟩) (fun _ => rfl) (fun e j => t21 _ e j) q k j) ?_
  refine View.allAt_cons_unit _ _ _ _ _ (tTile (row _) 256 (by omega) rfl (by omega) 0 _ (fun j => ⟨j.val, by omega⟩) (fun j => by dsimp only; omega) (fun e j => t20 _ e j) q k j) ?_
  refine View.allAt_cons_unit _ _ _ _ _ (tTile (row _) 128 (by omega) rfl (by omega) 3 _ (fun j => ⟨192 + j.val, by omega⟩) (fun _ => rfl) (fun e j => t13 _ e j) q k j) ?_
  refine View.allAt_cons_unit _ _ _ _ _ (tTile (row _) 128 (by omega) rfl (by omega) 2 _ (fun j => ⟨128 + j.val, by omega⟩) (fun _ => rfl) (fun e j => t12 _ e j) q k j) ?_
  refine View.allAt_cons_unit _ _ _ _ _ (tTile (row _) 128 (by omega) rfl (by omega) 1 _ (fun j => ⟨64 + j.val, by omega⟩) (fun _ => rfl) (fun e j => t11 _ e j) q k j) ?_
  refine View.allAt_cons_unit _ _ _ _ _ (tTile (row _) 128 (by omega) rfl (by omega) 0 _ (fun j => ⟨j.val, by omega⟩) (fun j => by dsimp only; omega) (fun e j => t10 _ e j) q k j) ?_
  refine View.allAt_cons_unit _ _ _ _ _ (tTile (row _) 0 (by omega) rfl (by omega) 3 _ (fun j => ⟨192 + j.val, by omega⟩) (fun _ => rfl) (fun e j => t03 _ e j) q k j) ?_
  refine View.allAt_cons_unit _ _ _ _ _ (tTile (row _) 0 (by omega) rfl (by omega) 2 _ (fun j => ⟨128 + j.val, by omega⟩) (fun _ => rfl) (fun e j => t02 _ e j) q k j) ?_
  refine View.allAt_cons_unit _ _ _ _ _ (tTile (row _) 0 (by omega) rfl (by omega) 1 _ (fun j => ⟨64 + j.val, by omega⟩) (fun _ => rfl) (fun e j => t01 _ e j) q k j) ?_
  exact View.allAt_cons_unit _ _ _ _ _ (tTile (row _) 0 (by omega) rfl (by omega) 0 _ (fun j => ⟨j.val, by omega⟩) (fun j => by dsimp only; omega) (fun e j => t00 _ e j) q k j) (View.allAt_nil _ _)

end run

end Cert.Kernel6Ideal.Own

end
-- ==== Proof.ConvArrays.lean ====
/-
The blocks that a grid point of the convolution call stages, and the three of its arrays that are claimed.
-/
module

public import proofs.«01_k».proof.Proof.ConvKeys
public import Idealize.ShloMosaic.Lib.Pipeline.ValueKit.Point

@[expose] public section

noncomputable section

namespace Cert.Kernel6Ideal.Own

open Cert.Kernel6Ideal Cert.Kernel6Ideal.Gen Cert.Rows Cert.Conv
open Idealize.ShloMosaic Idealize.ShloMosaic.TcCoe Idealize.ShloMosaic.Tactic

variable (m : (ℓ : Loc nD τ sig) → Buf (Elt Ideal) ℓ) (c : Dev nD)

/-- The arguments at their shapes. -/
def args : Conv.Args where
  zin := m (c, main_arg0)
  cq := m (c, main_arg3)
  cs := m (c, main_arg4)

/-- The arrays as the call finds them. -/
def vZ : S32768x9216.Idx → EReal := V m c main_arg0
def vCq : S3x3072.Idx → EReal := V m c main_arg3
def vCs : S3x1024.Idx → EReal := V m c main_arg4

theorem V_z : vZ m c = (args m c).zin := by
  funext y; obtain ⟨i, k, rfl⟩ := exists_ix2 (a := 32768) (b := 9216) y
  unfold vZ args V
  after_reads_at
theorem V_cq : vCq m c = (args m c).cq := by
  funext y; obtain ⟨i, k, rfl⟩ := exists_ix2 (a := 3) (b := 3072) y
  unfold vCq args V
  after_reads_at
theorem V_cs : vCs m c = (args m c).cs := by
  funext y; obtain ⟨i, k, rfl⟩ := exists_ix2 (a := 3) (b := 1024) y
  unfold vCs args V
  after_reads_at

/-- Where each window's block lies at each point. -/
theorem idx : ∀ t : Fin grid0.N,
    win0_0.index t = ![t.val, 0] ∧ win0_1.index t = ![16 * t.val - 1, 0] ∧ win0_2.index t = ![min (16 * t.val + 16) 2047, 0] ∧ win0_3.index t = ![t.val, 1]
    ∧ win0_4.index t = ![16 * t.val - 1, 1] ∧ win0_5.index t = ![min (16 * t.val + 16) 2047, 1] ∧ win0_7.index t = ![0, 0]
    ∧ win0_8.index t = ![0, 0] ∧ win0_11.index t = ![t.val, 0] ∧ win0_12.index t = ![t.val, 0, 0] ∧ win0_13.index t = ![t.val, 0] := by decide +kernel

theorem coord : ∀ t : Fin grid0.N, (grid0.coords t 0).val = t.val := by decide +kernel

theorem lt_128 (t : Fin cfg0.N) : t.val < 128 := t.isLt

theorem blk_z (t : Fin cfg0.N) (i : Fin 256) (k : Fin 3072) :
    iblk m c 0 t (ix2 i k) = vZ m c (ix2 ⟨256 * t.val + i.val, by have := lt_128 t; omega⟩ ⟨k.val, by omega⟩) := by
  unfold vZ
  blk_ext [iblk, idx t]
theorem blk_prev (t : Fin cfg0.N) (j : Fin 16) (k : Fin 3072) :
    iblk m c 1 t (ix2 j k) = vZ m c (ix2 ⟨16 * (16 * t.val - 1) + j.val, by have := lt_128 t; omega⟩ ⟨k.val, by omega⟩) := by
  unfold vZ
  blk_ext [iblk, idx t]
theorem blk_next (t : Fin cfg0.N) (j : Fin 16) (k : Fin 3072) :
    iblk m c 2 t (ix2 j k) = vZ m c (ix2 ⟨16 * min (16 * t.val + 16) 2047 + j.val, by have := lt_128 t; omega⟩ ⟨k.val, by omega⟩) := by
  unfold vZ
  blk_ext [iblk, idx t]
theorem blk_sz (t : Fin cfg0.N) (i : Fin 256) (k : Fin 3072) :
    iblk m c 3 t (ix2 i k) = vZ m c (ix2 ⟨256 * t.val + i.val, by have := lt_128 t; omega⟩ ⟨3072 + k.val, by omega⟩) := by
  unfold vZ
  blk_ext [iblk, idx t]
theorem blk_sprev (t : Fin cfg0.N) (j : Fin 16) (k : Fin 3072) :
    iblk m c 4 t (ix2 j k) = vZ m c (ix2 ⟨16 * (16 * t.val - 1) + j.val, by have := lt_128 t; omega⟩ ⟨3072 + k.val, by omega⟩) := by
  unfold vZ
  blk_ext [iblk, idx t]
theorem blk_snext (t : Fin cfg0.N) (j : Fin 16) (k : Fin 3072) :
    iblk m c 5 t (ix2 j k) = vZ m c (ix2 ⟨16 * min (16 * t.val + 16) 2047 + j.val, by have := lt_128 t; omega⟩ ⟨3072 + k.val, by omega⟩) := by
  unfold vZ
  blk_ext [iblk, idx t]
theorem blk_cq (t : Fin cfg0.N) (j : Fin 3) (k : Fin 3072) : iblk m c 7 t (ix2 j k) = vCq m c (ix2 j k) := by
  unfold vCq
  blk_ext [iblk, idx t]
theorem blk_cs (t : Fin cfg0.N) (j : Fin 3) (k : Fin 1024) : iblk m c 8 t (ix2 j k) = vCs m c (ix2 j k) := by
  unfold vCs
  blk_ext [iblk, idx t]

/-- The neighbours that a point takes from its block and from the rows around it are the neighbours of the sequence. -/
theorem above_prev (t : Fin cfg0.N) (i : Fin 256) (f : Fin 32768 → EReal) :
    above (fun i : Fin 256 => f ⟨256 * t.val + i.val, by have := lt_128 t; omega⟩)
      (fun j : Fin 16 => f ⟨16 * (16 * t.val - 1) + j.val, by have := lt_128 t; omega⟩ * k0_pay3 (F := Ideal) (grid0.coords t)) i
      = prev f ⟨256 * t.val + i.val, by have := lt_128 t; omega⟩ := by
  have ht := lt_128 t
  unfold above prev
  rw [keep_above, coord t]
  by_cases hi : i.val = 0
  · rw [if_pos hi]
    by_cases h : t.val % 32 = 0
    · rw [if_pos h, if_pos (by dsimp only; omega)]
      exact mul_zero _
    · rw [if_neg h, if_neg (by dsimp only; omega)]
      refine (mul_one _).trans ?_
      exact congrArg f (Fin.ext (by show 16 * (16 * t.val - 1) + 15 = 256 * t.val + i.val - 1; omega))
  · rw [if_neg hi, if_neg (by dsimp only; omega)]
    exact congrArg f (Fin.ext (by dsimp only; omega))

theorem below_next (t : Fin cfg0.N) (i : Fin 256) (f : Fin 32768 → EReal) :
    below (fun i : Fin 256 => f ⟨256 * t.val + i.val, by have := lt_128 t; omega⟩)
      (fun j : Fin 16 => f ⟨16 * min (16 * t.val + 16) 2047 + j.val, by have := lt_128 t; omega⟩ * k0_pay4 (F := Ideal) (grid0.coords t)) i
      = next f ⟨256 * t.val + i.val, by have := lt_128 t; omega⟩ := by
  have ht := lt_128 t
  unfold below next
  rw [keep_below, coord t]
  by_cases hi : i.val = 255
  · rw [dif_pos hi]
    by_cases h : t.val % 32 = 31
    · rw [if_pos h, dif_pos (by dsimp only; omega)]
      exact mul_zero _
    · rw [if_neg h, dif_neg (by dsimp only; omega)]
      refine (mul_one _).trans ?_
      exact congrArg f (Fin.ext (by show 16 * min (16 * t.val + 16) 2047 + 0 = 256 * t.val + i.val + 1; omega))
  · rw [dif_neg hi, dif_neg (by dsimp only; omega)]
    exact congrArg f (Fin.ext (by dsimp only; omega))

theorem prev_mul (f g : Fin 32768 → EReal) (r : Fin 32768) : prev f r * prev g r = prev (fun r => f r * g r) r := by
  unfold prev
  split
  · exact mul_zero _
  · rfl
theorem next_mul (f g : Fin 32768 → EReal) (r : Fin 32768) : next f r * next g r = next (fun r => f r * g r) r := by
  unfold next
  split
  · exact mul_zero _
  · rfl

/-- The rows of a point are rows of the batch. -/
theorem convBlk_row (t : Fin cfg0.N) (i : Fin 256) :
    convBlk (grid0.coords t) (iblk m c 0 t) (iblk m c 1 t) (iblk m c 2 t) (iblk m c 7 t) i = qkvRow (args m c) ⟨256 * t.val + i.val, by have := lt_128 t; omega⟩ := by
  funext k
  unfold convBlk qkvRow conv
  simp only [blk_z, blk_prev, blk_next, blk_cq, V_z, V_cq]
  exact congrArg Cert.Mix.swish (congr (congrArg HAdd.hAdd (congrArg (· + _) (congrArg (_ * ·) (above_prev t i (col (args m c) k.val (by omega))))))
    (congrArg (_ * ·) (below_next t i (col (args m c) k.val (by omega)))))

theorem aboveBlk_row (t : Fin cfg0.N) (k : Fin 3072) (i : Fin 256) (n : ℕ) (hn : n < 9216) (e : 3072 + k.val = n) :
    aboveBlk (grid0.coords t) (iblk m c 3 t) (iblk m c 4 t) k i = prev (col (args m c) n hn) ⟨256 * t.val + i.val, by have := lt_128 t; omega⟩ := by
  subst e
  unfold aboveBlk
  simp only [blk_sz, blk_sprev, V_z]
  exact above_prev t i (col (args m c) (3072 + k.val) hn)
theorem belowBlk_row (t : Fin cfg0.N) (k : Fin 3072) (i : Fin 256) (n : ℕ) (hn : n < 9216) (e : 3072 + k.val = n) :
    belowBlk (grid0.coords t) (iblk m c 3 t) (iblk m c 5 t) k i = next (col (args m c) n hn) ⟨256 * t.val + i.val, by have := lt_128 t; omega⟩ := by
  subst e
  unfold belowBlk
  simp only [blk_sz, blk_snext, V_z]
  exact below_next t i (col (args m c) (3072 + k.val) hn)
theorem midBlk_row (t : Fin cfg0.N) (k : Fin 3072) (i : Fin 256) (n : ℕ) (hn : n < 9216) (e : 3072 + k.val = n) :
    iblk m c 3 t (ix2 i k) = col (args m c) n hn ⟨256 * t.val + i.val, by have := lt_128 t; omega⟩ := by
  subst e
  rw [blk_sz, V_z]
  rfl

theorem shortBlk_row (t : Fin cfg0.N) (i : Fin 256) (k : Fin 1024) :
    shortBlk (grid0.coords t) (iblk m c 3 t) (iblk m c 4 t) (iblk m c 5 t) (iblk m c 8 t) i k = shortRow (args m c) ⟨256 * t.val + i.val, by have := lt_128 t; omega⟩ k := by
  unfold shortBlk shortRow conv
  rw [aboveBlk_row m c t _ i (5120 + k.val) (by omega) (by dsimp only; omega), aboveBlk_row m c t _ i (3072 + k.val) (by omega) (by dsimp only; omega),
    belowBlk_row m c t _ i (5120 + k.val) (by omega) (by dsimp only; omega), belowBlk_row m c t _ i (3072 + k.val) (by omega) (by dsimp only; omega),
    midBlk_row m c t _ i (4096 + k.val) (by omega) (by dsimp only; omega), midBlk_row m c t _ i (5120 + k.val) (by omega) (by dsimp only; omega),
    midBlk_row m c t _ i (3072 + k.val) (by omega) (by dsimp only; omega), prev_mul, next_mul, blk_cs, blk_cs, blk_cs, V_cs]
  rfl

theorem emb_11 (t : Fin cfg0.N) (i : Fin 256) (k : Fin 3072) :
    (win0_11.blk t).view.emb (ix2 i k) = ix2 ⟨256 * t.val + i.val, by have := lt_128 t; omega⟩ k := by
  blk_ext [iblk, idx t]
theorem emb_12 (t : Fin cfg0.N) (q : Fin 4) (k : Fin 1024) (j : Fin 64) :
    (win0_12.blk t).view.emb (ix3 q k j) = ix3 ⟨4 * t.val + q.val, by have := lt_128 t; omega⟩ k j := by
  blk_ext [iblk, idx t]
theorem emb_13 (t : Fin cfg0.N) (i : Fin 256) (k : Fin 1024) :
    (win0_13.blk t).view.emb (ix2 i k) = ix2 ⟨256 * t.val + i.val, by have := lt_128 t; omega⟩ k := by
  blk_ext [iblk, idx t]

/-- What a point leaves in the three blocks, at an index. -/
theorem after_qkv (t : Fin cfg0.N) (i : Fin 256) (k : Fin 3072) :
    (outsAt0 m c t).1 (ix2 i k) = heads (qkvRow (args m c) ⟨256 * t.val + i.val, by have := lt_128 t; omega⟩) k := by
  have e := out_qkv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) i k
  rw [convBlk_row m c t i] at e
  unfold outsAt0
  dsimp only
  exact e
theorem after_keys (t : Fin cfg0.N) (q : Fin 4) (k : Fin 1024) (j : Fin 64) :
    (outsAt0 m c t).2.1 (ix3 q k j) = heads (qkvRow (args m c) ⟨256 * t.val + (64 * q.val + j.val), by have := lt_128 t; omega⟩) ⟨1024 + k.val, by omega⟩ := by
  have e := out_keys c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) q k j
  rw [convBlk_row m c t] at e
  unfold outsAt0
  dsimp only
  exact e
theorem after_short (t : Fin cfg0.N) (i : Fin 256) (k : Fin 1024) :
    (outsAt0 m c t).2.2.1 (ix2 i k) = shortRow (args m c) ⟨256 * t.val + i.val, by have := lt_128 t; omega⟩ k := by
  have e := out_short c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) i k
  rw [shortBlk_row m c t i] at e
  unfold outsAt0
  dsimp only
  exact e

theorem arr_11 : (dats m 0 c).arrAt 11 cfg0.N = Conv.qkvs (args m c) := by
  refine (dats m 0 c).arrAt_eq_of_covers 11 _ (by decide +kernel) fun t hfl y => ?_
  blk_simp
  obtain ⟨i, k, rfl⟩ := exists_ix2 (a := 256) (b := 3072) y
  refine Eq.trans ?_ (congrArg (Conv.qkvs (args m c)) (emb_11 t i k)).symm
  exact (congrFun (after0_11 m c t) _).trans (after_qkv m c t i k)

theorem arr_12 : (dats m 0 c).arrAt 12 cfg0.N = Conv.keys (args m c) := by
  refine (dats m 0 c).arrAt_eq_of_covers 12 _ (by decide +kernel) fun t hfl y => ?_
  blk_simp
  obtain ⟨q, k, j, rfl⟩ := exists_ix3 (a := 4) (b := 1024) (c := 64) y
  refine Eq.trans ?_ (congrArg (Conv.keys (args m c)) (emb_12 t q k j)).symm
  refine (congrFun (after0_12 m c t) _).trans ((after_keys m c t q k j).trans ?_)
  exact congrArg (fun r => heads (qkvRow (args m c) r) ⟨1024 + k.val, by omega⟩) (Fin.ext (by show 256 * t.val + (64 * q.val + j.val) = 64 * (4 * t.val + q.val) + j.val; omega))

theorem arr_13 : (dats m 0 c).arrAt 13 cfg0.N = Conv.shorts (args m c) := by
  refine (dats m 0 c).arrAt_eq_of_covers 13 _ (by decide +kernel) fun t hfl y => ?_
  blk_simp
  obtain ⟨i, k, rfl⟩ := exists_ix2 (a := 256) (b := 1024) y
  refine Eq.trans ?_ (congrArg (Conv.shorts (args m c)) (emb_13 t i k)).symm
  exact (congrFun (after0_13 m c t) _).trans (after_short m c t i k)

end Cert.Kernel6Ideal.Own

end
-- ==== Proof.ConvRef.lean ====
/-
The convolution call's reference: its results are the rows of q, k and v, the keys transposed by groups of 64 rows, and the rows of the short convolution.
-/
module

public import proofs.«01_k».proof.Proof.Gen.Reference6Ideal.Run
public import proofs.«01_k».proof.Proof.ConvSpec
public import Idealize.ShloMosaic.Lib.StableHlo.ReadAt

@[expose] public section

set_option maxRecDepth 8192

noncomputable section

namespace Cert.Reference6Ideal.Own

open Cert.Reference6Ideal Cert.Reference6Ideal.Gen Cert.Reference6Ideal.Value Cert.Rows Cert.Conv
open Idealize.ShloMosaic Idealize.ShloMosaic.TcCoe Idealize.ShloMosaic.Tactic Idealize.ShloMosaic.StableHlo

/-- The projection by sequence. -/
def wide (zin : FVec Ideal S32768x9216 .bf16) : FVec Ideal S4x8192x9216 .f32 :=
  shapeCast S4x8192x9216 (extf .f32 zin bitsLt_bf16_f32) shapeCasts_S32768x9216_S4x8192x9216

theorem wide_apply (zin : FVec Ideal S32768x9216 .bf16) (b : Fin 4) (s : Fin 8192) (k : Fin 9216) :
    wide zin (ix3 b s k) = zin (ix2 ⟨8192 * b.val + s.val, by omega⟩ k) := by
  unfold wide
  pointwise
  simp only [Nat.mul_comm b.val 8192]

/-- The padding's value. -/
theorem pad_zero : FloatOps.sitofp (F := Ideal) FTy.f32 0#32 = (0 : EReal) := by
  show ((((0#32 : BitVec 32).toInt : ℤ) : ℝ) : EReal) = 0
  rw [show (0#32 : BitVec 32).toInt = 0 from rfl, Int.cast_zero]
  rfl

/-- The 1024 columns' zero-padded rows, shifted, and their weighted sum. -/
def padded1 (y : FVec Ideal S4x8192x1024 .f32) : FVec Ideal S4x8194x1024 .f32 :=
  pad S4x8194x1024 ![0, 1, 0] ![0, 1, 0] ![0, 0, 0] y (sitofp .f32 (constantI S_ 32 0#32)) pads_S4x8192x1024_S4x8194x1024_000_110_000 h_S_
def before1 (y : FVec Ideal S4x8192x1024 .f32) : FVec Ideal S4x8192x1024 .f32 := extractStridedSlice S4x8192x1024 ![0, 0, 0] (padded1 y) slices_S4x8194x1024_S4x8192x1024_0_0_0
def at1 (y : FVec Ideal S4x8192x1024 .f32) : FVec Ideal S4x8192x1024 .f32 := extractStridedSlice S4x8192x1024 ![0, 1, 0] (padded1 y) slices_S4x8194x1024_S4x8192x1024_0_1_0
def after1 (y : FVec Ideal S4x8192x1024 .f32) : FVec Ideal S4x8192x1024 .f32 := extractStridedSlice S4x8192x1024 ![0, 2, 0] (padded1 y) slices_S4x8194x1024_S4x8192x1024_0_2_0
def perRow1 (w : FVec Ideal S1x1024 .f32) : FVec Ideal S4x8192x1024 .f32 :=
  broadcastInDim S4x8192x1024 ![0, 1, 2] bcast_S1x1x1024_S4x8192x1024_0_1_2 (broadcastInDim S1x1x1024 ![1, 2] bcast_S1x1024_S1x1x1024_1_2 w)
def conv1 (y : FVec Ideal S4x8192x1024 .f32) (w : FVec Ideal S3x1024 .f32) : FVec Ideal S4x8192x1024 .f32 :=
  addf (addf (mulf (perRow1 (extractStridedSlice S1x1024 ![0, 0] w slices_S3x1024_S1x1024_0_0)) (before1 y))
    (mulf (perRow1 (extractStridedSlice S1x1024 ![1, 0] w slices_S3x1024_S1x1024_1_0)) (at1 y)))
    (mulf (perRow1 (extractStridedSlice S1x1024 ![2, 0] w slices_S3x1024_S1x1024_2_0)) (after1 y))

theorem before1_apply (y : FVec Ideal S4x8192x1024 .f32) (b : Fin 4) (s : Fin 8192) (k : Fin 1024) :
    before1 y (ix3 b s k) = if s.val = 0 then 0 else y (ix3 b ⟨s.val - 1, by omega⟩ k) := by
  unfold before1 padded1
  pointwise
  by_cases h : s.val = 0
  · rw [if_pos h, dif_neg (by omega)]
    exact pad_zero
  · rw [if_neg h, dif_pos (by omega)]
theorem at1_apply (y : FVec Ideal S4x8192x1024 .f32) (b : Fin 4) (s : Fin 8192) (k : Fin 1024) :
    at1 y (ix3 b s k) = y (ix3 b s k) := by
  unfold at1 padded1
  pointwise
theorem after1_apply (y : FVec Ideal S4x8192x1024 .f32) (b : Fin 4) (s : Fin 8192) (k : Fin 1024) :
    after1 y (ix3 b s k) = if h : s.val = 8191 then 0 else y (ix3 b ⟨s.val + 1, by omega⟩ k) := by
  unfold after1 padded1
  pointwise
  by_cases h : s.val = 8191
  · rw [dif_pos h, dif_neg (by omega)]
    exact pad_zero
  · rw [dif_neg h, dif_pos (by omega)]
    exact congrArg (fun s => y (ix3 b s k)) (Fin.ext (by dsimp only; omega))
theorem conv1_apply (y : FVec Ideal S4x8192x1024 .f32) (w : FVec Ideal S3x1024 .f32) (b : Fin 4) (s : Fin 8192) (k : Fin 1024) :
    conv1 y w (ix3 b s k) = w (ix2 0 k) * before1 y (ix3 b s k) + w (ix2 1 k) * at1 y (ix3 b s k) + w (ix2 2 k) * after1 y (ix3 b s k) := by
  unfold conv1 perRow1
  pointwise

/-- At a row of the batch, they are the row's neighbours in its sequence. -/
theorem conv1_row (y : FVec Ideal S4x8192x1024 .f32) (w : FVec Ideal S3x1024 .f32) (k : Fin 1024) (f : Fin 32768 → EReal)
    (hf : ∀ (b : Fin 4) (s : Fin 8192), y (ix3 b s k) = f ⟨8192 * b.val + s.val, by omega⟩) (r : Fin 32768) :
    conv1 y w (ix3 ⟨r.val / 8192, by omega⟩ ⟨r.val % 8192, by omega⟩ k) = conv (fun j => w (ix2 j k)) f r := by
  rw [conv1_apply, before1_apply, at1_apply, after1_apply]
  unfold conv
  refine congr (congrArg HAdd.hAdd (congr (congrArg HAdd.hAdd (congrArg (w (ix2 0 k) * ·) ?_)) (congrArg (w (ix2 1 k) * ·) ?_))) (congrArg (w (ix2 2 k) * ·) ?_)
  · unfold prev
    by_cases h : r.val % 8192 = 0
    · rw [if_pos h, if_pos h]
    · rw [if_neg h, if_neg h, hf]
      exact congrArg f (Fin.ext (by dsimp only; omega))
  · rw [hf]
    exact congrArg f (Fin.ext (by dsimp only; omega))
  · unfold next
    by_cases h : r.val % 8192 = 8191
    · rw [dif_pos h, dif_pos h]
    · rw [dif_neg h, dif_neg h, hf]
      exact congrArg f (Fin.ext (by dsimp only; omega))

/-- The 3072 columns' zero-padded rows, shifted, and their weighted sum. -/
def padded3 (y : FVec Ideal S4x8192x3072 .f32) : FVec Ideal S4x8194x3072 .f32 :=
  pad S4x8194x3072 ![0, 1, 0] ![0, 1, 0] ![0, 0, 0] y (sitofp .f32 (constantI S_ 32 0#32)) pads_S4x8192x3072_S4x8194x3072_000_110_000 h_S_
def before3 (y : FVec Ideal S4x8192x3072 .f32) : FVec Ideal S4x8192x3072 .f32 := extractStridedSlice S4x8192x3072 ![0, 0, 0] (padded3 y) slices_S4x8194x3072_S4x8192x3072_0_0_0
def at3 (y : FVec Ideal S4x8192x3072 .f32) : FVec Ideal S4x8192x3072 .f32 := extractStridedSlice S4x8192x3072 ![0, 1, 0] (padded3 y) slices_S4x8194x3072_S4x8192x3072_0_1_0
def after3 (y : FVec Ideal S4x8192x3072 .f32) : FVec Ideal S4x8192x3072 .f32 := extractStridedSlice S4x8192x3072 ![0, 2, 0] (padded3 y) slices_S4x8194x3072_S4x8192x3072_0_2_0
def perRow3 (w : FVec Ideal S1x3072 .f32) : FVec Ideal S4x8192x3072 .f32 :=
  broadcastInDim S4x8192x3072 ![0, 1, 2] bcast_S1x1x3072_S4x8192x3072_0_1_2 (broadcastInDim S1x1x3072 ![1, 2] bcast_S1x3072_S1x1x3072_1_2 w)
def conv3 (y : FVec Ideal S4x8192x3072 .f32) (w : FVec Ideal S3x3072 .f32) : FVec Ideal S4x8192x3072 .f32 :=
  addf (addf (mulf (perRow3 (extractStridedSlice S1x3072 ![0, 0] w slices_S3x3072_S1x3072_0_0)) (before3 y))
    (mulf (perRow3 (extractStridedSlice S1x3072 ![1, 0] w slices_S3x3072_S1x3072_1_0)) (at3 y)))
    (mulf (perRow3 (extractStridedSlice S1x3072 ![2, 0] w slices_S3x3072_S1x3072_2_0)) (after3 y))

theorem before3_apply (y : FVec Ideal S4x8192x3072 .f32) (b : Fin 4) (s : Fin 8192) (k : Fin 3072) :
    before3 y (ix3 b s k) = if s.val = 0 then 0 else y (ix3 b ⟨s.val - 1, by omega⟩ k) := by
  unfold before3 padded3
  pointwise
  by_cases h : s.val = 0
  · rw [if_pos h, dif_neg (by omega)]
    exact pad_zero
  · rw [if_neg h, dif_pos (by omega)]
theorem at3_apply (y : FVec Ideal S4x8192x3072 .f32) (b : Fin 4) (s : Fin 8192) (k : Fin 3072) :
    at3 y (ix3 b s k) = y (ix3 b s k) := by
  unfold at3 padded3
  pointwise
theorem after3_apply (y : FVec Ideal S4x8192x3072 .f32) (b : Fin 4) (s : Fin 8192) (k : Fin 3072) :
    after3 y (ix3 b s k) = if h : s.val = 8191 then 0 else y (ix3 b ⟨s.val + 1, by omega⟩ k) := by
  unfold after3 padded3
  pointwise
  by_cases h : s.val = 8191
  · rw [dif_pos h, dif_neg (by omega)]
    exact pad_zero
  · rw [dif_neg h, dif_pos (by omega)]
    exact congrArg (fun s => y (ix3 b s k)) (Fin.ext (by dsimp only; omega))
theorem conv3_apply (y : FVec Ideal S4x8192x3072 .f32) (w : FVec Ideal S3x3072 .f32) (b : Fin 4) (s : Fin 8192) (k : Fin 3072) :
    conv3 y w (ix3 b s k) = w (ix2 0 k) * before3 y (ix3 b s k) + w (ix2 1 k) * at3 y (ix3 b s k) + w (ix2 2 k) * after3 y (ix3 b s k) := by
  unfold conv3 perRow3
  pointwise

/-- At a row of the batch, they are the row's neighbours in its sequence. -/
theorem conv3_row (y : FVec Ideal S4x8192x3072 .f32) (w : FVec Ideal S3x3072 .f32) (k : Fin 3072) (f : Fin 32768 → EReal)
    (hf : ∀ (b : Fin 4) (s : Fin 8192), y (ix3 b s k) = f ⟨8192 * b.val + s.val, by omega⟩) (r : Fin 32768) :
    conv3 y w (ix3 ⟨r.val / 8192, by omega⟩ ⟨r.val % 8192, by omega⟩ k) = conv (fun j => w (ix2 j k)) f r := by
  rw [conv3_apply, before3_apply, at3_apply, after3_apply]
  unfold conv
  refine congr (congrArg HAdd.hAdd (congr (congrArg HAdd.hAdd (congrArg (w (ix2 0 k) * ·) ?_)) (congrArg (w (ix2 1 k) * ·) ?_))) (congrArg (w (ix2 2 k) * ·) ?_)
  · unfold prev
    by_cases h : r.val % 8192 = 0
    · rw [if_pos h, if_pos h]
    · rw [if_neg h, if_neg h, hf]
      exact congrArg f (Fin.ext (by dsimp only; omega))
  · rw [hf]
    exact congrArg f (Fin.ext (by dsimp only; omega))
  · unfold next
    by_cases h : r.val % 8192 = 8191
    · rw [dif_pos h, dif_pos h]
    · rw [dif_neg h, dif_neg h, hf]
      exact congrArg f (Fin.ext (by dsimp only; omega))

/-- The short convolution's input and its result. -/
def gated (x : FVec Ideal S4x8192x9216 .f32) : FVec Ideal S4x8192x1024 .f32 :=
  mulf (extractStridedSlice S4x8192x1024 ![0, 0, 5120] x slices_S4x8192x9216_S4x8192x1024_0_0_5120) (extractStridedSlice S4x8192x1024 ![0, 0, 3072] x slices_S4x8192x9216_S4x8192x1024_0_0_3072)
def short (x : FVec Ideal S4x8192x9216 .f32) (y : FVec Ideal S4x8192x1024 .f32) : FVec Ideal S32768x1024 .bf16 :=
  truncf .bf16 (shapeCast S32768x1024 (mulf (extractStridedSlice S4x8192x1024 ![0, 0, 4096] x slices_S4x8192x9216_S4x8192x1024_0_0_4096) y) shapeCasts_S4x8192x1024_S32768x1024) bitsLt_bf16_f32

theorem gated_apply (x : FVec Ideal S4x8192x9216 .f32) (b : Fin 4) (s : Fin 8192) (k : Fin 1024) :
    gated x (ix3 b s k) = x (ix3 b s ⟨5120 + k.val, by omega⟩) * x (ix3 b s ⟨3072 + k.val, by omega⟩) := by
  unfold gated
  pointwise
theorem short_apply (x : FVec Ideal S4x8192x9216 .f32) (y : FVec Ideal S4x8192x1024 .f32) (r : Fin 32768) (k : Fin 1024) :
    short x y (ix2 r k) = x (ix3 ⟨r.val / 8192, by omega⟩ ⟨r.val % 8192, by omega⟩ ⟨4096 + k.val, by omega⟩) * y (ix3 ⟨r.val / 8192, by omega⟩ ⟨r.val % 8192, by omega⟩ k) := by
  unfold short
  pointwise

/-- The columns of q, k and v, and their SiLU. -/
def firsts (x : FVec Ideal S4x8192x9216 .f32) : FVec Ideal S4x8192x3072 .f32 :=
  extractStridedSlice S4x8192x3072 ![0, 0, 0] x slices_S4x8192x9216_S4x8192x3072_0_0_0
def acts (y : FVec Ideal S4x8192x3072 .f32) : FVec Ideal S32768x3072 .f32 :=
  shapeCast S32768x3072 (mulf y (Host.divf (broadcastInDim S4x8192x3072 ![] bcast_S_S4x8192x3072 (constant S_ .f32 0x3F800000#32)) (addf (broadcastInDim S4x8192x3072 ![] bcast_S_S4x8192x3072 (constant S_ .f32 0x3F800000#32)) (Host.exp (Host.negf y))))) shapeCasts_S4x8192x3072_S32768x3072

theorem firsts_apply (x : FVec Ideal S4x8192x9216 .f32) (b : Fin 4) (s : Fin 8192) (k : Fin 3072) :
    firsts x (ix3 b s k) = x (ix3 b s ⟨k.val, by omega⟩) := by
  unfold firsts
  pointwise
theorem acts_apply (y : FVec Ideal S4x8192x3072 .f32) (r : Fin 32768) (k : Fin 3072) :
    acts y (ix2 r k) = Cert.Mix.swish (y (ix3 ⟨r.val / 8192, by omega⟩ ⟨r.val % 8192, by omega⟩ k)) := by
  unfold acts
  pointwise
  unfold Cert.Mix.swish Ideal.logistic
  rfl

/-- The heads over their norms; q's heads and k's, side by side. -/
def unit3 (x : FVec Ideal S32768x8x128 .f32) : FVec Ideal S32768x8x128 .f32 :=
  mulf x (broadcastInDim S32768x8x128 ![0, 1, 2] bcast_S32768x8x1_S32768x8x128_0_1_2 (Host.rsqrt (addf (broadcastInDim S32768x8x1 ![0, 1] bcast_S32768x8_S32768x8x1_0_1 (Host.reduceAdd (mulf x x) (constant S_ .f32 0x00000000#32) reducesTo_S32768x8x128_S32768x8_d2 h_S_)) (broadcastInDim S32768x8x1 ![] bcast_S_S32768x8x1 (constant S_ .f32 0x358637BD#32)))))
def split (x : FVec Ideal S32768x1024 .f32) : FVec Ideal S32768x8x128 .f32 := shapeCast S32768x8x128 x shapeCasts_S32768x1024_S32768x8x128
def flat (x : FVec Ideal S32768x8x128 .f32) : FVec Ideal S32768x1024 .f32 := shapeCast S32768x1024 x shapeCasts_S32768x8x128_S32768x1024
def qPart (a : FVec Ideal S32768x3072 .f32) : FVec Ideal S32768x1024 .f32 := extractStridedSlice S32768x1024 ![0, 0] a slices_S32768x3072_S32768x1024_0_0
def kPart (a : FVec Ideal S32768x3072 .f32) : FVec Ideal S32768x1024 .f32 := extractStridedSlice S32768x1024 ![0, 1024] a slices_S32768x3072_S32768x1024_0_1024
def qOf (a : FVec Ideal S32768x3072 .f32) : FVec Ideal S32768x1024 .f32 :=
  flat (mulf (unit3 (split (qPart a))) (broadcastInDim S32768x8x128 ![] bcast_S_S32768x8x128 (constant S_ .f32 0x3DB504F3#32)))
def kOf (a : FVec Ideal S32768x3072 .f32) : FVec Ideal S32768x1024 .f32 :=
  flat (unit3 (split (kPart a)))
def joined (q k : FVec Ideal S32768x1024 .f32) (a : FVec Ideal S32768x3072 .f32) : FVec Ideal S32768x3072 .bf16 :=
  truncf .bf16 (concatenate S32768x3072 1 [⟨S32768x1024, q⟩, ⟨S32768x1024, k⟩, ⟨S32768x1024, extractStridedSlice S32768x1024 ![0, 2048] a slices_S32768x3072_S32768x1024_0_2048⟩] concatenates_S32768x1024_S32768x1024_S32768x1024_S32768x3072_d1) bitsLt_bf16_f32

def turned (k : FVec Ideal S32768x8x128 .f32) : FVec Ideal S512x1024x64 .bf16 :=
  truncf .bf16 (transpose S512x1024x64 [0, 2, 1] (shapeCast S512x64x1024 k shapeCasts_S32768x8x128_S512x64x1024) transposes_S512x64x1024_S512x1024x64_0_2_1) bitsLt_bf16_f32

theorem unit3_apply (x : FVec Ideal S32768x8x128 .f32) (r : Fin 32768) (h : Fin 8) (e : Fin 128) :
    unit3 x (ix3 r h e) = x (ix3 r h e) * Ideal.rsqrt ((∑ d : Fin 128, x (ix3 r h d) * x (ix3 r h d)) + Ideal.ofBits .f32 0x358637BD#32) := by
  unfold unit3
  pointwise
theorem split_apply (x : FVec Ideal S32768x1024 .f32) (r : Fin 32768) (h : Fin 8) (e : Fin 128) :
    split x (ix3 r h e) = x (ix2 r ⟨128 * h.val + e.val, by omega⟩) := by
  unfold split
  pointwise
  simp only [Nat.mul_comm h.val 128]
theorem flat_apply (x : FVec Ideal S32768x8x128 .f32) (r : Fin 32768) (k : Fin 1024) :
    flat x (ix2 r k) = x (ix3 r ⟨k.val / 128, by omega⟩ ⟨k.val % 128, by omega⟩) := by
  unfold flat
  pointwise
theorem qPart_apply (a : FVec Ideal S32768x3072 .f32) (r : Fin 32768) (k : Fin 1024) : qPart a (ix2 r k) = a (ix2 r ⟨k.val, by omega⟩) := by
  unfold qPart
  pointwise
theorem kPart_apply (a : FVec Ideal S32768x3072 .f32) (r : Fin 32768) (k : Fin 1024) : kPart a (ix2 r k) = a (ix2 r ⟨1024 + k.val, by omega⟩) := by
  unfold kPart
  pointwise
theorem q_apply (a : FVec Ideal S32768x3072 .f32) (r : Fin 32768) (k : Fin 1024) :
    qOf a (ix2 r k) = unit (fun k => a (ix2 r k)) (128 * (k.val / 128)) (by omega) ⟨k.val % 128, by omega⟩ * scale := by
  unfold qOf
  rw [flat_apply]
  simp only [pointwise, unit3_apply, split_apply, qPart_apply]
  rfl
theorem k_apply (a : FVec Ideal S32768x3072 .f32) (r : Fin 32768) (k : Fin 1024) :
    kOf a (ix2 r k) = unit (fun k => a (ix2 r k)) (1024 + 128 * (k.val / 128)) (by omega) ⟨k.val % 128, by omega⟩ := by
  unfold kOf
  rw [flat_apply, unit3_apply]
  simp only [split_apply, kPart_apply]
  unfold unit
  simp only [Nat.add_assoc]
theorem turned_apply (x : FVec Ideal S32768x8x128 .f32) (g : Fin 512) (k : Fin 1024) (j : Fin 64) :
    turned x (ix3 g k j) = flat x (ix2 ⟨64 * g.val + j.val, by omega⟩ k) := by
  rw [flat_apply]
  unfold turned
  pointwise
  simp only [Nat.mul_comm g.val 64]
theorem joined_apply (q k : FVec Ideal S32768x1024 .f32) (a : FVec Ideal S32768x3072 .f32) (r : Fin 32768) (i : Fin 3072) :
    joined q k a (ix2 r i) = if h : i.val < 1024 then q (ix2 r ⟨i.val, h⟩) else if h : i.val < 2048 then k (ix2 r ⟨i.val - 1024, by omega⟩) else a (ix2 r i) := by
  unfold joined
  pointwise
  by_cases h : i.val < 1024
  · rw [dif_pos h, dif_pos h]
  · rw [dif_neg h, dif_neg h]
    by_cases h' : i.val < 2048
    · rw [dif_pos h', dif_pos (by omega)]
    · rw [dif_neg h', dif_neg (by omega)]
      exact congrArg (fun i => a (ix2 r i)) (Fin.ext (by dsimp only; omega))

variable (m : (ℓ : Loc nD τ sig) → Buf (Elt Ideal) ℓ) (c : Dev nD)

/-- The arguments at their shapes. -/
def args : Conv.Args where
  zin := m (c, main_arg0)
  cq := m (c, main_arg3)
  cs := m (c, main_arg4)

/-- The reference's arrays of the arguments. -/
def actT (A : Conv.Args) : FVec Ideal S32768x3072 .f32 := acts (conv3 (firsts (wide A.zin)) A.cq)
def qkvT (A : Conv.Args) : FVec Ideal S32768x3072 .bf16 := joined (qOf (actT A)) (kOf (actT A)) (actT A)
def keyT (A : Conv.Args) : FVec Ideal S512x1024x64 .bf16 := turned (unit3 (split (kPart (actT A))))
def shortT (A : Conv.Args) : FVec Ideal S32768x1024 .bf16 := short (wide A.zin) (conv1 (gated (wide A.zin)) A.cs)

theorem act_row (A : Conv.Args) (r : Fin 32768) (k : Fin 3072) : actT A (ix2 r k) = qkvRow A r k := by
  unfold actT qkvRow
  rw [acts_apply, conv3_row _ _ k (col A k.val (by omega)) (fun b s => by rw [firsts_apply, wide_apply]; rfl) r]

theorem short_eq (A : Conv.Args) : shortT A = Conv.shorts A := by
  funext y
  obtain ⟨r, k, rfl⟩ := exists_ix2 (a := 32768) (b := 1024) y
  unfold shortT
  rw [short_apply, conv1_row _ _ k (gatedCol A k) (fun b s => by rw [gated_apply, wide_apply, wide_apply]; rfl) r, wide_apply]
  refine congrArg (· * conv (fun j => A.cs (ix2 j k)) (gatedCol A k) r) ?_
  exact congrArg (col A (4096 + k.val) (by omega)) (Fin.ext (by dsimp only; omega) : (⟨8192 * (r.val / 8192) + r.val % 8192, by omega⟩ : Fin 32768) = r)

theorem qkv_eq (A : Conv.Args) : qkvT A = Conv.qkvs A := by
  funext y
  obtain ⟨r, k, rfl⟩ := exists_ix2 (a := 32768) (b := 3072) y
  have e : (fun k => actT A (ix2 r k)) = qkvRow A r := funext (act_row A r)
  unfold qkvT
  rw [joined_apply]
  show _ = heads (qkvRow A r) k
  by_cases h : k.val < 1024
  · rw [dif_pos h, q_apply, e]
    exact heads_q _ _ _ _ _ (by omega) (by dsimp only; omega) (by dsimp only; omega)
  · rw [dif_neg h]
    by_cases h' : k.val < 2048
    · rw [dif_pos h', k_apply, e]
      exact heads_k _ _ _ _ _ (by dsimp only; omega) (by omega) (by dsimp only; omega) (by dsimp only; omega)
    · rw [dif_neg h', act_row]
      exact heads_v _ _ (by omega)

theorem key_eq (A : Conv.Args) : keyT A = Conv.keys A := by
  funext y
  obtain ⟨g, k, j, rfl⟩ := exists_ix3 (a := 512) (b := 1024) (c := 64) y
  have e : (fun k => actT A (ix2 ⟨64 * g.val + j.val, by omega⟩ k)) = qkvRow A ⟨64 * g.val + j.val, by omega⟩ := funext (act_row A _)
  unfold keyT
  rw [turned_apply]
  refine (k_apply (actT A) _ k).trans ?_
  rw [e]
  exact heads_k _ ⟨1024 + k.val, by omega⟩ _ _ _ (by omega) (by omega) (by omega) (by dsimp only; omega)

theorem res_qkv : res_main_v72 m c = qkvT (args m c) := rfl
theorem res_qkv_eq : res_main_v72 m c = Conv.qkvs (args m c) := (res_qkv m c).trans (qkv_eq _)
theorem res_key : res_main_v75 m c = keyT (args m c) := rfl
theorem res_key_eq : res_main_v75 m c = Conv.keys (args m c) := (res_key m c).trans (key_eq _)

end Cert.Reference6Ideal.Own

end
-- ==== Proof.ConvFinal.lean ====
/-
The convolution call's reference's frame, and the two programs' results set side by side.
-/
module

public import proofs.«01_k».proof.Defs
public import proofs.«01_k».proof.Proof.Gen.Kernel6
public import proofs.«01_k».proof.Proof.Gen.Kernel6.Frame
public import proofs.«01_k».proof.Proof.Gen.Kernel6Ideal.Value
public import proofs.«01_k».proof.Proof.ConvArrays
public import proofs.«01_k».proof.Proof.ConvRef

@[expose] public section

noncomputable section

open Idealize.ShloMosaic Idealize.SL.Sem

namespace Cert.Reference6Ideal.Own

open Cert.Reference6Ideal Cert.Reference6Ideal.Gen Cert.Reference6Ideal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2, no_sem r.2.sem⟩) (Value.run m ρ)

end Cert.Reference6Ideal.Own

namespace Cert.Proof

theorem algebraic6 : @algebraic_Kernel6Ideal_Reference6Ideal Cert.Kernel6Ideal.Gen.facts Cert.Reference6Ideal.Gen.facts := by
  intro m g m' g' _ hagree
  have hR : ∀ c, Cert.Reference6Ideal.Own.args m' c = Cert.Kernel6Ideal.Own.args m c := fun c => by
    obtain ⟨h0, h1, h2, h3, h4, h5, h6⟩ := hagree c
    exact Conv.Args.mk.injEq .. |>.mpr ⟨h0, h3, h4⟩
  refine ⟨fun c => Conv.qkvs (Cert.Kernel6Ideal.Own.args m c), fun c => Conv.keys (Cert.Kernel6Ideal.Own.args m c), fun c => Conv.shorts (Cert.Kernel6Ideal.Own.args m c), ?_, ?_⟩
  · refine (θ_run _ _ _).mono (fun r h c => ?_) (Cert.Kernel6Ideal.Value.run_blocks m g)
    obtain ⟨h0, h1, h2, _, _, hargs⟩ := h c
    exact ⟨h0.trans (Cert.Kernel6Ideal.Own.arr_11 m c), h1.trans (Cert.Kernel6Ideal.Own.arr_12 m c), h2.trans (Cert.Kernel6Ideal.Own.arr_13 m c), hargs⟩
  · refine (θ_run _ _ _).mono (fun r h c => ?_) (Cert.Reference6Ideal.Value.run m' g')
    obtain ⟨h0, h1, h2, hargs⟩ := h c
    have e0 := Cert.Reference6Ideal.Own.res_qkv_eq m' c
    have e3 := Cert.Reference6Ideal.Own.res_key_eq m' c
    have e1 := Cert.Reference6Ideal.Own.short_eq (Cert.Reference6Ideal.Own.args m' c)
    rw [hR c] at e0 e3
    have e2 := e1.trans (congrArg Conv.shorts (hR c))
    exact ⟨h0.trans e0, Eq.trans h1 e3, Eq.trans h2 e2, hargs⟩

end Cert.Proof

end
-- ==== Proof.DecaySums.lean ====
/-
Running sums in the chunks of 64 of a block of 256 rows, by doubling: a window of s rows and the window of the s rows before it make one of 2 s rows.
-/
module

public import proofs.«01_k».proof.Proof.ConvSpec

@[expose] public section

noncomputable section

namespace Cert.Decay

/-- The sum of the last `s` rows of the chunk up to row `i`, and of the next `s` rows from it. -/
def upTo (s : ℕ) (f : Fin 256 → EReal) (i : Fin 256) : EReal :=
  ∑ j : Fin 64, if j.val ≤ i.val % 64 ∧ i.val % 64 < j.val + s then f ⟨64 * (i.val / 64) + j.val, by omega⟩ else 0
def onFrom (s : ℕ) (f : Fin 256 → EReal) (i : Fin 256) : EReal :=
  ∑ j : Fin 64, if i.val % 64 ≤ j.val ∧ j.val < i.val % 64 + s then f ⟨64 * (i.val / 64) + j.val, by omega⟩ else 0

theorem upTo_one (f : Fin 256 → EReal) (i : Fin 256) : upTo 1 f i = f i := by
  refine (Finset.sum_eq_single (⟨i.val % 64, by omega⟩ : Fin 64) (fun j _ hj => if_neg fun h => hj (Fin.ext ?_)) (fun h => absurd (Finset.mem_univ _) h)).trans ?_
  · show j.val = i.val % 64
    omega
  · rw [if_pos ⟨le_refl _, Nat.lt_succ_self _⟩]
    exact congrArg f (Fin.ext (by dsimp only; omega))
theorem onFrom_one (f : Fin 256 → EReal) (i : Fin 256) : onFrom 1 f i = f i := by
  refine (Finset.sum_eq_single (⟨i.val % 64, by omega⟩ : Fin 64) (fun j _ hj => if_neg fun h => hj (Fin.ext ?_)) (fun h => absurd (Finset.mem_univ _) h)).trans ?_
  · show j.val = i.val % 64
    omega
  · rw [if_pos ⟨le_refl _, Nat.lt_succ_self _⟩]
    exact congrArg f (Fin.ext (by dsimp only; omega))

theorem upTo_double (s : ℕ) (f : Fin 256 → EReal) (i : Fin 256) :
    upTo s f i + (if h : s ≤ i.val % 64 then upTo s f ⟨i.val - s, by omega⟩ else 0) = upTo (s + s) f i := by
  unfold upTo
  by_cases h : s ≤ i.val % 64
  · rw [dif_pos h, ← Finset.sum_add_distrib]
    refine Finset.sum_congr rfl fun j _ => ?_
    have e1 : (i.val - s) % 64 = i.val % 64 - s := by omega
    have e2 : (i.val - s) / 64 = i.val / 64 := by omega
    simp only [e1, e2]
    by_cases a : j.val ≤ i.val % 64 ∧ i.val % 64 < j.val + s
    · rw [if_pos a, if_neg (by omega), if_pos (by omega), add_zero]
    · rw [if_neg a, zero_add]
      by_cases b : j.val ≤ i.val % 64 - s ∧ i.val % 64 - s < j.val + s
      · rw [if_pos b, if_pos (by omega)]
      · rw [if_neg b, if_neg (by omega)]
  · rw [dif_neg h, add_zero]
    refine Finset.sum_congr rfl fun j _ => ?_
    by_cases a : j.val ≤ i.val % 64
    · rw [if_pos (by omega), if_pos (by omega)]
    · rw [if_neg (by omega), if_neg (by omega)]
theorem onFrom_double (s : ℕ) (f : Fin 256 → EReal) (i : Fin 256) :
    onFrom s f i + (if h : i.val % 64 + s < 64 then onFrom s f ⟨i.val + s, by omega⟩ else 0) = onFrom (s + s) f i := by
  unfold onFrom
  by_cases h : i.val % 64 + s < 64
  · rw [dif_pos h, ← Finset.sum_add_distrib]
    refine Finset.sum_congr rfl fun j _ => ?_
    have e1 : (i.val + s) % 64 = i.val % 64 + s := by omega
    have e2 : (i.val + s) / 64 = i.val / 64 := by omega
    simp only [e1, e2]
    by_cases a : i.val % 64 ≤ j.val ∧ j.val < i.val % 64 + s
    · rw [if_pos a, if_neg (by omega), if_pos (by omega), add_zero]
    · rw [if_neg a, zero_add]
      by_cases b : i.val % 64 + s ≤ j.val ∧ j.val < i.val % 64 + s + s
      · rw [if_pos b, if_pos (by omega)]
      · rw [if_neg b, if_neg (by omega)]
  · rw [dif_neg h, add_zero]
    refine Finset.sum_congr rfl fun j _ => ?_
    by_cases a : i.val % 64 ≤ j.val
    · rw [if_pos (by omega), if_pos (by omega)]
    · rw [if_neg (by omega), if_neg (by omega)]

theorem upTo_all (f : Fin 256 → EReal) (i : Fin 256) :
    upTo 64 f i = ∑ j : Fin 64, if j.val ≤ i.val % 64 then f ⟨64 * (i.val / 64) + j.val, by omega⟩ else 0 := by
  refine Finset.sum_congr rfl fun j _ => ?_
  by_cases a : j.val ≤ i.val % 64
  · rw [if_pos (by omega), if_pos a]
  · rw [if_neg (by omega), if_neg a]
theorem onFrom_all (f : Fin 256 → EReal) (i : Fin 256) :
    onFrom 64 f i = ∑ j : Fin 64, if i.val % 64 ≤ j.val then f ⟨64 * (i.val / 64) + j.val, by omega⟩ else 0 := by
  refine Finset.sum_congr rfl fun j _ => ?_
  by_cases a : i.val % 64 ≤ j.val
  · rw [if_pos (by omega), if_pos a]
  · rw [if_neg (by omega), if_neg a]

/-- The two running sums overlap in the row itself, so their sum less that row is the chunk's sum, unless the row is +∞. -/
theorem both (f : Fin 256 → EReal) (hf : ∀ i, f i ≠ ⊤) (i : Fin 256) :
    upTo 64 f i + onFrom 64 f i - f i = ∑ j : Fin 64, f ⟨64 * (i.val / 64) + j.val, by omega⟩ := by
  have e : upTo 64 f i + onFrom 64 f i = (∑ j : Fin 64, f ⟨64 * (i.val / 64) + j.val, by omega⟩) + f i := by
    rw [upTo_all, onFrom_all, ← upTo_one f i]
    unfold upTo
    rw [← Finset.sum_add_distrib, ← Finset.sum_add_distrib]
    refine Finset.sum_congr rfl fun j _ => ?_
    by_cases a : j.val ≤ i.val % 64
    · by_cases b : i.val % 64 ≤ j.val
      · rw [if_pos a, if_pos b, if_pos (by omega)]
      · rw [if_pos a, if_neg b, if_neg (by omega)]
    · rw [if_neg a, if_pos (by omega), if_neg (by omega), zero_add, add_zero]
  rw [e]
  by_cases hb : f i = ⊥
  · have hs : (∑ j : Fin 64, f ⟨64 * (i.val / 64) + j.val, by omega⟩) = ⊥ := by
      rw [← Finset.add_sum_erase _ _ (Finset.mem_univ (⟨i.val % 64, by omega⟩ : Fin 64))]
      have hi : f ⟨64 * (i.val / 64) + i.val % 64, by omega⟩ = ⊥ := (congrArg f (Fin.ext (by dsimp only; omega))).trans hb
      rw [hi, EReal.bot_add]
    rw [hs, EReal.bot_add, EReal.bot_sub]
  · rw [sub_eq_add_neg, add_assoc, ← sub_eq_add_neg, EReal.sub_self (hf i) hb, add_zero]

end Cert.Decay

end
-- ==== Proof.DecaySpec.lean ====
/-
What the convolution call's fourth and fifth results hold: from the log decays of a chunk of 64 tokens their running sums (against the
sequence for direction 1), their sum, and the exponentials of these.
-/
module

public import proofs.«01_k».proof.Proof.DecaySums

@[expose] public section

noncomputable section

namespace Cert.Decay

open Idealize.ShloMosaic Cert.Rows

/-- The soft plus, and a log decay from its rate and the token's input. -/
def soft (x : EReal) : EReal := max x 0 + Ideal.log1p (Ideal.exp (-max x (-x)))
def decay (a x : EReal) : EReal := -a * soft x

/-- The running sum of a chunk's log decays up to token `i` (direction 0) or from token `i` (direction 1). -/
def run (d : ℕ) (f : Fin 64 → EReal) (i : Fin 64) : EReal :=
  if d = 0 then ∑ j : Fin 64, (if j.val ≤ i.val then f j else 0) else ∑ j : Fin 64, (if i.val ≤ j.val then f j else 0)

/-- The number in group `w` of eight lanes: the running sum, the rate, and the exponentials of the running sum, of what is left of the
    chunk's sum, and of the chunk's sum. -/
def lane (w : ℕ) (d : ℕ) (f : Fin 64 → EReal) (b : EReal) (i : Fin 64) : EReal :=
  if w = 0 then run d f i else if w = 1 then Ideal.logistic b else if w = 2 then Ideal.exp (run d f i)
  else if w = 3 then Ideal.exp ((∑ j, f j) - run d f i) else Ideal.exp (∑ j, f j)

theorem exp_nonneg (x : EReal) : 0 ≤ Ideal.exp x := by
  induction x with
  | bot => exact le_refl _
  | top => exact le_top
  | coe r => exact EReal.coe_nonneg.mpr (Real.exp_nonneg r)

theorem log1p_nonneg (x : EReal) (h : 0 ≤ x) : 0 ≤ Ideal.log1p x := by
  induction x with
  | bot => exact absurd h (by simp)
  | top => exact le_top
  | coe r =>
    have hr : 0 ≤ r := EReal.coe_nonneg.mp h
    have hq : ¬ (1 + r ≤ 0) := by linarith
    change 0 ≤ (if 1 + r ≤ 0 then (⊥ : EReal) else (Real.log (1 + r) : EReal))
    rw [if_neg hq]
    exact EReal.coe_nonneg.mpr (Real.log_nonneg (by linarith))

theorem soft_nonneg (x : EReal) : 0 ≤ soft x := add_nonneg (le_max_right _ _) (log1p_nonneg _ (exp_nonneg _))

/-- A log decay is never +∞, as the rate and the soft plus are nonnegative. -/
theorem decay_ne_top (a x : EReal) (ha : 0 ≤ a) : decay a x ≠ ⊤ := by
  unfold decay
  refine ne_of_lt (lt_of_le_of_lt ?_ EReal.zero_lt_top)
  rw [EReal.neg_mul]
  exact EReal.neg_le_zero.mpr (mul_nonneg ha (soft_nonneg x))

/-- The arguments that the two results read: the inputs of the log decays and of the rates by token, direction and head, and the
    logarithm of the decay and the offset by direction and head. -/
structure Args where
  alpha : (⟨4, ![4, 8192, 2, 8]⟩ : Shape).Idx → EReal
  beta : (⟨4, ![4, 8192, 2, 8]⟩ : Shape).Idx → EReal
  la : (⟨2, ![2, 8]⟩ : Shape).Idx → EReal
  dt : (⟨2, ![2, 8]⟩ : Shape).Idx → EReal

variable (A : Args)

/-- The log decays of chunk `n`, for a direction and a head, and the rate's input of one of its tokens. -/
def chunk (n : Fin 512) (d : Fin 2) (h : Fin 8) : Fin 64 → EReal := fun j =>
  decay (Ideal.exp (A.la (ix2 d h))) (A.alpha (ix4 ⟨n.val / 128, by omega⟩ ⟨n.val % 128 * 64 + j.val, by omega⟩ d h) + A.dt (ix2 d h))
def rate (n : Fin 512) (d : Fin 2) (h : Fin 8) (i : Fin 64) : EReal :=
  A.beta (ix4 ⟨n.val / 128, by omega⟩ ⟨n.val % 128 * 64 + i.val, by omega⟩ d h)

/-- The fourth result: by token, 64 lanes of each direction, of which 40 hold the five groups of eight heads and the others 1. -/
def gsAt (n : Fin 512) (i : Fin 64) (d : Fin 2) (w : Fin 64) : EReal :=
  if w.val < 40 then lane (w.val / 8) d.val (chunk A n d ⟨w.val % 8, by omega⟩) (rate A n d ⟨w.val % 8, by omega⟩ i) i else 1
def gsRow (r : Fin 32768) (l : Fin 128) : EReal :=
  gsAt A ⟨r.val / 64, by omega⟩ ⟨r.val % 64, by omega⟩ ⟨l.val / 64, by omega⟩ ⟨l.val % 64, by omega⟩
def gs : (⟨2, ![32768, 128]⟩ : Shape).Idx → EReal := fun y => gsRow A (y 0) (y 1)

/-- The fifth result: by chunk and direction, rows of the running sums and of the exponentials of what is left, by token, each padded with
    zeros, and rows of the exponential of the chunk's sum. -/
def auxAt (n : Fin 512) (d : Fin 2) (r : Fin 24) (j : Fin 128) : EReal :=
  if r.val < 8 then (if h : j.val < 64 then lane 0 d.val (chunk A n d ⟨r.val % 8, by omega⟩) 0 ⟨j.val, h⟩ else 0)
  else if r.val < 16 then (if h : j.val < 64 then lane 3 d.val (chunk A n d ⟨r.val % 8, by omega⟩) 0 ⟨j.val, h⟩ else 0)
  else lane 4 d.val (chunk A n d ⟨r.val % 8, by omega⟩) 0 0
def aux : (⟨4, ![512, 2, 24, 128]⟩ : Shape).Idx → EReal := fun y => auxAt A (y 0) (y 1) (y 2) (y 3)

end Cert.Decay

end
-- ==== Proof.DecayRows.lean ====
/-
The decay part of the convolution call's body, lane by lane: the log decays, the doubling steps of the two running sums, and the lanes
that the row stores.
-/
module

public import proofs.«01_k».proof.Proof.Gen.Kernel7Ideal.Frame
public import proofs.«01_k».proof.Proof.DecaySpec
public import Idealize.ShloMosaic.Lib.StableHlo.ReadAt

@[expose] public section

set_option maxRecDepth 16384

noncomputable section

namespace Cert.Kernel7Ideal.Own

open Cert.Kernel7Ideal Cert.Kernel7Ideal.Gen Cert.Rows Cert.Decay
open Idealize.ShloMosaic Idealize.ShloMosaic.TcCoe Idealize.ShloMosaic.Tactic

/-- The rows' numbers, the lanes' numbers, a row's number in its chunk and a lane's group in its half. -/
def rows : IVec S256x1 32 := iota .tc S256x1 32 [0] iota_S256x1_d0_w32
def rowIx : IVec S256x1 32 := k0_pay93 rows 64#32 0#1 1#32
def laneIx : IVec S1x128 32 := iota .tc S1x128 32 [1] iota_S1x128_d1_w32
def groupIx : IVec S1x128 32 := k0_pay108 (k0_pay105 laneIx) (k0_pay106 laneIx) (k0_pay107 laneIx)

theorem rowIx_apply : ∀ i : Fin 256, rowIx (ix2 i 0) = BitVec.ofNat 32 (i.val % 64) := by decide +kernel
theorem laneIx_apply : ∀ l : Fin 128, laneIx (ix2 0 l) = BitVec.ofNat 32 l.val := by decide +kernel
theorem groupIx_apply : ∀ l : Fin 128, groupIx (ix2 0 l) = BitVec.ofNat 32 (l.val % 64 / 8) := by decide +kernel

theorem sge_word : ∀ (a b : Fin 128), IntOp.cmpi .sge (BitVec.ofNat 32 a.val) (BitVec.ofNat 32 b.val) = if b.val ≤ a.val then 1#1 else 0#1 := by decide +kernel
theorem slt_word : ∀ (a b : Fin 128), IntOp.cmpi .slt (BitVec.ofNat 32 a.val) (BitVec.ofNat 32 b.val) = if a.val < b.val then 1#1 else 0#1 := by decide +kernel
theorem eq_word : ∀ (a b : Fin 8), IntOp.cmpi .eq (BitVec.ofNat 32 a.val) (BitVec.ofNat 32 b.val) = if a.val = b.val then 1#1 else 0#1 := by decide +kernel

theorem select_if (p : Prop) [Decidable p] (x y : EReal) : Scalar.select (if p then 1#1 else 0#1) x y = if p then x else y := by
  by_cases h : p
  · rw [if_pos h, if_pos h]; rfl
  · rw [if_neg h, if_neg h]; rfl

/-- A doubling step of the running sum up to a row, and of the running sum from a row. -/
def upStep (s : BitVec 32) (x : FVec Ideal S256x128 .f32) : FVec Ideal S256x128 .f32 :=
  addf x (select (broadcastTo S256x128 (shapeCast S256x1 (cmpi .sge rowIx (broadcast S256x1 s)) shapeCasts_S256x1_S256x1) broadcasts_S256x1_S256x128)
    (dynamicRotate 0 s none x rotates_S256x128_d0) (broadcast S256x128 (Scalar.ofBits .f32 0x00000000#32)))
def downStep (t s : BitVec 32) (x : FVec Ideal S256x128 .f32) : FVec Ideal S256x128 .f32 :=
  addf x (select (broadcastTo S256x128 (shapeCast S256x1 (cmpi .slt rowIx (broadcast S256x1 t)) shapeCasts_S256x1_S256x1) broadcasts_S256x1_S256x128)
    (dynamicRotate 0 s none x rotates_S256x128_d0) (broadcast S256x128 (Scalar.ofBits .f32 0x00000000#32)))

def ups (g : FVec Ideal S256x128 .f32) : FVec Ideal S256x128 .f32 := upStep 32#32 (upStep 16#32 (upStep 8#32 (upStep 4#32 (upStep 2#32 (upStep 1#32 g)))))
def downs (g : FVec Ideal S256x128 .f32) : FVec Ideal S256x128 .f32 :=
  downStep 32#32 224#32 (downStep 48#32 240#32 (downStep 56#32 248#32 (downStep 60#32 252#32 (downStep 62#32 254#32 (downStep 63#32 255#32 g)))))

theorem upStep_apply (s : ℕ) (hs : s < 65) (l : Fin 128) (f : Fin 256 → EReal) (x : FVec Ideal S256x128 .f32) (h : ∀ i, x (ix2 i l) = upTo s f i) (i : Fin 256) :
    upStep (BitVec.ofNat 32 s) x (ix2 i l) = upTo (s + s) f i := by
  rw [← upTo_double, ← h i]
  unfold upStep
  pointwise
  rw [rowIx_apply, sge_word ⟨i.val % 64, by omega⟩ ⟨s, by omega⟩, select_if]
  refine congrArg (x (ix2 i l) + ·) ?_
  by_cases hi : s ≤ i.val % 64
  · rw [dif_pos hi, if_pos hi, ← h]
    refine congrArg (fun r => x (ix2 r l)) (Fin.ext ?_)
    show (i.val + 256 - (BitVec.ofNat 32 s).toNat % 256) % 256 = i.val - s
    rw [BitVec.toNat_ofNat]
    omega
  · rw [dif_neg hi, if_neg hi]

theorem downStep_apply (s : ℕ) (hs : s < 64) (h0 : 0 < s) (l : Fin 128) (f : Fin 256 → EReal) (x : FVec Ideal S256x128 .f32) (h : ∀ i, x (ix2 i l) = onFrom s f i) (i : Fin 256) :
    downStep (BitVec.ofNat 32 (64 - s)) (BitVec.ofNat 32 (256 - s)) x (ix2 i l) = onFrom (s + s) f i := by
  rw [← onFrom_double, ← h i]
  unfold downStep
  pointwise
  rw [rowIx_apply, slt_word ⟨i.val % 64, by omega⟩ ⟨64 - s, by omega⟩, select_if]
  refine congrArg (x (ix2 i l) + ·) ?_
  by_cases hi : i.val % 64 + s < 64
  · rw [dif_pos hi, if_pos (show i.val % 64 < 64 - s by omega), ← h]
    refine congrArg (fun r => x (ix2 r l)) (Fin.ext ?_)
    show (i.val + 256 - (BitVec.ofNat 32 (256 - s)).toNat % 256) % 256 = i.val + s
    rw [BitVec.toNat_ofNat]
    omega
  · rw [dif_neg hi, if_neg (show ¬ i.val % 64 < 64 - s by omega)]

theorem ups_apply (g : FVec Ideal S256x128 .f32) (l : Fin 128) (i : Fin 256) : ups g (ix2 i l) = upTo 64 (fun j => g (ix2 j l)) i :=
  upStep_apply 32 (by omega) l _ _ (upStep_apply 16 (by omega) l _ _ (upStep_apply 8 (by omega) l _ _ (upStep_apply 4 (by omega) l _ _
    (upStep_apply 2 (by omega) l _ _ (upStep_apply 1 (by omega) l _ _ fun i => (upTo_one (fun j => g (ix2 j l)) i).symm))))) i
theorem downs_apply (g : FVec Ideal S256x128 .f32) (l : Fin 128) (i : Fin 256) : downs g (ix2 i l) = onFrom 64 (fun j => g (ix2 j l)) i :=
  downStep_apply 32 (by omega) (by omega) l _ _ (downStep_apply 16 (by omega) (by omega) l _ _ (downStep_apply 8 (by omega) (by omega) l _ _
    (downStep_apply 4 (by omega) (by omega) l _ _ (downStep_apply 2 (by omega) (by omega) l _ _ (downStep_apply 1 (by omega) (by omega) l _ _
      fun i => (onFrom_one (fun j => g (ix2 j l)) i).symm))))) i

theorem pay_ups (g : FVec Ideal S256x128 .f32) :
    k0_pay101 rowIx (k0_pay99 rowIx (k0_pay95 g rows 64#32 0#1 1#32)) = ups g := rfl
theorem pay_downs (g : FVec Ideal S256x128 .f32) :
    k0_pay102 rowIx (k0_pay98 rowIx (k0_pay94 g rows 64#32 0#1 1#32) (k0_pay96 g rows 64#32 0#1 1#32) (Scalar.ofBits .f32 0x00000000#32) (k0_pay97 rows 64#32 0#1 1#32)) k0_pay100 = downs g := rfl

/-- The log decays from the block of inputs, the lanes' rates and the lanes' biases. -/
theorem decay_apply (x : Vec Ideal S256x128 .f32) (a d : Vec Ideal S1x128 .f32) (i : Fin 256) (l : Fin 128) :
    k0_pay92 (F := Ideal) x a d (ix2 i l) = decay (a (ix2 0 l)) (x (ix2 i l) + d (ix2 0 l)) := by
  unfold k0_pay92 k0_pay91 decay soft
  pointwise
  rw [zero_sub, zero_sub]
  rfl

/-- The row of lanes that the body stores, from the two sums before their last steps. -/
def out (u d : FVec Ideal S256x128 .f32) (v : IVec S256x1 32) (g ab : FVec Ideal S256x128 .f32) : FVec Ideal S256x128 .f32 :=
  k0_pay111 (k0_pay104 rowIx laneIx u d v)
    (k0_pay109 ab (k0_pay103 g rowIx u d v) (k0_pay104 rowIx laneIx u d v) (k0_pay105 laneIx) (k0_pay106 laneIx) (k0_pay107 laneIx))
    (k0_pay110 (k0_pay105 laneIx) (k0_pay106 laneIx) (k0_pay107 laneIx))

/-- A chunk's part of a column of a block. -/
def part (f : Fin 256 → EReal) (i : Fin 256) : Fin 64 → EReal := fun j => f ⟨64 * (i.val / 64) + j.val, by omega⟩

theorem sum_apply (g : FVec Ideal S256x128 .f32) (u d : FVec Ideal S256x128 .f32) (v : IVec S256x1 32) (hu : k0_pay101 rowIx d = ups g) (hd : k0_pay102 rowIx u v = downs g)
    (l : Fin 128) (i : Fin 256) :
    k0_pay104 rowIx laneIx u d v (ix2 i l) = run (l.val / 64) (part (fun j => g (ix2 j l)) i) ⟨i.val % 64, by omega⟩ := by
  unfold k0_pay104
  rw [hu, hd]
  pointwise
  rw [laneIx_apply, sge_word l ⟨64, by omega⟩, select_if, ups_apply, downs_apply, upTo_all, onFrom_all]
  unfold run part
  by_cases h : 64 ≤ l.val
  · rw [if_pos h, if_neg (by omega)]
  · rw [if_neg h, if_pos (by omega)]

theorem tot_apply (g : FVec Ideal S256x128 .f32) (u d : FVec Ideal S256x128 .f32) (v : IVec S256x1 32) (hu : k0_pay101 rowIx d = ups g) (hd : k0_pay102 rowIx u v = downs g)
    (l : Fin 128) (hg : ∀ j, g (ix2 j l) ≠ ⊤) (i : Fin 256) :
    k0_pay103 g rowIx u d v (ix2 i l) = ∑ j, part (fun j => g (ix2 j l)) i j := by
  unfold k0_pay103
  rw [hu, hd]
  pointwise
  rw [ups_apply, downs_apply]
  exact both (fun j => g (ix2 j l)) hg i

theorem out_apply (g ab : FVec Ideal S256x128 .f32) (u d : FVec Ideal S256x128 .f32) (v : IVec S256x1 32) (hu : k0_pay101 rowIx d = ups g) (hd : k0_pay102 rowIx u v = downs g)
    (i : Fin 256) (l : Fin 128) (hg : ∀ j, g (ix2 j l) ≠ ⊤) :
    out u d v g ab (ix2 i l) = lane (l.val % 64 / 8) (l.val / 64) (part (fun j => g (ix2 j l)) i) (ab (ix2 i l)) ⟨i.val % 64, by omega⟩ := by
  unfold out k0_pay111 k0_pay109 k0_pay110
  pointwise
  rw [show (k0_pay108 (k0_pay105 laneIx) (k0_pay106 laneIx) (k0_pay107 laneIx)) (ix2 0 l) = BitVec.ofNat 32 (l.val % 64 / 8) from groupIx_apply l,
    sum_apply g _ _ _ hu hd, tot_apply g _ _ _ hu hd l hg]
  have e : ∀ b : Fin 8, IntOp.cmpi .eq (BitVec.ofNat 32 (l.val % 64 / 8)) (BitVec.ofNat 32 b.val) = if l.val % 64 / 8 = b.val then 1#1 else 0#1 :=
    eq_word ⟨l.val % 64 / 8, by omega⟩
  rw [show IntOp.cmpi .eq (BitVec.ofNat 32 (l.val % 64 / 8)) 0#32 = _ from e 0, show IntOp.cmpi .eq (BitVec.ofNat 32 (l.val % 64 / 8)) 1#32 = _ from e 1,
    show IntOp.cmpi .eq (BitVec.ofNat 32 (l.val % 64 / 8)) 2#32 = _ from e 2, show IntOp.cmpi .eq (BitVec.ofNat 32 (l.val % 64 / 8)) 3#32 = _ from e 3]
  simp only [select_if]
  rfl

end Cert.Kernel7Ideal.Own

end
-- ==== Proof.DecayBlock.lean ====
/-
The two blocks that a point of the convolution call leaves of the decays: the lanes by row, and the same by head, which the body writes in
eight groups of four stores (zeros, then the running sums, what is left of the sums, and the chunk's factor).
-/
module

public import proofs.«01_k».proof.Proof.DecayRows

@[expose] public section

set_option maxRecDepth 16384

noncomputable section

namespace Cert.Kernel7Ideal.Own

open Cert.Kernel7Ideal Cert.Kernel7Ideal.Gen Cert.Rows Cert.Decay
open Idealize.ShloMosaic Idealize.ShloMosaic.TcCoe Idealize.ShloMosaic.Tactic

/-- The newest store at an index that it holds, and at one that it does not. -/
theorem canon_in (off size : Fin 4 → ℕ) (inb : ∀ a, off a + size a ≤ S4x2x24x128.size a) (w : (⟨4, size⟩ : Shape).Idx → EReal)
    (L : List (View.Piece (Elt Ideal) S4x2x24x128 .f32)) (y : S4x2x24x128.Idx) (x : (⟨4, size⟩ : Shape).Idx) (hx : ∀ a, (y a).val = off a + (x a).val) :
    View.canon ((⟨Rect.unit off size inb, w⟩ : View.Piece (Elt Ideal) S4x2x24x128 .f32) :: L) y = w x := by
  have hy : (Rect.unit (s := S4x2x24x128) off size inb).emb x = y := funext fun a => Fin.ext (by
    show off a + 1 * (x a).val = (y a).val
    rw [hx a, Nat.one_mul])
  rw [← hy]
  exact View.canon_cons_emb (Val := Elt Ideal) (Rect.unit (s := S4x2x24x128) off size inb) w L x

theorem canon_off (off size : Fin 4 → ℕ) (inb : ∀ a, off a + size a ≤ S4x2x24x128.size a) (w : (⟨4, size⟩ : Shape).Idx → EReal)
    (L : List (View.Piece (Elt Ideal) S4x2x24x128 .f32)) (y : S4x2x24x128.Idx) (a : Fin 4) (ha : (y a).val < off a ∨ off a + size a ≤ (y a).val) :
    View.canon ((⟨Rect.unit off size inb, w⟩ : View.Piece (Elt Ideal) S4x2x24x128 .f32) :: L) y = View.canon L y := by
  refine View.canon_cons_of_not_mem (Val := Elt Ideal) _ _ ?_
  rw [Rect.mem_set_unit]
  intro hall
  have := hall a
  omega

/-- The block by head, from the block by row. -/
def heads (o : S256x128.Idx → EReal) (q : Fin 4) (d : Fin 2) (r : Fin 24) (j : Fin 128) : EReal :=
  if r.val < 8 then (if h : j.val < 64 then o (ix2 ⟨64 * q.val + j.val, by omega⟩ ⟨64 * d.val + r.val, by omega⟩) else 0)
  else if r.val < 16 then (if h : j.val < 64 then o (ix2 ⟨64 * q.val + j.val, by omega⟩ ⟨64 * d.val + (16 + r.val), by omega⟩) else 0)
  else o (ix2 ⟨64 * q.val, by omega⟩ ⟨64 * d.val + (16 + r.val), by omega⟩)

/-- The four stores of a chunk and a direction. -/
theorem group (o : S256x128.Idx → EReal) (q : Fin 4) (d : Fin 2) (i3 : ∀ a, (![q.val, d.val, 16, 0] : Fin 4 → ℕ) a + (![1, 1, 8, 128] : Fin 4 → ℕ) a ≤ S4x2x24x128.size a)
    (i2 : ∀ a, (![q.val, d.val, 8, 0] : Fin 4 → ℕ) a + (![1, 1, 8, 64] : Fin 4 → ℕ) a ≤ S4x2x24x128.size a)
    (i1 : ∀ a, (![q.val, d.val, 0, 0] : Fin 4 → ℕ) a + (![1, 1, 8, 64] : Fin 4 → ℕ) a ≤ S4x2x24x128.size a)
    (i0 : ∀ a, (![q.val, d.val, 0, 0] : Fin 4 → ℕ) a + (![1, 1, 24, 128] : Fin 4 → ℕ) a ≤ S4x2x24x128.size a)
    (w3 : FVec Ideal S1x1x8x128 .f32) (w2 w1 : FVec Ideal S1x1x8x64 .f32) (w0 : FVec Ideal S1x1x24x128 .f32)
    (h3 : ∀ (r : Fin 8) (j : Fin 128), w3 (ix4 0 0 r j) = o (ix2 ⟨64 * q.val, by omega⟩ ⟨64 * d.val + (32 + r.val), by omega⟩))
    (h2 : ∀ (r : Fin 8) (j : Fin 64), w2 (ix4 0 0 r j) = o (ix2 ⟨64 * q.val + j.val, by omega⟩ ⟨64 * d.val + (24 + r.val), by omega⟩))
    (h1 : ∀ (r : Fin 8) (j : Fin 64), w1 (ix4 0 0 r j) = o (ix2 ⟨64 * q.val + j.val, by omega⟩ ⟨64 * d.val + r.val, by omega⟩))
    (h0 : ∀ (r : Fin 24) (j : Fin 128), w0 (ix4 0 0 r j) = 0)
    (L : List (View.Piece (Elt Ideal) S4x2x24x128 .f32)) (q' : Fin 4) (d' : Fin 2) (r : Fin 24) (j : Fin 128)
    (hL : ¬ (q' = q ∧ d' = d) → View.canon L (ix4 q' d' r j) = heads o q' d' r j) :
    View.canon ((⟨Rect.unit ![q.val, d.val, 16, 0] ![1, 1, 8, 128] i3, w3⟩ : View.Piece (Elt Ideal) S4x2x24x128 .f32)
      :: (⟨Rect.unit ![q.val, d.val, 8, 0] ![1, 1, 8, 64] i2, w2⟩ : View.Piece (Elt Ideal) S4x2x24x128 .f32)
      :: (⟨Rect.unit ![q.val, d.val, 0, 0] ![1, 1, 8, 64] i1, w1⟩ : View.Piece (Elt Ideal) S4x2x24x128 .f32)
      :: (⟨Rect.unit ![q.val, d.val, 0, 0] ![1, 1, 24, 128] i0, w0⟩ : View.Piece (Elt Ideal) S4x2x24x128 .f32) :: L) (ix4 q' d' r j) = heads o q' d' r j := by
  by_cases hq : q' = q
  · by_cases hd : d' = d
    · subst hq hd
      unfold heads
      by_cases c16 : 16 ≤ r.val
      · rw [if_neg (by omega), if_neg (by omega)]
        refine (canon_in _ _ _ _ _ _ (ix4 0 0 ⟨r.val - 16, by omega⟩ j) fun a => ?_).trans ((h3 _ _).trans ?_)
        · match a with
          | ⟨0, _⟩ => rfl
          | ⟨1, _⟩ => rfl
          | ⟨2, _⟩ => show r.val = 16 + (r.val - 16); omega
          | ⟨3, _⟩ => show j.val = 0 + j.val; omega
        · exact congrArg (fun l => o (ix2 _ l)) (Fin.ext (by dsimp only; omega))
      · rw [canon_off _ _ _ _ _ _ 2 (Or.inl (by show r.val < 16; omega))]
        by_cases c8 : 8 ≤ r.val
        · rw [if_neg (by omega), if_pos (by omega)]
          by_cases cj : j.val < 64
          · rw [dif_pos cj]
            refine (canon_in _ _ _ _ _ _ (ix4 0 0 ⟨r.val - 8, by omega⟩ ⟨j.val, cj⟩) fun a => ?_).trans ((h2 _ _).trans ?_)
            · match a with
              | ⟨0, _⟩ => rfl
              | ⟨1, _⟩ => rfl
              | ⟨2, _⟩ => show r.val = 8 + (r.val - 8); omega
              | ⟨3, _⟩ => show j.val = 0 + j.val; omega
            · exact congrArg (fun l => o (ix2 _ l)) (Fin.ext (by dsimp only; omega))
          · rw [dif_neg cj, canon_off _ _ _ _ _ _ 3 (Or.inr (by show 0 + 64 ≤ j.val; omega)), canon_off _ _ _ _ _ _ 3 (Or.inr (by show 0 + 64 ≤ j.val; omega))]
            refine (canon_in _ _ _ _ _ _ (ix4 0 0 r j) fun a => ?_).trans (h0 _ _)
            match a with
            | ⟨0, _⟩ => rfl
            | ⟨1, _⟩ => rfl
            | ⟨2, _⟩ => show r.val = 0 + r.val; omega
            | ⟨3, _⟩ => show j.val = 0 + j.val; omega
        · rw [if_pos (by omega), canon_off _ _ _ _ _ _ 2 (Or.inl (by show r.val < 8; omega))]
          by_cases cj : j.val < 64
          · rw [dif_pos cj]
            refine (canon_in _ _ _ _ _ _ (ix4 0 0 ⟨r.val, by omega⟩ ⟨j.val, cj⟩) fun a => ?_).trans (h1 _ _)
            match a with
            | ⟨0, _⟩ => rfl
            | ⟨1, _⟩ => rfl
            | ⟨2, _⟩ => show r.val = 0 + r.val; omega
            | ⟨3, _⟩ => show j.val = 0 + j.val; omega
          · rw [dif_neg cj, canon_off _ _ _ _ _ _ 3 (Or.inr (by show 0 + 64 ≤ j.val; omega))]
            refine (canon_in _ _ _ _ _ _ (ix4 0 0 r j) fun a => ?_).trans (h0 _ _)
            match a with
            | ⟨0, _⟩ => rfl
            | ⟨1, _⟩ => rfl
            | ⟨2, _⟩ => show r.val = 0 + r.val; omega
            | ⟨3, _⟩ => show j.val = 0 + j.val; omega
    · have k : (d'.val < d.val ∨ d.val + 1 ≤ d'.val) := by
        have := fun e => hd (Fin.ext e)
        omega
      rw [canon_off _ _ _ _ _ _ 1 k, canon_off _ _ _ _ _ _ 1 k, canon_off _ _ _ _ _ _ 1 k, canon_off _ _ _ _ _ _ 1 k]
      exact hL fun e => hd e.2
  · have k : (q'.val < q.val ∨ q.val + 1 ≤ q'.val) := by
      have := fun e => hq (Fin.ext e)
      omega
    rw [canon_off _ _ _ _ _ _ 0 k, canon_off _ _ _ _ _ _ 0 k, canon_off _ _ _ _ _ _ 0 k, canon_off _ _ _ _ _ _ 0 k]
    exact hL fun e => hq e.1

end Cert.Kernel7Ideal.Own

end
-- ==== Proof.DecayStores.lean ====
/-
The stores of the convolution call's two decay blocks, one by one, and what they leave.
-/
module

public import proofs.«01_k».proof.Proof.DecayBlock

@[expose] public section

set_option maxRecDepth 16384

noncomputable section

namespace Cert.Kernel7Ideal.Own

open Cert.Kernel7Ideal Cert.Kernel7Ideal.Gen Cert.Rows Cert.Decay
open Idealize.ShloMosaic Idealize.ShloMosaic.TcCoe Idealize.ShloMosaic.Tactic

section pieces

variable (T : FVec Ideal S128x256 .f32) (a b : FVec Ideal S256x128 .f32) (c : IVec S256x128 1)

/- The piece of the lanes by row that each store takes: `pqd` of chunk `q` and direction `d`, from its last store back to its second. -/

theorem p003 (r : Fin 8) (j : Fin 128) (l : Fin 128) (i : Fin 256) (hl : l.val = 32 + r.val) (hi : i.val = 64 * 0) : (k0_pay116 a b c : FVec Ideal S1x1x8x128 .f32) (ix4 0 0 r j) = (k0_pay112 a b c) (ix2 l i) := by
  unfold k0_pay116
  pointwise
  exact congrArg₂ (fun l i => (k0_pay112 a b c) (ix2 l i)) (Fin.ext (by first | omega | (dsimp only; omega))) (Fin.ext hi.symm)

theorem p002 (r : Fin 8) (j : Fin 64) (l : Fin 128) (i : Fin 256) (hl : l.val = 24 + r.val) (hi : i.val = 64 * 0 + j.val) : (k0_pay115 a b c : FVec Ideal S1x1x8x64 .f32) (ix4 0 0 r j) = (k0_pay112 a b c) (ix2 l i) := by
  unfold k0_pay115
  pointwise
  exact congrArg₂ (fun l i => (k0_pay112 a b c) (ix2 l i)) (Fin.ext (by first | omega | (dsimp only; omega))) (Fin.ext (by first | omega | (dsimp only; omega)))

theorem p001 (r : Fin 8) (j : Fin 64) (l : Fin 128) (i : Fin 256) (hl : l.val = 0 + r.val) (hi : i.val = 64 * 0 + j.val) : (k0_pay114 a b c : FVec Ideal S1x1x8x64 .f32) (ix4 0 0 r j) = (k0_pay112 a b c) (ix2 l i) := by
  unfold k0_pay114
  pointwise
  exact congrArg₂ (fun l i => (k0_pay112 a b c) (ix2 l i)) (Fin.ext (by first | omega | (dsimp only; omega))) (Fin.ext (by first | omega | (dsimp only; omega)))

theorem p000 (r : Fin 24) (j : Fin 128) : (k0_pay113 : FVec Ideal S1x1x24x128 .f32) (ix4 0 0 r j) = 0 := by
  unfold k0_pay113
  pointwise

theorem p013 (r : Fin 8) (j : Fin 128) (l : Fin 128) (i : Fin 256) (hl : l.val = 96 + r.val) (hi : i.val = 64 * 0) : (k0_pay121 T : FVec Ideal S1x1x8x128 .f32) (ix4 0 0 r j) = T (ix2 l i) := by
  unfold k0_pay121
  pointwise
  exact congrArg₂ (fun l i => T (ix2 l i)) (Fin.ext (by first | omega | (dsimp only; omega))) (Fin.ext hi.symm)

theorem p012 (r : Fin 8) (j : Fin 64) (l : Fin 128) (i : Fin 256) (hl : l.val = 88 + r.val) (hi : i.val = 64 * 0 + j.val) : (k0_pay120 T : FVec Ideal S1x1x8x64 .f32) (ix4 0 0 r j) = T (ix2 l i) := by
  unfold k0_pay120
  pointwise
  exact congrArg₂ (fun l i => T (ix2 l i)) (Fin.ext (by first | omega | (dsimp only; omega))) (Fin.ext (by first | omega | (dsimp only; omega)))

theorem p011 (r : Fin 8) (j : Fin 64) (l : Fin 128) (i : Fin 256) (hl : l.val = 64 + r.val) (hi : i.val = 64 * 0 + j.val) : (k0_pay119 (k0_pay118 a b c) : FVec Ideal S1x1x8x64 .f32) (ix4 0 0 r j) = (k0_pay112 a b c) (ix2 l i) := by
  unfold k0_pay119 k0_pay118
  pointwise
  exact congrArg₂ (fun l i => (k0_pay112 a b c) (ix2 l i)) (Fin.ext (by first | omega | (dsimp only; omega))) (Fin.ext (by first | omega | (dsimp only; omega)))

theorem p010 (r : Fin 24) (j : Fin 128) : (k0_pay117 : FVec Ideal S1x1x24x128 .f32) (ix4 0 0 r j) = 0 := by
  unfold k0_pay117
  pointwise

theorem p103 (r : Fin 8) (j : Fin 128) (l : Fin 128) (i : Fin 256) (hl : l.val = 32 + r.val) (hi : i.val = 64 * 1) : (k0_pay126 (k0_pay125 T) : FVec Ideal S1x1x8x128 .f32) (ix4 0 0 r j) = T (ix2 l i) := by
  unfold k0_pay126 k0_pay125
  pointwise
  exact congrArg₂ (fun l i => T (ix2 l i)) (Fin.ext (by first | omega | (dsimp only; omega))) (Fin.ext (by first | omega | (dsimp only; omega)))

theorem p102 (r : Fin 8) (j : Fin 64) (l : Fin 128) (i : Fin 256) (hl : l.val = 24 + r.val) (hi : i.val = 64 * 1 + j.val) : (k0_pay124 T : FVec Ideal S1x1x8x64 .f32) (ix4 0 0 r j) = T (ix2 l i) := by
  unfold k0_pay124
  pointwise
  exact congrArg₂ (fun l i => T (ix2 l i)) (Fin.ext (by first | omega | (dsimp only; omega))) (Fin.ext (by first | omega | (dsimp only; omega)))

theorem p101 (r : Fin 8) (j : Fin 64) (l : Fin 128) (i : Fin 256) (hl : l.val = 0 + r.val) (hi : i.val = 64 * 1 + j.val) : (k0_pay123 T : FVec Ideal S1x1x8x64 .f32) (ix4 0 0 r j) = T (ix2 l i) := by
  unfold k0_pay123
  pointwise
  exact congrArg₂ (fun l i => T (ix2 l i)) (Fin.ext (by first | omega | (dsimp only; omega))) (Fin.ext (by first | omega | (dsimp only; omega)))

theorem p100 (r : Fin 24) (j : Fin 128) : (k0_pay122 : FVec Ideal S1x1x24x128 .f32) (ix4 0 0 r j) = 0 := by
  unfold k0_pay122
  pointwise

theorem p113 (r : Fin 8) (j : Fin 128) (l : Fin 128) (i : Fin 256) (hl : l.val = 96 + r.val) (hi : i.val = 64 * 1) : (k0_pay130 T : FVec Ideal S1x1x8x128 .f32) (ix4 0 0 r j) = T (ix2 l i) := by
  unfold k0_pay130
  pointwise
  exact congrArg₂ (fun l i => T (ix2 l i)) (Fin.ext (by first | omega | (dsimp only; omega))) (Fin.ext (by first | omega | (dsimp only; omega)))

theorem p112 (r : Fin 8) (j : Fin 64) (l : Fin 128) (i : Fin 256) (hl : l.val = 88 + r.val) (hi : i.val = 64 * 1 + j.val) : (k0_pay129 T : FVec Ideal S1x1x8x64 .f32) (ix4 0 0 r j) = T (ix2 l i) := by
  unfold k0_pay129
  pointwise
  exact congrArg₂ (fun l i => T (ix2 l i)) (Fin.ext (by first | omega | (dsimp only; omega))) (Fin.ext (by first | omega | (dsimp only; omega)))

theorem p111 (r : Fin 8) (j : Fin 64) (l : Fin 128) (i : Fin 256) (hl : l.val = 64 + r.val) (hi : i.val = 64 * 1 + j.val) : (k0_pay128 T : FVec Ideal S1x1x8x64 .f32) (ix4 0 0 r j) = T (ix2 l i) := by
  unfold k0_pay128
  pointwise
  exact congrArg₂ (fun l i => T (ix2 l i)) (Fin.ext (by first | omega | (dsimp only; omega))) (Fin.ext (by first | omega | (dsimp only; omega)))

theorem p110 (r : Fin 24) (j : Fin 128) : (k0_pay127 : FVec Ideal S1x1x24x128 .f32) (ix4 0 0 r j) = 0 := by
  unfold k0_pay127
  pointwise

theorem p203 (r : Fin 8) (j : Fin 128) (l : Fin 128) (i : Fin 256) (hl : l.val = 32 + r.val) (hi : i.val = 64 * 2) : (k0_pay134 T : FVec Ideal S1x1x8x128 .f32) (ix4 0 0 r j) = T (ix2 l i) := by
  unfold k0_pay134
  pointwise
  exact congrArg₂ (fun l i => T (ix2 l i)) (Fin.ext (by first | omega | (dsimp only; omega))) (Fin.ext (by first | omega | (dsimp only; omega)))

theorem p202 (r : Fin 8) (j : Fin 64) (l : Fin 128) (i : Fin 256) (hl : l.val = 24 + r.val) (hi : i.val = 64 * 2 + j.val) : (k0_pay133 T : FVec Ideal S1x1x8x64 .f32) (ix4 0 0 r j) = T (ix2 l i) := by
  unfold k0_pay133
  pointwise
  exact congrArg₂ (fun l i => T (ix2 l i)) (Fin.ext (by first | omega | (dsimp only; omega))) (Fin.ext (by first | omega | (dsimp only; omega)))

theorem p201 (r : Fin 8) (j : Fin 64) (l : Fin 128) (i : Fin 256) (hl : l.val = 0 + r.val) (hi : i.val = 64 * 2 + j.val) : (k0_pay132 T : FVec Ideal S1x1x8x64 .f32) (ix4 0 0 r j) = T (ix2 l i) := by
  unfold k0_pay132
  pointwise
  exact congrArg₂ (fun l i => T (ix2 l i)) (Fin.ext (by first | omega | (dsimp only; omega))) (Fin.ext (by first | omega | (dsimp only; omega)))

theorem p200 (r : Fin 24) (j : Fin 128) : (k0_pay131 : FVec Ideal S1x1x24x128 .f32) (ix4 0 0 r j) = 0 := by
  unfold k0_pay131
  pointwise

theorem p213 (r : Fin 8) (j : Fin 128) (l : Fin 128) (i : Fin 256) (hl : l.val = 96 + r.val) (hi : i.val = 64 * 2) : (k0_pay138 T : FVec Ideal S1x1x8x128 .f32) (ix4 0 0 r j) = T (ix2 l i) := by
  unfold k0_pay138
  pointwise
  exact congrArg₂ (fun l i => T (ix2 l i)) (Fin.ext (by first | omega | (dsimp only; omega))) (Fin.ext (by first | omega | (dsimp only; omega)))

theorem p212 (r : Fin 8) (j : Fin 64) (l : Fin 128) (i : Fin 256) (hl : l.val = 88 + r.val) (hi : i.val = 64 * 2 + j.val) : (k0_pay137 T : FVec Ideal S1x1x8x64 .f32) (ix4 0 0 r j) = T (ix2 l i) := by
  unfold k0_pay137
  pointwise
  exact congrArg₂ (fun l i => T (ix2 l i)) (Fin.ext (by first | omega | (dsimp only; omega))) (Fin.ext (by first | omega | (dsimp only; omega)))

theorem p211 (r : Fin 8) (j : Fin 64) (l : Fin 128) (i : Fin 256) (hl : l.val = 64 + r.val) (hi : i.val = 64 * 2 + j.val) : (k0_pay136 T : FVec Ideal S1x1x8x64 .f32) (ix4 0 0 r j) = T (ix2 l i) := by
  unfold k0_pay136
  pointwise
  exact congrArg₂ (fun l i => T (ix2 l i)) (Fin.ext (by first | omega | (dsimp only; omega))) (Fin.ext (by first | omega | (dsimp only; omega)))

theorem p210 (r : Fin 24) (j : Fin 128) : (k0_pay135 : FVec Ideal S1x1x24x128 .f32) (ix4 0 0 r j) = 0 := by
  unfold k0_pay135
  pointwise

theorem p303 (r : Fin 8) (j : Fin 128) (l : Fin 128) (i : Fin 256) (hl : l.val = 32 + r.val) (hi : i.val = 64 * 3) : (k0_pay142 T : FVec Ideal S1x1x8x128 .f32) (ix4 0 0 r j) = T (ix2 l i) := by
  unfold k0_pay142
  pointwise
  exact congrArg₂ (fun l i => T (ix2 l i)) (Fin.ext (by first | omega | (dsimp only; omega))) (Fin.ext (by first | omega | (dsimp only; omega)))

theorem p302 (r : Fin 8) (j : Fin 64) (l : Fin 128) (i : Fin 256) (hl : l.val = 24 + r.val) (hi : i.val = 64 * 3 + j.val) : (k0_pay141 T : FVec Ideal S1x1x8x64 .f32) (ix4 0 0 r j) = T (ix2 l i) := by
  unfold k0_pay141
  pointwise
  exact congrArg₂ (fun l i => T (ix2 l i)) (Fin.ext (by first | omega | (dsimp only; omega))) (Fin.ext (by first | omega | (dsimp only; omega)))

theorem p301 (r : Fin 8) (j : Fin 64) (l : Fin 128) (i : Fin 256) (hl : l.val = 0 + r.val) (hi : i.val = 64 * 3 + j.val) : (k0_pay140 T : FVec Ideal S1x1x8x64 .f32) (ix4 0 0 r j) = T (ix2 l i) := by
  unfold k0_pay140
  pointwise
  exact congrArg₂ (fun l i => T (ix2 l i)) (Fin.ext (by first | omega | (dsimp only; omega))) (Fin.ext (by first | omega | (dsimp only; omega)))

theorem p300 (r : Fin 24) (j : Fin 128) : (k0_pay139 : FVec Ideal S1x1x24x128 .f32) (ix4 0 0 r j) = 0 := by
  unfold k0_pay139
  pointwise

theorem p313 (r : Fin 8) (j : Fin 128) (l : Fin 128) (i : Fin 256) (hl : l.val = 96 + r.val) (hi : i.val = 64 * 3) : (k0_pay2 T : FVec Ideal S1x1x8x128 .f32) (ix4 0 0 r j) = T (ix2 l i) := by
  unfold k0_pay2
  pointwise
  exact congrArg₂ (fun l i => T (ix2 l i)) (Fin.ext (by first | omega | (dsimp only; omega))) (Fin.ext (by first | omega | (dsimp only; omega)))

theorem p312 (r : Fin 8) (j : Fin 64) (l : Fin 128) (i : Fin 256) (hl : l.val = 88 + r.val) (hi : i.val = 64 * 3 + j.val) : (k0_pay1 (k0_pay145 T) : FVec Ideal S1x1x8x64 .f32) (ix4 0 0 r j) = T (ix2 l i) := by
  unfold k0_pay1 k0_pay145
  pointwise
  exact congrArg₂ (fun l i => T (ix2 l i)) (Fin.ext (by first | omega | (dsimp only; omega))) (Fin.ext (by first | omega | (dsimp only; omega)))

theorem p311 (r : Fin 8) (j : Fin 64) (l : Fin 128) (i : Fin 256) (hl : l.val = 64 + r.val) (hi : i.val = 64 * 3 + j.val) : (k0_pay144 T : FVec Ideal S1x1x8x64 .f32) (ix4 0 0 r j) = T (ix2 l i) := by
  unfold k0_pay144
  pointwise
  exact congrArg₂ (fun l i => T (ix2 l i)) (Fin.ext (by first | omega | (dsimp only; omega))) (Fin.ext (by first | omega | (dsimp only; omega)))

theorem p310 (r : Fin 24) (j : Fin 128) : (k0_pay143 : FVec Ideal S1x1x24x128 .f32) (ix4 0 0 r j) = 0 := by
  unfold k0_pay143
  pointwise

end pieces

/-- The block of lanes from a point's blocks of inputs, rates and biases. -/
def lanes (x6 : Vec Ideal S256x128 .f32) (x9 x10 : Vec Ideal S1x128 .f32) : FVec Ideal S256x128 .f32 :=
  out (k0_pay98 rowIx (k0_pay94 (k0_pay92 x6 x9 x10) rows 64#32 0#1 1#32) (k0_pay96 (k0_pay92 x6 x9 x10) rows 64#32 0#1 1#32) (Scalar.ofBits .f32 0x00000000#32) (k0_pay97 rows 64#32 0#1 1#32))
    (k0_pay99 rowIx (k0_pay95 (k0_pay92 x6 x9 x10) rows 64#32 0#1 1#32)) k0_pay100 (k0_pay92 x6 x9 x10) (k0_pay91 x6)

theorem lanes_apply (x6 : Vec Ideal S256x128 .f32) (x9 x10 : Vec Ideal S1x128 .f32) (i : Fin 256) (l : Fin 128) (h : (0 : EReal) ≤ x9 (ix2 0 l)) :
    lanes x6 x9 x10 (ix2 i l) = lane (l.val % 64 / 8) (l.val / 64) (part (fun j => decay (x9 (ix2 0 l)) (x6 (ix2 j l) + x10 (ix2 0 l))) i) (x6 (ix2 i l)) ⟨i.val % 64, by omega⟩ := by
  have e : (fun j : Fin 256 => k0_pay92 (F := Ideal) x6 x9 x10 (ix2 j l)) = fun j => decay (x9 (ix2 0 l)) (x6 (ix2 j l) + x10 (ix2 0 l)) := funext fun j => decay_apply x6 x9 x10 j l
  unfold lanes
  rw [out_apply _ _ _ _ _ (pay_ups _) (pay_downs _) i l fun j => by rw [decay_apply]; exact decay_ne_top _ _ h, e]
  congr 1
  unfold k0_pay91
  pointwise

theorem zero2 : (![0, 0] : Fin 2 → ℕ) = fun _ => 0 := by decide

section run

variable (c : Dev nD) (p : grid0.Coords) (arg1 : Memref sig .tc .vmem S256x3072 .bf16) (harg1 : arg1.IsWhole) (arg2 : Memref sig .tc .vmem S16x3072 .bf16) (harg2 : arg2.IsWhole) (arg3 : Memref sig .tc .vmem S16x3072 .bf16) (harg3 : arg3.IsWhole) (arg4 : Memref sig .tc .vmem S256x3072 .bf16) (harg4 : arg4.IsWhole) (arg5 : Memref sig .tc .vmem S16x3072 .bf16) (harg5 : arg5.IsWhole) (arg6 : Memref sig .tc .vmem S16x3072 .bf16) (harg6 : arg6.IsWhole) (arg7 : Memref sig .tc .vmem S256x128 .f32) (harg7 : arg7.IsWhole) (arg8 : Memref sig .tc .vmem S3x3072 .f32) (harg8 : arg8.IsWhole) (arg9 : Memref sig .tc .vmem S3x1024 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S256x3072 .bf16) (harg12 : arg12.IsWhole) (arg13 : Memref sig .tc .vmem S4x1024x64 .bf16) (harg13 : arg13.IsWhole) (arg14 : Memref sig .tc .vmem S256x1024 .bf16) (harg14 : arg14.IsWhole) (arg15 : Memref sig .tc .vmem S256x128 .f32) (harg15 : arg15.IsWhole) (arg16 : Memref sig .tc .vmem S4x2x24x128 .f32) (harg16 : arg16.IsWhole) (x0 : FVec Ideal S256x3072 .bf16) (x1 : FVec Ideal S16x3072 .bf16) (x2 : FVec Ideal S16x3072 .bf16) (x3 : FVec Ideal S256x3072 .bf16) (x4 : FVec Ideal S16x3072 .bf16) (x5 : FVec Ideal S16x3072 .bf16) (x6 : FVec Ideal S256x128 .f32) (x7 : FVec Ideal S3x3072 .f32) (x8 : FVec Ideal S3x1024 .f32) (x9 : FVec Ideal S1x128 .f32) (x10 : FVec Ideal S1x128 .f32)

theorem lanes_eq :
    k0_pay111 (kernelRun0_A.sl.r_37 c arg7 harg7 arg10 harg10 arg11 harg11 x6 x9 x10) (kernelRun0_A.sl.r_38 c arg7 harg7 arg10 harg10 arg11 harg11 x6 x9 x10)
      (k0_pay110 (k0_pay105 kernelRun0_A.sl.v546) (k0_pay106 kernelRun0_A.sl.v546) (k0_pay107 kernelRun0_A.sl.v546)) = lanes x6 x9 x10 := by
  have e1 : kernelRun0_A.sl.v546 = laneIx := rfl
  have e2 : kernelRun0_A.sl.v529 = rows := rfl
  have e3 : kernelRun0_A.sl.r_29 = rowIx := rfl
  unfold lanes out kernelRun0_A.sl.r_38 kernelRun0_A.sl.r_37 kernelRun0_A.sl.r_36 kernelRun0_A.sl.r_35 kernelRun0_A.sl.r_34 kernelRun0_A.sl.r_33 kernelRun0_A.sl.r_32 kernelRun0_A.sl.r_31 kernelRun0_A.sl.r_30 kernelRun0_A.sl.r_28 kernelRun0_A.sl.r_27
  simp only [View.readAt_eq_ld, harg7.read_unread, harg10.read_unread, harg11.read_unread, e1, e2, e3]
  have l6 := View.ld_unit_zero (Val := Elt Ideal) (e := .f32) (S := S256x128) zero2 inb_S256x128_S256x128_0_0 x6
  have l9 := View.ld_unit_zero (Val := Elt Ideal) (e := .f32) (S := S1x128) zero2 inb_S1x128_S1x128_0_0 x9
  have l10 := View.ld_unit_zero (Val := Elt Ideal) (e := .f32) (S := S1x128) zero2 inb_S1x128_S1x128_0_0 x10
  erw [l6, l9, l10]
  rfl

theorem out_gs :
    out0_A_14 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 = lanes x6 x9 x10 := by
  unfold out0_A_14 kernelRun0_A
  dsimp only
  rw [View.read_writes_junk_eq_canon, View.canon_unit_zero zero2]
  exact lanes_eq c arg7 harg7 arg10 harg10 arg11 harg11 x6 x9 x10

theorem out_aux (q : Fin 4) (d : Fin 2) (r : Fin 24) (j : Fin 128) :
    out0_A_15 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 (ix4 q d r j) = heads (lanes x6 x9 x10) q d r j := by
  have hO : k0_pay111 (kernelRun0_A.sl.r_37 c arg7 harg7 arg10 harg10 arg11 harg11 x6 x9 x10) (kernelRun0_A.sl.r_38 c arg7 harg7 arg10 harg10 arg11 harg11 x6 x9 x10)
      (k0_pay110 (k0_pay105 kernelRun0_A.sl.v546) (k0_pay106 kernelRun0_A.sl.v546) (k0_pay107 kernelRun0_A.sl.v546)) = lanes x6 x9 x10 := lanes_eq c arg7 harg7 arg10 harg10 arg11 harg11 x6 x9 x10
  have hT : ∀ (l : Fin 128) (i : Fin 256), k0_pay112 (kernelRun0_A.sl.r_37 c arg7 harg7 arg10 harg10 arg11 harg11 x6 x9 x10) (kernelRun0_A.sl.r_38 c arg7 harg7 arg10 harg10 arg11 harg11 x6 x9 x10)
      (k0_pay110 (k0_pay105 kernelRun0_A.sl.v546) (k0_pay106 kernelRun0_A.sl.v546) (k0_pay107 kernelRun0_A.sl.v546)) (ix2 l i) = lanes x6 x9 x10 (ix2 i l) := by
    intro l i
    unfold k0_pay112
    rw [hO]
    pointwise
  have hR : ∀ (l : Fin 128) (i : Fin 256), kernelRun0_A.sl.r_39 c arg7 harg7 arg10 harg10 arg11 harg11 x6 x9 x10 (ix2 l i) = lanes x6 x9 x10 (ix2 i l) := hT
  unfold out0_A_15
  rw [View.read_writes_junk_eq_canon]
  unfold kernelRun0_A
  dsimp only
  unfold kernelRun0_A.sl.H15_11 kernelRun0_A.sl.r_40 kernelRun0_A.sl.r_41 kernelRun0_A.sl.r_42 kernelRun0_A.sl.r_43
  refine group (lanes x6 x9 x10) 3 1 _ _ _ _ _ _ _ _ (fun r j => (p313 _ r j _ _ (by show 64 * 1 + (32 + r.val) = 96 + r.val; omega) rfl).trans (hR _ _)) (fun r j => (p312 _ r j _ _ (by show 64 * 1 + (24 + r.val) = 88 + r.val; omega) rfl).trans (hR _ _)) (fun r j => (p311 _ r j _ _ (by show 64 * 1 + r.val = 64 + r.val; omega) rfl).trans (hR _ _)) p310 _ q d r j fun n31 => ?_
  refine group (lanes x6 x9 x10) 3 0 _ _ _ _ _ _ _ _ (fun r j => (p303 _ r j _ _ (by show 64 * 0 + (32 + r.val) = 32 + r.val; omega) rfl).trans (hR _ _)) (fun r j => (p302 _ r j _ _ (by show 64 * 0 + (24 + r.val) = 24 + r.val; omega) rfl).trans (hR _ _)) (fun r j => (p301 _ r j _ _ (by show 64 * 0 + r.val = 0 + r.val; omega) rfl).trans (hR _ _)) p300 _ q d r j fun n30 => ?_
  refine group (lanes x6 x9 x10) 2 1 _ _ _ _ _ _ _ _ (fun r j => (p213 _ r j _ _ (by show 64 * 1 + (32 + r.val) = 96 + r.val; omega) rfl).trans (hR _ _)) (fun r j => (p212 _ r j _ _ (by show 64 * 1 + (24 + r.val) = 88 + r.val; omega) rfl).trans (hR _ _)) (fun r j => (p211 _ r j _ _ (by show 64 * 1 + r.val = 64 + r.val; omega) rfl).trans (hR _ _)) p210 _ q d r j fun n21 => ?_
  refine group (lanes x6 x9 x10) 2 0 _ _ _ _ _ _ _ _ (fun r j => (p203 _ r j _ _ (by show 64 * 0 + (32 + r.val) = 32 + r.val; omega) rfl).trans (hR _ _)) (fun r j => (p202 _ r j _ _ (by show 64 * 0 + (24 + r.val) = 24 + r.val; omega) rfl).trans (hR _ _)) (fun r j => (p201 _ r j _ _ (by show 64 * 0 + r.val = 0 + r.val; omega) rfl).trans (hR _ _)) p200 _ q d r j fun n20 => ?_
  refine group (lanes x6 x9 x10) 1 1 _ _ _ _ _ _ _ _ (fun r j => (p113 _ r j _ _ (by show 64 * 1 + (32 + r.val) = 96 + r.val; omega) rfl).trans (hR _ _)) (fun r j => (p112 _ r j _ _ (by show 64 * 1 + (24 + r.val) = 88 + r.val; omega) rfl).trans (hR _ _)) (fun r j => (p111 _ r j _ _ (by show 64 * 1 + r.val = 64 + r.val; omega) rfl).trans (hR _ _)) p110 _ q d r j fun n11 => ?_
  refine group (lanes x6 x9 x10) 1 0 _ _ _ _ _ _ _ _ (fun r j => (p103 _ r j _ _ (by show 64 * 0 + (32 + r.val) = 32 + r.val; omega) rfl).trans (hR _ _)) (fun r j => (p102 _ r j _ _ (by show 64 * 0 + (24 + r.val) = 24 + r.val; omega) rfl).trans (hR _ _)) (fun r j => (p101 _ r j _ _ (by show 64 * 0 + r.val = 0 + r.val; omega) rfl).trans (hR _ _)) p100 _ q d r j fun n10 => ?_
  refine group (lanes x6 x9 x10) 0 1 _ _ _ _ _ _ _ _ (fun r j => (p013 _ r j _ _ (by show 64 * 1 + (32 + r.val) = 96 + r.val; omega) rfl).trans (hR _ _)) (fun r j => (p012 _ r j _ _ (by show 64 * 1 + (24 + r.val) = 88 + r.val; omega) rfl).trans (hR _ _)) (fun r j => (p011 _ _ _ r j _ _ (by show 64 * 1 + r.val = 64 + r.val; omega) rfl).trans (hT _ _)) p010 _ q d r j fun n01 => ?_
  refine group (lanes x6 x9 x10) 0 0 _ _ _ _ _ _ _ _ (fun r j => (p003 _ _ _ r j _ _ (by show 64 * 0 + (32 + r.val) = 32 + r.val; omega) rfl).trans (hT _ _)) (fun r j => (p002 _ _ _ r j _ _ (by show 64 * 0 + (24 + r.val) = 24 + r.val; omega) rfl).trans (hT _ _)) (fun r j => (p001 _ _ _ r j _ _ (by show 64 * 0 + r.val = 0 + r.val; omega) rfl).trans (hT _ _)) p000 _ q d r j fun n00 => ?_
  have e : q.val = 0 ∨ q.val = 1 ∨ q.val = 2 ∨ q.val = 3 := by omega
  have f : d.val = 0 ∨ d.val = 1 := by omega
  exfalso
  rcases e with e | e | e | e <;> rcases f with f | f
  · exact n00 ⟨Fin.ext e, Fin.ext f⟩
  · exact n01 ⟨Fin.ext e, Fin.ext f⟩
  · exact n10 ⟨Fin.ext e, Fin.ext f⟩
  · exact n11 ⟨Fin.ext e, Fin.ext f⟩
  · exact n20 ⟨Fin.ext e, Fin.ext f⟩
  · exact n21 ⟨Fin.ext e, Fin.ext f⟩
  · exact n30 ⟨Fin.ext e, Fin.ext f⟩
  · exact n31 ⟨Fin.ext e, Fin.ext f⟩

end run

end Cert.Kernel7Ideal.Own

end
-- ==== Proof.DecayLanes.lean ====
/-
The blocks of the tokens' lanes and of the two rows of lanes that a grid point of the convolution call stages.
-/
module

public import proofs.«01_k».proof.Proof.DecayStores
public import Idealize.ShloMosaic.Lib.Pipeline.ValueKit.Point
public import Idealize.ShloMosaic.Lib.StableHlo.ReadAt

@[expose] public section

noncomputable section

namespace Cert.Kernel7Ideal.Own

open Cert.Kernel7Ideal Cert.Kernel7Ideal.Gen Cert.Rows Cert.Decay
open Idealize.ShloMosaic Idealize.ShloMosaic.TcCoe Idealize.ShloMosaic.Tactic

variable (m : (ℓ : Loc nD τ sig) → Buf (Elt Ideal) ℓ) (c : Dev nD)

/-- The arguments at their shapes. -/
def args : Decay.Args where
  alpha := m (c, main_arg1)
  beta := m (c, main_arg2)
  la := m (c, main_arg5)
  dt := m (c, main_arg6)

/-- The arrays as the call finds them. -/
def vAb : S32768x128.Idx → EReal := V m c main_v15
def vA : S1x128.Idx → EReal := V m c main_v32
def vD : S1x128.Idx → EReal := V m c main_v48

theorem V_a_0 (l : Fin 128) (h : l.val < 64) (hl : l.val < 40) : vA m c (ix2 0 l) = Ideal.exp ((args m c).la (ix2 ⟨l.val / 64, by omega⟩ ⟨l.val % 8, by omega⟩)) := by
  have e0 : (⟨l.val / 64, by omega⟩ : Fin 2) = 0 := Fin.ext (by show l.val / 64 = 0; omega)
  rw [e0]
  unfold vA args V
  after_reads_at
  rw [dif_pos h]
  after_reads_at
  rw [dif_pos hl]
  repeat after_reads_at

theorem V_z_0 (l : Fin 128) (h : l.val < 64) (hl : ¬ l.val < 40) : vA m c (ix2 0 l) = 0 := by
  unfold vA V
  after_reads_at
  rw [dif_pos h]
  after_reads_at
  rw [dif_neg hl]
  repeat after_reads_at

theorem V_d_0 (l : Fin 128) (h : l.val < 64) (hl : l.val < 40) : vD m c (ix2 0 l) = (args m c).dt (ix2 ⟨l.val / 64, by omega⟩ ⟨l.val % 8, by omega⟩) := by
  have e0 : (⟨l.val / 64, by omega⟩ : Fin 2) = 0 := Fin.ext (by show l.val / 64 = 0; omega)
  rw [e0]
  unfold vD args V
  after_reads_at
  rw [dif_pos h]
  after_reads_at
  rw [dif_pos hl]
  repeat after_reads_at

theorem V_a_1 (l : Fin 128) (h : ¬ l.val < 64) (hl : l.val - 64 < 40) : vA m c (ix2 0 l) = Ideal.exp ((args m c).la (ix2 ⟨l.val / 64, by omega⟩ ⟨l.val % 8, by omega⟩)) := by
  have e0 : (⟨l.val / 64, by omega⟩ : Fin 2) = 1 := Fin.ext (by show l.val / 64 = 1; omega)
  have e1 : (⟨l.val % 8, by omega⟩ : Fin 8) = ⟨(l.val - 64) % 8, by omega⟩ := Fin.ext (by show l.val % 8 = (l.val - 64) % 8; omega)
  rw [e0, e1]
  unfold vA args V
  after_reads_at
  rw [dif_neg h]
  after_reads_at
  rw [dif_pos hl]
  repeat after_reads_at

theorem V_z_1 (l : Fin 128) (h : ¬ l.val < 64) (hl : ¬ l.val - 64 < 40) : vA m c (ix2 0 l) = 0 := by
  unfold vA V
  after_reads_at
  rw [dif_neg h]
  after_reads_at
  rw [dif_neg hl]
  repeat after_reads_at

theorem V_d_1 (l : Fin 128) (h : ¬ l.val < 64) (hl : l.val - 64 < 40) : vD m c (ix2 0 l) = (args m c).dt (ix2 ⟨l.val / 64, by omega⟩ ⟨l.val % 8, by omega⟩) := by
  have e0 : (⟨l.val / 64, by omega⟩ : Fin 2) = 1 := Fin.ext (by show l.val / 64 = 1; omega)
  have e1 : (⟨l.val % 8, by omega⟩ : Fin 8) = ⟨(l.val - 64) % 8, by omega⟩ := Fin.ext (by show l.val % 8 = (l.val - 64) % 8; omega)
  rw [e0, e1]
  unfold vD args V
  after_reads_at
  rw [dif_neg h]
  after_reads_at
  rw [dif_pos hl]
  repeat after_reads_at

theorem V_ab_0 (r : Fin 32768) (l : Fin 128) (hl : l.val % 64 < 40) (h : l.val < 64) : vAb m c (ix2 r l)
    = if l.val % 64 / 8 = 1 then (args m c).beta (ix4 ⟨r.val / 8192, by omega⟩ ⟨r.val % 8192, by omega⟩ ⟨l.val / 64, by omega⟩ ⟨l.val % 8, by omega⟩)
      else (args m c).alpha (ix4 ⟨r.val / 8192, by omega⟩ ⟨r.val % 8192, by omega⟩ ⟨l.val / 64, by omega⟩ ⟨l.val % 8, by omega⟩) := by
  have e0 : (⟨l.val / 64, by omega⟩ : Fin 2) = 0 := Fin.ext (by show l.val / 64 = 0; omega)
  rw [e0]
  unfold vAb args V
  after_reads_at
  rw [dif_pos h]
  by_cases h0 : l.val < 8
  · rw [dif_pos h0]
    refine Eq.trans ?_ (if_neg (by omega)).symm
    have e1 : (⟨l.val % 8, by omega⟩ : Fin 8) = ⟨l.val, by omega⟩ := Fin.ext (by show l.val % 8 = l.val; omega)
    rw [e1]
    after_reads_at
  · rw [dif_neg h0]
    by_cases h1 : l.val - 8 < 8
    · rw [dif_pos h1]
      refine Eq.trans ?_ (if_pos (by omega)).symm
      have e1 : (⟨l.val % 8, by omega⟩ : Fin 8) = ⟨l.val - 8, by omega⟩ := Fin.ext (by show l.val % 8 = l.val - 8; omega)
      rw [e1]
      after_reads_at
    · rw [dif_neg h1]
      by_cases h2 : l.val - 8 - 8 < 8
      · rw [dif_pos h2]
        refine Eq.trans ?_ (if_neg (by omega)).symm
        have e1 : (⟨l.val % 8, by omega⟩ : Fin 8) = ⟨l.val - 8 - 8, by omega⟩ := Fin.ext (by show l.val % 8 = l.val - 8 - 8; omega)
        rw [e1]
        after_reads_at
      · rw [dif_neg h2]
        by_cases h3 : l.val - 8 - 8 - 8 < 8
        · rw [dif_pos h3]
          refine Eq.trans ?_ (if_neg (by omega)).symm
          have e1 : (⟨l.val % 8, by omega⟩ : Fin 8) = ⟨l.val - 8 - 8 - 8, by omega⟩ := Fin.ext (by show l.val % 8 = l.val - 8 - 8 - 8; omega)
          rw [e1]
          after_reads_at
        · rw [dif_neg h3]
          by_cases h4 : l.val - 8 - 8 - 8 - 8 < 8
          · rw [dif_pos h4]
            refine Eq.trans ?_ (if_neg (by omega)).symm
            have e1 : (⟨l.val % 8, by omega⟩ : Fin 8) = ⟨l.val - 8 - 8 - 8 - 8, by omega⟩ := Fin.ext (by show l.val % 8 = l.val - 8 - 8 - 8 - 8; omega)
            rw [e1]
            after_reads_at
          · rw [dif_neg h4]
            exfalso; omega

theorem V_ab_1 (r : Fin 32768) (l : Fin 128) (hl : l.val % 64 < 40) (h : ¬ l.val < 64) : vAb m c (ix2 r l)
    = if l.val % 64 / 8 = 1 then (args m c).beta (ix4 ⟨r.val / 8192, by omega⟩ ⟨r.val % 8192, by omega⟩ ⟨l.val / 64, by omega⟩ ⟨l.val % 8, by omega⟩)
      else (args m c).alpha (ix4 ⟨r.val / 8192, by omega⟩ ⟨r.val % 8192, by omega⟩ ⟨l.val / 64, by omega⟩ ⟨l.val % 8, by omega⟩) := by
  have e0 : (⟨l.val / 64, by omega⟩ : Fin 2) = 1 := Fin.ext (by show l.val / 64 = 1; omega)
  rw [e0]
  unfold vAb args V
  after_reads_at
  rw [dif_neg h]
  by_cases h0 : l.val - 64 < 8
  · rw [dif_pos h0]
    refine Eq.trans ?_ (if_neg (by omega)).symm
    have e1 : (⟨l.val % 8, by omega⟩ : Fin 8) = ⟨l.val - 64, by omega⟩ := Fin.ext (by show l.val % 8 = l.val - 64; omega)
    rw [e1]
    after_reads_at
  · rw [dif_neg h0]
    by_cases h1 : l.val - 64 - 8 < 8
    · rw [dif_pos h1]
      refine Eq.trans ?_ (if_pos (by omega)).symm
      have e1 : (⟨l.val % 8, by omega⟩ : Fin 8) = ⟨l.val - 64 - 8, by omega⟩ := Fin.ext (by show l.val % 8 = l.val - 64 - 8; omega)
      rw [e1]
      after_reads_at
    · rw [dif_neg h1]
      by_cases h2 : l.val - 64 - 8 - 8 < 8
      · rw [dif_pos h2]
        refine Eq.trans ?_ (if_neg (by omega)).symm
        have e1 : (⟨l.val % 8, by omega⟩ : Fin 8) = ⟨l.val - 64 - 8 - 8, by omega⟩ := Fin.ext (by show l.val % 8 = l.val - 64 - 8 - 8; omega)
        rw [e1]
        after_reads_at
      · rw [dif_neg h2]
        by_cases h3 : l.val - 64 - 8 - 8 - 8 < 8
        · rw [dif_pos h3]
          refine Eq.trans ?_ (if_neg (by omega)).symm
          have e1 : (⟨l.val % 8, by omega⟩ : Fin 8) = ⟨l.val - 64 - 8 - 8 - 8, by omega⟩ := Fin.ext (by show l.val % 8 = l.val - 64 - 8 - 8 - 8; omega)
          rw [e1]
          after_reads_at
        · rw [dif_neg h3]
          by_cases h4 : l.val - 64 - 8 - 8 - 8 - 8 < 8
          · rw [dif_pos h4]
            refine Eq.trans ?_ (if_neg (by omega)).symm
            have e1 : (⟨l.val % 8, by omega⟩ : Fin 8) = ⟨l.val - 64 - 8 - 8 - 8 - 8, by omega⟩ := Fin.ext (by show l.val % 8 = l.val - 64 - 8 - 8 - 8 - 8; omega)
            rw [e1]
            after_reads_at
          · rw [dif_neg h4]
            exfalso; omega

theorem V_ab (r : Fin 32768) (l : Fin 128) (hl : l.val % 64 < 40) : vAb m c (ix2 r l)
    = if l.val % 64 / 8 = 1 then (args m c).beta (ix4 ⟨r.val / 8192, by omega⟩ ⟨r.val % 8192, by omega⟩ ⟨l.val / 64, by omega⟩ ⟨l.val % 8, by omega⟩)
      else (args m c).alpha (ix4 ⟨r.val / 8192, by omega⟩ ⟨r.val % 8192, by omega⟩ ⟨l.val / 64, by omega⟩ ⟨l.val % 8, by omega⟩) := by
  by_cases h : l.val < 64
  · exact V_ab_0 m c r l hl h
  · exact V_ab_1 m c r l hl h

theorem V_a (l : Fin 128) (hl : l.val % 64 < 40) : vA m c (ix2 0 l) = Ideal.exp ((args m c).la (ix2 ⟨l.val / 64, by omega⟩ ⟨l.val % 8, by omega⟩)) := by
  by_cases h : l.val < 64
  · exact V_a_0 m c l h (by omega)
  · exact V_a_1 m c l h (by omega)
theorem V_z (l : Fin 128) (hl : ¬ l.val % 64 < 40) : vA m c (ix2 0 l) = 0 := by
  by_cases h : l.val < 64
  · exact V_z_0 m c l h (by omega)
  · exact V_z_1 m c l h (by omega)
theorem V_d (l : Fin 128) (hl : l.val % 64 < 40) : vD m c (ix2 0 l) = (args m c).dt (ix2 ⟨l.val / 64, by omega⟩ ⟨l.val % 8, by omega⟩) := by
  by_cases h : l.val < 64
  · exact V_d_0 m c l h (by omega)
  · exact V_d_1 m c l h (by omega)

/-- Where each window's block lies at each point. -/
theorem idx : ∀ t : Fin grid0.N,
    win0_6.index t = ![t.val, 0] ∧ win0_9.index t = ![0, 0] ∧ win0_10.index t = ![0, 0] ∧ win0_14.index t = ![t.val, 0] ∧ win0_15.index t = ![t.val, 0, 0, 0] := by decide +kernel

theorem lt_128 (t : Fin cfg0.N) : t.val < 128 := t.isLt

theorem blk_ab (t : Fin cfg0.N) (i : Fin 256) (l : Fin 128) :
    iblk m c 6 t (ix2 i l) = vAb m c (ix2 ⟨256 * t.val + i.val, by have := lt_128 t; omega⟩ l) := by
  unfold vAb
  blk_ext [iblk, idx t]
theorem blk_a (t : Fin cfg0.N) (l : Fin 128) : iblk m c 9 t (ix2 0 l) = vA m c (ix2 0 l) := by
  unfold vA
  blk_ext [iblk, idx t]
theorem blk_d (t : Fin cfg0.N) (l : Fin 128) : iblk m c 10 t (ix2 0 l) = vD m c (ix2 0 l) := by
  unfold vD
  blk_ext [iblk, idx t]

theorem emb_14 (t : Fin cfg0.N) (i : Fin 256) (k : Fin 128) :
    (win0_14.blk t).view.emb (ix2 i k) = ix2 ⟨256 * t.val + i.val, by have := lt_128 t; omega⟩ k := by
  blk_ext [iblk, idx t]
theorem emb_15 (t : Fin cfg0.N) (q : Fin 4) (d : Fin 2) (r : Fin 24) (j : Fin 128) :
    (win0_15.blk t).view.emb (ix4 q d r j) = ix4 ⟨4 * t.val + q.val, by have := lt_128 t; omega⟩ d r j := by
  blk_ext [iblk, idx t]

end Cert.Kernel7Ideal.Own

end
-- ==== Proof.DecayArrays.lean ====
/-
The convolution call's fourth and fifth arrays: what each grid point leaves in its blocks, and the arrays they make.
-/
module

public import proofs.«01_k».proof.Proof.DecayLanes
public import Idealize.ShloMosaic.Lib.Pipeline.ValueKit.Point
public import Idealize.ShloMosaic.Lib.StableHlo.ReadAt

@[expose] public section

noncomputable section

namespace Cert.Kernel7Ideal.Own

open Cert.Kernel7Ideal Cert.Kernel7Ideal.Gen Cert.Rows Cert.Decay
open Idealize.ShloMosaic Idealize.ShloMosaic.TcCoe Idealize.ShloMosaic.Tactic

variable (m : (ℓ : Loc nD τ sig) → Buf (Elt Ideal) ℓ) (c : Dev nD)

/-- The three blocks at their shapes. -/
def b6 (t : Fin cfg0.N) : S256x128.Idx → EReal := iblk m c 6 t
def b9 (t : Fin cfg0.N) : S1x128.Idx → EReal := iblk m c 9 t
def b10 (t : Fin cfg0.N) : S1x128.Idx → EReal := iblk m c 10 t
theorem b9_apply (t : Fin cfg0.N) (l : Fin 128) : b9 m c t (ix2 0 l) = vA m c (ix2 0 l) := blk_a m c t l
theorem b10_apply (t : Fin cfg0.N) (l : Fin 128) : b10 m c t (ix2 0 l) = vD m c (ix2 0 l) := blk_d m c t l

/-- The tokens of a point are tokens of the batch. -/
theorem tok (t : Fin cfg0.N) (k : Fin 256) (l : Fin 128) (n : Fin 512) (j : Fin 64) (d : Fin 2) (h : Fin 8) (e : 256 * t.val + k.val = 64 * n.val + j.val)
    (hl : l.val % 64 < 40) (hd : l.val / 64 = d.val) (hh : l.val % 8 = h.val) :
    b6 m c t (ix2 k l) = if l.val % 64 / 8 = 1 then (args m c).beta (ix4 ⟨n.val / 128, by omega⟩ ⟨n.val % 128 * 64 + j.val, by omega⟩ d h)
      else (args m c).alpha (ix4 ⟨n.val / 128, by omega⟩ ⟨n.val % 128 * 64 + j.val, by omega⟩ d h) := by
  have ht := lt_128 t
  have e0 : (⟨(256 * t.val + k.val) / 8192, by omega⟩ : Fin 4) = ⟨n.val / 128, by omega⟩ := Fin.ext (by show (256 * t.val + k.val) / 8192 = n.val / 128; omega)
  have e1 : (⟨(256 * t.val + k.val) % 8192, by omega⟩ : Fin 8192) = ⟨n.val % 128 * 64 + j.val, by omega⟩ := Fin.ext (by show (256 * t.val + k.val) % 8192 = n.val % 128 * 64 + j.val; omega)
  have e2 : (⟨l.val / 64, by omega⟩ : Fin 2) = d := Fin.ext hd
  have e3 : (⟨l.val % 8, by omega⟩ : Fin 8) = h := Fin.ext hh
  unfold b6
  rw [blk_ab, V_ab m c _ l hl, e0, e1, e2, e3]

theorem rate_nonneg (t : Fin cfg0.N) (l : Fin 128) : (0 : EReal) ≤ b9 m c t (ix2 0 l) := by
  rw [b9_apply]
  by_cases hl : l.val % 64 < 40
  · rw [V_a m c l hl]
    exact exp_nonneg _
  · rw [V_z m c l hl]

theorem lane_b (w d : ℕ) (f : Fin 64 → EReal) (b b' : EReal) (i : Fin 64) (h : w ≠ 1) : lane w d f b i = lane w d f b' i := by
  unfold lane
  rw [if_neg h, if_neg h]
theorem lane_f (d : ℕ) (f f' : Fin 64 → EReal) (b : EReal) (i : Fin 64) : lane 1 d f b i = lane 1 d f' b i := by
  unfold lane
  rw [if_neg (by decide), if_pos rfl, if_neg (by decide), if_pos rfl]

theorem lanes_row (t : Fin cfg0.N) (i : Fin 256) (l : Fin 128) (n : Fin 512) (k : Fin 64) (d : Fin 2) (w : Fin 64) (hn : 4 * t.val + i.val / 64 = n.val) (hk : i.val % 64 = k.val)
    (hd : l.val / 64 = d.val) (hw : l.val % 64 = w.val) :
    lanes (iblk m c 6 t) (iblk m c 9 t) (iblk m c 10 t) (ix2 i l) = gsAt (args m c) n k d w := by
  change lanes (b6 m c t) (b9 m c t) (b10 m c t) (ix2 i l) = _
  have hk' : (⟨i.val % 64, by omega⟩ : Fin 64) = k := Fin.ext hk
  have ht := lt_128 t
  rw [lanes_apply _ _ _ i l (rate_nonneg m c t l), hk', hd, hw]
  unfold gsAt
  by_cases hl : l.val % 64 < 40
  · rw [if_pos (by omega)]
    by_cases g : w.val / 8 = 1
    · rw [g, tok m c t i l n k d ⟨w.val % 8, by omega⟩ (by omega) hl hd (by show l.val % 8 = w.val % 8; omega), if_pos (by omega)]
      exact lane_f _ _ _ _ _
    · have e : part (fun j => decay (b9 m c t (ix2 0 l)) (b6 m c t (ix2 j l) + b10 m c t (ix2 0 l))) i = chunk (args m c) n d ⟨w.val % 8, by omega⟩ := by
        funext j
        unfold part chunk
        have e2 : (⟨l.val / 64, by omega⟩ : Fin 2) = d := Fin.ext hd
        have e3 : (⟨l.val % 8, by omega⟩ : Fin 8) = ⟨w.val % 8, by omega⟩ := Fin.ext (by show l.val % 8 = w.val % 8; omega)
        dsimp only
        rw [tok m c t ⟨64 * (i.val / 64) + j.val, by omega⟩ l n j d ⟨w.val % 8, by omega⟩ (by show 256 * t.val + (64 * (i.val / 64) + j.val) = 64 * n.val + j.val; omega) hl hd (by show l.val % 8 = w.val % 8; omega), if_neg (by omega), b9_apply, b10_apply, V_a m c l hl, V_d m c l hl, e2, e3]
      rw [e]
      exact lane_b _ _ _ _ _ _ g
  · rw [if_neg (by omega)]
    have e : part (fun j => decay (b9 m c t (ix2 0 l)) (b6 m c t (ix2 j l) + b10 m c t (ix2 0 l))) i = fun _ => 0 := by
      funext j
      unfold part decay
      dsimp only
      rw [b9_apply, V_z m c l hl, neg_zero, zero_mul]
    rw [e]
    unfold lane
    rw [if_neg (by omega), if_neg (by omega), if_neg (by omega), if_neg (by omega), Finset.sum_const_zero]
    exact congrArg Real.toEReal Real.exp_zero

/-- What a point leaves in the two blocks, at an index. -/
theorem after_gs (t : Fin cfg0.N) (i : Fin 256) (l : Fin 128) :
    (outsAt0 m c t).2.2.2.1 (ix2 i l) = gsRow (args m c) ⟨256 * t.val + i.val, by have := lt_128 t; omega⟩ l := by
  have e := congrFun (out_gs c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix2 i l)
  unfold outsAt0
  dsimp only
  refine e.trans ?_
  exact lanes_row m c t i l _ _ _ _ (by show 4 * t.val + i.val / 64 = (256 * t.val + i.val) / 64; omega) (by show i.val % 64 = (256 * t.val + i.val) % 64; omega) rfl rfl

theorem heads_row (t : Fin cfg0.N) (q : Fin 4) (d : Fin 2) (r : Fin 24) (j : Fin 128) :
    heads (lanes (iblk m c 6 t) (iblk m c 9 t) (iblk m c 10 t)) q d r j = auxAt (args m c) ⟨4 * t.val + q.val, by have := lt_128 t; omega⟩ d r j := by
  have ht := lt_128 t
  unfold heads auxAt
  by_cases h0 : r.val < 8
  · rw [if_pos h0, if_pos h0]
    by_cases hj : j.val < 64
    · rw [dif_pos hj, dif_pos hj, lanes_row m c t _ _ ⟨4 * t.val + q.val, by omega⟩ ⟨j.val, hj⟩ d ⟨r.val, by omega⟩ (by dsimp only; omega) (by dsimp only; omega) (by dsimp only; omega) (by dsimp only; omega)]
      unfold gsAt
      rw [if_pos (by dsimp only; omega), show (r.val / 8) = 0 by omega]
      exact lane_b _ _ _ _ _ _ (by omega)
    · rw [dif_neg hj, dif_neg hj]
  · rw [if_neg h0, if_neg h0]
    by_cases h1 : r.val < 16
    · rw [if_pos h1, if_pos h1]
      by_cases hj : j.val < 64
      · have e8 : (⟨(16 + r.val) % 8, by omega⟩ : Fin 8) = ⟨r.val % 8, by omega⟩ := Fin.ext (by show (16 + r.val) % 8 = r.val % 8; omega)
        rw [dif_pos hj, dif_pos hj, lanes_row m c t _ _ ⟨4 * t.val + q.val, by omega⟩ ⟨j.val, hj⟩ d ⟨16 + r.val, by omega⟩ (by dsimp only; omega) (by dsimp only; omega) (by dsimp only; omega) (by dsimp only; omega)]
        unfold gsAt
        rw [if_pos (by dsimp only; omega), show ((16 + r.val) / 8) = 3 by omega, e8]
        exact lane_b _ _ _ _ _ _ (by omega)
      · rw [dif_neg hj, dif_neg hj]
    · have e8 : (⟨(16 + r.val) % 8, by omega⟩ : Fin 8) = ⟨r.val % 8, by omega⟩ := Fin.ext (by show (16 + r.val) % 8 = r.val % 8; omega)
      rw [if_neg h1, if_neg h1, lanes_row m c t _ _ ⟨4 * t.val + q.val, by omega⟩ 0 d ⟨16 + r.val, by omega⟩ (by dsimp only; omega) (by show 64 * q.val % 64 = 0; omega) (by dsimp only; omega) (by dsimp only; omega)]
      unfold gsAt
      rw [if_pos (by dsimp only; omega), show ((16 + r.val) / 8) = 4 by omega, e8]
      exact lane_b _ _ _ _ _ _ (by omega)

theorem after_aux (t : Fin cfg0.N) (q : Fin 4) (d : Fin 2) (r : Fin 24) (j : Fin 128) :
    (outsAt0 m c t).2.2.2.2 (ix4 q d r j) = auxAt (args m c) ⟨4 * t.val + q.val, by have := lt_128 t; omega⟩ d r j := by
  have e := out_aux c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) q d r j
  unfold outsAt0
  dsimp only
  exact e.trans (heads_row m c t q d r j)

theorem exists_ix4 {a b d e : ℕ} (x : (⟨4, ![a, b, d, e]⟩ : Shape).Idx) : ∃ (i : Fin a) (j : Fin b) (k : Fin d) (l : Fin e), x = ix4 i j k l :=
  ⟨x 0, x 1, x 2, x 3, funext fun q => by match q with | ⟨0, _⟩ => rfl | ⟨1, _⟩ => rfl | ⟨2, _⟩ => rfl | ⟨3, _⟩ => rfl⟩

theorem arr_14 : (dats m 0 c).arrAt 14 cfg0.N = Decay.gs (args m c) := by
  refine (dats m 0 c).arrAt_eq_of_covers 14 _ (by decide +kernel) fun t hfl y => ?_
  blk_simp
  obtain ⟨i, k, rfl⟩ := exists_ix2 (a := 256) (b := 128) y
  refine Eq.trans ?_ (congrArg (Decay.gs (args m c)) (emb_14 t i k)).symm
  exact (congrFun (after0_14 m c t) _).trans (after_gs m c t i k)

theorem arr_15 : (dats m 0 c).arrAt 15 cfg0.N = Decay.aux (args m c) := by
  refine (dats m 0 c).arrAt_eq_of_covers 15 _ (by decide +kernel) fun t hfl y => ?_
  blk_simp
  obtain ⟨q, d, r, j, rfl⟩ := exists_ix4 (a := 4) (b := 2) (d := 24) (e := 128) y
  refine Eq.trans ?_ (congrArg (Decay.aux (args m c)) (emb_15 t q d r j)).symm
  exact (congrFun (after0_15 m c t) _).trans (after_aux m c t q d r j)

end Cert.Kernel7Ideal.Own

end
-- ==== Proof.DecayRef.lean ====
/-
The convolution call's reference for its fourth and fifth results: the log decays, their sums over chunks of 64 tokens, and the lanes and rows
made of them.
-/
module

public import proofs.«01_k».proof.Proof.Gen.Reference7Ideal.Run
public import proofs.«01_k».proof.Proof.DecaySpec
public import proofs.«01_k».proof.Proof.Prep
public import Idealize.ShloMosaic.Lib.StableHlo.ReadAt

@[expose] public section

set_option maxRecDepth 8192

noncomputable section

namespace Cert.Reference7Ideal.Own

open Cert.Reference7Ideal Cert.Reference7Ideal.Gen Cert.Reference7Ideal.Value Cert.Rows Cert.Decay
open Idealize.ShloMosaic Idealize.ShloMosaic.TcCoe Idealize.ShloMosaic.Tactic Idealize.ShloMosaic.StableHlo

/-- The soft plus of the offset inputs, the log decays, and these by chunk. -/
def zeros : FVec Ideal S4x8192x2x8 .f32 := broadcastInDim S4x8192x2x8 ![] bcast_S_S4x8192x2x8 (constant S_ .f32 0x00000000#32)
def offset (al : FVec Ideal S4x8192x2x8 .f32) (dt : FVec Ideal S2x8 .f32) : FVec Ideal S4x8192x2x8 .f32 :=
  addf al (broadcastInDim S4x8192x2x8 ![0, 1, 2, 3] bcast_S1x1x2x8_S4x8192x2x8_0_1_2_3 (broadcastInDim S1x1x2x8 ![2, 3] bcast_S2x8_S1x1x2x8_2_3 dt))
def softs (x : FVec Ideal S4x8192x2x8 .f32) : FVec Ideal S4x8192x2x8 .f32 :=
  select (cmpf .une (subf x zeros) (subf x zeros)) (addf x zeros) (addf (maximumf x zeros) (Host.log1p (Host.exp (Host.negf (Host.absf (subf x zeros))))))
def chunked (x : FVec Ideal S4x8192x2x8 .f32) : FVec Ideal S512x64x2x8 .f32 := shapeCast S512x64x2x8 x shapeCasts_S4x8192x2x8_S512x64x2x8
def decays (la : FVec Ideal S2x8 .f32) (y : FVec Ideal S4x8192x2x8 .f32) : FVec Ideal S4x8192x2x8 .f32 :=
  mulf (broadcastInDim S4x8192x2x8 ![0, 1, 2, 3] bcast_S1x1x2x8_S4x8192x2x8_0_1_2_3 (broadcastInDim S1x1x2x8 ![2, 3] bcast_S2x8_S1x1x2x8_2_3 (Host.negf (Host.exp la)))) y
def rates (be : FVec Ideal S4x8192x2x8 .f32) : FVec Ideal S4x8192x2x8 .f32 :=
  Host.divf (broadcastInDim S4x8192x2x8 ![] bcast_S_S4x8192x2x8 (constant S_ .f32 0x3F800000#32)) (addf (broadcastInDim S4x8192x2x8 ![] bcast_S_S4x8192x2x8 (constant S_ .f32 0x3F800000#32)) (Host.exp (Host.negf be)))

theorem offset_apply (al : FVec Ideal S4x8192x2x8 .f32) (dt : FVec Ideal S2x8 .f32) (b : Fin 4) (s : Fin 8192) (d : Fin 2) (h : Fin 8) :
    offset al dt (ix4 b s d h) = al (ix4 b s d h) + dt (ix2 d h) := by
  unfold offset
  pointwise
theorem softs_apply (x : FVec Ideal S4x8192x2x8 .f32) (b : Fin 4) (s : Fin 8192) (d : Fin 2) (h : Fin 8) :
    softs x (ix4 b s d h) = soft (x (ix4 b s d h)) := by
  unfold softs zeros
  pointwise
  rw [if_neg (fun h => h rfl)]
  rfl
theorem decays_apply (la : FVec Ideal S2x8 .f32) (y : FVec Ideal S4x8192x2x8 .f32) (b : Fin 4) (s : Fin 8192) (d : Fin 2) (h : Fin 8) :
    decays la y (ix4 b s d h) = -Ideal.exp (la (ix2 d h)) * y (ix4 b s d h) := by
  unfold decays
  pointwise
theorem rates_apply (be : FVec Ideal S4x8192x2x8 .f32) (b : Fin 4) (s : Fin 8192) (d : Fin 2) (h : Fin 8) :
    rates be (ix4 b s d h) = Ideal.logistic (be (ix4 b s d h)) := by
  unfold rates
  pointwise
  unfold Ideal.logistic
  rfl
theorem chunked_apply (x : FVec Ideal S4x8192x2x8 .f32) (n : Fin 512) (i : Fin 64) (d : Fin 2) (h : Fin 8) :
    chunked x (ix4 n i d h) = x (ix4 ⟨n.val / 128, by omega⟩ ⟨n.val % 128 * 64 + i.val, by omega⟩ d h) := by
  unfold chunked
  pointwise

/-- The running sums along a chunk, of direction 0 forwards and of direction 1 backwards, and the chunk's sum. -/
def cum (x : FVec Ideal S512x64x8 .f32) : FVec Ideal S512x64x8 .f32 :=
  Host.reduceWindowAdd ![1, 64, 1] ![1, 1, 1] ![0, 63, 0] ![0, 0, 0] x (broadcastInDim S_ ![] bcast_S_S_ (constant S_ .f32 0x00000000#32)) reduceWindows_S512x64x8_S512x64x8_w1s1p0_0_w64s1p63_0_w1s1p0_0 h_S_
def forth (x : FVec Ideal S512x64x2x8 .f32) : FVec Ideal S512x64x8 .f32 :=
  cum (shapeCast S512x64x8 (extractStridedSlice S512x64x1x8 ![0, 0, 0, 0] x slices_S512x64x2x8_S512x64x1x8_0_0_0_0) shapeCasts_S512x64x1x8_S512x64x8)
def back (x : FVec Ideal S512x64x2x8 .f32) : FVec Ideal S512x64x8 .f32 :=
  Host.reverse [1] (cum (shapeCast S512x64x8 (Host.reverse [1] (extractStridedSlice S512x64x1x8 ![0, 0, 1, 0] x slices_S512x64x2x8_S512x64x1x8_0_0_1_0)) shapeCasts_S512x64x1x8_S512x64x8))
def runs (x : FVec Ideal S512x64x2x8 .f32) : FVec Ideal S512x64x2x8 .f32 :=
  concatenate S512x64x2x8 2 [⟨S512x64x1x8, broadcastInDim S512x64x1x8 ![0, 1, 3] bcast_S512x64x8_S512x64x1x8_0_1_3 (forth x)⟩, ⟨S512x64x1x8, broadcastInDim S512x64x1x8 ![0, 1, 3] bcast_S512x64x8_S512x64x1x8_0_1_3 (back x)⟩] concatenates_S512x64x1x8_S512x64x1x8_S512x64x2x8_d2
def total (x : FVec Ideal S512x64x2x8 .f32) : FVec Ideal S512x64x2x8 .f32 :=
  broadcastInDim S512x64x2x8 ![0, 1, 2, 3] bcast_S512x1x2x8_S512x64x2x8_0_1_2_3 (broadcastInDim S512x1x2x8 ![0, 2, 3] bcast_S512x2x8_S512x1x2x8_0_2_3 (Host.reduceAdd x (constant S_ .f32 0x00000000#32) reducesTo_S512x64x2x8_S512x2x8_d1 h_S_))

theorem cum_apply (x : FVec Ideal S512x64x8 .f32) (n : Fin 512) (i : Fin 64) (h : Fin 8) :
    cum x (ix3 n i h) = ∑ j : Fin 64, if j.val ≤ i.val then (x (ix3 n j h) : EReal) else 0 :=
  Cert.KernelIdeal.Own.cumsum_apply x _ (by intro i; simp only [pointwise]) n i h
theorem forth_apply (x : FVec Ideal S512x64x2x8 .f32) (n : Fin 512) (i : Fin 64) (h : Fin 8) :
    forth x (ix3 n i h) = ∑ j : Fin 64, if j.val ≤ i.val then (x (ix4 n j 0 h) : EReal) else 0 := by
  unfold forth
  rw [cum_apply]
  refine Finset.sum_congr rfl fun j _ => congrArg (fun z : EReal => if j.val ≤ i.val then z else 0) ?_
  pointwise
theorem back_apply (x : FVec Ideal S512x64x2x8 .f32) (n : Fin 512) (i : Fin 64) (h : Fin 8) :
    back x (ix3 n i h) = ∑ j : Fin 64, if i.val ≤ j.val then (x (ix4 n j 1 h) : EReal) else 0 := by
  have e : back x (ix3 n i h) = cum (shapeCast S512x64x8 (Host.reverse [1] (extractStridedSlice S512x64x1x8 ![0, 0, 1, 0] x slices_S512x64x2x8_S512x64x1x8_0_0_1_0)) shapeCasts_S512x64x1x8_S512x64x8) (ix3 n i.rev h) := by
    unfold back
    pointwise
    rfl
  rw [e, cum_apply, ← Equiv.sum_comp Fin.revPerm]
  refine Finset.sum_congr rfl fun j _ => ?_
  have hc : ((Fin.revPerm j).val ≤ i.rev.val) = (i.val ≤ j.val) := by
    rw [Fin.revPerm_apply, Fin.val_rev, Fin.val_rev]; exact propext (by omega)
  simp only [hc]
  refine congrArg (fun z : EReal => if i.val ≤ j.val then z else 0) ?_
  pointwise
  exact congrArg (fun z : Fin 64 => x (ix4 n z 1 h)) (Fin.rev_rev j)
theorem runs_apply (x : FVec Ideal S512x64x2x8 .f32) (n : Fin 512) (i : Fin 64) (d : Fin 2) (h : Fin 8) :
    runs x (ix4 n i d h) = Decay.run d.val (fun j => x (ix4 n j d h)) i := by
  unfold runs Decay.run
  match d with
  | ⟨0, _⟩ =>
    pointwise
    exact forth_apply x n i h
  | ⟨1, _⟩ =>
    pointwise
    exact back_apply x n i h
theorem total_apply (x : FVec Ideal S512x64x2x8 .f32) (n : Fin 512) (i : Fin 64) (d : Fin 2) (h : Fin 8) :
    total x (ix4 n i d h) = ∑ j : Fin 64, (x (ix4 n j d h) : EReal) := by
  unfold total
  pointwise

/-- The exponential of what is left of the chunk's sum; the lanes by token; and the rows by chunk. -/
def rest (x : FVec Ideal S512x64x2x8 .f32) : FVec Ideal S512x64x2x8 .f32 := Host.exp (subf (total x) (runs x))
def lanes5 (g b e r t : FVec Ideal S512x64x2x8 .f32) : FVec Ideal S32768x128 .f32 :=
  shapeCast S32768x128 (concatenate S512x64x2x64 3 [⟨S512x64x2x8, g⟩, ⟨S512x64x2x8, b⟩, ⟨S512x64x2x8, e⟩, ⟨S512x64x2x8, r⟩, ⟨S512x64x2x8, t⟩, ⟨S512x64x2x24, broadcastInDim S512x64x2x24 ![] bcast_S_S512x64x2x24 (constant S_ .f32 0x3F800000#32)⟩] concatenates_S512x64x2x8_S512x64x2x8_S512x64x2x8_S512x64x2x8_S512x64x2x8_S512x64x2x24_S512x64x2x64_d3) shapeCasts_S512x64x2x64_S32768x128
def padded (x : FVec Ideal S512x64x2x8 .f32) : FVec Ideal S512x2x8x128 .f32 :=
  pad S512x2x8x128 ![0, 0, 0, 0] ![0, 0, 0, 64] ![0, 0, 0, 0] (transpose S512x2x8x64 [0, 2, 3, 1] x transposes_S512x64x2x8_S512x2x8x64_0_2_3_1) (sitofp .f32 (constantI S_ 32 0#32)) pads_S512x2x8x64_S512x2x8x128_000_000_000_0640 h_S_
def spread (x : FVec Ideal S512x64x2x8 .f32) : FVec Ideal S512x2x8x128 .f32 :=
  broadcastInDim S512x2x8x128 ![0, 1, 2, 3] bcast_S512x2x8x1_S512x2x8x128_0_1_2_3 (transpose S512x2x8x1 [0, 2, 3, 1] (extractStridedSlice S512x1x2x8 ![0, 0, 0, 0] x slices_S512x64x2x8_S512x1x2x8_0_0_0_0) transposes_S512x1x2x8_S512x2x8x1_0_2_3_1)
def rows3 (u v w : FVec Ideal S512x2x8x128 .f32) : FVec Ideal S512x2x24x128 .f32 :=
  concatenate S512x2x24x128 2 [⟨S512x2x8x128, u⟩, ⟨S512x2x8x128, v⟩, ⟨S512x2x8x128, w⟩] concatenates_S512x2x8x128_S512x2x8x128_S512x2x8x128_S512x2x24x128_d2

theorem pad_zero : FloatOps.sitofp (F := Ideal) FTy.f32 0#32 = (0 : EReal) := by
  show ((((0#32 : BitVec 32).toInt : ℤ) : ℝ) : EReal) = 0
  rw [show (0#32 : BitVec 32).toInt = 0 from rfl, Int.cast_zero]
  rfl

theorem lanes5_apply (g b e r t : FVec Ideal S512x64x2x8 .f32) (p : Fin 32768) (l : Fin 128) (n : Fin 512) (i : Fin 64) (d : Fin 2) (hn : p.val / 64 = n.val) (hi : p.val % 64 = i.val) (hd : l.val / 64 = d.val) :
    lanes5 g b e r t (ix2 p l) = if l.val % 64 / 8 = 0 then g (ix4 n i d ⟨l.val % 64 % 8, by omega⟩) else if l.val % 64 / 8 = 1 then b (ix4 n i d ⟨l.val % 64 % 8, by omega⟩)
      else if l.val % 64 / 8 = 2 then e (ix4 n i d ⟨l.val % 64 % 8, by omega⟩) else if l.val % 64 / 8 = 3 then r (ix4 n i d ⟨l.val % 64 % 8, by omega⟩)
      else if l.val % 64 / 8 = 4 then t (ix4 n i d ⟨l.val % 64 % 8, by omega⟩) else 1 := by
  have b0 : p.val / 64 < 512 := Nat.div_lt_of_lt_mul p.isLt
  have b1 : p.val % 64 < 64 := Nat.mod_lt _ (by decide)
  have b2 : l.val / 64 < 2 := Nat.div_lt_of_lt_mul l.isLt
  obtain rfl : n = ⟨p.val / 64, b0⟩ := Fin.ext hn.symm
  obtain rfl : i = ⟨p.val % 64, b1⟩ := Fin.ext hi.symm
  obtain rfl : d = ⟨l.val / 64, b2⟩ := Fin.ext hd.symm
  unfold lanes5
  pointwise
  by_cases h0 : l.val % 64 < 8
  · refine (dif_pos h0).trans ?_
    refine Eq.trans ?_ (if_pos (show l.val % 64 / 8 = 0 by omega)).symm
    exact congrArg (fun q => g (ix4 ⟨p.val / 64, by omega⟩ ⟨p.val % 64, by omega⟩ ⟨l.val / 64, by omega⟩ q)) (Fin.ext (by show l.val % 64 = l.val % 64 % 8; omega))
  · refine (dif_neg h0).trans ?_
    by_cases h1 : l.val % 64 - 8 < 8
    · refine (dif_pos h1).trans ?_
      refine Eq.trans ?_ (if_neg (show ¬ l.val % 64 / 8 = 0 by omega)).symm
      refine Eq.trans ?_ (if_pos (show l.val % 64 / 8 = 1 by omega)).symm
      exact congrArg (fun q => b (ix4 ⟨p.val / 64, by omega⟩ ⟨p.val % 64, by omega⟩ ⟨l.val / 64, by omega⟩ q)) (Fin.ext (by show l.val % 64 - 8 = l.val % 64 % 8; omega))
    · refine (dif_neg h1).trans ?_
      by_cases h2 : l.val % 64 - 8 - 8 < 8
      · refine (dif_pos h2).trans ?_
        refine Eq.trans ?_ (if_neg (show ¬ l.val % 64 / 8 = 0 by omega)).symm
        refine Eq.trans ?_ (if_neg (show ¬ l.val % 64 / 8 = 1 by omega)).symm
        refine Eq.trans ?_ (if_pos (show l.val % 64 / 8 = 2 by omega)).symm
        exact congrArg (fun q => e (ix4 ⟨p.val / 64, by omega⟩ ⟨p.val % 64, by omega⟩ ⟨l.val / 64, by omega⟩ q)) (Fin.ext (by show l.val % 64 - 8 - 8 = l.val % 64 % 8; omega))
      · refine (dif_neg h2).trans ?_
        by_cases h3 : l.val % 64 - 8 - 8 - 8 < 8
        · refine (dif_pos h3).trans ?_
          refine Eq.trans ?_ (if_neg (show ¬ l.val % 64 / 8 = 0 by omega)).symm
          refine Eq.trans ?_ (if_neg (show ¬ l.val % 64 / 8 = 1 by omega)).symm
          refine Eq.trans ?_ (if_neg (show ¬ l.val % 64 / 8 = 2 by omega)).symm
          refine Eq.trans ?_ (if_pos (show l.val % 64 / 8 = 3 by omega)).symm
          exact congrArg (fun q => r (ix4 ⟨p.val / 64, by omega⟩ ⟨p.val % 64, by omega⟩ ⟨l.val / 64, by omega⟩ q)) (Fin.ext (by show l.val % 64 - 8 - 8 - 8 = l.val % 64 % 8; omega))
        · refine (dif_neg h3).trans ?_
          by_cases h4 : l.val % 64 - 8 - 8 - 8 - 8 < 8
          · refine (dif_pos h4).trans ?_
            refine Eq.trans ?_ (if_neg (show ¬ l.val % 64 / 8 = 0 by omega)).symm
            refine Eq.trans ?_ (if_neg (show ¬ l.val % 64 / 8 = 1 by omega)).symm
            refine Eq.trans ?_ (if_neg (show ¬ l.val % 64 / 8 = 2 by omega)).symm
            refine Eq.trans ?_ (if_neg (show ¬ l.val % 64 / 8 = 3 by omega)).symm
            refine Eq.trans ?_ (if_pos (show l.val % 64 / 8 = 4 by omega)).symm
            exact congrArg (fun q => t (ix4 ⟨p.val / 64, by omega⟩ ⟨p.val % 64, by omega⟩ ⟨l.val / 64, by omega⟩ q)) (Fin.ext (by show l.val % 64 - 8 - 8 - 8 - 8 = l.val % 64 % 8; omega))
          · refine (dif_neg h4).trans ?_
            refine Eq.trans ?_ (if_neg (show ¬ l.val % 64 / 8 = 0 by omega)).symm
            refine Eq.trans ?_ (if_neg (show ¬ l.val % 64 / 8 = 1 by omega)).symm
            refine Eq.trans ?_ (if_neg (show ¬ l.val % 64 / 8 = 2 by omega)).symm
            refine Eq.trans ?_ (if_neg (show ¬ l.val % 64 / 8 = 3 by omega)).symm
            refine Eq.trans ?_ (if_neg (show ¬ l.val % 64 / 8 = 4 by omega)).symm
            rfl
theorem padded_apply (x : FVec Ideal S512x64x2x8 .f32) (n : Fin 512) (d : Fin 2) (h : Fin 8) (j : Fin 128) :
    padded x (ix4 n d h j) = if hj : j.val < 64 then x (ix4 n ⟨j.val, hj⟩ d h) else 0 := by
  unfold padded
  pointwise
  by_cases hj : j.val < 64
  · rw [dif_pos hj, dif_pos hj]
  · rw [dif_neg hj, dif_neg hj]
    exact pad_zero
theorem spread_apply (x : FVec Ideal S512x64x2x8 .f32) (n : Fin 512) (d : Fin 2) (h : Fin 8) (j : Fin 128) :
    spread x (ix4 n d h j) = x (ix4 n 0 d h) := by
  unfold spread
  pointwise
theorem rows3_apply (u v w : FVec Ideal S512x2x8x128 .f32) (n : Fin 512) (d : Fin 2) (r : Fin 24) (j : Fin 128) :
    rows3 u v w (ix4 n d r j) = if r.val < 8 then u (ix4 n d ⟨r.val % 8, by omega⟩ j) else if r.val < 16 then v (ix4 n d ⟨r.val % 8, by omega⟩ j) else w (ix4 n d ⟨r.val % 8, by omega⟩ j) := by
  unfold rows3
  pointwise
  by_cases h0 : r.val < 8
  · rw [dif_pos h0]
    refine Eq.trans ?_ (if_pos h0).symm
    exact congrArg (fun q => u (ix4 n d q j)) (Fin.ext (by show r.val = r.val % 8; omega))
  · rw [dif_neg h0]
    refine Eq.trans ?_ (if_neg h0).symm
    by_cases h1 : r.val - 8 < 8
    · rw [dif_pos h1]
      refine Eq.trans ?_ (if_pos (by omega)).symm
      exact congrArg (fun q => v (ix4 n d q j)) (Fin.ext (by show r.val - 8 = r.val % 8; omega))
    · rw [dif_neg h1]
      refine Eq.trans ?_ (if_neg (by omega)).symm
      exact congrArg (fun q => w (ix4 n d q j)) (Fin.ext (by show r.val - 8 - 8 = r.val % 8; omega))

variable (m : (ℓ : Loc nD τ sig) → Buf (Elt Ideal) ℓ) (c : Dev nD)

/-- The arguments at their shapes. -/
def args : Decay.Args where
  alpha := m (c, main_arg1)
  beta := m (c, main_arg2)
  la := m (c, main_arg5)
  dt := m (c, main_arg6)

/-- The reference's arrays of the arguments. -/
def decT (A : Decay.Args) : FVec Ideal S512x64x2x8 .f32 := chunked (decays A.la (softs (offset A.alpha A.dt)))
def gsT (A : Decay.Args) : FVec Ideal S32768x128 .f32 :=
  lanes5 (runs (decT A)) (chunked (rates A.beta)) (Host.exp (runs (decT A))) (rest (decT A)) (Host.exp (total (decT A)))
def auxT (A : Decay.Args) : FVec Ideal S512x2x24x128 .f32 :=
  rows3 (padded (runs (decT A))) (padded (rest (decT A))) (spread (Host.exp (total (decT A))))

theorem decT_apply (A : Decay.Args) (n : Fin 512) (i : Fin 64) (d : Fin 2) (h : Fin 8) : decT A (ix4 n i d h) = chunk A n d h i := by
  unfold decT
  rw [chunked_apply, decays_apply, softs_apply, offset_apply]
  rfl
theorem run_decT (A : Decay.Args) (n : Fin 512) (i : Fin 64) (d : Fin 2) (h : Fin 8) : runs (decT A) (ix4 n i d h) = Decay.run d.val (chunk A n d h) i := by
  rw [runs_apply]
  exact congrArg (fun f => Decay.run d.val f i) (funext fun j => decT_apply A n j d h)
theorem total_decT (A : Decay.Args) (n : Fin 512) (i : Fin 64) (d : Fin 2) (h : Fin 8) : total (decT A) (ix4 n i d h) = ∑ j : Fin 64, chunk A n d h j := by
  rw [total_apply]
  exact Finset.sum_congr rfl fun j _ => decT_apply A n j d h
theorem exp_apply (x : FVec Ideal S512x64x2x8 .f32) (n : Fin 512) (i : Fin 64) (d : Fin 2) (h : Fin 8) : (Host.exp x : FVec Ideal S512x64x2x8 .f32) (ix4 n i d h) = Ideal.exp (x (ix4 n i d h)) := rfl
theorem rest_decT (A : Decay.Args) (n : Fin 512) (i : Fin 64) (d : Fin 2) (h : Fin 8) :
    rest (decT A) (ix4 n i d h) = Ideal.exp ((∑ j : Fin 64, chunk A n d h j) - Decay.run d.val (chunk A n d h) i) := by
  rw [← total_decT A n i d h, ← run_decT]
  unfold rest
  pointwise
theorem rate_apply (A : Decay.Args) (n : Fin 512) (i : Fin 64) (d : Fin 2) (h : Fin 8) : chunked (rates A.beta) (ix4 n i d h) = Ideal.logistic (rate A n d h i) := by
  rw [chunked_apply, rates_apply]
  rfl

theorem gs_eq (A : Decay.Args) : gsT A = Decay.gs A := by
  funext y
  obtain ⟨p, l, rfl⟩ := exists_ix2 (a := 32768) (b := 128) y
  show _ = gsRow A p l
  unfold gsT gsRow gsAt lane
  rw [lanes5_apply _ _ _ _ _ p l ⟨p.val / 64, by omega⟩ ⟨p.val % 64, by omega⟩ ⟨l.val / 64, by omega⟩ rfl rfl rfl, run_decT, rate_apply, exp_apply, run_decT, rest_decT, exp_apply, total_decT]
  by_cases h : l.val % 64 < 40
  · rw [if_pos h]
    by_cases h4 : l.val % 64 / 8 = 4
    · rw [if_pos h4]
    · have e : l.val % 64 / 8 = 0 ∨ l.val % 64 / 8 = 1 ∨ l.val % 64 / 8 = 2 ∨ l.val % 64 / 8 = 3 := by omega
      rcases e with e | e | e | e <;> simp only [e, if_pos, if_neg, reduceIte, OfNat.ofNat_ne_zero, OfNat.ofNat_ne_one, one_ne_zero, Nat.reduceEqDiff]
  · rw [if_neg h, if_neg (by omega), if_neg (by omega), if_neg (by omega), if_neg (by omega), if_neg (by omega)]

theorem exists_ix4 {a b d e : ℕ} (x : (⟨4, ![a, b, d, e]⟩ : Shape).Idx) : ∃ (i : Fin a) (j : Fin b) (k : Fin d) (l : Fin e), x = ix4 i j k l :=
  ⟨x 0, x 1, x 2, x 3, funext fun q => by match q with | ⟨0, _⟩ => rfl | ⟨1, _⟩ => rfl | ⟨2, _⟩ => rfl | ⟨3, _⟩ => rfl⟩

theorem lane_0 (d : ℕ) (f : Fin 64 → EReal) (b : EReal) (i : Fin 64) : lane 0 d f b i = Decay.run d f i := by
  unfold lane
  rw [if_pos rfl]
theorem lane_3 (d : ℕ) (f : Fin 64 → EReal) (b : EReal) (i : Fin 64) : lane 3 d f b i = Ideal.exp ((∑ j, f j) - Decay.run d f i) := by
  unfold lane
  rw [if_neg (by decide), if_neg (by decide), if_neg (by decide), if_pos rfl]
theorem lane_4 (d : ℕ) (f : Fin 64 → EReal) (b : EReal) (i : Fin 64) : lane 4 d f b i = Ideal.exp (∑ j, f j) := by
  unfold lane
  rw [if_neg (by decide), if_neg (by decide), if_neg (by decide), if_neg (by decide)]

theorem aux_eq (A : Decay.Args) : auxT A = Decay.aux A := by
  funext y
  obtain ⟨n, d, r, j, rfl⟩ := exists_ix4 (a := 512) (b := 2) (d := 24) (e := 128) y
  show _ = auxAt A n d r j
  unfold auxT auxAt
  rw [rows3_apply, padded_apply, padded_apply, spread_apply, exp_apply, total_decT, lane_4]
  simp only [run_decT, rest_decT, lane_0, lane_3]

theorem res_gs : res_main_v40 m c = gsT (args m c) := rfl
theorem res_aux : res_main_v45 m c = auxT (args m c) := rfl
theorem res_gs_eq : res_main_v40 m c = Decay.gs (args m c) := (res_gs m c).trans (gs_eq _)
theorem res_aux_eq : res_main_v45 m c = Decay.aux (args m c) := (res_aux m c).trans (aux_eq _)

end Cert.Reference7Ideal.Own

end
-- ==== Proof.DecayFinal.lean ====
/-
The frame of the convolution call's reference for its fourth and fifth results, and the two programs' results set side by side.
-/
module

public import proofs.«01_k».proof.Defs
public import proofs.«01_k».proof.Proof.Gen.Kernel7
public import proofs.«01_k».proof.Proof.Gen.Kernel7.Frame
public import proofs.«01_k».proof.Proof.Gen.Kernel7Ideal.Value
public import proofs.«01_k».proof.Proof.DecayArrays
public import proofs.«01_k».proof.Proof.DecayRef

@[expose] public section

noncomputable section

open Idealize.ShloMosaic Idealize.SL.Sem

namespace Cert.Reference7Ideal.Own

open Cert.Reference7Ideal Cert.Reference7Ideal.Gen Cert.Reference7Ideal.Value

/-- The reference has no semaphore. -/
theorem no_sem (f : GSem nD τ sig → ℤ) : f = fun _ => 0 := by
  funext g
  obtain ⟨_, s | s⟩ := g
  · exact absurd s.isLt (Nat.not_lt_zero _)
  · exact absurd s.isLt (Nat.not_lt_zero _)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2, no_sem r.2.sem⟩) (Value.run m ρ)

end Cert.Reference7Ideal.Own

namespace Cert.Proof

theorem algebraic7 : @algebraic_Kernel7Ideal_Reference7Ideal Cert.Kernel7Ideal.Gen.facts Cert.Reference7Ideal.Gen.facts := by
  intro m g m' g' _ hagree
  have hR : ∀ c, Cert.Reference7Ideal.Own.args m' c = Cert.Kernel7Ideal.Own.args m c := fun c => by
    obtain ⟨h0, h1, h2, h3, h4, h5, h6⟩ := hagree c
    exact Decay.Args.mk.injEq .. |>.mpr ⟨h1, h2, h5, h6⟩
  refine ⟨fun c => Decay.gs (Cert.Kernel7Ideal.Own.args m c), fun c => Decay.aux (Cert.Kernel7Ideal.Own.args m c), ?_, ?_⟩
  · refine (θ_run _ _ _).mono (fun r h c => ?_) (Cert.Kernel7Ideal.Value.run_blocks m g)
    obtain ⟨_, _, _, h0, h1, hargs⟩ := h c
    exact ⟨h0.trans (Cert.Kernel7Ideal.Own.arr_14 m c), h1.trans (Cert.Kernel7Ideal.Own.arr_15 m c), hargs⟩
  · refine (θ_run _ _ _).mono (fun r h c => ?_) (Cert.Reference7Ideal.Value.run m' g')
    obtain ⟨h0, h1, hargs⟩ := h c
    have e0 := Cert.Reference7Ideal.Own.res_gs_eq m' c
    have e1 := Cert.Reference7Ideal.Own.res_aux_eq m' c
    rw [hR c] at e0 e1
    exact ⟨h0.trans e0, Eq.trans h1 e1, hargs⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.PFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite
public import proofs.«01_k».proof.Proof.KFrame
public import proofs.«01_k».proof.Proof.Gen.ReferenceIdeal.Run
public import proofs.«01_k».proof.Proof.Final
public import proofs.«01_k».proof.Proof.InFinal
public import proofs.«01_k».proof.Proof.MixFinal
public import proofs.«01_k».proof.Proof.EndFinal
public import proofs.«01_k».proof.Proof.AdaFinal
public import proofs.«01_k».proof.Proof.ConvFinal
public import proofs.«01_k».proof.Proof.DecayFinal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  fun m g _ => Cert.Kernel.Own.frame m g, fun m g _ => Cert.KernelIdeal.Own.frame m g, fun m g _ => Cert.KernelIdeal.Own.frame m g,
  fun m g _ => Cert.ReferenceIdeal.Own.frame m g, fun m g _ => Cert.ReferenceIdeal.Own.frame m g,
  fun m g _ => Cert.Kernel2.Gen.frame m g, fun m g _ => Cert.Kernel2Ideal.Gen.frame m g, fun m g _ => Cert.Reference2Ideal.Own.frame m g,
  fun m g _ => Cert.Kernel3.Gen.frame m g, fun m g _ => Cert.Kernel3Ideal.Gen.frame m g, fun m g _ => Cert.Reference3Ideal.Own.frame m g,
  fun m g _ => Cert.Kernel4.Gen.frame m g, fun m g _ => Cert.Kernel4Ideal.Gen.frame m g, fun m g _ => Cert.Reference4Ideal.Own.frame m g,
  fun m g _ => Cert.Kernel5.Gen.frame m g, fun m g _ => Cert.Kernel5Ideal.Gen.frame m g, fun m g _ => Cert.Reference5Ideal.Own.frame m g,
  fun m g _ => Cert.Kernel6.Gen.frame m g, fun m g _ => Cert.Kernel6Ideal.Gen.frame m g, fun m g _ => Cert.Reference6Ideal.Own.frame m g,
  fun m g _ => Cert.Kernel7.Gen.frame m g, fun m g _ => Cert.Kernel7Ideal.Gen.frame m g, fun m g _ => Cert.Reference7Ideal.Own.frame m g,
  trivial, algebraic, trivial, algebraic2, trivial, algebraic3, trivial, algebraic4, trivial, algebraic5, trivial, algebraic6, trivial, algebraic7⟩

end Cert.Proof

end
